-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_edges [hPre_finite_edges : Cert.Pre_finite_edges.Facts] (m : (ℓ : Loc Cert.KernelIdeal.nD Cert.KernelIdeal.τ Cert.KernelIdeal.sig) → Buf (Elt Ideal) ℓ) : Prop :=
  ∀ c : Dev Cert.KernelIdeal.nD,
    (Cert.Pre_finite_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_edges [hPre_finite_edges : Cert.Pre_finite_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_edges [hKernelIdeal : Cert.KernelIdeal.Facts] [hPre_finite_edges : Cert.Pre_finite_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_edges [hReferenceIdeal : Cert.ReferenceIdeal.Facts] [hPre_finite_edges : Cert.Pre_finite_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite_edges [hKernelIdeal : Cert.KernelIdeal.Facts] [hReferenceIdeal : Cert.ReferenceIdeal.Facts] [hPre_finite_edges : Cert.Pre_finite_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v145_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_edges : Cert.Pre_finite_edges.Facts),
    quiescent_Kernel (hKernel := hKernel)
    ∧ quiescent_KernelIdeal (hKernelIdeal := hKernelIdeal)
    ∧ quiescent_KernelIdeal_pre_finite_edges (hKernelIdeal := hKernelIdeal) (hPre_finite_edges := hPre_finite_edges)
    ∧ quiescent_ReferenceIdeal (hReferenceIdeal := hReferenceIdeal)
    ∧ quiescent_ReferenceIdeal_pre_finite_edges (hReferenceIdeal := hReferenceIdeal) (hPre_finite_edges := hPre_finite_edges)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_edges (hKernelIdeal := hKernelIdeal) (hReferenceIdeal := hReferenceIdeal) (hPre_finite_edges := hPre_finite_edges)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_edges.lean ====
abbrev S4x4096x12288 : Shape := ⟨3, ![4, 4096, 12288]⟩
abbrev S4x1024 : Shape := ⟨2, ![4, 1024]⟩
abbrev S1024 : Shape := ⟨1, ![1024]⟩
abbrev S2x8x128x128 : Shape := ⟨4, ![2, 8, 128, 128]⟩
abbrev S2x1024 : Shape := ⟨2, ![2, 1024]⟩
abbrev S4x2x1024 : Shape := ⟨3, ![4, 2, 1024]⟩
abbrev S4x1x1024 : Shape := ⟨3, ![4, 1, 1024]⟩
abbrev S_ : Shape := ⟨0, ![]⟩
abbrev S1x1024 : Shape := ⟨2, ![1, 1024]⟩

class Facts : Prop where
  slices_S4x4096x12288_S4x2x1024_0_0_7168 : S4x4096x12288.Slices ![0, 0, 7168] S4x2x1024
  bitsLt_bf16_f32 : FTy.bits .bf16 < FTy.bits .f32
  slices_S4x4096x12288_S4x1x1024_0_4095_7168 : S4x4096x12288.Slices ![0, 4095, 7168] S4x1x1024
  bcast_S_S4x2x1024 : S_.BroadcastsInDim S4x2x1024 (![] : Fin 0 → Fin S4x2x1024.rank)
  bcast_S_S4x1x1024 : S_.BroadcastsInDim S4x1x1024 (![] : Fin 0 → Fin S4x1x1024.rank)
  slices_S4x1024_S1x1024_0_0 : S4x1024.Slices ![0, 0] S1x1024
  bcast_S_S1x1024 : S_.BroadcastsInDim S1x1024 (![] : Fin 0 → Fin S1x1024.rank)
  slices_S4x1024_S2x1024_2_0 : S4x1024.Slices ![2, 0] S2x1024
  bcast_S_S2x1024 : S_.BroadcastsInDim S2x1024 (![] : Fin 0 → Fin S2x1024.rank)

variable [Facts]

def fn {F : FTy → Type} [FloatOps F] (main_arg0 : FVec F S4x4096x12288 .bf16) (main_arg1 : FVec F S4x1024 .f32) (main_arg2 : FVec F S1024 .f32) (main_arg3 : FVec F S2x8x128x128 .f32) (main_arg4 : FVec F S2x1024 .f32) (main_arg5 : FVec F S2x8x128x128 .f32) (main_arg6 : FVec F S2x1024 .f32) (main_arg7 : FVec F S2x1024 .f32) (main_arg8 : FVec F S4x2x1024 .f32) : IVec S4x2x1024 1 × IVec S4x1x1024 1 × IVec S1x1024 1 × IVec S2x1024 1 :=
  let main_v0 : FVec F S4x2x1024 .bf16 := (extractStridedSlice S4x2x1024 ![0, 0, 7168] · slices_S4x4096x12288_S4x2x1024_0_0_7168) main_arg0
  let main_v1 : FVec F S4x2x1024 .f32 := (extf .f32 · bitsLt_bf16_f32) main_v0
  let main_v2 : FVec F S4x1x1024 .bf16 := (extractStridedSlice S4x1x1024 ![0, 4095, 7168] · slices_S4x4096x12288_S4x1x1024_0_4095_7168) main_arg0
  let main_v3 : FVec F S4x1x1024 .f32 := (extf .f32 · bitsLt_bf16_f32) main_v2
  let main_v4 : FVec F S4x2x1024 .f32 := Host.absf main_v1
  let main_cst : FVec F S_ .f32 := constant S_ .f32 0x7F800000#32
  let main_v5 : FVec F S4x2x1024 .f32 := broadcastInDim S4x2x1024 ![] bcast_S_S4x2x1024 main_cst
  let main_v6 : IVec S4x2x1024 1 := cmpf .olt main_v4 main_v5
  let main_v7 : FVec F S4x1x1024 .f32 := Host.absf main_v3
  let main_cst_0 : FVec F S_ .f32 := constant S_ .f32 0x7F800000#32
  let main_v8 : FVec F S4x1x1024 .f32 := broadcastInDim S4x1x1024 ![] bcast_S_S4x1x1024 main_cst_0
  let main_v9 : IVec S4x1x1024 1 := cmpf .olt main_v7 main_v8
  let main_v10 : FVec F S1x1024 .f32 := (extractStridedSlice S1x1024 ![0, 0] · slices_S4x1024_S1x1024_0_0) main_arg1
  let main_v11 : FVec F S1x1024 .f32 := Host.absf main_v10
  let main_cst_1 : FVec F S_ .f32 := constant S_ .f32 0x7F800000#32
  let main_v12 : FVec F S1x1024 .f32 := broadcastInDim S1x1024 ![] bcast_S_S1x1024 main_cst_1
  let main_v13 : IVec S1x1024 1 := cmpf .olt main_v11 main_v12
  let main_v14 : FVec F S2x1024 .f32 := (extractStridedSlice S2x1024 ![2, 0] · slices_S4x1024_S2x1024_2_0) main_arg1
  let main_v15 : FVec F S2x1024 .f32 := Host.absf main_v14
  let main_cst_2 : FVec F S_ .f32 := constant S_ .f32 0x7F800000#32
  let main_v16 : FVec F S2x1024 .f32 := broadcastInDim S2x1024 ![] bcast_S_S2x1024 main_cst_2
  let main_v17 : IVec S2x1024 1 := cmpf .olt main_v15 main_v16
  (main_v6, main_v9, main_v13, main_v17)
-- ==== Kernel.lean ====
abbrev S4x4096x12288 : Shape := ⟨3, ![4, 4096, 12288]⟩
abbrev S4x1024 : Shape := ⟨2, ![4, 1024]⟩
abbrev S1024 : Shape := ⟨1, ![1024]⟩
abbrev S2x8x128x128 : Shape := ⟨4, ![2, 8, 128, 128]⟩
abbrev S2x1024 : Shape := ⟨2, ![2, 1024]⟩
abbrev S4x2x1024 : Shape := ⟨3, ![4, 2, 1024]⟩
abbrev S1x1024 : Shape := ⟨2, ![1, 1024]⟩
abbrev S4x4096x1024 : Shape := ⟨3, ![4, 4096, 1024]⟩
abbrev S1x4096x512 : Shape := ⟨3, ![1, 4096, 512]⟩
abbrev S4x512 : Shape := ⟨2, ![4, 512]⟩
abbrev S1x512 : Shape := ⟨2, ![1, 512]⟩
abbrev S2x4x128x128 : Shape := ⟨4, ![2, 4, 128, 128]⟩
abbrev S2x512 : Shape := ⟨2, ![2, 512]⟩
abbrev S1x2x512 : Shape := ⟨3, ![1, 2, 512]⟩
abbrev S4096x512 : Shape := ⟨2, ![4096, 512]⟩
abbrev S8x512 : Shape := ⟨2, ![8, 512]⟩
abbrev S4080x512 : Shape := ⟨2, ![4080, 512]⟩
abbrev S1x1x128x128 : Shape := ⟨4, ![1, 1, 128, 128]⟩
abbrev S128x128 : Shape := ⟨2, ![128, 128]⟩
abbrev S256x512 : Shape := ⟨2, ![256, 512]⟩
abbrev S256x128 : Shape := ⟨2, ![256, 128]⟩
abbrev S32x8x512 : Shape := ⟨3, ![32, 8, 512]⟩

abbrev nBuf : Space → Nat
  | .hbm => 14
  | .vmem => 26
  | .smem => 0
  | _ => 0

abbrev bufTy : (tb : Table) → Fin (tcTables nBuf tb) → BufTy
  | .hbm, ⟨0, _⟩ => ⟨S4x4096x12288, .bf16⟩
  | .hbm, ⟨1, _⟩ => ⟨S4x1024, .f32⟩
  | .hbm, ⟨2, _⟩ => ⟨S1024, .f32⟩
  | .hbm, ⟨3, _⟩ => ⟨S2x8x128x128, .f32⟩
  | .hbm, ⟨4, _⟩ => ⟨S2x1024, .f32⟩
  | .hbm, ⟨5, _⟩ => ⟨S2x8x128x128, .f32⟩
  | .hbm, ⟨6, _⟩ => ⟨S2x1024, .f32⟩
  | .hbm, ⟨7, _⟩ => ⟨S2x1024, .f32⟩
  | .hbm, ⟨8, _⟩ => ⟨S4x2x1024, .f32⟩
  | .hbm, ⟨9, _⟩ => ⟨S2x8x128x128, .bf16⟩
  | .hbm, ⟨10, _⟩ => ⟨S2x8x128x128, .bf16⟩
  | .hbm, ⟨11, _⟩ => ⟨S1x1024, .f32⟩
  | .hbm, ⟨12, _⟩ => ⟨S4x4096x1024, .bf16⟩
  | .hbm, ⟨13, _⟩ => ⟨S4x2x1024, .f32⟩
  | .local _ .vmem, ⟨0, _⟩ => ⟨S1x4096x512, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S2x4x128x128, .bf16⟩
  | .local _ .vmem, ⟨9, _⟩ => ⟨S2x4x128x128, .bf16⟩
  | .local _ .vmem, ⟨10, _⟩ => ⟨S2x512, .f32⟩
  | .local _ .vmem, ⟨11, _⟩ => ⟨S2x512, .f32⟩
  | .local _ .vmem, ⟨12, _⟩ => ⟨S2x4x128x128, .bf16⟩
  | .local _ .vmem, ⟨13, _⟩ => ⟨S2x4x128x128, .bf16⟩
  | .local _ .vmem, ⟨14, _⟩ => ⟨S2x512, .f32⟩
  | .local _ .vmem, ⟨15, _⟩ => ⟨S2x512, .f32⟩
  | .local _ .vmem, ⟨16, _⟩ => ⟨S2x512, .f32⟩
  | .local _ .vmem, ⟨17, _⟩ => ⟨S2x512, .f32⟩
  | .local _ .vmem, ⟨18, _⟩ => ⟨S1x2x512, .f32⟩
  | .local _ .vmem, ⟨19, _⟩ => ⟨S1x2x512, .f32⟩
  | .local _ .vmem, ⟨20, _⟩ => ⟨S1x4096x512, .bf16⟩
  | .local _ .vmem, ⟨21, _⟩ => ⟨S1x4096x512, .bf16⟩
  | .local _ .vmem, ⟨22, _⟩ => ⟨S1x2x512, .f32⟩
  | .local _ .vmem, ⟨23, _⟩ => ⟨S1x2x512, .f32⟩
  | .local _ .vmem, ⟨24, _⟩ => ⟨S4096x512, .f32⟩
  | .local _ .vmem, ⟨25, _⟩ => ⟨S4096x512, .f32⟩
  | _, _ => ⟨S4x4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c16_i32 : BitVec 32 := 16#32
  let v108 : BitVec 32 := Scalar.addi c0_i32 c16_i32
  let c1_i32_92 : BitVec 32 := 1#32
  ⟨c0_i32, v108, c1_i32_92⟩
def k0_mult1 (k0_t1 : Fin k0_t1_loop.trips) : BitVec 32 :=
  let c0_i32 : BitVec 32 := 0#32
  let c1_i32_92 : BitVec 32 := 1#32
  let arg16 : BitVec 32 := Scf.iv c0_i32 c1_i32_92 k0_t1
  let c256_i32 : BitVec 32 := 256#32
  let v136 : BitVec 32 := Scalar.muli arg16 c256_i32
  v136
def k0_mult2 (k0_t1 : Fin k0_t1_loop.trips) : BitVec 32 :=
  let c15_i32 : BitVec 32 := 15#32
  let c0_i32 : BitVec 32 := 0#32
  let c1_i32_92 : BitVec 32 := 1#32
  let arg16 : BitVec 32 := Scf.iv c0_i32 c1_i32_92 k0_t1
  let v138 : BitVec 32 := Scalar.subi c15_i32 arg16
  let c256_i32_109 : BitVec 32 := 256#32
  let v139 : BitVec 32 := Scalar.muli v138 c256_i32_109
  v139
def k0_off1 (k0_t1 : Fin k0_t1_loop.trips) : Fin 2 → Nat :=
  let c0_i32 : BitVec 32 := 0#32
  let c1_i32_92 : BitVec 32 := 1#32
  let arg16 : BitVec 32 := Scf.iv c0_i32 c1_i32_92 k0_t1
  let c256_i32 : BitVec 32 := 256#32
  let v136 : BitVec 32 := Scalar.muli arg16 c256_i32
  let v137 : BitVec 32 := v136
  let v141 : Index := Scalar.indexCast v137
  let c0_110 : Index := 0#32
  ![v141.toNat, 0]
def k0_off2 (k0_t1 : Fin k0_t1_loop.trips) : Fin 2 → Nat :=
  let c15_i32 : BitVec 32 := 15#32
  let c0_i32 : BitVec 32 := 0#32
  let c1_i32_92 : BitVec 32 := 1#32
  let arg16 : BitVec 32 := Scf.iv c0_i32 c1_i32_92 k0_t1
  let v138 : BitVec 32 := Scalar.subi c15_i32 arg16
  let c256_i32_109 : BitVec 32 := 256#32
  let v139 : BitVec 32 := Scalar.muli v138 c256_i32_109
  let v140 : BitVec 32 := v139
  let v427 : Index := Scalar.indexCast v140
  let c0_145 : Index := 0#32
  ![v427.toNat, 0]
def cc0_transform_0 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x4x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x4096x12288 : Shape := ⟨3, ![4, 4096, 12288]⟩
abbrev S4x1024 : Shape := ⟨2, ![4, 1024]⟩
abbrev S1024 : Shape := ⟨1, ![1024]⟩
abbrev S2x8x128x128 : Shape := ⟨4, ![2, 8, 128, 128]⟩
abbrev S2x1024 : Shape := ⟨2, ![2, 1024]⟩
abbrev S4x2x1024 : Shape := ⟨3, ![4, 2, 1024]⟩
abbrev S4x4096x1024 : Shape := ⟨3, ![4, 4096, 1024]⟩
abbrev S_ : Shape := ⟨0, ![]⟩
abbrev S4x4099x1024 : Shape := ⟨3, ![4, 4099, 1024]⟩
abbrev S1x1024 : Shape := ⟨2, ![1, 1024]⟩
abbrev S1x1x1024 : Shape := ⟨3, ![1, 1, 1024]⟩
abbrev S1x8x128x128 : Shape := ⟨4, ![1, 8, 128, 128]⟩
abbrev S8x128x128 : Shape := ⟨3, ![8, 128, 128]⟩
abbrev S4x4096x8x128 : Shape := ⟨4, ![4, 4096, 8, 128]⟩
abbrev S8x128x4x4096 : Shape := ⟨4, ![8, 128, 4, 4096]⟩
abbrev S4x4096x1x1024 : Shape := ⟨4, ![4, 4096, 1, 1024]⟩
abbrev S4x4096x2x1024 : Shape := ⟨4, ![4, 4096, 2, 1024]⟩
abbrev S4x1x2x1024 : Shape := ⟨4, ![4, 1, 2, 1024]⟩
abbrev S1 : Shape := ⟨1, ![1]⟩

abbrev nBuf : Space → Nat
  | .hbm => 311
  | .vmem => 0
  | .smem => 0
  | _ => 0

abbrev hbmTy0_0 (i : Nat) : BufTy := match i % 128 with
  | 0 => ⟨S4x4096x12288, .bf16⟩
  | 1 => ⟨S4x1024, .f32⟩
  | 2 => ⟨S1024, .f32⟩
  | 3 => ⟨S2x8x128x128, .f32⟩
  | 4 => ⟨S2x1024, .f32⟩
  | 5 => ⟨S2x8x128x128, .f32⟩
  | 6 => ⟨S2x1024, .f32⟩
  | 7 => ⟨S2x1024, .f32⟩
  | 8 => ⟨S4x2x1024, .f32⟩
  | 9 => ⟨S4x4096x1024, .bf16⟩
  | 10 => ⟨S4x4096x1024, .f32⟩
  | 11 => ⟨S_, .i32⟩
  | 12 => ⟨S_, .f32⟩
  | 13 => ⟨S4x4099x1024, .f32⟩
  | 14 => ⟨S4x4096x1024, .f32⟩
  | 15 => ⟨S1x1024, .f32⟩
  | 16 => ⟨S1024, .f32⟩
  | 17 => ⟨S1x1x1024, .f32⟩
  | 18 => ⟨S4x4096x1024, .f32⟩
  | 19 => ⟨S4x4096x1024, .f32⟩
  | 20 => ⟨S_, .f32⟩
  | 21 => ⟨S4x4096x1024, .f32⟩
  | 22 => ⟨S4x4096x1024, .f32⟩
  | 23 => ⟨S4x4096x1024, .f32⟩
  | 24 => ⟨S1x1024, .f32⟩
  | 25 => ⟨S1024, .f32⟩
  | 26 => ⟨S1x1x1024, .f32⟩
  | 27 => ⟨S4x4096x1024, .f32⟩
  | 28 => ⟨S4x4096x1024, .f32⟩
  | 29 => ⟨S4x4096x1024, .f32⟩
  | 30 => ⟨S4x4096x1024, .f32⟩
  | 31 => ⟨S1x1024, .f32⟩
  | 32 => ⟨S1024, .f32⟩
  | 33 => ⟨S1x1x1024, .f32⟩
  | 34 => ⟨S4x4096x1024, .f32⟩
  | 35 => ⟨S4x4096x1024, .f32⟩
  | 36 => ⟨S4x4096x1024, .f32⟩
  | 37 => ⟨S4x4096x1024, .f32⟩
  | 38 => ⟨S1x1024, .f32⟩
  | 39 => ⟨S1024, .f32⟩
  | 40 => ⟨S1x1x1024, .f32⟩
  | 41 => ⟨S4x4096x1024, .f32⟩
  | 42 => ⟨S4x4096x1024, .f32⟩
  | 43 => ⟨S4x4096x1024, .f32⟩
  | 44 => ⟨S1x1x1024, .f32⟩
  | 45 => ⟨S4x4096x1024, .f32⟩
  | 46 => ⟨S4x4096x1024, .f32⟩
  | 47 => ⟨S1x8x128x128, .f32⟩
  | 48 => ⟨S8x128x128, .f32⟩
  | 49 => ⟨S1x1024, .f32⟩
  | 50 => ⟨S1024, .f32⟩
  | 51 => ⟨S4x4096x8x128, .f32⟩
  | 52 => ⟨S8x128x4x4096, .f32⟩
  | 53 => ⟨S4x4096x8x128, .f32⟩
  | 54 => ⟨S4x4096x1024, .f32⟩
  | 55 => ⟨S1x1x1024, .f32⟩
  | 56 => ⟨S4x4096x1024, .f32⟩
  | 57 => ⟨S4x4096x1024, .f32⟩
  | 58 => ⟨S4x4096x1024, .f32⟩
  | 59 => ⟨S4x4096x1024, .f32⟩
  | 60 => ⟨S_, .f32⟩
  | 61 => ⟨S4x4096x1024, .f32⟩
  | 62 => ⟨S4x4096x1024, .f32⟩
  | 63 => ⟨S_, .f32⟩
  | 64 => ⟨S4x4096x1024, .f32⟩
  | 65 => ⟨S4x4096x1024, .f32⟩
  | 66 => ⟨S1x8x128x128, .f32⟩
  | 67 => ⟨S8x128x128, .f32⟩
  | 68 => ⟨S1x1024, .f32⟩
  | 69 => ⟨S1024, .f32⟩
  | 70 => ⟨S4x4096x8x128, .f32⟩
  | 71 => ⟨S8x128x4x4096, .f32⟩
  | 72 => ⟨S4x4096x8x128, .f32⟩
  | 73 => ⟨S4x4096x1024, .f32⟩
  | 74 => ⟨S1x1x1024, .f32⟩
  | 75 => ⟨S4x4096x1024, .f32⟩
  | 76 => ⟨S4x4096x1024, .f32⟩
  | 77 => ⟨S4x4096x1024, .f32⟩
  | 78 => ⟨S4x4096x1024, .f32⟩
  | 79 => ⟨S_, .f32⟩
  | 80 => ⟨S4x4096x1024, .f32⟩
  | 81 => ⟨S4x4096x1024, .f32⟩
  | 82 => ⟨S_, .f32⟩
  | 83 => ⟨S4x4096x1024, .f32⟩
  | 84 => ⟨S4x4096x1024, .f32⟩
  | 85 => ⟨S_, .f32⟩
  | 86 => ⟨S4x4096x1024, .f32⟩
  | 87 => ⟨S4x4096x1024, .f32⟩
  | 88 => ⟨S1x1024, .f32⟩
  | 89 => ⟨S1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S1024, .f32⟩
  | 96 => ⟨S1024, .i1⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1x1x1024, .f32⟩
  | 106 => ⟨S4x4096x1024, .f32⟩
  | 107 => ⟨S4x4096x1024, .f32⟩
  | 108 => ⟨S4x4096x1024, .f32⟩
  | 109 => ⟨S_, .f32⟩
  | 110 => ⟨S4x4096x1024, .f32⟩
  | 111 => ⟨S4x4096x1024, .f32⟩
  | 112 => ⟨S4x4096x1024, .f32⟩
  | 113 => ⟨S4x4096x1024, .f32⟩
  | 114 => ⟨S4x4096x1024, .f32⟩
  | 115 => ⟨S4x4096x1024, .f32⟩
  | 116 => ⟨S4x4096x1024, .f32⟩
  | 117 => ⟨S4x4096x1024, .f32⟩
  | 118 => ⟨S1x8x128x128, .f32⟩
  | 119 => ⟨S8x128x128, .f32⟩
  | 120 => ⟨S1x1024, .f32⟩
  | 121 => ⟨S1024, .f32⟩
  | 122 => ⟨S4x4096x8x128, .f32⟩
  | 123 => ⟨S8x128x4x4096, .f32⟩
  | 124 => ⟨S4x4096x8x128, .f32⟩
  | 125 => ⟨S4x4096x1024, .f32⟩
  | 126 => ⟨S1x1x1024, .f32⟩
  | 127 => ⟨S4x4096x1024, .f32⟩
  | _ => ⟨S4x4096x12288, .bf16⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S_, .f32⟩
  | 4 => ⟨S4x4096x1024, .f32⟩
  | 5 => ⟨S4x4096x1024, .f32⟩
  | 6 => ⟨S_, .f32⟩
  | 7 => ⟨S4x4096x1024, .f32⟩
  | 8 => ⟨S4x4096x1024, .f32⟩
  | 9 => ⟨S1x8x128x128, .f32⟩
  | 10 => ⟨S8x128x128, .f32⟩
  | 11 => ⟨S1x1024, .f32⟩
  | 12 => ⟨S1024, .f32⟩
  | 13 => ⟨S4x4096x8x128, .f32⟩
  | 14 => ⟨S8x128x4x4096, .f32⟩
  | 15 => ⟨S4x4096x8x128, .f32⟩
  | 16 => ⟨S4x4096x1024, .f32⟩
  | 17 => ⟨S1x1x1024, .f32⟩
  | 18 => ⟨S4x4096x1024, .f32⟩
  | 19 => ⟨S4x4096x1024, .f32⟩
  | 20 => ⟨S4x4096x1024, .f32⟩
  | 21 => ⟨S4x4096x1024, .f32⟩
  | 22 => ⟨S_, .f32⟩
  | 23 => ⟨S4x4096x1024, .f32⟩
  | 24 => ⟨S4x4096x1024, .f32⟩
  | 25 => ⟨S_, .f32⟩
  | 26 => ⟨S4x4096x1024, .f32⟩
  | 27 => ⟨S4x4096x1024, .f32⟩
  | 28 => ⟨S_, .f32⟩
  | 29 => ⟨S4x4096x1024, .f32⟩
  | 30 => ⟨S4x4096x1024, .f32⟩
  | 31 => ⟨S1x1024, .f32⟩
  | 32 => ⟨S1024, .f32⟩
  | 33 => ⟨S1024, .f32⟩
  | 34 => ⟨S_, .f32⟩
  | 35 => ⟨S1024, .f32⟩
  | 36 => ⟨S1024, .f32⟩
  | 37 => ⟨S1024, .f32⟩
  | 38 => ⟨S1024, .f32⟩
  | 39 => ⟨S1024, .i1⟩
  | 40 => ⟨S1024, .f32⟩
  | 41 => ⟨S1024, .f32⟩
  | 42 => ⟨S1024, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1x1x1024, .f32⟩
  | 49 => ⟨S4x4096x1024, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S4x4096x1024, .f32⟩
  | 56 => ⟨S4x4096x1024, .f32⟩
  | 57 => ⟨S4x4096x1024, .f32⟩
  | 58 => ⟨S4x4096x1024, .f32⟩
  | 59 => ⟨S4x4096x1024, .f32⟩
  | 60 => ⟨S4x4096x1x1024, .f32⟩
  | 61 => ⟨S4x4096x1x1024, .f32⟩
  | 62 => ⟨S4x4096x2x1024, .f32⟩
  | 63 => ⟨S4x4096x1x1024, .f32⟩
  | 64 => ⟨S4x4096x1x1024, .f32⟩
  | 65 => ⟨S4x4096x2x1024, .f32⟩
  | 66 => ⟨S_, .f32⟩
  | 67 => ⟨S4x4096x2x1024, .f32⟩
  | 68 => ⟨S_, .i32⟩
  | 69 => ⟨S_, .i32⟩
  | 70 => ⟨S4x4096x2x1024, .f32⟩
  | 71 => ⟨S4x4096x2x1024, .f32⟩
  | 72 => ⟨S_, .i32⟩
  | 73 => ⟨S_, .i32⟩
  | 74 => ⟨S4x2x1024, .f32⟩
  | 75 => ⟨S4x4096x2x1024, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S4x1x2x1024, .f32⟩
  | 111 => ⟨S4x2x1024, .f32⟩
  | 112 => ⟨S4x2x1024, .f32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S4x4096x12288, .bf16⟩

abbrev hbmTy0_2 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S4x1x2x1024, .f32⟩
  | 16 => ⟨S4x2x1024, .f32⟩
  | 17 => ⟨S4x2x1024, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S1, .i32⟩
  | 25 => ⟨S4x4096x2x1024, .f32⟩
  | 26 => ⟨S_, .i32⟩
  | 27 => ⟨S_, .i32⟩
  | 28 => ⟨S4x4096x1024, .bf16⟩
  | 29 => ⟨S4x4096x1024, .f32⟩
  | 30 => ⟨S4x4096x1x1024, .f32⟩
  | 31 => ⟨S4x4096x1024, .f32⟩
  | 32 => ⟨S4x4096x1x1024, .f32⟩
  | 33 => ⟨S4x4096x1024, .f32⟩
  | 34 => ⟨S4x4096x1024, .f32⟩
  | 35 => ⟨S4x4096x1024, .f32⟩
  | 36 => ⟨S4x4096x1024, .f32⟩
  | 37 => ⟨S4x4096x1024, .f32⟩
  | 38 => ⟨S_, .f32⟩
  | 39 => ⟨S4x4096x1024, .f32⟩
  | 40 => ⟨S4x4096x1024, .f32⟩
  | 41 => ⟨S4x4096x1024, .f32⟩
  | 42 => ⟨S_, .f32⟩
  | 43 => ⟨S4x4096x1024, .f32⟩
  | 44 => ⟨S4x4096x1024, .f32⟩
  | 45 => ⟨S4x4096x1024, .f32⟩
  | 46 => ⟨S_, .f32⟩
  | 47 => ⟨S4x4096x1024, .f32⟩
  | 48 => ⟨S4x4096x1024, .f32⟩
  | 49 => ⟨S_, .f32⟩
  | 50 => ⟨S4x4096x1024, .f32⟩
  | 51 => ⟨S4x4096x1024, .f32⟩
  | 52 => ⟨S4x4096x1024, .f32⟩
  | 53 => ⟨S4x4096x1024, .f32⟩
  | 54 => ⟨S4x4096x1024, .bf16⟩
  | _ => ⟨S4x4096x12288, .bf16⟩

abbrev hbmTy (i : Nat) : BufTy := match i / 128 with
  | 0 => hbmTy0_0 i
  | 1 => hbmTy0_1 i
  | 2 => hbmTy0_2 i
  | _ => ⟨S4x4096x12288, .bf16⟩

abbrev bufTy : (tb : Table) → Fin (tcTables nBuf tb) → BufTy
  | .hbm, ⟨i, _⟩ => hbmTy i
  | _, _ => ⟨S4x4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_0 : Ref sig .tc := ⟨.hbm, 60, rfl⟩
abbrev main_v48 : Ref sig .tc := ⟨.hbm, 61, rfl⟩
abbrev main_v49 : Ref sig .tc := ⟨.hbm, 62, rfl⟩
abbrev main_cst_1 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_2 : Ref sig .tc := ⟨.hbm, 79, rfl⟩
abbrev main_v65 : Ref sig .tc := ⟨.hbm, 80, rfl⟩
abbrev main_v66 : Ref sig .tc := ⟨.hbm, 81, rfl⟩
abbrev main_cst_3 : Ref sig .tc := ⟨.hbm, 82, rfl⟩
abbrev main_v67 : Ref sig .tc := ⟨.hbm, 83, rfl⟩
abbrev main_v68 : Ref sig .tc := ⟨.hbm, 84, rfl⟩
abbrev main_cst_4 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_5 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_6 : Ref sig .tc := ⟨.hbm, 131, rfl⟩
abbrev main_v100 : Ref sig .tc := ⟨.hbm, 132, rfl⟩
abbrev main_v101 : Ref sig .tc := ⟨.hbm, 133, rfl⟩
abbrev main_cst_7 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_8 : Ref sig .tc := ⟨.hbm, 150, rfl⟩
abbrev main_v117 : Ref sig .tc := ⟨.hbm, 151, rfl⟩
abbrev main_v118 : Ref sig .tc := ⟨.hbm, 152, rfl⟩
abbrev main_cst_9 : Ref sig .tc := ⟨.hbm, 153, rfl⟩
abbrev main_v119 : Ref sig .tc := ⟨.hbm, 154, rfl⟩
abbrev main_v120 : Ref sig .tc := ⟨.hbm, 155, rfl⟩
abbrev main_cst_10 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_v5 : Ref sig .tc := ⟨.hbm, 168, rfl⟩
abbrev main_call3_v6 : Ref sig .tc := ⟨.hbm, 169, rfl⟩
abbrev main_call3_v7 : Ref sig .tc := ⟨.hbm, 170, rfl⟩
abbrev main_call3_v8 : Ref sig .tc := ⟨.hbm, 171, rfl⟩
abbrev main_call3_v9 : Ref sig .tc := ⟨.hbm, 172, rfl⟩
abbrev main_call3_v10 : Ref sig .tc := ⟨.hbm, 173, rfl⟩
abbrev main_call3_v11 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_11 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_12 : Ref sig .tc := ⟨.hbm, 194, rfl⟩
abbrev main_v144 : Ref sig .tc := ⟨.hbm, 195, rfl⟩
abbrev main_c_13 : Ref sig .tc := ⟨.hbm, 196, rfl⟩
abbrev main_c_14 : Ref sig .tc := ⟨.hbm, 197, rfl⟩
abbrev main_v145_0 : Ref sig .tc := ⟨.hbm, 198, rfl⟩
abbrev main_v145_1 : Ref sig .tc := ⟨.hbm, 199, rfl⟩
abbrev main_v145_2 : Ref sig .tc := ⟨.hbm, 200, rfl⟩
abbrev main_v145_3 : Ref sig .tc := ⟨.hbm, 201, rfl⟩
abbrev main_v145_4 : Ref sig .tc := ⟨.hbm, 202, rfl⟩
abbrev main_v145_5 : Ref sig .tc := ⟨.hbm, 203, rfl⟩
abbrev main_while0c_c_24 : Ref sig .tc := ⟨.hbm, 204, rfl⟩
abbrev main_while0c_v169 : Ref sig .tc := ⟨.hbm, 205, rfl⟩
abbrev main_while0b_c_24 : Ref sig .tc := ⟨.hbm, 206, rfl⟩
abbrev main_while0b_v169 : Ref sig .tc := ⟨.hbm, 207, rfl⟩
abbrev main_while0b_v170 : Ref sig .tc := ⟨.hbm, 208, rfl⟩
abbrev main_while0b_c_25 : Ref sig .tc := ⟨.hbm, 209, rfl⟩
abbrev main_while0b_c_26 : Ref sig .tc := ⟨.hbm, 210, rfl⟩
abbrev main_while0b_v171 : Ref sig .tc := ⟨.hbm, 211, rfl⟩
abbrev main_while0b_c_27 : Ref sig .tc := ⟨.hbm, 212, rfl⟩
abbrev main_while0b_c_28 : Ref sig .tc := ⟨.hbm, 213, rfl⟩
abbrev main_while0b_v172 : Ref sig .tc := ⟨.hbm, 214, rfl⟩
abbrev main_while0b_c_29 : Ref sig .tc := ⟨.hbm, 215, rfl⟩
abbrev main_while0b_v173 : Ref sig .tc := ⟨.hbm, 216, rfl⟩
abbrev main_while0b_c_30 : Ref sig .tc := ⟨.hbm, 217, rfl⟩
abbrev main_while0b_v174 : Ref sig .tc := ⟨.hbm, 218, rfl⟩
abbrev main_while0b_c_31 : Ref sig .tc := ⟨.hbm, 219, rfl⟩
abbrev main_while0b_v175 : Ref sig .tc := ⟨.hbm, 220, rfl⟩
abbrev main_while0b_v176 : Ref sig .tc := ⟨.hbm, 221, rfl⟩
abbrev main_while0b_c_32 : Ref sig .tc := ⟨.hbm, 222, rfl⟩
abbrev main_while0b_c_33 : Ref sig .tc := ⟨.hbm, 223, rfl⟩
abbrev main_while0b_v177 : Ref sig .tc := ⟨.hbm, 224, rfl⟩
abbrev main_while0b_c_34 : Ref sig .tc := ⟨.hbm, 225, rfl⟩
abbrev main_while0b_c_35 : Ref sig .tc := ⟨.hbm, 226, rfl⟩
abbrev main_while0b_v178 : Ref sig .tc := ⟨.hbm, 227, rfl⟩
abbrev main_while0b_c_36 : Ref sig .tc := ⟨.hbm, 228, rfl⟩
abbrev main_while0b_v179 : Ref sig .tc := ⟨.hbm, 229, rfl⟩
abbrev main_while0b_c_37 : Ref sig .tc := ⟨.hbm, 230, rfl⟩
abbrev main_while0b_c_38 : Ref sig .tc := ⟨.hbm, 231, rfl⟩
abbrev main_while0b_v180 : Ref sig .tc := ⟨.hbm, 232, rfl⟩
abbrev main_while0b_c_39 : Ref sig .tc := ⟨.hbm, 233, rfl⟩
abbrev main_while0b_c_40 : Ref sig .tc := ⟨.hbm, 234, rfl⟩
abbrev main_while0b_v181 : Ref sig .tc := ⟨.hbm, 235, rfl⟩
abbrev main_while0b_c_41 : Ref sig .tc := ⟨.hbm, 236, rfl⟩
abbrev main_while0b_v182 : Ref sig .tc := ⟨.hbm, 237, rfl⟩
abbrev main_while0b_v183 : Ref sig .tc := ⟨.hbm, 238, rfl⟩
abbrev main_while0b_v184 : Ref sig .tc := ⟨.hbm, 239, rfl⟩
abbrev main_while0b_v185 : Ref sig .tc := ⟨.hbm, 240, rfl⟩
abbrev main_while0b_v186 : Ref sig .tc := ⟨.hbm, 241, rfl⟩
abbrev main_while0b_c_42 : Ref sig .tc := ⟨.hbm, 242, rfl⟩
abbrev main_while0b_c_43 : Ref sig .tc := ⟨.hbm, 243, rfl⟩
abbrev main_while0b_v187 : Ref sig .tc := ⟨.hbm, 244, rfl⟩
abbrev main_while0b_c_44 : Ref sig .tc := ⟨.hbm, 245, rfl⟩
abbrev main_while0b_c_45 : Ref sig .tc := ⟨.hbm, 246, rfl⟩
abbrev main_while0b_v188 : Ref sig .tc := ⟨.hbm, 247, rfl⟩
abbrev main_while0b_c_46 : Ref sig .tc := ⟨.hbm, 248, rfl⟩
abbrev main_while0b_v189 : Ref sig .tc := ⟨.hbm, 249, rfl⟩
abbrev main_while0b_c_47 : Ref sig .tc := ⟨.hbm, 250, rfl⟩
abbrev main_while0b_v190 : Ref sig .tc := ⟨.hbm, 251, rfl⟩
abbrev main_while0b_c_48 : Ref sig .tc := ⟨.hbm, 252, rfl⟩
abbrev main_while0b_v191 : Ref sig .tc := ⟨.hbm, 253, rfl⟩
abbrev main_while0b_v192 : Ref sig .tc := ⟨.hbm, 254, rfl⟩
abbrev main_while0b_c_49 : Ref sig .tc := ⟨.hbm, 255, rfl⟩
abbrev main_while0b_c_50 : Ref sig .tc := ⟨.hbm, 256, rfl⟩
abbrev main_while0b_v193 : Ref sig .tc := ⟨.hbm, 257, rfl⟩
abbrev main_while0b_c_51 : Ref sig .tc := ⟨.hbm, 258, rfl⟩
abbrev main_while0b_c_52 : Ref sig .tc := ⟨.hbm, 259, rfl⟩
abbrev main_while0b_v194 : Ref sig .tc := ⟨.hbm, 260, rfl⟩
abbrev main_while0b_c_53 : Ref sig .tc := ⟨.hbm, 261, rfl⟩
abbrev main_while0b_v195 : Ref sig .tc := ⟨.hbm, 262, rfl⟩
abbrev main_while0b_c_54 : Ref sig .tc := ⟨.hbm, 263, rfl⟩
abbrev main_while0b_c_55 : Ref sig .tc := ⟨.hbm, 264, rfl⟩
abbrev main_while0b_v196 : Ref sig .tc := ⟨.hbm, 265, rfl⟩
abbrev main_while0b_c_56 : Ref sig .tc := ⟨.hbm, 266, rfl⟩
abbrev main_while0b_c_57 : Ref sig .tc := ⟨.hbm, 267, rfl⟩
abbrev main_while0b_v197 : Ref sig .tc := ⟨.hbm, 268, rfl⟩
abbrev main_while0b_c_58 : Ref sig .tc := ⟨.hbm, 269, rfl⟩
abbrev main_while0b_v198 : Ref sig .tc := ⟨.hbm, 270, rfl⟩
abbrev main_while0b_v199 : Ref sig .tc := ⟨.hbm, 271, rfl⟩
abbrev main_while0b_v200 : Ref sig .tc := ⟨.hbm, 272, rfl⟩
abbrev main_while0b_v201 : Ref sig .tc := ⟨.hbm, 273, rfl⟩
abbrev main_while0b_c_59 : Ref sig .tc := ⟨.hbm, 274, rfl⟩
abbrev main_while0b_v202 : Ref sig .tc := ⟨.hbm, 275, rfl⟩
abbrev main_while0b_c_60 : Ref sig .tc := ⟨.hbm, 276, rfl⟩
abbrev main_while0b_v203 : Ref sig .tc := ⟨.hbm, 277, rfl⟩
abbrev main_while0b_v204 : Ref sig .tc := ⟨.hbm, 278, rfl⟩
abbrev main_while0b_v205 : Ref sig .tc := ⟨.hbm, 279, rfl⟩
abbrev main_while0b_v206 : Ref sig .tc := ⟨.hbm, 280, rfl⟩
abbrev main_while0b_v207 : Ref sig .tc := ⟨.hbm, 281, rfl⟩
abbrev main_while0b_c_61 : Ref sig .tc := ⟨.hbm, 282, rfl⟩
abbrev main_while0b_v208 : Ref sig .tc := ⟨.hbm, 283, rfl⟩
abbrev main_v146 : Ref sig .tc := ⟨.hbm, 284, rfl⟩
abbrev main_v147 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_cst_15 : Ref sig .tc := ⟨.hbm, 294, rfl⟩
abbrev main_v156 : Ref sig .tc := ⟨.hbm, 295, rfl⟩
abbrev main_v157 : Ref sig .tc := ⟨.hbm, 296, rfl⟩
abbrev main_v158 : Ref sig .tc := ⟨.hbm, 297, rfl⟩
abbrev main_cst_16 : Ref sig .tc := ⟨.hbm, 298, rfl⟩
abbrev main_v159 : Ref sig .tc := ⟨.hbm, 299, rfl⟩
abbrev main_v160 : Ref sig .tc := ⟨.hbm, 300, rfl⟩
abbrev main_v161 : Ref sig .tc := ⟨.hbm, 301, rfl⟩
abbrev main_cst_17 : Ref sig .tc := ⟨.hbm, 302, rfl⟩
abbrev main_v162 : Ref sig .tc := ⟨.hbm, 303, rfl⟩
abbrev main_v163 : Ref sig .tc := ⟨.hbm, 304, rfl⟩
abbrev main_cst_18 : Ref sig .tc := ⟨.hbm, 305, rfl⟩
abbrev main_v164 : Ref sig .tc := ⟨.hbm, 306, rfl⟩
abbrev main_v165 : Ref sig .tc := ⟨.hbm, 307, rfl⟩
abbrev main_v166 : Ref sig .tc := ⟨.hbm, 308, rfl⟩
abbrev main_v167 : Ref sig .tc := ⟨.hbm, 309, rfl⟩
abbrev main_v168 : Ref sig .tc := ⟨.hbm, 310, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4x4096x1024 : Shape := ⟨3, ![4, 4096, 1024]⟩
abbrev S1024 : Shape := ⟨1, ![1024]⟩
abbrev S4x1x1024 : Shape := ⟨3, ![4, 1, 1024]⟩
abbrev S1024x12320 : Shape := ⟨2, ![1024, 12320]⟩
abbrev S128 : Shape := ⟨1, ![128]⟩
abbrev S1024x4096 : Shape := ⟨2, ![1024, 4096]⟩
abbrev S1024x8192 : Shape := ⟨2, ![1024, 8192]⟩
abbrev S1024x12288 : Shape := ⟨2, ![1024, 12288]⟩
abbrev S1024x32 : Shape := ⟨2, ![1024, 32]⟩
abbrev S1x128 : Shape := ⟨2, ![1, 128]⟩
abbrev S_ : Shape := ⟨0, ![]⟩
abbrev S128x1 : Shape := ⟨2, ![128, 1]⟩
abbrev S1024x128 : Shape := ⟨2, ![1024, 128]⟩
abbrev S1x1024 : Shape := ⟨2, ![1, 1024]⟩
abbrev S4x4096x12288 : Shape := ⟨3, ![4, 4096, 12288]⟩
abbrev S4x4096x128 : Shape := ⟨3, ![4, 4096, 128]⟩
abbrev S1x2048x1024 : Shape := ⟨3, ![1, 2048, 1024]⟩
abbrev S1x1x1024 : Shape := ⟨3, ![1, 1, 1024]⟩
abbrev S1024x1024 : Shape := ⟨2, ![1024, 1024]⟩
abbrev S1x2048x128 : Shape := ⟨3, ![1, 2048, 128]⟩
abbrev S2048x1024 : Shape := ⟨2, ![2048, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 29
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x12320, .f32⟩
  | .hbm, ⟨5, _⟩ => ⟨S128, .i1⟩
  | .hbm, ⟨6, _⟩ => ⟨S128, .i32⟩
  | .hbm, ⟨7, _⟩ => ⟨S128, .i1⟩
  | .hbm, ⟨8, _⟩ => ⟨S1024x4096, .f32⟩
  | .hbm, ⟨9, _⟩ => ⟨S1024x8192, .f32⟩
  | .hbm, ⟨10, _⟩ => ⟨S1024x12288, .f32⟩
  | .hbm, ⟨11, _⟩ => ⟨S1024x12288, .bf16⟩
  | .hbm, ⟨12, _⟩ => ⟨S1024x32, .f32⟩
  | .hbm, ⟨13, _⟩ => ⟨S1x128, .i1⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S128x1, .i32⟩
  | .hbm, ⟨19, _⟩ => ⟨S1024x128, .f32⟩
  | .hbm, ⟨20, _⟩ => ⟨S_, .f32⟩
  | .hbm, ⟨21, _⟩ => ⟨S_, .f32⟩
  | .hbm, ⟨22, _⟩ => ⟨S1024x128, .i1⟩
  | .hbm, ⟨23, _⟩ => ⟨S1024x128, .f32⟩
  | .hbm, ⟨24, _⟩ => ⟨S1024x128, .f32⟩
  | .hbm, ⟨25, _⟩ => ⟨S1024x128, .bf16⟩
  | .hbm, ⟨26, _⟩ => ⟨S1x1024, .f32⟩
  | .hbm, ⟨27, _⟩ => ⟨S4x4096x12288, .bf16⟩
  | .hbm, ⟨28, _⟩ => ⟨S4x4096x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x128, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x2048x128, .f32⟩
  | .local _ .vmem, ⟨13, _⟩ => ⟨S1x2048x128, .f32⟩
  | .local _ .vmem, ⟨14, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 2, 12], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S4x4096x1024 : Shape := ⟨3, ![4, 4096, 1024]⟩
abbrev S1024 : Shape := ⟨1, ![1024]⟩
abbrev S4x1x1024 : Shape := ⟨3, ![4, 1, 1024]⟩
abbrev S1024x12320 : Shape := ⟨2, ![1024, 12320]⟩
abbrev S128 : Shape := ⟨1, ![128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x12320 : Shape := ⟨3, ![4, 4096, 12320]⟩
abbrev S4x4096x4096 : Shape := ⟨3, ![4, 4096, 4096]⟩
abbrev S4x4096x32 : Shape := ⟨3, ![4, 4096, 32]⟩
abbrev S4x4096x8192 : Shape := ⟨3, ![4, 4096, 8192]⟩
abbrev S128x1 : Shape := ⟨2, ![128, 1]⟩
abbrev S4x4096x128 : Shape := ⟨3, ![4, 4096, 128]⟩
abbrev S4x4096x12288 : Shape := ⟨3, ![4, 4096, 12288]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x12320, .f32⟩
  | .hbm, ⟨5, _⟩ => ⟨S128, .i1⟩
  | .hbm, ⟨6, _⟩ => ⟨S128, .i32⟩
  | .hbm, ⟨7, _⟩ => ⟨S128, .i1⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x12320, .f32⟩
  | .hbm, ⟨32, _⟩ => ⟨S4x4096x4096, .f32⟩
  | .hbm, ⟨33, _⟩ => ⟨S4x4096x32, .f32⟩
  | .hbm, ⟨34, _⟩ => ⟨S4x4096x8192, .f32⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S128x1, .i32⟩
  | .hbm, ⟨40, _⟩ => ⟨S4x4096x128, .f32⟩
  | .hbm, ⟨41, _⟩ => ⟨S_, .f32⟩
  | .hbm, ⟨42, _⟩ => ⟨S_, .f32⟩
  | .hbm, ⟨43, _⟩ => ⟨S4x4096x128, .i1⟩
  | .hbm, ⟨44, _⟩ => ⟨S4x4096x128, .f32⟩
  | .hbm, ⟨45, _⟩ => ⟨S4x4096x128, .f32⟩
  | .hbm, ⟨46, _⟩ => ⟨S4x4096x12288, .f32⟩
  | .hbm, ⟨47, _⟩ => ⟨S4x4096x12288, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_cst_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S4x1x1024 : Shape := ⟨3, ![4, 1, 1024]⟩
abbrev S1024x5632 : Shape := ⟨2, ![1024, 5632]⟩
abbrev S1x1024 : Shape := ⟨2, ![1, 1024]⟩
abbrev S4x4096x5632 : Shape := ⟨3, ![4, 4096, 5632]⟩
abbrev S1x1024x1024 : Shape := ⟨3, ![1, 1024, 1024]⟩
abbrev S1x1x1024 : Shape := ⟨3, ![1, 1, 1024]⟩
abbrev S1024x2816 : Shape := ⟨2, ![1024, 2816]⟩
abbrev S1x1024x2816 : Shape := ⟨3, ![1, 1024, 2816]⟩
abbrev S1024x1024 : Shape := ⟨2, ![1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S1x256x2816 : Shape := ⟨3, ![1, 256, 2816]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x5632, .f32⟩
  | .hbm, ⟨5, _⟩ => ⟨S1024x5632, .bf16⟩
  | .hbm, ⟨6, _⟩ => ⟨S1x1024, .f32⟩
  | .hbm, ⟨7, _⟩ => ⟨S4x4096x5632, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2816, .bf16⟩
  | .local _ .vmem, ⟨8, _⟩ => ⟨S1024x2816, .bf16⟩
  | .local _ .vmem, ⟨9, _⟩ => ⟨S1x1024x2816, .bf16⟩
  | .local _ .vmem, ⟨10, _⟩ => ⟨S1x1024x2816, .bf16⟩
  | .local _ .vmem, ⟨11, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S4x4096x1024 : Shape := ⟨3, ![4, 4096, 1024]⟩
abbrev S1024 : Shape := ⟨1, ![1024]⟩
abbrev S4x1x1024 : Shape := ⟨3, ![4, 1, 1024]⟩
abbrev S1024x5632 : Shape := ⟨2, ![1024, 5632]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x5632, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x5632, .f32⟩
  | .hbm, ⟨29, _⟩ => ⟨S4x4096x5632, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel4.lean ====
abbrev S4x4096x2816 : Shape := ⟨3, ![4, 4096, 2816]⟩
abbrev S2816x1024 : Shape := ⟨2, ![2816, 1024]⟩
abbrev S4x4096x1024 : Shape := ⟨3, ![4, 4096, 1024]⟩
abbrev S4x1x1024 : Shape := ⟨3, ![4, 1, 1024]⟩
abbrev S1024 : Shape := ⟨1, ![1024]⟩
abbrev S1x1024 : Shape := ⟨2, ![1, 1024]⟩
abbrev S1x512x2816 : Shape := ⟨3, ![1, 512, 2816]⟩
abbrev S1x512x1024 : Shape := ⟨3, ![1, 512, 1024]⟩
abbrev S1x1x1024 : Shape := ⟨3, ![1, 1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x2816, .bf16⟩
  | .hbm, ⟨1, _⟩ => ⟨S2816x1024, .f32⟩
  | .hbm, ⟨2, _⟩ => ⟨S4x4096x1024, .f32⟩
  | .hbm, ⟨3, _⟩ => ⟨S4x1x1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S4x4096x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S2816x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S4x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x4096x2816 : Shape := ⟨3, ![4, 4096, 2816]⟩
abbrev S2816x1024 : Shape := ⟨2, ![2816, 1024]⟩
abbrev S4x4096x1024 : Shape := ⟨3, ![4, 4096, 1024]⟩
abbrev S4x1x1024 : Shape := ⟨3, ![4, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2816, .bf16⟩
  | .hbm, ⟨1, _⟩ => ⟨S2816x1024, .f32⟩
  | .hbm, ⟨2, _⟩ => ⟨S4x4096x1024, .f32⟩
  | .hbm, ⟨3, _⟩ => ⟨S4x1x1024, .f32⟩
  | .hbm, ⟨4, _⟩ => ⟨S1024, .f32⟩
  | .hbm, ⟨5, _⟩ => ⟨S4x4096x2816, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | _, _ => ⟨S4x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel5.lean ====
abbrev S4x4096x1024 : Shape := ⟨3, ![4, 4096, 1024]⟩
abbrev S128 : Shape := ⟨1, ![128]⟩
abbrev S4x4096x12288 : Shape := ⟨3, ![4, 4096, 12288]⟩
abbrev S1024x1024 : Shape := ⟨2, ![1024, 1024]⟩
abbrev S4x1x1024 : Shape := ⟨3, ![4, 1, 1024]⟩
abbrev S1x128 : Shape := ⟨2, ![1, 128]⟩
abbrev S1x256x1024 : Shape := ⟨3, ![1, 256, 1024]⟩
abbrev S1x1x1024 : Shape := ⟨3, ![1, 1, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S1x1024 : Shape := ⟨2, ![1, 1024]⟩

abbrev nBuf : Space → Nat
  | .hbm => 17
  | .vmem => 25
  | .smem => 0
  | _ => 0

abbrev bufTy : (tb : Table) → Fin (tcTables nBuf tb) → BufTy
  | .hbm, ⟨0, _⟩ => ⟨S4x4096x1024, .bf16⟩
  | .hbm, ⟨1, _⟩ => ⟨S128, .f32⟩
  | .hbm, ⟨2, _⟩ => ⟨S4x4096x1024, .bf16⟩
  | .hbm, ⟨3, _⟩ => ⟨S4x4096x1024, .bf16⟩
  | .hbm, ⟨4, _⟩ => ⟨S4x4096x12288, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4x4096x1024, .f32⟩
  | .hbm, ⟨10, _⟩ => ⟨S4x1x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1x128, .f32⟩
  | .hbm, ⟨16, _⟩ => ⟨S4x4096x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x128, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x256x1024, .f32⟩
  | .local _ .vmem, ⟨20, _⟩ => ⟨S1x256x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x256x1024, .f32⟩
  | .local _ .vmem, ⟨24, _⟩ => ⟨S1x256x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_6 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference5Ideal.lean ====
abbrev S4x4096x1024 : Shape := ⟨3, ![4, 4096, 1024]⟩
abbrev S128 : Shape := ⟨1, ![128]⟩
abbrev S4x4096x12288 : Shape := ⟨3, ![4, 4096, 12288]⟩
abbrev S1024x1024 : Shape := ⟨2, ![1024, 1024]⟩
abbrev S4x1x1024 : Shape := ⟨3, ![4, 1, 1024]⟩
abbrev S4x4096x8x128 : Shape := ⟨4, ![4, 4096, 8, 128]⟩
abbrev S_ : Shape := ⟨0, ![]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x3072 : Shape := ⟨3, ![4, 4096, 3072]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S128, .f32⟩
  | .hbm, ⟨2, _⟩ => ⟨S4x4096x1024, .bf16⟩
  | .hbm, ⟨3, _⟩ => ⟨S4x4096x1024, .bf16⟩
  | .hbm, ⟨4, _⟩ => ⟨S4x4096x12288, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4x4096x1024, .f32⟩
  | .hbm, ⟨10, _⟩ => ⟨S4x1x1024, .f32⟩
  | .hbm, ⟨11, _⟩ => ⟨S4x4096x1024, .f32⟩
  | .hbm, ⟨12, _⟩ => ⟨S4x4096x8x128, .f32⟩
  | .hbm, ⟨13, _⟩ => ⟨S4x4096x1024, .bf16⟩
  | .hbm, ⟨14, _⟩ => ⟨S4x4096x1024, .f32⟩
  | .hbm, ⟨15, _⟩ => ⟨S4x4096x8x128, .f32⟩
  | .hbm, ⟨16, _⟩ => ⟨S4x4096x8x128, .f32⟩
  | .hbm, ⟨17, _⟩ => ⟨S_, .f32⟩
  | .hbm, ⟨18, _⟩ => ⟨S4x4096x8, .f32⟩
  | .hbm, ⟨19, _⟩ => ⟨S4x4096x8x1, .f32⟩
  | .hbm, ⟨20, _⟩ => ⟨S_, .f32⟩
  | .hbm, ⟨21, _⟩ => ⟨S4x4096x8x1, .f32⟩
  | .hbm, ⟨22, _⟩ => ⟨S4x4096x8x1, .f32⟩
  | .hbm, ⟨23, _⟩ => ⟨S_, .f32⟩
  | .hbm, ⟨24, _⟩ => ⟨S4x4096x8x1, .f32⟩
  | .hbm, ⟨25, _⟩ => ⟨S4x4096x8x1, .f32⟩
  | .hbm, ⟨26, _⟩ => ⟨S4x4096x8x1, .f32⟩
  | .hbm, ⟨27, _⟩ => ⟨S4x4096x8x128, .f32⟩
  | .hbm, ⟨28, _⟩ => ⟨S4x4096x8x128, .f32⟩
  | .hbm, ⟨29, _⟩ => ⟨S1x1x1x128, .f32⟩
  | .hbm, ⟨30, _⟩ => ⟨S4x4096x8x128, .f32⟩
  | .hbm, ⟨31, _⟩ => ⟨S4x4096x8x128, .f32⟩
  | .hbm, ⟨32, _⟩ => ⟨S4x4096x8x128, .f32⟩
  | .hbm, ⟨33, _⟩ => ⟨S4x4096x8x128, .f32⟩
  | .hbm, ⟨34, _⟩ => ⟨S_, .f32⟩
  | .hbm, ⟨35, _⟩ => ⟨S4x4096x8x128, .f32⟩
  | .hbm, ⟨36, _⟩ => ⟨S4x4096x8x128, .f32⟩
  | .hbm, ⟨37, _⟩ => ⟨S_, .f32⟩
  | .hbm, ⟨38, _⟩ => ⟨S4x4096x8x128, .f32⟩
  | .hbm, ⟨39, _⟩ => ⟨S4x4096x8x128, .f32⟩
  | .hbm, ⟨40, _⟩ => ⟨S4x4096x8x128, .f32⟩
  | .hbm, ⟨41, _⟩ => ⟨S4x4096x8x128, .f32⟩
  | .hbm, ⟨42, _⟩ => ⟨S4x4096x1024, .f32⟩
  | .hbm, ⟨43, _⟩ => ⟨S4x4096x3072, .bf16⟩
  | .hbm, ⟨44, _⟩ => ⟨S4x4096x3072, .f32⟩
  | .hbm, ⟨45, _⟩ => ⟨S4x4096x3072, .f32⟩
  | .hbm, ⟨46, _⟩ => ⟨S4x4096x3072, .f32⟩
  | .hbm, ⟨47, _⟩ => ⟨S_, .f32⟩
  | .hbm, ⟨48, _⟩ => ⟨S4x4096x3072, .f32⟩
  | .hbm, ⟨49, _⟩ => ⟨S4x4096x3072, .f32⟩
  | .hbm, ⟨50, _⟩ => ⟨S_, .f32⟩
  | .hbm, ⟨51, _⟩ => ⟨S4x4096x3072, .f32⟩
  | .hbm, ⟨52, _⟩ => ⟨S4x4096x3072, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Kernel6.lean ====
abbrev S4x4096x2816 : Shape := ⟨3, ![4, 4096, 2816]⟩
abbrev S2816x1024 : Shape := ⟨2, ![2816, 1024]⟩
abbrev S4x4096x1024 : Shape := ⟨3, ![4, 4096, 1024]⟩
abbrev S4x1x1024 : Shape := ⟨3, ![4, 1, 1024]⟩
abbrev S1x512x2816 : Shape := ⟨3, ![1, 512, 2816]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩
abbrev S512x2816 : Shape := ⟨2, ![512, 2816]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x2816, .bf16⟩
  | .hbm, ⟨1, _⟩ => ⟨S2816x1024, .f32⟩
  | .hbm, ⟨2, _⟩ => ⟨S4x4096x1024, .f32⟩
  | .hbm, ⟨3, _⟩ => ⟨S4x1x1024, .f32⟩
  | .hbm, ⟨4, _⟩ => ⟨S2816x1024, .bf16⟩
  | .hbm, ⟨5, _⟩ => ⟨S4x4096x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S2816x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S4x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4x4096x2816 : Shape := ⟨3, ![4, 4096, 2816]⟩
abbrev S2816x1024 : Shape := ⟨2, ![2816, 1024]⟩
abbrev S4x4096x1024 : Shape := ⟨3, ![4, 4096, 1024]⟩
abbrev S4x1x1024 : Shape := ⟨3, ![4, 1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x2816, .bf16⟩
  | .hbm, ⟨1, _⟩ => ⟨S2816x1024, .f32⟩
  | .hbm, ⟨2, _⟩ => ⟨S4x4096x1024, .f32⟩
  | .hbm, ⟨3, _⟩ => ⟨S4x1x1024, .f32⟩
  | .hbm, ⟨4, _⟩ => ⟨S4x4096x2816, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | _, _ => ⟨S4x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1024x6144, .bf16⟩
  | .hbm, ⟨4, _⟩ => ⟨S1x6144, .f32⟩
  | .hbm, ⟨5, _⟩ => ⟨S8x6144, .f32⟩
  | .local _ .vmem, ⟨0, _⟩ => ⟨S8x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Trip.lean ====
module

public import proofs.«01_k».proof.Proof.Gen.KernelIdeal.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

variable {F : FTy → Type} [FloatOps F]

/-- The gates' products plus their bias: four 128-wide column groups, each through its own weights. -/
def lruPre (w0 w1 w2 w3 : FVec F S128x128 .bf16) (x : FVec F S256x512 .f32) (b : FVec F S1x512 .f32) : FVec F S256x512 .f32 :=
  addf (concatenate S256x512 1
    [⟨S256x128, matmul dot_S256x128_S128x128_S256x128_1_0_0_1_n_n none (extractStridedSlice S256x128 ![0, 0] (truncf .bf16 x bitsLt_bf16_f32) slices_S256x512_o0_0_S256x128) w0 (constant S256x128 .f32 0x00000000#32)⟩,
     ⟨S256x128, matmul dot_S256x128_S128x128_S256x128_1_0_0_1_n_n none (extractStridedSlice S256x128 ![0, 128] (truncf .bf16 x bitsLt_bf16_f32) slices_S256x512_o0_128_S256x128) w1 (constant S256x128 .f32 0x00000000#32)⟩,
     ⟨S256x128, matmul dot_S256x128_S128x128_S256x128_1_0_0_1_n_n none (extractStridedSlice S256x128 ![0, 256] (truncf .bf16 x bitsLt_bf16_f32) slices_S256x512_o0_256_S256x128) w2 (constant S256x128 .f32 0x00000000#32)⟩,
     ⟨S256x128, matmul dot_S256x128_S128x128_S256x128_1_0_0_1_n_n none (extractStridedSlice S256x128 ![0, 384] (truncf .bf16 x bitsLt_bf16_f32) slices_S256x512_o0_384_S256x128) w3 (constant S256x128 .f32 0x00000000#32)⟩]
    concatenates_S256x128_S256x128_S256x128_S256x128_S256x512_d1)
    (broadcastTo S256x512 b broadcasts_S1x512_S256x512)

/-- One over one plus the exponential of the negated entry. -/
def lruSig (z : FVec F S256x512 .f32) : FVec F S256x512 .f32 :=
  divf (broadcast S256x512 (Scalar.ofBits .f32 0x3F800000#32))
    (addf (broadcast S256x512 (Scalar.ofBits .f32 0x3F800000#32))
      (exp (subf (broadcast S256x512 (Scalar.ofBits .f32 0x00000000#32)) z)))

/-- The logarithm of the decay. -/
def lruLog (spl : FVec F S1x512 .f32) (r : FVec F S256x512 .f32) : FVec F S256x512 .f32 :=
  mulf (mulf (broadcast S256x512 (Scalar.ofBits .f32 0xC1000000#32)) r) (broadcastTo S256x512 spl broadcasts_S1x512_S256x512)

/-- The term the recurrence adds. -/
def lruInc (la gi x : FVec F S256x512 .f32) : FVec F S256x512 .f32 :=
  mulf (sqrt (subf (broadcast S256x512 (Scalar.ofBits .f32 0x3F800000#32))
      (exp (mulf (broadcast S256x512 (Scalar.ofBits .f32 0x40000000#32)) la)))) (mulf gi x)

/-- Rows moved down by `s` inside every group of eight, `fill` where none arrives. -/
def lruDown (fill s : BitVec 32) (v : FVec F S32x8x512 .f32) : FVec F S32x8x512 .f32 :=
  select (cmpi .sge (iota .tc S32x8x512 32 [1] iota_S32x8x512_d1_w32) (broadcast S32x8x512 s))
    (dynamicRotate 1 s none v rotates_S32x8x512_d1) (broadcast S32x8x512 (Scalar.ofBits .f32 fill))

/-- Rows moved up by `8 - s` inside every group of eight, `fill` where none arrives. -/
def lruUp (fill s : BitVec 32) (v : FVec F S32x8x512 .f32) : FVec F S32x8x512 .f32 :=
  select (cmpi .slt (iota .tc S32x8x512 32 [1] iota_S32x8x512_d1_w32) (broadcast S32x8x512 s))
    (dynamicRotate 1 s none v rotates_S32x8x512_d1) (broadcast S32x8x512 (Scalar.ofBits .f32 fill))

/-- The products of decays after a doubling step. -/
def stepA (sh : BitVec 32 → BitVec 32 → FVec F S32x8x512 .f32 → FVec F S32x8x512 .f32) (s : BitVec 32)
    (a : FVec F S32x8x512 .f32) : FVec F S32x8x512 .f32 := mulf a (sh 0x3F800000#32 s a)

/-- The accumulated terms after a doubling step. -/
def stepB (sh : BitVec 32 → BitVec 32 → FVec F S32x8x512 .f32 → FVec F S32x8x512 .f32) (s : BitVec 32)
    (a b : FVec F S32x8x512 .f32) : FVec F S32x8x512 .f32 := addf (mulf a (sh 0x00000000#32 s b)) b

/-- The products of decays within each group of eight rows. -/
def lruA (sh : BitVec 32 → BitVec 32 → FVec F S32x8x512 .f32 → FVec F S32x8x512 .f32) (s1 s2 s3 : BitVec 32)
    (a : FVec F S256x512 .f32) : FVec F S256x512 .f32 :=
  shapeCast S256x512 (stepA sh s3 (stepA sh s2 (stepA sh s1 (shapeCast S32x8x512 a shapeCasts_S256x512_S32x8x512))))
    shapeCasts_S32x8x512_S256x512

/-- The accumulated terms within each group of eight rows. -/
def lruB (sh : BitVec 32 → BitVec 32 → FVec F S32x8x512 .f32 → FVec F S32x8x512 .f32) (s1 s2 s3 : BitVec 32)
    (a b : FVec F S256x512 .f32) : FVec F S256x512 .f32 :=
  shapeCast S256x512
    (stepB sh s3 (stepA sh s2 (stepA sh s1 (shapeCast S32x8x512 a shapeCasts_S256x512_S32x8x512)))
      (stepB sh s2 (stepA sh s1 (shapeCast S32x8x512 a shapeCasts_S256x512_S32x8x512))
        (stepB sh s1 (shapeCast S32x8x512 a shapeCasts_S256x512_S32x8x512) (shapeCast S32x8x512 b shapeCasts_S256x512_S32x8x512))))
    shapeCasts_S32x8x512_S256x512

theorem slices_group (g : Fin 32) : S256x512.Slices ![8 * g.val, 0] S8x512 := by
  revert g; decide

/-- Group `g` from the state `h` entering it. -/
def lruGrp (A B : FVec F S256x512 .f32) (g : Fin 32) (h : FVec F S1x512 .f32) : FVec F S8x512 .f32 :=
  addf (extractStridedSlice S8x512 ![8 * g.val, 0] B (slices_group g))
    (mulf (extractStridedSlice S8x512 ![8 * g.val, 0] A (slices_group g)) (broadcastTo S8x512 h broadcasts_S1x512_S8x512))

/-- The groups in order of rising rows. -/
def chF (A B : FVec F S256x512 .f32) (h : FVec F S1x512 .f32) : (g : ℕ) → g < 32 → FVec F S8x512 .f32
  | 0, hg => lruGrp A B ⟨0, hg⟩ h
  | g + 1, hg => lruGrp A B ⟨g + 1, hg⟩ (extractStridedSlice S1x512 ![7, 0] (chF A B h g (by omega)) slices_S8x512_o7_0_S1x512)

/-- The groups in order of falling rows: the `g`-th one taken is group `31 - g`. -/
def chB (A B : FVec F S256x512 .f32) (h : FVec F S1x512 .f32) : (g : ℕ) → g < 32 → FVec F S8x512 .f32
  | 0, hg => lruGrp A B ⟨31, by omega⟩ h
  | g + 1, hg => lruGrp A B ⟨31 - (g + 1), by omega⟩ (extractStridedSlice S1x512 ![0, 0] (chB A B h g (by omega)) slices_S8x512_o0_0_S1x512)

theorem concat_groups (f : Fin 32 → FVec F S8x512 .f32) :
    Shape.Concatenates ((List.ofFn fun g : Fin 32 => (⟨S8x512, f g⟩ : (s : Shape) × (s.Idx → F .f32))).map (·.1)) S256x512 0 := by
  have : ((List.ofFn fun g : Fin 32 => (⟨S8x512, f g⟩ : (s : Shape) × (s.Idx → F .f32))).map (·.1)) = List.replicate 32 S8x512 := by
    simp [List.map_ofFn]
  rw [this]; decide

/-- The block's states from its decays and added terms, rows rising. -/
def lruRowsF (A B : FVec F S256x512 .f32) (h : FVec F S1x512 .f32) : FVec F S256x512 .f32 :=
  concatenate S256x512 0 (List.ofFn fun g : Fin 32 => ⟨S8x512, chF A B h g.val g.isLt⟩) (concat_groups _)

/-- The block's states from its decays and added terms, rows falling. -/
def lruRowsB (A B : FVec F S256x512 .f32) (h : FVec F S1x512 .f32) : FVec F S256x512 .f32 :=
  concatenate S256x512 0 (List.ofFn fun g : Fin 32 => ⟨S8x512, chB A B h (31 - g.val) (by omega)⟩) (concat_groups _)

def decay (w0 w1 w2 w3 : FVec F S128x128 .bf16) (b spl : FVec F S1x512 .f32) (x : FVec F S256x512 .f32) : FVec F S256x512 .f32 :=
  lruLog spl (lruSig (lruPre w0 w1 w2 w3 x b))

def blkA (sh : BitVec 32 → BitVec 32 → FVec F S32x8x512 .f32 → FVec F S32x8x512 .f32) (s1 s2 s3 : BitVec 32)
    (la : FVec F S256x512 .f32) : FVec F S256x512 .f32 := lruA sh s1 s2 s3 (exp la)

def blkB (sh : BitVec 32 → BitVec 32 → FVec F S32x8x512 .f32 → FVec F S32x8x512 .f32) (s1 s2 s3 : BitVec 32)
    (la gi x : FVec F S256x512 .f32) : FVec F S256x512 .f32 := lruB sh s1 s2 s3 (exp la) (lruInc la gi x)

section chain
variable (A B : FVec F S256x512 .f32) (h : FVec F S1x512 .f32)
variable (v198 : IVec S32x8x512 32) (v209 v214 v219 : FVec F S32x8x512 .f32)

theorem pay17_eq : k0_pay17 h v198 v209 v214 v219 = chF (k0_pay15 v198 v209 v214) (k0_pay16 v198 v209 v214 v219) h 0 (by decide) := rfl

theorem pay18_eq : k0_pay18 h v198 v209 v214 v219 = chF (k0_pay15 v198 v209 v214) (k0_pay16 v198 v209 v214 v219) h 1 (by decide) := by
  unfold k0_pay18; rw [pay17_eq]; rfl

theorem pay19_eq : k0_pay19 h v198 v209 v214 v219 = chF (k0_pay15 v198 v209 v214) (k0_pay16 v198 v209 v214 v219) h 2 (by decide) := by
  unfold k0_pay19; rw [pay18_eq]; rfl

theorem pay20_eq : k0_pay20 h v198 v209 v214 v219 = chF (k0_pay15 v198 v209 v214) (k0_pay16 v198 v209 v214 v219) h 3 (by decide) := by
  unfold k0_pay20; rw [pay19_eq]; rfl

theorem pay21_eq : k0_pay21 h v198 v209 v214 v219 = chF (k0_pay15 v198 v209 v214) (k0_pay16 v198 v209 v214 v219) h 4 (by decide) := by
  unfold k0_pay21; rw [pay20_eq]; rfl

theorem pay22_eq : k0_pay22 h v198 v209 v214 v219 = chF (k0_pay15 v198 v209 v214) (k0_pay16 v198 v209 v214 v219) h 5 (by decide) := by
  unfold k0_pay22; rw [pay21_eq]; rfl

theorem pay23_eq : k0_pay23 h v198 v209 v214 v219 = chF (k0_pay15 v198 v209 v214) (k0_pay16 v198 v209 v214 v219) h 6 (by decide) := by
  unfold k0_pay23; rw [pay22_eq]; rfl

theorem pay24_eq : k0_pay24 A B (chF A B h 6 (by decide)) = chF A B h 7 (by decide) := rfl

theorem pay25_eq : k0_pay25 A B (chF A B h 6 (by decide)) = chF A B h 8 (by decide) := by
  unfold k0_pay25; rw [pay24_eq]; rfl

theorem pay26_eq : k0_pay26 A B (chF A B h 6 (by decide)) = chF A B h 9 (by decide) := by
  unfold k0_pay26; rw [pay25_eq]; rfl

theorem pay27_eq : k0_pay27 A B (chF A B h 6 (by decide)) = chF A B h 10 (by decide) := by
  unfold k0_pay27; rw [pay26_eq]; rfl

theorem pay28_eq : k0_pay28 A B (chF A B h 6 (by decide)) = chF A B h 11 (by decide) := by
  unfold k0_pay28; rw [pay27_eq]; rfl

theorem pay29_eq : k0_pay29 A B (chF A B h 6 (by decide)) = chF A B h 12 (by decide) := by
  unfold k0_pay29; rw [pay28_eq]; rfl

theorem pay30_eq : k0_pay30 A B (chF A B h 6 (by decide)) = chF A B h 13 (by decide) := by
  unfold k0_pay30; rw [pay29_eq]; rfl

theorem pay31_eq : k0_pay31 A B (chF A B h 6 (by decide)) = chF A B h 14 (by decide) := by
  unfold k0_pay31; rw [pay30_eq]; rfl

theorem pay32_eq : k0_pay32 A B (chF A B h 6 (by decide)) = chF A B h 15 (by decide) := by
  unfold k0_pay32; rw [pay31_eq]; rfl

theorem pay33_eq : k0_pay33 A B (chF A B h 6 (by decide)) = chF A B h 16 (by decide) := by
  unfold k0_pay33; rw [pay32_eq]; rfl

theorem pay34_eq : k0_pay34 A B (chF A B h 16 (by decide)) = chF A B h 17 (by decide) := rfl

theorem pay35_eq : k0_pay35 A B (chF A B h 16 (by decide)) = chF A B h 18 (by decide) := by
  unfold k0_pay35; rw [pay34_eq]; rfl

theorem pay36_eq : k0_pay36 A B (chF A B h 16 (by decide)) = chF A B h 19 (by decide) := by
  unfold k0_pay36; rw [pay35_eq]; rfl

theorem pay37_eq : k0_pay37 A B (chF A B h 16 (by decide)) = chF A B h 20 (by decide) := by
  unfold k0_pay37; rw [pay36_eq]; rfl

theorem pay38_eq : k0_pay38 A B (chF A B h 16 (by decide)) = chF A B h 21 (by decide) := by
  unfold k0_pay38; rw [pay37_eq]; rfl

theorem pay39_eq : k0_pay39 A B (chF A B h 16 (by decide)) = chF A B h 22 (by decide) := by
  unfold k0_pay39; rw [pay38_eq]; rfl

theorem pay40_eq : k0_pay40 A B (chF A B h 16 (by decide)) = chF A B h 23 (by decide) := by
  unfold k0_pay40; rw [pay39_eq]; rfl

theorem pay41_eq : k0_pay41 A B (chF A B h 16 (by decide)) = chF A B h 24 (by decide) := by
  unfold k0_pay41; rw [pay40_eq]; rfl

theorem pay42_eq : k0_pay42 A B (chF A B h 16 (by decide)) = chF A B h 25 (by decide) := by
  unfold k0_pay42; rw [pay41_eq]; rfl

theorem pay43_eq : k0_pay43 A B (chF A B h 16 (by decide)) = chF A B h 26 (by decide) := by
  unfold k0_pay43; rw [pay42_eq]; rfl

theorem pay44_eq : k0_pay44 A B (chF A B h 26 (by decide)) = chF A B h 27 (by decide) := rfl

theorem pay45_eq : k0_pay45 A B (chF A B h 26 (by decide)) = chF A B h 28 (by decide) := by
  unfold k0_pay45; rw [pay44_eq]; rfl

theorem pay46_eq : k0_pay46 A B (chF A B h 26 (by decide)) = chF A B h 29 (by decide) := by
  unfold k0_pay46; rw [pay45_eq]; rfl

theorem pay47_eq : k0_pay47 A B (chF A B h 26 (by decide)) = chF A B h 30 (by decide) := by
  unfold k0_pay47; rw [pay46_eq]; rfl

theorem pay48_eq : k0_pay48 A B (chF A B h 26 (by decide)) = chF A B h 31 (by decide) := by
  unfold k0_pay48; rw [pay47_eq]; rfl

theorem pay49_eq : k0_pay49 A B (chF A B h 26 (by decide)) = extractStridedSlice S1x512 ![7, 0] (chF A B h 31 (by decide)) slices_S8x512_o7_0_S1x512 := by
  unfold k0_pay49; rw [pay48_eq]

theorem pay50_eq : k0_pay50 A B (chF A B h 0 (by decide)) (chF A B h 1 (by decide)) (chF A B h 2 (by decide)) (chF A B h 3 (by decide)) (chF A B h 4 (by decide)) (chF A B h 5 (by decide)) (chF A B h 6 (by decide)) (chF A B h 7 (by decide)) (chF A B h 8 (by decide)) (chF A B h 9 (by decide)) (chF A B h 10 (by decide)) (chF A B h 11 (by decide)) (chF A B h 12 (by decide)) (chF A B h 13 (by decide)) (chF A B h 14 (by decide)) (chF A B h 15 (by decide)) (chF A B h 16 (by decide)) (chF A B h 17 (by decide)) (chF A B h 18 (by decide)) (chF A B h 19 (by decide)) (chF A B h 20 (by decide)) (chF A B h 21 (by decide)) (chF A B h 22 (by decide)) (chF A B h 23 (by decide)) (chF A B h 24 (by decide)) (chF A B h 25 (by decide)) (chF A B h 26 (by decide)) = lruRowsF A B h := by
  unfold k0_pay50; rw [pay44_eq, pay45_eq, pay46_eq, pay47_eq, pay48_eq]; rfl
variable (v482 v483 v489 : FVec F S32x8x512 .f32) (v484 : IVec S32x8x512 32) (v486 : IVec S32x8x512 1)

theorem pay66_eq : k0_pay66 h v482 v483 v484 v486 v489 = chB (k0_pay64 v482 v484 v489) (k0_pay65 v482 v483 v484 v486 v489) h 0 (by decide) := rfl

theorem pay67_eq : k0_pay67 h v482 v483 v484 v486 v489 = chB (k0_pay64 v482 v484 v489) (k0_pay65 v482 v483 v484 v486 v489) h 1 (by decide) := by
  unfold k0_pay67; rw [pay66_eq]; rfl

theorem pay68_eq : k0_pay68 h v482 v483 v484 v486 v489 = chB (k0_pay64 v482 v484 v489) (k0_pay65 v482 v483 v484 v486 v489) h 2 (by decide) := by
  unfold k0_pay68; rw [pay67_eq]; rfl

theorem pay69_eq : k0_pay69 h v482 v483 v484 v486 v489 = extractStridedSlice S1x512 ![0, 0] (chB (k0_pay64 v482 v484 v489) (k0_pay65 v482 v483 v484 v486 v489) h 2 (by decide)) slices_S8x512_o0_0_S1x512 := by
  unfold k0_pay69; rw [pay68_eq]

theorem pay70_eq : k0_pay70 A B (extractStridedSlice S1x512 ![0, 0] (chB A B h 2 (by decide)) slices_S8x512_o0_0_S1x512) = chB A B h 3 (by decide) := rfl

theorem pay71_eq : k0_pay71 A B (extractStridedSlice S1x512 ![0, 0] (chB A B h 2 (by decide)) slices_S8x512_o0_0_S1x512) = chB A B h 4 (by decide) := by
  unfold k0_pay71; rw [pay70_eq]; rfl

theorem pay72_eq : k0_pay72 A B (extractStridedSlice S1x512 ![0, 0] (chB A B h 2 (by decide)) slices_S8x512_o0_0_S1x512) = chB A B h 5 (by decide) := by
  unfold k0_pay72; rw [pay71_eq]; rfl

theorem pay73_eq : k0_pay73 A B (extractStridedSlice S1x512 ![0, 0] (chB A B h 2 (by decide)) slices_S8x512_o0_0_S1x512) = chB A B h 6 (by decide) := by
  unfold k0_pay73; rw [pay72_eq]; rfl

theorem pay74_eq : k0_pay74 A B (extractStridedSlice S1x512 ![0, 0] (chB A B h 2 (by decide)) slices_S8x512_o0_0_S1x512) = chB A B h 7 (by decide) := by
  unfold k0_pay74; rw [pay73_eq]; rfl

theorem pay75_eq : k0_pay75 A B (extractStridedSlice S1x512 ![0, 0] (chB A B h 2 (by decide)) slices_S8x512_o0_0_S1x512) = chB A B h 8 (by decide) := by
  unfold k0_pay75; rw [pay74_eq]; rfl

theorem pay76_eq : k0_pay76 A B (extractStridedSlice S1x512 ![0, 0] (chB A B h 2 (by decide)) slices_S8x512_o0_0_S1x512) = chB A B h 9 (by decide) := by
  unfold k0_pay76; rw [pay75_eq]; rfl

theorem pay77_eq : k0_pay77 A B (extractStridedSlice S1x512 ![0, 0] (chB A B h 2 (by decide)) slices_S8x512_o0_0_S1x512) = chB A B h 10 (by decide) := by
  unfold k0_pay77; rw [pay76_eq]; rfl

theorem pay78_eq : k0_pay78 A B (extractStridedSlice S1x512 ![0, 0] (chB A B h 2 (by decide)) slices_S8x512_o0_0_S1x512) = chB A B h 11 (by decide) := by
  unfold k0_pay78; rw [pay77_eq]; rfl

theorem pay79_eq : k0_pay79 A B (extractStridedSlice S1x512 ![0, 0] (chB A B h 2 (by decide)) slices_S8x512_o0_0_S1x512) = chB A B h 12 (by decide) := by
  unfold k0_pay79; rw [pay78_eq]; rfl

theorem pay80_eq : k0_pay80 A B (extractStridedSlice S1x512 ![0, 0] (chB A B h 2 (by decide)) slices_S8x512_o0_0_S1x512) = extractStridedSlice S1x512 ![0, 0] (chB A B h 12 (by decide)) slices_S8x512_o0_0_S1x512 := by
  unfold k0_pay80; rw [pay79_eq]

theorem pay81_eq : k0_pay81 A B (extractStridedSlice S1x512 ![0, 0] (chB A B h 12 (by decide)) slices_S8x512_o0_0_S1x512) = chB A B h 13 (by decide) := rfl

theorem pay82_eq : k0_pay82 A B (extractStridedSlice S1x512 ![0, 0] (chB A B h 12 (by decide)) slices_S8x512_o0_0_S1x512) = chB A B h 14 (by decide) := by
  unfold k0_pay82; rw [pay81_eq]; rfl

theorem pay83_eq : k0_pay83 A B (extractStridedSlice S1x512 ![0, 0] (chB A B h 12 (by decide)) slices_S8x512_o0_0_S1x512) = chB A B h 15 (by decide) := by
  unfold k0_pay83; rw [pay82_eq]; rfl

theorem pay84_eq : k0_pay84 A B (extractStridedSlice S1x512 ![0, 0] (chB A B h 12 (by decide)) slices_S8x512_o0_0_S1x512) = chB A B h 16 (by decide) := by
  unfold k0_pay84; rw [pay83_eq]; rfl

theorem pay85_eq : k0_pay85 A B (extractStridedSlice S1x512 ![0, 0] (chB A B h 12 (by decide)) slices_S8x512_o0_0_S1x512) = chB A B h 17 (by decide) := by
  unfold k0_pay85; rw [pay84_eq]; rfl

theorem pay86_eq : k0_pay86 A B (extractStridedSlice S1x512 ![0, 0] (chB A B h 12 (by decide)) slices_S8x512_o0_0_S1x512) = chB A B h 18 (by decide) := by
  unfold k0_pay86; rw [pay85_eq]; rfl

theorem pay87_eq : k0_pay87 A B (extractStridedSlice S1x512 ![0, 0] (chB A B h 12 (by decide)) slices_S8x512_o0_0_S1x512) = chB A B h 19 (by decide) := by
  unfold k0_pay87; rw [pay86_eq]; rfl

theorem pay88_eq : k0_pay88 A B (extractStridedSlice S1x512 ![0, 0] (chB A B h 12 (by decide)) slices_S8x512_o0_0_S1x512) = chB A B h 20 (by decide) := by
  unfold k0_pay88; rw [pay87_eq]; rfl

theorem pay89_eq : k0_pay89 A B (extractStridedSlice S1x512 ![0, 0] (chB A B h 12 (by decide)) slices_S8x512_o0_0_S1x512) = chB A B h 21 (by decide) := by
  unfold k0_pay89; rw [pay88_eq]; rfl

theorem pay90_eq : k0_pay90 A B (extractStridedSlice S1x512 ![0, 0] (chB A B h 12 (by decide)) slices_S8x512_o0_0_S1x512) = chB A B h 22 (by decide) := by
  unfold k0_pay90; rw [pay89_eq]; rfl

theorem pay91_eq : k0_pay91 A B (extractStridedSlice S1x512 ![0, 0] (chB A B h 12 (by decide)) slices_S8x512_o0_0_S1x512) = extractStridedSlice S1x512 ![0, 0] (chB A B h 22 (by decide)) slices_S8x512_o0_0_S1x512 := by
  unfold k0_pay91; rw [pay90_eq]

theorem pay92_eq : k0_pay92 A B (extractStridedSlice S1x512 ![0, 0] (chB A B h 22 (by decide)) slices_S8x512_o0_0_S1x512) = chB A B h 23 (by decide) := rfl

theorem pay93_eq : k0_pay93 A B (extractStridedSlice S1x512 ![0, 0] (chB A B h 22 (by decide)) slices_S8x512_o0_0_S1x512) = chB A B h 24 (by decide) := by
  unfold k0_pay93; rw [pay92_eq]; rfl

theorem pay94_eq : k0_pay94 A B (extractStridedSlice S1x512 ![0, 0] (chB A B h 22 (by decide)) slices_S8x512_o0_0_S1x512) = chB A B h 25 (by decide) := by
  unfold k0_pay94; rw [pay93_eq]; rfl

theorem pay95_eq : k0_pay95 A B (extractStridedSlice S1x512 ![0, 0] (chB A B h 22 (by decide)) slices_S8x512_o0_0_S1x512) = chB A B h 26 (by decide) := by
  unfold k0_pay95; rw [pay94_eq]; rfl

theorem pay96_eq : k0_pay96 A B (extractStridedSlice S1x512 ![0, 0] (chB A B h 22 (by decide)) slices_S8x512_o0_0_S1x512) = chB A B h 27 (by decide) := by
  unfold k0_pay96; rw [pay95_eq]; rfl

theorem pay97_eq : k0_pay97 A B (extractStridedSlice S1x512 ![0, 0] (chB A B h 22 (by decide)) slices_S8x512_o0_0_S1x512) = chB A B h 28 (by decide) := by
  unfold k0_pay97; rw [pay96_eq]; rfl

theorem pay98_eq : k0_pay98 A B (extractStridedSlice S1x512 ![0, 0] (chB A B h 22 (by decide)) slices_S8x512_o0_0_S1x512) = chB A B h 29 (by decide) := by
  unfold k0_pay98; rw [pay97_eq]; rfl

theorem pay99_eq : k0_pay99 A B (extractStridedSlice S1x512 ![0, 0] (chB A B h 22 (by decide)) slices_S8x512_o0_0_S1x512) = chB A B h 30 (by decide) := by
  unfold k0_pay99; rw [pay98_eq]; rfl

theorem pay100_eq : k0_pay100 A B (extractStridedSlice S1x512 ![0, 0] (chB A B h 22 (by decide)) slices_S8x512_o0_0_S1x512) = chB A B h 31 (by decide) := by
  unfold k0_pay100; rw [pay99_eq]; rfl

theorem pay101_eq : k0_pay101 A B (extractStridedSlice S1x512 ![0, 0] (chB A B h 22 (by decide)) slices_S8x512_o0_0_S1x512) = extractStridedSlice S1x512 ![0, 0] (chB A B h 31 (by decide)) slices_S8x512_o0_0_S1x512 := by
  unfold k0_pay101; rw [pay100_eq]

theorem pay102_eq : k0_pay102 A B (chB A B h 0 (by decide)) (chB A B h 1 (by decide)) (chB A B h 2 (by decide)) (chB A B h 3 (by decide)) (chB A B h 4 (by decide)) (chB A B h 5 (by decide)) (chB A B h 6 (by decide)) (chB A B h 7 (by decide)) (chB A B h 8 (by decide)) (chB A B h 9 (by decide)) (chB A B h 10 (by decide)) (chB A B h 11 (by decide)) (chB A B h 12 (by decide)) (chB A B h 13 (by decide)) (chB A B h 14 (by decide)) (chB A B h 15 (by decide)) (chB A B h 16 (by decide)) (chB A B h 17 (by decide)) (chB A B h 18 (by decide)) (chB A B h 19 (by decide)) (chB A B h 20 (by decide)) (chB A B h 21 (by decide)) (chB A B h 22 (by decide)) (extractStridedSlice S1x512 ![0, 0] (chB A B h 22 (by decide)) slices_S8x512_o0_0_S1x512) = lruRowsB A B h := by
  unfold k0_pay102; rw [pay92_eq, pay93_eq, pay94_eq, pay95_eq, pay96_eq, pay97_eq, pay98_eq, pay99_eq, pay100_eq]; rfl

end chain

section blocks
variable (w0 w1 w2 w3 u0 u1 u2 u3 : FVec F S128x128 .bf16) (v67 : FVec F S2x512 .f32) (x : FVec F S256x512 .f32)
  (ba bx : FVec F S1x512 .f32)

theorem payA_eq : k0_pay15 (iota .tc S32x8x512 32 [1] iota_S32x8x512_d1_w32)
      (k0_pay9 (k0_pay2 v67) (k0_pay4 w0 w1 w2 w3 x ba)) (k0_pay11 (k0_pay2 v67) (k0_pay4 w0 w1 w2 w3 x ba))
    = blkA lruDown 1#32 2#32 4#32 (decay w0 w1 w2 w3 ba (k0_pay2 v67) x) := by
  unfold k0_pay15 k0_pay13 k0_pay14 k0_pay11 k0_pay9 k0_pay10 k0_pay7 k0_pay6 k0_pay8 k0_pay4
  rfl

theorem payB_eq : k0_pay16 (iota .tc S32x8x512 32 [1] iota_S32x8x512_d1_w32)
      (k0_pay9 (k0_pay2 v67) (k0_pay4 w0 w1 w2 w3 x ba)) (k0_pay11 (k0_pay2 v67) (k0_pay4 w0 w1 w2 w3 x ba))
      (k0_pay12 x (k0_pay2 v67) (k0_pay4 w0 w1 w2 w3 x ba) (k0_pay5 u0 u1 u2 u3 x bx))
    = blkB lruDown 1#32 2#32 4#32 (decay w0 w1 w2 w3 ba (k0_pay2 v67) x) (lruSig (lruPre u0 u1 u2 u3 x bx)) x := by
  unfold k0_pay16 k0_pay13 k0_pay12 k0_pay14 k0_pay11 k0_pay9 k0_pay10 k0_pay7 k0_pay6 k0_pay8 k0_pay4 k0_pay5
  rfl

theorem payA'_eq : k0_pay64 (k0_pay56 (k0_pay51 v67) (k0_pay53 w0 w1 w2 w3 x ba) k0_pay54)
      (iota .tc S32x8x512 32 [1] iota_S32x8x512_d1_w32)
      (k0_pay59 (k0_pay51 v67) (k0_pay53 w0 w1 w2 w3 x ba) k0_pay54)
    = blkA lruUp 7#32 6#32 4#32 (decay w0 w1 w2 w3 ba (k0_pay51 v67) x) := by
  unfold k0_pay64 k0_pay63 k0_pay62 k0_pay61 k0_pay60 k0_pay59 k0_pay58 k0_pay56 k0_pay55 k0_pay54 k0_pay53 k0_pay52
  rfl

theorem payB'_eq : k0_pay65 (k0_pay56 (k0_pay51 v67) (k0_pay53 w0 w1 w2 w3 x ba) k0_pay54)
      (k0_pay57 u0 u1 u2 u3 x bx (k0_pay51 v67) (k0_pay52 x) (k0_pay53 w0 w1 w2 w3 x ba) k0_pay54)
      (iota .tc S32x8x512 32 [1] iota_S32x8x512_d1_w32) k0_pay58
      (k0_pay59 (k0_pay51 v67) (k0_pay53 w0 w1 w2 w3 x ba) k0_pay54)
    = blkB lruUp 7#32 6#32 4#32 (decay w0 w1 w2 w3 ba (k0_pay51 v67) x) (lruSig (lruPre u0 u1 u2 u3 x bx)) x := by
  unfold k0_pay65 k0_pay63 k0_pay62 k0_pay61 k0_pay60 k0_pay59 k0_pay58 k0_pay57 k0_pay56 k0_pay55 k0_pay54 k0_pay53 k0_pay52
  rfl
end blocks

/-- One block's states with rows rising, from the state before it. -/
def rowsF (w0 w1 w2 w3 u0 u1 u2 u3 : FVec F S128x128 .bf16) (v67 : FVec F S2x512 .f32) (ba bx : FVec F S1x512 .f32)
    (x : FVec F S256x512 .f32) (h : FVec F S1x512 .f32) : FVec F S256x512 .f32 :=
  lruRowsF (blkA lruDown 1#32 2#32 4#32 (decay w0 w1 w2 w3 ba (k0_pay2 v67) x))
    (blkB lruDown 1#32 2#32 4#32 (decay w0 w1 w2 w3 ba (k0_pay2 v67) x) (lruSig (lruPre u0 u1 u2 u3 x bx)) x) h

/-- The state after the block's last row, rows rising. -/
def lastF (w0 w1 w2 w3 u0 u1 u2 u3 : FVec F S128x128 .bf16) (v67 : FVec F S2x512 .f32) (ba bx : FVec F S1x512 .f32)
    (x : FVec F S256x512 .f32) (h : FVec F S1x512 .f32) : FVec F S1x512 .f32 :=
  extractStridedSlice S1x512 ![7, 0] (chF (blkA lruDown 1#32 2#32 4#32 (decay w0 w1 w2 w3 ba (k0_pay2 v67) x))
    (blkB lruDown 1#32 2#32 4#32 (decay w0 w1 w2 w3 ba (k0_pay2 v67) x) (lruSig (lruPre u0 u1 u2 u3 x bx)) x) h 31 (by decide))
    slices_S8x512_o7_0_S1x512

/-- One block's states with rows falling, from the state after it. -/
def rowsB (w0 w1 w2 w3 u0 u1 u2 u3 : FVec F S128x128 .bf16) (v67 : FVec F S2x512 .f32) (ba bx : FVec F S1x512 .f32)
    (x : FVec F S256x512 .f32) (h : FVec F S1x512 .f32) : FVec F S256x512 .f32 :=
  lruRowsB (blkA lruUp 7#32 6#32 4#32 (decay w0 w1 w2 w3 ba (k0_pay51 v67) x))
    (blkB lruUp 7#32 6#32 4#32 (decay w0 w1 w2 w3 ba (k0_pay51 v67) x) (lruSig (lruPre u0 u1 u2 u3 x bx)) x) h

/-- The state at the block's first row, rows falling. -/
def lastB (w0 w1 w2 w3 u0 u1 u2 u3 : FVec F S128x128 .bf16) (v67 : FVec F S2x512 .f32) (ba bx : FVec F S1x512 .f32)
    (x : FVec F S256x512 .f32) (h : FVec F S1x512 .f32) : FVec F S1x512 .f32 :=
  extractStridedSlice S1x512 ![0, 0] (chB (blkA lruUp 7#32 6#32 4#32 (decay w0 w1 w2 w3 ba (k0_pay51 v67) x))
    (blkB lruUp 7#32 6#32 4#32 (decay w0 w1 w2 w3 ba (k0_pay51 v67) x) (lruSig (lruPre u0 u1 u2 u3 x bx)) x) h 31 (by decide))
    slices_S8x512_o0_0_S1x512

theorem trip_R (𝒱 : Variants) (c : Dev nD) (bd : Option 𝒱.V) (i : grid0.Coords) (arg2 : Memref sig .tc .vmem S1x4096x512 .bf16) (harg2 : arg2.IsWhole) (arg3 : Memref sig .tc .vmem S1x4096x512 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S2x4x128x128 .bf16) (harg6 : arg6.IsWhole) (arg7 : Memref sig .tc .vmem S2x512 .f32) (harg7 : arg7.IsWhole) (arg8 : Memref sig .tc .vmem S2x4x128x128 .bf16) (harg8 : arg8.IsWhole) (arg9 : Memref sig .tc .vmem S2x512 .f32) (harg9 : arg9.IsWhole) (arg10 : Memref sig .tc .vmem S2x512 .f32) (harg10 : arg10.IsWhole) (arg11 : Memref sig .tc .vmem S1x2x512 .f32) (harg11 : arg11.IsWhole) (arg12 : Memref sig .tc .vmem S1x4096x512 .bf16) (harg12 : arg12.IsWhole) (arg13 : Memref sig .tc .vmem S1x2x512 .f32) (harg13 : arg13.IsWhole) (arg14 : Memref sig .tc .vmem S4096x512 .f32) (harg14 : arg14.IsWhole) (arg15 : Memref sig .tc .vmem S4096x512 .f32) (harg15 : arg15.IsWhole) (v67 : FVec F S2x512 .f32) (v69 : FVec F S128x128 .bf16) (v71 : FVec F S128x128 .bf16) (v73 : FVec F S128x128 .bf16) (v75 : FVec F S128x128 .bf16) (v77 : FVec F S128x128 .bf16) (v79 : FVec F S128x128 .bf16) (v81 : FVec F S128x128 .bf16) (v83 : FVec F S128x128 .bf16) (v85 : FVec F S128x128 .bf16) (v87 : FVec F S128x128 .bf16) (v89 : FVec F S128x128 .bf16) (v91 : FVec F S128x128 .bf16) (v92 : Vec F S1x1x128x128 .bf16) (v94 : Vec F S1x1x128x128 .bf16) (v96 : Vec F S1x1x128x128 .bf16) (v98 : Vec F S1x1x128x128 .bf16) (X_arg7 : BufTy.Contents (Elt F) arg7.view.ty) (X_arg9 : BufTy.Contents (Elt F) arg9.view.ty) (X_arg14 : BufTy.Contents (Elt F) arg14.view.ty) (k : Fin k0_t1_loop.trips) (acc : FVec F S1x512 .f32 × FVec F S1x512 .f32) (f_arg15 : BufTy.Contents (Elt F) arg15.view.ty) : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 k).1 acc f_arg15 = (lastF v69 v71 v73 v75 v85 v87 v89 v91 v67 (View.readAt (Elt F) arg7.view (Rect.unit (s := S2x512) ![0, 0] S1x512.size inb_S2x512_S1x512_0_0).toLoadRect X_arg7) (View.readAt (Elt F) arg9.view (Rect.unit (s := S2x512) ![0, 0] S1x512.size inb_S2x512_S1x512_0_0).toLoadRect X_arg9) (View.readAt (Elt F) arg14.view (Rect.unit (s := S4096x512) (k0_off1 k) S256x512.size (k0_off1_inb k)).toLoadRect X_arg14) acc.1, lastB v77 v79 v81 v83 (k0_pay126 v92) (k0_pay127 v94) (k0_pay128 v96) (k0_pay129 v98) v67 (View.readAt (Elt F) arg7.view (Rect.unit (s := S2x512) ![1, 0] S1x512.size inb_S2x512_S1x512_1_0).toLoadRect X_arg7) (View.readAt (Elt F) arg9.view (Rect.unit (s := S2x512) ![1, 0] S1x512.size inb_S2x512_S1x512_1_0).toLoadRect X_arg9) (View.readAt (Elt F) arg14.view (Rect.unit (s := S4096x512) (k0_off2 k) S256x512.size (k0_off2_inb k)).toLoadRect X_arg14) acc.2) := by
  unfold trip_k0_t1
  dsimp only
  sl_unfold_words
  simp only [pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay66_eq, pay67_eq, pay68_eq, pay69_eq, pay70_eq, pay71_eq, pay72_eq, pay73_eq, pay74_eq, pay75_eq, pay76_eq, pay77_eq, pay78_eq, pay79_eq, pay80_eq, pay81_eq, pay82_eq, pay83_eq, pay84_eq, pay85_eq, pay86_eq, pay87_eq, pay88_eq, pay89_eq, pay90_eq, pay91_eq, pay92_eq, pay93_eq, pay94_eq, pay95_eq, pay96_eq, pay97_eq, pay98_eq, pay99_eq, pay100_eq, pay101_eq, pay102_eq, payA_eq, payB_eq, payA'_eq, payB'_eq]
  rfl

theorem trip_L (𝒱 : Variants) (c : Dev nD) (bd : Option 𝒱.V) (i : grid0.Coords) (arg2 : Memref sig .tc .vmem S1x4096x512 .bf16) (harg2 : arg2.IsWhole) (arg3 : Memref sig .tc .vmem S1x4096x512 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S2x4x128x128 .bf16) (harg6 : arg6.IsWhole) (arg7 : Memref sig .tc .vmem S2x512 .f32) (harg7 : arg7.IsWhole) (arg8 : Memref sig .tc .vmem S2x4x128x128 .bf16) (harg8 : arg8.IsWhole) (arg9 : Memref sig .tc .vmem S2x512 .f32) (harg9 : arg9.IsWhole) (arg10 : Memref sig .tc .vmem S2x512 .f32) (harg10 : arg10.IsWhole) (arg11 : Memref sig .tc .vmem S1x2x512 .f32) (harg11 : arg11.IsWhole) (arg12 : Memref sig .tc .vmem S1x4096x512 .bf16) (harg12 : arg12.IsWhole) (arg13 : Memref sig .tc .vmem S1x2x512 .f32) (harg13 : arg13.IsWhole) (arg14 : Memref sig .tc .vmem S4096x512 .f32) (harg14 : arg14.IsWhole) (arg15 : Memref sig .tc .vmem S4096x512 .f32) (harg15 : arg15.IsWhole) (v67 : FVec F S2x512 .f32) (v69 : FVec F S128x128 .bf16) (v71 : FVec F S128x128 .bf16) (v73 : FVec F S128x128 .bf16) (v75 : FVec F S128x128 .bf16) (v77 : FVec F S128x128 .bf16) (v79 : FVec F S128x128 .bf16) (v81 : FVec F S128x128 .bf16) (v83 : FVec F S128x128 .bf16) (v85 : FVec F S128x128 .bf16) (v87 : FVec F S128x128 .bf16) (v89 : FVec F S128x128 .bf16) (v91 : FVec F S128x128 .bf16) (v92 : Vec F S1x1x128x128 .bf16) (v94 : Vec F S1x1x128x128 .bf16) (v96 : Vec F S1x1x128x128 .bf16) (v98 : Vec F S1x1x128x128 .bf16) (X_arg7 : BufTy.Contents (Elt F) arg7.view.ty) (X_arg9 : BufTy.Contents (Elt F) arg9.view.ty) (X_arg14 : BufTy.Contents (Elt F) arg14.view.ty) (k : Fin k0_t1_loop.trips) (acc : FVec F S1x512 .f32 × FVec F S1x512 .f32) (f_arg15 : BufTy.Contents (Elt F) arg15.view.ty) : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 k).2.1 acc f_arg15 = [⟨Rect.unit (s := S4096x512) (k0_off2 k) S256x512.size (k0_off2_inb k), shapeCast S256x512 (addf (View.readAt (Elt F) arg15.view (Rect.unit (s := S4096x512) (k0_off2 k) S256x512.size (k0_off2_inb k)).toLoadRect (arg15.view.writes (Elt F) f_arg15 [⟨Rect.unit (s := S4096x512) (k0_off1 k) S256x512.size (k0_off1_inb k), shapeCast S256x512 (addf (View.readAt (Elt F) arg15.view (Rect.unit (s := S4096x512) (k0_off1 k) S256x512.size (k0_off1_inb k)).toLoadRect f_arg15) (rowsF v69 v71 v73 v75 v85 v87 v89 v91 v67 (View.readAt (Elt F) arg7.view (Rect.unit (s := S2x512) ![0, 0] S1x512.size inb_S2x512_S1x512_0_0).toLoadRect X_arg7) (View.readAt (Elt F) arg9.view (Rect.unit (s := S2x512) ![0, 0] S1x512.size inb_S2x512_S1x512_0_0).toLoadRect X_arg9) (View.readAt (Elt F) arg14.view (Rect.unit (s := S4096x512) (k0_off1 k) S256x512.size (k0_off1_inb k)).toLoadRect X_arg14) acc.1)) shapeCasts_S256x512_S256x512⟩])) (rowsB v77 v79 v81 v83 (k0_pay126 v92) (k0_pay127 v94) (k0_pay128 v96) (k0_pay129 v98) v67 (View.readAt (Elt F) arg7.view (Rect.unit (s := S2x512) ![1, 0] S1x512.size inb_S2x512_S1x512_1_0).toLoadRect X_arg7) (View.readAt (Elt F) arg9.view (Rect.unit (s := S2x512) ![1, 0] S1x512.size inb_S2x512_S1x512_1_0).toLoadRect X_arg9) (View.readAt (Elt F) arg14.view (Rect.unit (s := S4096x512) (k0_off2 k) S256x512.size (k0_off2_inb k)).toLoadRect X_arg14) acc.2)) shapeCasts_S256x512_S256x512⟩, ⟨Rect.unit (s := S4096x512) (k0_off1 k) S256x512.size (k0_off1_inb k), shapeCast S256x512 (addf (View.readAt (Elt F) arg15.view (Rect.unit (s := S4096x512) (k0_off1 k) S256x512.size (k0_off1_inb k)).toLoadRect f_arg15) (rowsF v69 v71 v73 v75 v85 v87 v89 v91 v67 (View.readAt (Elt F) arg7.view (Rect.unit (s := S2x512) ![0, 0] S1x512.size inb_S2x512_S1x512_0_0).toLoadRect X_arg7) (View.readAt (Elt F) arg9.view (Rect.unit (s := S2x512) ![0, 0] S1x512.size inb_S2x512_S1x512_0_0).toLoadRect X_arg9) (View.readAt (Elt F) arg14.view (Rect.unit (s := S4096x512) (k0_off1 k) S256x512.size (k0_off1_inb k)).toLoadRect X_arg14) acc.1)) shapeCasts_S256x512_S256x512⟩] := by
  unfold trip_k0_t1
  dsimp only
  sl_unfold_words
  simp only [pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay66_eq, pay67_eq, pay68_eq, pay69_eq, pay70_eq, pay71_eq, pay72_eq, pay73_eq, pay74_eq, pay75_eq, pay76_eq, pay77_eq, pay78_eq, pay79_eq, pay80_eq, pay81_eq, pay82_eq, pay83_eq, pay84_eq, pay85_eq, pay86_eq, pay87_eq, pay88_eq, pay89_eq, pay90_eq, pay91_eq, pay92_eq, pay93_eq, pay94_eq, pay95_eq, pay96_eq, pay97_eq, pay98_eq, pay99_eq, pay100_eq, pay101_eq, pay102_eq, payA_eq, payB_eq, payA'_eq, payB'_eq]
  rfl

end Cert.KernelIdeal.Gen
end
-- ==== Proof.Scan.lean ====
module

public import Mathlib.Data.EReal.Operations
public import Mathlib.Data.EReal.Inv
public import Mathlib.Tactic.FinCases
public import Mathlib.Tactic.Ring

@[expose] public section

noncomputable section

namespace Lru

/-- The linear recurrence: the state after `n` rows from the state `h`. -/
def scan (a b : ℕ → EReal) (h : EReal) : ℕ → EReal
  | 0 => h
  | n + 1 => a n * scan a b h n + b n

theorem scan_congr {a a' b b' : ℕ → EReal} (h : EReal) (n : ℕ) (ha : ∀ k < n, a k = a' k) (hb : ∀ k < n, b k = b' k) :
    scan a b h n = scan a' b' h n := by
  induction n with
  | zero => rfl
  | succ n ih =>
    rw [scan, scan, ih (fun k hk => ha k (by omega)) (fun k hk => hb k (by omega)), ha n (by omega), hb n (by omega)]

theorem scan_add (a b : ℕ → EReal) (h : EReal) (m n : ℕ) :
    scan a b h (m + n) = scan (fun k => a (m + k)) (fun k => b (m + k)) (scan a b h m) n := by
  induction n with
  | zero => rfl
  | succ n ih => rw [← Nat.add_assoc, scan, scan, ih]

/-- A decay: a nonnegative real number. -/
def Decay (x : EReal) : Prop := 0 ≤ x ∧ x ≠ ⊤

theorem Decay.mul_add {x : EReal} (hx : Decay x) (y z : EReal) : x * (y + z) = x * y + x * z :=
  EReal.left_distrib_of_nonneg_of_ne_top hx.1 hx.2 y z

theorem Decay.mul {x y : EReal} (hx : Decay x) (hy : Decay y) : Decay (x * y) := by
  obtain ⟨h0, ht⟩ := hx
  obtain ⟨g0, gt⟩ := hy
  lift x to ℝ using ⟨ht, fun h => by simp [h] at h0⟩
  lift y to ℝ using ⟨gt, fun h => by simp [h] at g0⟩
  refine ⟨mul_nonneg h0 g0, ?_⟩
  rw [← EReal.coe_mul]; exact EReal.coe_ne_top _

/-- A doubling step of the products, `s` rows back inside a group of eight. -/
def kA (s : ℕ) (a : Fin 8 → EReal) (r : Fin 8) : EReal :=
  a r * (if s ≤ r.val then a ⟨r.val - s, by omega⟩ else 1)

/-- A doubling step of the accumulated terms, `s` rows back inside a group of eight. -/
def kB (s : ℕ) (a b : Fin 8 → EReal) (r : Fin 8) : EReal :=
  a r * (if s ≤ r.val then b ⟨r.val - s, by omega⟩ else 0) + b r

/-- Eight rows' products after the three doubling steps. -/
def kA3 (a : Fin 8 → EReal) : Fin 8 → EReal := kA 4 (kA 2 (kA 1 a))

/-- Eight rows' accumulated terms after the three doubling steps. -/
def kB3 (a b : Fin 8 → EReal) : Fin 8 → EReal := kB 4 (kA 2 (kA 1 a)) (kB 2 (kA 1 a) (kB 1 a b))

/-- A function on eight rows at every natural number. -/
def ext8 (a : Fin 8 → EReal) (n : ℕ) : EReal := if h : n < 8 then a ⟨n, h⟩ else 0

set_option maxHeartbeats 4000000 in
theorem group_scan (a b : Fin 8 → EReal) (ha : ∀ r, Decay (a r)) (c : EReal) (r : Fin 8) :
    kB3 a b r + kA3 a r * c = scan (ext8 a) (ext8 b) c (r.val + 1) := by
  have e (n : Fin 8) (y z : EReal) : a n * (y + z) = a n * y + a n * z := (ha n).mul_add y z
  obtain ⟨A, hA⟩ : ∃ A : ℕ → EReal, ∀ n : Fin 8, a n = A n.val := ⟨ext8 a, fun n => by simp [ext8]⟩
  obtain ⟨B, hB⟩ : ∃ B : ℕ → EReal, ∀ n : Fin 8, b n = B n.val := ⟨ext8 b, fun n => by simp [ext8]⟩
  have e' (n : ℕ) (hn : n < 8) (y z : EReal) : A n * (y + z) = A n * y + A n * z := by
    have := e ⟨n, hn⟩ y z; rwa [hA] at this
  have e0 := e' 0 (by decide)
  have e1 := e' 1 (by decide)
  have e2 := e' 2 (by decide)
  have e3 := e' 3 (by decide)
  have e4 := e' 4 (by decide)
  have e5 := e' 5 (by decide)
  have e6 := e' 6 (by decide)
  have e7 := e' 7 (by decide)
  fin_cases r <;>
    simp [kB3, kA3, kA, kB, scan, ext8, hA, hB, e0, e1, e2, e3, e4, e5, e6, e7, mul_assoc] <;>
    simp only [mul_comm, mul_left_comm, mul_assoc, add_comm, add_left_comm, add_assoc]

end Lru
end
-- ==== Proof.Gate.lean ====
module

public import proofs.«01_k».proof.Proof.Scan
public import Idealize.ShloMosaic.Lib.IdealHost

@[expose] public section

noncomputable section

namespace Lru

open Idealize.ShloMosaic

/-- A gate: one over one plus the exponential of the negated argument. -/
def gate (z : EReal) : EReal := Ideal.div 1 (1 + Ideal.exp (-z))

/-- The logarithm of a row's decay: minus eight times the gate times the softplus. -/
def ldec (spl z : EReal) : EReal := Ideal.ofBits .f32 0xC1000000#32 * gate z * spl

/-- A row's decay. -/
def ca (spl z : EReal) : EReal := Ideal.exp (ldec spl z)

/-- The term a row adds: the square root of one minus the squared decay, times the gated entry. -/
def cb (spl z zi x : EReal) : EReal :=
  Ideal.sqrt (1 - Ideal.exp (Ideal.ofBits .f32 0x40000000#32 * ldec spl z)) * (gate zi * x)

/-- The softplus. -/
def sp (x : EReal) : EReal := max x 0 + Ideal.log (1 + Ideal.exp (-(max x (-x))))

theorem exp_nonneg (x : EReal) : 0 ≤ Ideal.exp x := by
  induction x with
  | bot => exact le_rfl
  | top => exact le_top
  | coe r => exact EReal.coe_nonneg.2 (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem gate_nonneg (z : EReal) : 0 ≤ gate z := by
  unfold gate Ideal.div
  have h : (0 : EReal) ≤ 1 + Ideal.exp (-z) := add_nonneg zero_le_one (exp_nonneg _)
  split
  · simp
  · rw [one_mul]; exact EReal.inv_nonneg_of_nonneg h

theorem log_one_add_nonneg {y : EReal} (h : 0 ≤ y) : 0 ≤ Ideal.log (1 + y) := by
  induction y with
  | bot => simp at h
  | top => rw [EReal.add_top_of_ne_bot (by decide)]; exact le_top
  | coe r =>
    have hr : 0 ≤ r := EReal.coe_nonneg.1 h
    rw [show (1 : EReal) + (r : EReal) = ((1 + r : ℝ) : EReal) by push_cast; rfl]
    change 0 ≤ (if 1 + r ≤ 0 then ⊥ else (Real.log (1 + r) : EReal))
    rw [if_neg (by linarith)]
    exact EReal.coe_nonneg.2 (Real.log_nonneg (by linarith))

theorem sp_nonneg (x : EReal) : 0 ≤ sp x :=
  add_nonneg (le_max_right _ _) (log_one_add_nonneg (exp_nonneg _))

theorem eight_neg : Ideal.ofBits .f32 0xC1000000#32 ≤ 0 := by
  simp [Ideal.ofBits, Ideal.ieee, -EReal.coe_mul]

theorem ldec_ne_top {spl z : EReal} (h : 0 ≤ spl) : ldec spl z ≠ ⊤ := by
  have : ldec spl z ≤ 0 :=
    mul_nonpos_of_nonpos_of_nonneg (mul_nonpos_of_nonpos_of_nonneg eight_neg (gate_nonneg z)) h
  exact ne_top_of_le_ne_top EReal.zero_ne_top this

theorem ca_decay {spl z : EReal} (h : 0 ≤ spl) : Decay (ca spl z) :=
  ⟨exp_nonneg _, exp_ne_top (ldec_ne_top h)⟩

end Lru
-- ==== Proof.Elem.lean ====
module

public import proofs.«01_k».proof.Proof.Trip
public import proofs.«01_k».proof.Proof.Gate
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Lru

/-- An index of a group of eight rows moved `s` rows down, read through the comparison that fills. -/
theorem down_sel (s : BitVec 32) (hs : s = 1#32 ∨ s = 2#32 ∨ s = 4#32) (a : FVec Ideal S32x8x512 .f32) (f : BitVec 32)
    (g : Fin 32) (r : Fin 8) (c : Fin 512) :
    lruDown f s a (ix3 g r c) = if h : s.toNat ≤ r.val then a (ix3 g ⟨r.val - s.toNat, by omega⟩ c) else Ideal.ofBits .f32 f := by
  unfold lruDown
  simp only [pointwise]
  rcases hs with rfl | rfl | rfl <;> fin_cases r <;> rfl

theorem up_sel (s : BitVec 32) (hs : s = 7#32 ∨ s = 6#32 ∨ s = 4#32) (a : FVec Ideal S32x8x512 .f32) (f : BitVec 32)
    (g : Fin 32) (r : Fin 8) (c : Fin 512) :
    lruUp f s a (ix3 g r c) = if h : r.val + (8 - s.toNat) < 8 then a (ix3 g ⟨r.val + (8 - s.toNat), h⟩ c) else Ideal.ofBits .f32 f := by
  unfold lruUp
  simp only [pointwise]
  rcases hs with rfl | rfl | rfl <;> fin_cases r <;> rfl

theorem stepA_down (s : BitVec 32) (hs : s = 1#32 ∨ s = 2#32 ∨ s = 4#32) (a : FVec Ideal S32x8x512 .f32) (g : Fin 32) (c : Fin 512) :
    (fun r => stepA lruDown s a (ix3 g r c)) = kA s.toNat (fun q => a (ix3 g q c)) := by
  funext r
  unfold stepA
  rw [ValueIdx.mulf_apply, down_sel s hs, Ideal.ofBits_one_f32]
  unfold kA
  split <;> simp_all

theorem stepB_down (s : BitVec 32) (hs : s = 1#32 ∨ s = 2#32 ∨ s = 4#32) (a b : FVec Ideal S32x8x512 .f32) (g : Fin 32) (c : Fin 512) :
    (fun r => stepB lruDown s a b (ix3 g r c)) = kB s.toNat (fun q => a (ix3 g q c)) (fun q => b (ix3 g q c)) := by
  funext r
  unfold stepB
  rw [ValueIdx.addf_apply, ValueIdx.mulf_apply, down_sel s hs, Ideal.ofBits_zero_f32]
  unfold kB
  split <;> simp_all

theorem stepA_up (s : BitVec 32) (hs : s = 7#32 ∨ s = 6#32 ∨ s = 4#32) (a : FVec Ideal S32x8x512 .f32) (g : Fin 32) (c : Fin 512) :
    (fun r : Fin 8 => stepA lruUp s a (ix3 g r.rev c)) = kA (8 - s.toNat) (fun q => a (ix3 g q.rev c)) := by
  funext r
  unfold stepA
  rw [ValueIdx.mulf_apply, up_sel s hs, Ideal.ofBits_one_f32]
  unfold kA
  rcases hs with rfl | rfl | rfl <;> fin_cases r <;> rfl

theorem stepB_up (s : BitVec 32) (hs : s = 7#32 ∨ s = 6#32 ∨ s = 4#32) (a b : FVec Ideal S32x8x512 .f32) (g : Fin 32) (c : Fin 512) :
    (fun r : Fin 8 => stepB lruUp s a b (ix3 g r.rev c)) = kB (8 - s.toNat) (fun q => a (ix3 g q.rev c)) (fun q => b (ix3 g q.rev c)) := by
  funext r
  unfold stepB
  rw [ValueIdx.addf_apply, ValueIdx.mulf_apply, up_sel s hs, Ideal.ofBits_zero_f32]
  unfold kB
  rcases hs with rfl | rfl | rfl <;> fin_cases r <;> rfl

/-- Row `8 g + r` of a block. -/
def row8 (g : Fin 32) (r : Fin 8) : Fin 256 := ⟨8 * g.val + r.val, by omega⟩

theorem split_rows (a : FVec Ideal S256x512 .f32) (g : Fin 32) (r : Fin 8) (c : Fin 512) :
    shapeCast S32x8x512 a shapeCasts_S256x512_S32x8x512 (ix3 g r c) = a (ix2 (row8 g r) c) := by
  simp only [pointwise, row8, Nat.mul_comm 8]

theorem join_rows (a : FVec Ideal S32x8x512 .f32) (g : Fin 32) (r : Fin 8) (c : Fin 512) :
    shapeCast S256x512 a shapeCasts_S32x8x512_S256x512 (ix2 (row8 g r) c) = a (ix3 g r c) := by
  simp only [pointwise]
  have h1 : (row8 g r).val / 8 = g.val := by simp only [row8]; omega
  have h2 : (row8 g r).val % 8 = r.val := by simp only [row8]; omega
  congr 1
  simp only [h1, h2]

theorem lruA_down (a : FVec Ideal S256x512 .f32) (g : Fin 32) (r : Fin 8) (c : Fin 512) :
    lruA lruDown 1#32 2#32 4#32 a (ix2 (row8 g r) c) = kA3 (fun q => a (ix2 (row8 g q) c)) r := by
  unfold lruA
  rw [join_rows]
  have := congrFun (stepA_down 4#32 (by decide) (stepA lruDown 2#32 (stepA lruDown 1#32 (shapeCast S32x8x512 a shapeCasts_S256x512_S32x8x512))) g c) r
  rw [stepA_down 2#32 (by decide), stepA_down 1#32 (by decide)] at this
  simp only [split_rows] at this
  exact this

theorem lruB_down (a b : FVec Ideal S256x512 .f32) (g : Fin 32) (r : Fin 8) (c : Fin 512) :
    lruB lruDown 1#32 2#32 4#32 a b (ix2 (row8 g r) c) = kB3 (fun q => a (ix2 (row8 g q) c)) (fun q => b (ix2 (row8 g q) c)) r := by
  unfold lruB
  rw [join_rows]
  refine (congrFun (stepB_down 4#32 (by decide) _ _ g c) r).trans ?_
  rw [stepB_down 2#32 (by decide), stepB_down 1#32 (by decide), stepA_down 2#32 (by decide), stepA_down 1#32 (by decide)]
  simp only [split_rows]
  rfl

theorem lruA_up (a : FVec Ideal S256x512 .f32) (g : Fin 32) (r : Fin 8) (c : Fin 512) :
    lruA lruUp 7#32 6#32 4#32 a (ix2 (row8 g r.rev) c) = kA3 (fun q => a (ix2 (row8 g q.rev) c)) r := by
  unfold lruA
  rw [join_rows]
  refine (congrFun (stepA_up 4#32 (by decide) _ g c) r).trans ?_
  rw [stepA_up 6#32 (by decide), stepA_up 7#32 (by decide)]
  simp only [split_rows]
  rfl

theorem lruB_up (a b : FVec Ideal S256x512 .f32) (g : Fin 32) (r : Fin 8) (c : Fin 512) :
    lruB lruUp 7#32 6#32 4#32 a b (ix2 (row8 g r.rev) c) = kB3 (fun q => a (ix2 (row8 g q.rev) c)) (fun q => b (ix2 (row8 g q.rev) c)) r := by
  unfold lruB
  rw [join_rows]
  refine (congrFun (stepB_up 4#32 (by decide) _ _ g c) r).trans ?_
  rw [stepB_up 6#32 (by decide), stepB_up 7#32 (by decide), stepA_up 6#32 (by decide), stepA_up 7#32 (by decide)]
  simp only [split_rows]
  rfl

/-- A column of a block at every row number. -/
def colF (a : FVec Ideal S256x512 .f32) (c : Fin 512) (n : ℕ) : EReal := if h : n < 256 then a (ix2 ⟨n, h⟩ c) else 0

/-- A column of a block at every row number, counted from the last row. -/
def colB (a : FVec Ideal S256x512 .f32) (c : Fin 512) (n : ℕ) : EReal := if h : n < 256 then a (ix2 ⟨255 - n, by omega⟩ c) else 0

theorem lruGrp_apply (A B : FVec Ideal S256x512 .f32) (g : Fin 32) (h : FVec Ideal S1x512 .f32) (r : Fin 8) (c : Fin 512) :
    lruGrp A B g h (ix2 r c) = B (ix2 (row8 g r) c) + A (ix2 (row8 g r) c) * h (ix2 0 c) := by
  unfold lruGrp
  simp only [pointwise]
  simp [row8]

theorem lruGrp_down (a b : FVec Ideal S256x512 .f32) (ha : ∀ i, Decay (a i)) (g : Fin 32) (h : FVec Ideal S1x512 .f32) (r : Fin 8) (c : Fin 512) :
    lruGrp (lruA lruDown 1#32 2#32 4#32 a) (lruB lruDown 1#32 2#32 4#32 a b) g h (ix2 r c)
      = scan (fun k => colF a c (8 * g.val + k)) (fun k => colF b c (8 * g.val + k)) (h (ix2 0 c)) (r.val + 1) := by
  rw [lruGrp_apply, lruA_down, lruB_down, group_scan _ _ (fun q => ha _)]
  refine scan_congr _ _ (fun k hk => ?_) (fun k hk => ?_)
  · have : k < 8 := by omega
    have h2 : 8 * g.val + k < 256 := by omega
    simp [ext8, colF, this, h2, row8]
  · have : k < 8 := by omega
    have h2 : 8 * g.val + k < 256 := by omega
    simp [ext8, colF, this, h2, row8]

theorem row8_rev (g : Fin 32) (k : ℕ) (hk : k < 8) (h : 255 - (8 * (31 - g.val) + k) < 256) :
    row8 g (Fin.rev ⟨k, hk⟩) = ⟨255 - (8 * (31 - g.val) + k), h⟩ := by
  apply Fin.ext
  simp only [row8, Fin.val_rev]
  omega

theorem lruGrp_up (a b : FVec Ideal S256x512 .f32) (ha : ∀ i, Decay (a i)) (g : Fin 32) (h : FVec Ideal S1x512 .f32) (r : Fin 8) (c : Fin 512) :
    lruGrp (lruA lruUp 7#32 6#32 4#32 a) (lruB lruUp 7#32 6#32 4#32 a b) g h (ix2 r.rev c)
      = scan (fun k => colB a c (8 * (31 - g.val) + k)) (fun k => colB b c (8 * (31 - g.val) + k)) (h (ix2 0 c)) (r.val + 1) := by
  rw [lruGrp_apply, lruA_up, lruB_up, group_scan _ _ (fun q => ha _)]
  refine scan_congr _ _ (fun k hk => ?_) (fun k hk => ?_)
  · have : k < 8 := by omega
    have h2 : 8 * (31 - g.val) + k < 256 := by omega
    simp only [ext8, colB, this, h2, dif_pos]
    rw [row8_rev]
  · have : k < 8 := by omega
    have h2 : 8 * (31 - g.val) + k < 256 := by omega
    simp only [ext8, colB, this, h2, dif_pos]
    rw [row8_rev]

theorem row7_apply (x : FVec Ideal S8x512 .f32) (c : Fin 512) :
    extractStridedSlice S1x512 ![7, 0] x slices_S8x512_o7_0_S1x512 (ix2 0 c) = x (ix2 7 c) := by
  simp only [pointwise]
  simp

theorem row0_apply (x : FVec Ideal S8x512 .f32) (c : Fin 512) :
    extractStridedSlice S1x512 ![0, 0] x slices_S8x512_o0_0_S1x512 (ix2 0 c) = x (ix2 0 c) := by
  simp only [pointwise]
  simp

/-- The states of a group, rows rising: the recurrence from the block's entering state. -/
theorem chF_apply (a b : FVec Ideal S256x512 .f32) (ha : ∀ i, Decay (a i)) (h : FVec Ideal S1x512 .f32) (c : Fin 512) :
    (g : ℕ) → (hg : g < 32) → (r : Fin 8) →
    chF (lruA lruDown 1#32 2#32 4#32 a) (lruB lruDown 1#32 2#32 4#32 a b) h g hg (ix2 r c)
      = scan (colF a c) (colF b c) (h (ix2 0 c)) (8 * g + (r.val + 1))
  | 0, hg, r => by
    unfold chF
    rw [lruGrp_down a b ha]
    simp
  | g + 1, hg, r => by
    unfold chF
    rw [lruGrp_down a b ha, row7_apply, chF_apply a b ha h c g (by omega) 7]
    exact (scan_add _ _ _ (8 * (g + 1)) (r.val + 1)).symm

/-- The states of a group, rows falling. -/
theorem chB_apply (a b : FVec Ideal S256x512 .f32) (ha : ∀ i, Decay (a i)) (h : FVec Ideal S1x512 .f32) (c : Fin 512) :
    (g : ℕ) → (hg : g < 32) → (r : Fin 8) →
    chB (lruA lruUp 7#32 6#32 4#32 a) (lruB lruUp 7#32 6#32 4#32 a b) h g hg (ix2 r.rev c)
      = scan (colB a c) (colB b c) (h (ix2 0 c)) (8 * g + (r.val + 1))
  | 0, hg, r => by
    unfold chB
    rw [lruGrp_up a b ha]
    simp
  | g + 1, hg, r => by
    unfold chB
    rw [lruGrp_up a b ha, row0_apply, show (0 : Fin 8) = Fin.rev 7 from rfl, chB_apply a b ha h c g (by omega) 7]
    have e : 31 - (31 - (g + 1)) = g + 1 := by omega
    simp only [e]
    exact (scan_add _ _ _ (8 * (g + 1)) (r.val + 1)).symm

theorem row8_split (n : Fin 256) : row8 ⟨n.val / 8, by omega⟩ ⟨n.val % 8, by omega⟩ = n := by
  apply Fin.ext; simp only [row8]; omega

theorem concat_rows (f : Fin 32 → FVec Ideal S8x512 .f32) (n : Fin 256) (c : Fin 512) :
    concatenate S256x512 0 (List.ofFn fun g : Fin 32 => (⟨S8x512, f g⟩ : (s : Shape) × (s.Idx → Ideal .f32))) (concat_groups f) (ix2 n c)
      = f ⟨n.val / 8, by omega⟩ (ix2 ⟨n.val % 8, by omega⟩ c) := by
  refine concatenate_ofFn_apply (t := S256x512) (s₁ := S8x512) 0 f _ rfl 8 rfl (ix2 n c) ⟨n.val / 8, by omega⟩ rfl _ rfl ?_
  intro b hb
  fin_cases b
  · exact absurd rfl hb
  · rfl

theorem lruRowsF_apply (a b : FVec Ideal S256x512 .f32) (ha : ∀ i, Decay (a i)) (h : FVec Ideal S1x512 .f32) (n : Fin 256) (c : Fin 512) :
    lruRowsF (lruA lruDown 1#32 2#32 4#32 a) (lruB lruDown 1#32 2#32 4#32 a b) h (ix2 n c)
      = scan (colF a c) (colF b c) (h (ix2 0 c)) (n.val + 1) := by
  unfold lruRowsF
  rw [concat_rows, chF_apply a b ha]
  congr 1
  simp only
  omega

theorem lruRowsB_apply (a b : FVec Ideal S256x512 .f32) (ha : ∀ i, Decay (a i)) (h : FVec Ideal S1x512 .f32) (n : Fin 256) (c : Fin 512) :
    lruRowsB (lruA lruUp 7#32 6#32 4#32 a) (lruB lruUp 7#32 6#32 4#32 a b) h (ix2 n c)
      = scan (colB a c) (colB b c) (h (ix2 0 c)) (255 - n.val + 1) := by
  unfold lruRowsB
  rw [concat_rows]
  have e : (⟨n.val % 8, by omega⟩ : Fin 8) = Fin.rev ⟨7 - n.val % 8, by omega⟩ := by
    apply Fin.ext; simp only [Fin.val_rev]; omega
  rw [e, chB_apply a b ha]
  congr 1
  simp only
  omega

theorem lruPre_apply (w0 w1 w2 w3 : FVec Ideal S128x128 .bf16) (x : FVec Ideal S256x512 .f32) (b : FVec Ideal S1x512 .f32)
    (n : Fin 256) (g : Fin 4) (q : Fin 128) :
    lruPre w0 w1 w2 w3 x b (ix2 n ⟨128 * g.val + q.val, by omega⟩)
      = (∑ j : Fin 128, x (ix2 n ⟨128 * g.val + j.val, by omega⟩) * (![w0, w1, w2, w3] g) (ix2 j q)) + b (ix2 0 ⟨128 * g.val + q.val, by omega⟩) := by
  unfold lruPre
  simp only [pointwise]
  fin_cases g
  · simp
  · have h1 : ¬ 128 + q.val < 128 := by omega
    simp [h1]
  · have h1 : ¬ 256 + q.val < 128 := by omega
    have h2 : ¬ 256 + q.val - 128 < 128 := by omega
    have h3 : 256 + q.val - 128 - 128 < 128 := by omega
    have h4 : 256 + q.val - 128 - 128 = q.val := by omega
    simp only [Fin.reduceFinMk, Matrix.cons_val] at *
    simp [h1, h2, h3, h4]
  · have h1 : ¬ 384 + q.val < 128 := by omega
    have h2 : ¬ 384 + q.val - 128 < 128 := by omega
    have h3 : ¬ 384 + q.val - 128 - 128 < 128 := by omega
    have h4 : 384 + q.val - 128 - 128 - 128 = q.val := by omega
    simp [h1, h2, h3, h4]

theorem spl_bcast (v : FVec Ideal S1x512 .f32) (n : Fin 256) (c : Fin 512) :
    broadcastTo S256x512 v broadcasts_S1x512_S256x512 (ix2 n c) = v (ix2 0 c) := by
  simp only [pointwise]
  simp

theorem lruSig_apply (z : FVec Ideal S256x512 .f32) (i : S256x512.Idx) : lruSig z i = gate (z i) := by
  unfold lruSig gate
  simp only [pointwise]
  simp

theorem lruLog_apply (spl : FVec Ideal S1x512 .f32) (z : FVec Ideal S256x512 .f32) (n : Fin 256) (c : Fin 512) :
    lruLog spl (lruSig z) (ix2 n c) = ldec (spl (ix2 0 c)) (z (ix2 n c)) := by
  unfold lruLog
  rw [ValueIdx.mulf_apply, ValueIdx.mulf_apply, lruSig_apply, spl_bcast]
  rfl

theorem exp_decay (spl : FVec Ideal S1x512 .f32) (z : FVec Ideal S256x512 .f32) (n : Fin 256) (c : Fin 512) :
    exp (lruLog spl (lruSig z)) (ix2 n c) = ca (spl (ix2 0 c)) (z (ix2 n c)) := by
  unfold ca
  rw [← lruLog_apply]
  rfl

theorem lruInc_apply (spl : FVec Ideal S1x512 .f32) (z zi x : FVec Ideal S256x512 .f32) (n : Fin 256) (c : Fin 512) :
    lruInc (lruLog spl (lruSig z)) (lruSig zi) x (ix2 n c) = cb (spl (ix2 0 c)) (z (ix2 n c)) (zi (ix2 n c)) (x (ix2 n c)) := by
  unfold cb
  rw [← lruLog_apply, ← lruSig_apply zi, ← Ideal.ofBits_one_f32]
  rfl

theorem ix2_eta (i : S256x512.Idx) : ∃ (n : Fin 256) (c : Fin 512), i = ix2 n c :=
  ⟨i 0, i 1, by funext a; fin_cases a <;> rfl⟩

theorem decay_all (spl : FVec Ideal S1x512 .f32) (hs : ∀ c, 0 ≤ spl (ix2 0 c)) (z : FVec Ideal S256x512 .f32) (i : S256x512.Idx) :
    Decay (exp (lruLog spl (lruSig z)) i) := by
  obtain ⟨n, c, rfl⟩ := ix2_eta i
  rw [exp_decay]
  exact ca_decay (hs _)

section rows
variable (w0 w1 w2 w3 u0 u1 u2 u3 : FVec Ideal S128x128 .bf16) (v67 : FVec Ideal S2x512 .f32) (ba bx : FVec Ideal S1x512 .f32)
  (x : FVec Ideal S256x512 .f32) (h : FVec Ideal S1x512 .f32) (c : Fin 512) (za zi xo : ℕ → EReal) (s : EReal)

/-- A block's states, rows rising, are the recurrence over the block's gate arguments. -/
theorem rowsF_scan (hs : ∀ c, 0 ≤ k0_pay2 v67 (ix2 0 c)) (hza : ∀ n : Fin 256, lruPre w0 w1 w2 w3 x ba (ix2 n c) = za n.val)
    (hzi : ∀ n : Fin 256, lruPre u0 u1 u2 u3 x bx (ix2 n c) = zi n.val) (hx : ∀ n : Fin 256, x (ix2 n c) = xo n.val)
    (hspl : k0_pay2 v67 (ix2 0 c) = s) (n : Fin 256) :
    rowsF w0 w1 w2 w3 u0 u1 u2 u3 v67 ba bx x h (ix2 n c)
      = scan (fun k => ca s (za k)) (fun k => cb s (za k) (zi k) (xo k)) (h (ix2 0 c)) (n.val + 1) := by
  unfold rowsF blkA blkB decay
  rw [lruRowsF_apply _ _ (decay_all _ hs _)]
  refine scan_congr _ _ (fun k hk => ?_) (fun k hk => ?_)
  · have hk' : k < 256 := by omega
    simp only [colF, hk', dif_pos]
    rw [exp_decay, hza, hspl]
  · have hk' : k < 256 := by omega
    simp only [colF, hk', dif_pos]
    rw [lruInc_apply, hza, hzi, hx, hspl]

theorem lastF_scan (hs : ∀ c, 0 ≤ k0_pay2 v67 (ix2 0 c)) (hza : ∀ n : Fin 256, lruPre w0 w1 w2 w3 x ba (ix2 n c) = za n.val)
    (hzi : ∀ n : Fin 256, lruPre u0 u1 u2 u3 x bx (ix2 n c) = zi n.val) (hx : ∀ n : Fin 256, x (ix2 n c) = xo n.val)
    (hspl : k0_pay2 v67 (ix2 0 c) = s) :
    lastF w0 w1 w2 w3 u0 u1 u2 u3 v67 ba bx x h (ix2 0 c)
      = scan (fun k => ca s (za k)) (fun k => cb s (za k) (zi k) (xo k)) (h (ix2 0 c)) 256 := by
  unfold lastF blkA blkB decay
  rw [row7_apply, chF_apply _ _ (decay_all _ hs _)]
  refine scan_congr _ 256 (fun k hk => ?_) (fun k hk => ?_)
  · have hk' : k < 256 := by omega
    simp only [colF, hk', dif_pos]
    rw [exp_decay, hza, hspl]
  · have hk' : k < 256 := by omega
    simp only [colF, hk', dif_pos]
    rw [lruInc_apply, hza, hzi, hx, hspl]

/-- A block's states, rows falling, are the recurrence over the block's gate arguments from its last row on. -/
theorem rowsB_scan (hs : ∀ c, 0 ≤ k0_pay51 v67 (ix2 0 c)) (hza : ∀ n : Fin 256, lruPre w0 w1 w2 w3 x ba (ix2 n c) = za (255 - n.val))
    (hzi : ∀ n : Fin 256, lruPre u0 u1 u2 u3 x bx (ix2 n c) = zi (255 - n.val)) (hx : ∀ n : Fin 256, x (ix2 n c) = xo (255 - n.val))
    (hspl : k0_pay51 v67 (ix2 0 c) = s) (n : Fin 256) :
    rowsB w0 w1 w2 w3 u0 u1 u2 u3 v67 ba bx x h (ix2 n c)
      = scan (fun k => ca s (za k)) (fun k => cb s (za k) (zi k) (xo k)) (h (ix2 0 c)) (255 - n.val + 1) := by
  unfold rowsB blkA blkB decay
  rw [lruRowsB_apply _ _ (decay_all _ hs _)]
  refine scan_congr _ _ (fun k hk => ?_) (fun k hk => ?_)
  · have hk' : k < 256 := by omega
    have e : 255 - (255 - k) = k := by omega
    simp only [colB, hk', dif_pos]
    rw [exp_decay, hza, hspl]
    simp only [e]
  · have hk' : k < 256 := by omega
    have e : 255 - (255 - k) = k := by omega
    simp only [colB, hk', dif_pos]
    rw [lruInc_apply, hza, hzi, hx, hspl]
    simp only [e]

theorem lastB_scan (hs : ∀ c, 0 ≤ k0_pay51 v67 (ix2 0 c)) (hza : ∀ n : Fin 256, lruPre w0 w1 w2 w3 x ba (ix2 n c) = za (255 - n.val))
    (hzi : ∀ n : Fin 256, lruPre u0 u1 u2 u3 x bx (ix2 n c) = zi (255 - n.val)) (hx : ∀ n : Fin 256, x (ix2 n c) = xo (255 - n.val))
    (hspl : k0_pay51 v67 (ix2 0 c) = s) :
    lastB w0 w1 w2 w3 u0 u1 u2 u3 v67 ba bx x h (ix2 0 c)
      = scan (fun k => ca s (za k)) (fun k => cb s (za k) (zi k) (xo k)) (h (ix2 0 c)) 256 := by
  unfold lastB blkA blkB decay
  rw [row0_apply, show (0 : Fin 8) = Fin.rev 7 from rfl, chB_apply _ _ (decay_all _ hs _)]
  refine scan_congr _ 256 (fun k hk => ?_) (fun k hk => ?_)
  · have hk' : k < 256 := by omega
    have e : 255 - (255 - k) = k := by omega
    simp only [colB, hk', dif_pos]
    rw [exp_decay, hza, hspl]
    simp only [e]
  · have hk' : k < 256 := by omega
    have e : 255 - (255 - k) = k := by omega
    simp only [colB, hk', dif_pos]
    rw [lruInc_apply, hza, hzi, hx, hspl]
    simp only [e]
end rows

end Cert.KernelIdeal.Gen
-- ==== Proof.Loop.lean ====
module

public import proofs.«01_k».proof.Proof.Elem
public import Idealize.ShloMosaic.Lib.WritesUnit
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Lru

theorem trips_eq : k0_t1_loop.trips = 16 := by decide

theorem off1_eq (k : Fin k0_t1_loop.trips) : k0_off1 k = ![256 * k.val, 0] := by
  revert k; decide

theorem off2_eq (k : Fin k0_t1_loop.trips) : k0_off2 k = ![256 * (15 - k.val), 0] := by
  revert k; decide

/-- A row of the scratch through a loaded block of 256 rows. -/
theorem ld_rows (X : S4096x512.Idx → Elt Ideal .f32) (off : Fin 2 → ℕ) (inb : ∀ a, off a + S256x512.size a ≤ S4096x512.size a) (o : ℕ)
    (hoff : off = ![o, 0]) (n : Fin 256) (e : Fin 512) (N : Fin 4096) (hN : N.val = o + n.val) :
    View.ld (Val := Elt Ideal) (e' := .f32) X (Rect.unit (s := S4096x512) off S256x512.size inb) (ix2 n e) = X (ix2 N e) := by
  subst hoff
  refine View.ld_unit_apply_of (Val := Elt Ideal) (e := .f32) X _ _ _ (ix2 n e) (ix2 N e) (fun a => ?_)
  fin_cases a
  · exact hN
  · exact (Nat.zero_add _).symm

/-- The gates' argument at a row of the scratch. -/
def zcol (w0 w1 w2 w3 : FVec Ideal S128x128 .bf16) (b : FVec Ideal S1x512 .f32) (X : ℕ → Fin 512 → EReal) (g : Fin 4) (q : Fin 128)
    (n : ℕ) : EReal :=
  (∑ j : Fin 128, X n ⟨128 * g.val + j.val, by omega⟩ * (![w0, w1, w2, w3] g) (ix2 j q)) + b (ix2 0 ⟨128 * g.val + q.val, by omega⟩)

/-- The scratch's rows at every natural number. -/
def rowX (f : S4096x512.Idx → EReal) (n : ℕ) (e : Fin 512) : EReal := if h : n < 4096 then f (ix2 ⟨n, h⟩ e) else 0

theorem lruPre_zcol (w0 w1 w2 w3 : FVec Ideal S128x128 .bf16) (x : FVec Ideal S256x512 .f32) (b : FVec Ideal S1x512 .f32)
    (X : ℕ → Fin 512 → EReal) (n : Fin 256) (N : ℕ) (hx : ∀ e, x (ix2 n e) = X N e) (g : Fin 4) (q : Fin 128) :
    lruPre w0 w1 w2 w3 x b (ix2 n ⟨128 * g.val + q.val, by omega⟩) = zcol w0 w1 w2 w3 b X g q N := by
  rw [lruPre_apply]
  simp only [hx]
  rfl

/-- The recurrence over a column, rows rising. -/
def hF (za zi xo : ℕ → EReal) (s h : EReal) : ℕ → EReal :=
  scan (fun k => ca s (za k)) (fun k => cb s (za k) (zi k) (xo k)) h

/-- The recurrence over a column, rows falling. -/
def hB (za zi xo : ℕ → EReal) (s h : EReal) : ℕ → EReal :=
  hF (fun k => za (4095 - k)) (fun k => zi (4095 - k)) (fun k => xo (4095 - k)) s h

theorem hF_add (za zi xo : ℕ → EReal) (s h : EReal) (m n : ℕ) :
    hF za zi xo s h (m + n) = scan (fun k => ca s (za (m + k))) (fun k => cb s (za (m + k)) (zi (m + k)) (xo (m + k))) (hF za zi xo s h m) n :=
  scan_add _ _ _ _ _

theorem hB_add (za zi xo : ℕ → EReal) (s h : EReal) (m n : ℕ) :
    hB za zi xo s h (m + n) = scan (fun k => ca s (za (4095 - (m + k)))) (fun k => cb s (za (4095 - (m + k))) (zi (4095 - (m + k))) (xo (4095 - (m + k)))) (hB za zi xo s h m) n :=
  scan_add _ _ _ _ _

section cols
variable (w0 w1 w2 w3 u0 u1 u2 u3 : FVec Ideal S128x128 .bf16) (v67 : FVec Ideal S2x512 .f32) (ba bx : FVec Ideal S1x512 .f32)
  (g : Fin 4) (q : Fin 128) (X : ℕ → Fin 512 → EReal) (h0 : EReal)

/-- The column's states, rows rising, in the kernel's own operands. -/
def cF : ℕ → EReal :=
  hF (zcol w0 w1 w2 w3 ba X g q) (zcol u0 u1 u2 u3 bx X g q) (fun n => X n ⟨128 * g.val + q.val, by omega⟩)
    (k0_pay2 v67 (ix2 0 ⟨128 * g.val + q.val, by omega⟩)) h0

/-- The column's states, rows falling, in the kernel's own operands. -/
def cB : ℕ → EReal :=
  hB (zcol w0 w1 w2 w3 ba X g q) (zcol u0 u1 u2 u3 bx X g q) (fun n => X n ⟨128 * g.val + q.val, by omega⟩)
    (k0_pay51 v67 (ix2 0 ⟨128 * g.val + q.val, by omega⟩)) h0

variable (x : FVec Ideal S256x512 .f32) (h : FVec Ideal S1x512 .f32) (o : ℕ)

theorem rowsF_col (hs : ∀ c, 0 ≤ k0_pay2 v67 (ix2 0 c)) (hx : ∀ (n : Fin 256) e, x (ix2 n e) = X (o + n.val) e)
    (hh : h (ix2 0 ⟨128 * g.val + q.val, by omega⟩) = cF w0 w1 w2 w3 u0 u1 u2 u3 v67 ba bx g q X h0 o) (n : Fin 256) :
    rowsF w0 w1 w2 w3 u0 u1 u2 u3 v67 ba bx x h (ix2 n ⟨128 * g.val + q.val, by omega⟩)
      = cF w0 w1 w2 w3 u0 u1 u2 u3 v67 ba bx g q X h0 (o + (n.val + 1)) := by
  have hx' := hx
  have a1 (n : Fin 256) : lruPre w0 w1 w2 w3 x ba (ix2 n ⟨128 * g.val + q.val, by omega⟩) = (fun k => zcol w0 w1 w2 w3 ba X g q (o + k)) n.val :=
    lruPre_zcol w0 w1 w2 w3 x ba X n (o + n.val) (hx' n) g q
  have a2 (n : Fin 256) : lruPre u0 u1 u2 u3 x bx (ix2 n ⟨128 * g.val + q.val, by omega⟩) = (fun k => zcol u0 u1 u2 u3 bx X g q (o + k)) n.val :=
    lruPre_zcol u0 u1 u2 u3 x bx X n (o + n.val) (hx' n) g q
  have a3 (n : Fin 256) : x (ix2 n ⟨128 * g.val + q.val, by omega⟩) = (fun k => X (o + k) ⟨128 * g.val + q.val, by omega⟩) n.val := hx' n _
  have a4 := rowsF_scan w0 w1 w2 w3 u0 u1 u2 u3 v67 ba bx x h ⟨128 * g.val + q.val, by omega⟩
    (fun k => zcol w0 w1 w2 w3 ba X g q (o + k)) (fun k => zcol u0 u1 u2 u3 bx X g q (o + k))
    (fun k => X (o + k) ⟨128 * g.val + q.val, by omega⟩) _ hs a1 a2 a3 rfl n
  rw [hh] at a4
  rw [a4]
  unfold cF
  symm
  exact hF_add _ _ _ _ _ o (n.val + 1)

theorem lastF_col (hs : ∀ c, 0 ≤ k0_pay2 v67 (ix2 0 c)) (hx : ∀ (n : Fin 256) e, x (ix2 n e) = X (o + n.val) e)
    (hh : h (ix2 0 ⟨128 * g.val + q.val, by omega⟩) = cF w0 w1 w2 w3 u0 u1 u2 u3 v67 ba bx g q X h0 o) :
    lastF w0 w1 w2 w3 u0 u1 u2 u3 v67 ba bx x h (ix2 0 ⟨128 * g.val + q.val, by omega⟩)
      = cF w0 w1 w2 w3 u0 u1 u2 u3 v67 ba bx g q X h0 (o + 256) := by
  have hx' := hx
  have a1 (n : Fin 256) : lruPre w0 w1 w2 w3 x ba (ix2 n ⟨128 * g.val + q.val, by omega⟩) = (fun k => zcol w0 w1 w2 w3 ba X g q (o + k)) n.val :=
    lruPre_zcol w0 w1 w2 w3 x ba X n (o + n.val) (hx' n) g q
  have a2 (n : Fin 256) : lruPre u0 u1 u2 u3 x bx (ix2 n ⟨128 * g.val + q.val, by omega⟩) = (fun k => zcol u0 u1 u2 u3 bx X g q (o + k)) n.val :=
    lruPre_zcol u0 u1 u2 u3 x bx X n (o + n.val) (hx' n) g q
  have a3 (n : Fin 256) : x (ix2 n ⟨128 * g.val + q.val, by omega⟩) = (fun k => X (o + k) ⟨128 * g.val + q.val, by omega⟩) n.val := hx' n _
  have a4 := lastF_scan w0 w1 w2 w3 u0 u1 u2 u3 v67 ba bx x h ⟨128 * g.val + q.val, by omega⟩
    (fun k => zcol w0 w1 w2 w3 ba X g q (o + k)) (fun k => zcol u0 u1 u2 u3 bx X g q (o + k))
    (fun k => X (o + k) ⟨128 * g.val + q.val, by omega⟩) _ hs a1 a2 a3 rfl
  rw [hh] at a4
  rw [a4]
  unfold cF
  symm
  exact hF_add _ _ _ _ _ o 256

theorem rowsB_col (ho : o ≤ 3840) (hs : ∀ c, 0 ≤ k0_pay51 v67 (ix2 0 c)) (hx : ∀ (n : Fin 256) e, x (ix2 n e) = X (3840 - o + n.val) e)
    (hh : h (ix2 0 ⟨128 * g.val + q.val, by omega⟩) = cB w0 w1 w2 w3 u0 u1 u2 u3 v67 ba bx g q X h0 o) (n : Fin 256) :
    rowsB w0 w1 w2 w3 u0 u1 u2 u3 v67 ba bx x h (ix2 n ⟨128 * g.val + q.val, by omega⟩)
      = cB w0 w1 w2 w3 u0 u1 u2 u3 v67 ba bx g q X h0 (o + (255 - n.val + 1)) := by
  have e (n : Fin 256) : 3840 - o + n.val = 4095 - (o + (255 - n.val)) := by omega
  have hx' (n : Fin 256) (c : Fin 512) : x (ix2 n c) = X (4095 - (o + (255 - n.val))) c := by rw [hx, e]
  have a1 (n : Fin 256) : lruPre w0 w1 w2 w3 x ba (ix2 n ⟨128 * g.val + q.val, by omega⟩) = (fun k => zcol w0 w1 w2 w3 ba X g q (4095 - (o + k))) (255 - n.val) :=
    lruPre_zcol w0 w1 w2 w3 x ba X n (4095 - (o + (255 - n.val))) (hx' n) g q
  have a2 (n : Fin 256) : lruPre u0 u1 u2 u3 x bx (ix2 n ⟨128 * g.val + q.val, by omega⟩) = (fun k => zcol u0 u1 u2 u3 bx X g q (4095 - (o + k))) (255 - n.val) :=
    lruPre_zcol u0 u1 u2 u3 x bx X n (4095 - (o + (255 - n.val))) (hx' n) g q
  have a3 (n : Fin 256) : x (ix2 n ⟨128 * g.val + q.val, by omega⟩) = (fun k => X (4095 - (o + k)) ⟨128 * g.val + q.val, by omega⟩) (255 - n.val) := hx' n _
  have a4 := rowsB_scan w0 w1 w2 w3 u0 u1 u2 u3 v67 ba bx x h ⟨128 * g.val + q.val, by omega⟩
    (fun k => zcol w0 w1 w2 w3 ba X g q (4095 - (o + k))) (fun k => zcol u0 u1 u2 u3 bx X g q (4095 - (o + k)))
    (fun k => X (4095 - (o + k)) ⟨128 * g.val + q.val, by omega⟩) _ hs a1 a2 a3 rfl n
  rw [hh] at a4
  rw [a4]
  unfold cB
  symm
  exact hB_add _ _ _ _ _ o (255 - n.val + 1)

theorem lastB_col (ho : o ≤ 3840) (hs : ∀ c, 0 ≤ k0_pay51 v67 (ix2 0 c)) (hx : ∀ (n : Fin 256) e, x (ix2 n e) = X (3840 - o + n.val) e)
    (hh : h (ix2 0 ⟨128 * g.val + q.val, by omega⟩) = cB w0 w1 w2 w3 u0 u1 u2 u3 v67 ba bx g q X h0 o) :
    lastB w0 w1 w2 w3 u0 u1 u2 u3 v67 ba bx x h (ix2 0 ⟨128 * g.val + q.val, by omega⟩)
      = cB w0 w1 w2 w3 u0 u1 u2 u3 v67 ba bx g q X h0 (o + 256) := by
  have e (n : Fin 256) : 3840 - o + n.val = 4095 - (o + (255 - n.val)) := by omega
  have hx' (n : Fin 256) (c : Fin 512) : x (ix2 n c) = X (4095 - (o + (255 - n.val))) c := by rw [hx, e]
  have a1 (n : Fin 256) : lruPre w0 w1 w2 w3 x ba (ix2 n ⟨128 * g.val + q.val, by omega⟩) = (fun k => zcol w0 w1 w2 w3 ba X g q (4095 - (o + k))) (255 - n.val) :=
    lruPre_zcol w0 w1 w2 w3 x ba X n (4095 - (o + (255 - n.val))) (hx' n) g q
  have a2 (n : Fin 256) : lruPre u0 u1 u2 u3 x bx (ix2 n ⟨128 * g.val + q.val, by omega⟩) = (fun k => zcol u0 u1 u2 u3 bx X g q (4095 - (o + k))) (255 - n.val) :=
    lruPre_zcol u0 u1 u2 u3 x bx X n (4095 - (o + (255 - n.val))) (hx' n) g q
  have a3 (n : Fin 256) : x (ix2 n ⟨128 * g.val + q.val, by omega⟩) = (fun k => X (4095 - (o + k)) ⟨128 * g.val + q.val, by omega⟩) (255 - n.val) := hx' n _
  have a4 := lastB_scan w0 w1 w2 w3 u0 u1 u2 u3 v67 ba bx x h ⟨128 * g.val + q.val, by omega⟩
    (fun k => zcol w0 w1 w2 w3 ba X g q (4095 - (o + k))) (fun k => zcol u0 u1 u2 u3 bx X g q (4095 - (o + k)))
    (fun k => X (4095 - (o + k)) ⟨128 * g.val + q.val, by omega⟩) _ hs a1 a2 a3 rfl
  rw [hh] at a4
  rw [a4]
  unfold cB
  symm
  exact hB_add _ _ _ _ _ o 256

end cols

/-- Two blocks of rows written one after the other, each the old rows plus new ones, read at a row. -/
theorem acc_rows (arg15 : Memref sig .tc .vmem S4096x512 .f32) (f : BufTy.Contents (Elt Ideal) arg15.view.ty)
    (off : Fin 2 → ℕ) (inb : ∀ a, off a + S256x512.size a ≤ S4096x512.size a) (o : ℕ) (ho : o + 256 ≤ 4096) (hoff : off = ![o, 0])
    (R : FVec Ideal S256x512 .f32) (L : List (View.Piece (Elt Ideal) S4096x512 .f32)) (n : Fin 4096) (e : Fin 512) :
    arg15.view.read (Elt Ideal) (arg15.view.writes (Elt Ideal) f
      (⟨Rect.unit (s := S4096x512) off S256x512.size inb, shapeCast S256x512 (addf (View.readAt (Elt Ideal) arg15.view (Rect.unit (s := S4096x512) off S256x512.size inb).toLoadRect (arg15.view.writes (Elt Ideal) f L)) R) shapeCasts_S256x512_S256x512⟩ :: L)) (ix2 n e)
      = arg15.view.read (Elt Ideal) (arg15.view.writes (Elt Ideal) f L) (ix2 n e)
        + (if h : o ≤ n.val ∧ n.val < o + 256 then R (ix2 ⟨n.val - o, by omega⟩ e) else 0) := by
  by_cases h : o ≤ n.val ∧ n.val < o + 256
  · rw [dif_pos h, View.read_writes_cons_rows_of_mem arg15.view f (o := o) inb _ L (ix2 n e) (ix2 (⟨n.val - o, by omega⟩ : Fin 256) e) hoff
      (by show n.val = o + (n.val - o); omega) rfl]
    rw [shapeCast_id, ValueIdx.addf_apply]
    congr 1
    exact ld_rows _ _ _ o hoff _ e n (by simp only; omega)
  · rw [dif_neg h, add_zero, View.read_writes_cons_rows_of_not_mem arg15.view f (o := o) (W := 256) inb _ L (ix2 n e) hoff rfl
      (by show n.val < o ∨ o + 256 ≤ n.val; omega)]

theorem accF (C : ℕ → EReal) (k n : ℕ) :
    (if n < 256 * k then C (n + 1) else 0) + (if 256 * k ≤ n ∧ n < 256 * k + 256 then C (256 * k + (n - 256 * k + 1)) else 0)
      = if n < 256 * (k + 1) then C (n + 1) else 0 := by
  by_cases h : n < 256 * k
  · rw [if_pos h, if_neg (by omega), if_pos (by omega), add_zero]
  · rw [if_neg h, zero_add]
    by_cases h2 : n < 256 * (k + 1)
    · rw [if_pos (by omega), if_pos h2, show 256 * k + (n - 256 * k + 1) = n + 1 by omega]
    · rw [if_neg (by omega), if_neg h2]

theorem accB (C : ℕ → EReal) (k n : ℕ) (hk : k < 16) (hn : n < 4096) :
    (if 4095 - n < 256 * k then C (4095 - n + 1) else 0)
      + (if 256 * (15 - k) ≤ n ∧ n < 256 * (15 - k) + 256 then C (256 * k + (255 - (n - 256 * (15 - k)) + 1)) else 0)
      = if 4095 - n < 256 * (k + 1) then C (4095 - n + 1) else 0 := by
  by_cases h : 4095 - n < 256 * k
  · rw [if_pos h, if_neg (by omega), if_pos (by omega), add_zero]
  · rw [if_neg h, zero_add]
    by_cases h2 : 4095 - n < 256 * (k + 1)
    · rw [if_pos (by omega), if_pos h2, show 256 * k + (255 - (n - 256 * (15 - k)) + 1) = 4095 - n + 1 by omega]
    · rw [if_neg (by omega), if_neg h2]

section trip
variable (𝒱 : Variants) (c : Dev nD) (bd : Option 𝒱.V) (i : grid0.Coords) (arg2 : Memref sig .tc .vmem S1x4096x512 .bf16) (harg2 : arg2.IsWhole) (arg3 : Memref sig .tc .vmem S1x4096x512 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S2x4x128x128 .bf16) (harg6 : arg6.IsWhole) (arg7 : Memref sig .tc .vmem S2x512 .f32) (harg7 : arg7.IsWhole) (arg8 : Memref sig .tc .vmem S2x4x128x128 .bf16) (harg8 : arg8.IsWhole) (arg9 : Memref sig .tc .vmem S2x512 .f32) (harg9 : arg9.IsWhole) (arg10 : Memref sig .tc .vmem S2x512 .f32) (harg10 : arg10.IsWhole) (arg11 : Memref sig .tc .vmem S1x2x512 .f32) (harg11 : arg11.IsWhole) (arg12 : Memref sig .tc .vmem S1x4096x512 .bf16) (harg12 : arg12.IsWhole) (arg13 : Memref sig .tc .vmem S1x2x512 .f32) (harg13 : arg13.IsWhole) (arg14 : Memref sig .tc .vmem S4096x512 .f32) (harg14 : arg14.IsWhole) (arg15 : Memref sig .tc .vmem S4096x512 .f32) (harg15 : arg15.IsWhole) (v67 : FVec Ideal S2x512 .f32) (v69 : FVec Ideal S128x128 .bf16) (v71 : FVec Ideal S128x128 .bf16) (v73 : FVec Ideal S128x128 .bf16) (v75 : FVec Ideal S128x128 .bf16) (v77 : FVec Ideal S128x128 .bf16) (v79 : FVec Ideal S128x128 .bf16) (v81 : FVec Ideal S128x128 .bf16) (v83 : FVec Ideal S128x128 .bf16) (v85 : FVec Ideal S128x128 .bf16) (v87 : FVec Ideal S128x128 .bf16) (v89 : FVec Ideal S128x128 .bf16) (v91 : FVec Ideal S128x128 .bf16) (v92 : Vec Ideal S1x1x128x128 .bf16) (v94 : Vec Ideal S1x1x128x128 .bf16) (v96 : Vec Ideal S1x1x128x128 .bf16) (v98 : Vec Ideal S1x1x128x128 .bf16) (X_arg7 : BufTy.Contents (Elt Ideal) arg7.view.ty) (X_arg9 : BufTy.Contents (Elt Ideal) arg9.view.ty) (X_arg14 : BufTy.Contents (Elt Ideal) arg14.view.ty)
variable (g : Fin 4) (q : Fin 128) (X : ℕ → Fin 512 → EReal) (ba0 bx0 ba1 bx1 : FVec Ideal S1x512 .f32) (h0 h1 : EReal)
  (G_arg15 : BufTy.Contents (Elt Ideal) arg15.view.ty) (init : FVec Ideal S1x512 .f32 × FVec Ideal S1x512 .f32)

/-- What holds before trip `K`: the carried states are the recurrences' after `256 K` rows, and the accumulator holds, at a row, the sum of
    the states of the recurrences that have reached it. -/
def Inv (acc : FVec Ideal S1x512 .f32 × FVec Ideal S1x512 .f32) (f : BufTy.Contents (Elt Ideal) arg15.view.ty) (K : ℕ) : Prop :=
  acc.1 (ix2 0 ⟨128 * g.val + q.val, by omega⟩) = cF v69 v71 v73 v75 v85 v87 v89 v91 v67 ba0 bx0 g q X h0 (256 * K) ∧
  acc.2 (ix2 0 ⟨128 * g.val + q.val, by omega⟩) = cB v77 v79 v81 v83 (k0_pay126 v92) (k0_pay127 v94) (k0_pay128 v96) (k0_pay129 v98) v67 ba1 bx1 g q X h1 (256 * K) ∧
  ∀ n : Fin 4096, arg15.view.read (Elt Ideal) f (ix2 n ⟨128 * g.val + q.val, by omega⟩)
    = (if n.val < 256 * K then cF v69 v71 v73 v75 v85 v87 v89 v91 v67 ba0 bx0 g q X h0 (n.val + 1) else 0)
      + (if 4095 - n.val < 256 * K then cB v77 v79 v81 v83 (k0_pay126 v92) (k0_pay127 v94) (k0_pay128 v96) (k0_pay129 v98) v67 ba1 bx1 g q X h1 (4095 - n.val + 1) else 0)

variable (hX : ∀ (n : Fin 4096) e, arg14.view.read (Elt Ideal) X_arg14 (ix2 n e) = X n.val e)
  (hs0 : ∀ c, 0 ≤ k0_pay2 v67 (ix2 0 c)) (hs1 : ∀ c, 0 ≤ k0_pay51 v67 (ix2 0 c))
  (hba0 : View.readAt (Elt Ideal) arg7.view (Rect.unit (s := S2x512) ![0, 0] S1x512.size inb_S2x512_S1x512_0_0).toLoadRect X_arg7 = ba0) (hba1 : View.readAt (Elt Ideal) arg7.view (Rect.unit (s := S2x512) ![1, 0] S1x512.size inb_S2x512_S1x512_1_0).toLoadRect X_arg7 = ba1) (hbx0 : View.readAt (Elt Ideal) arg9.view (Rect.unit (s := S2x512) ![0, 0] S1x512.size inb_S2x512_S1x512_0_0).toLoadRect X_arg9 = bx0) (hbx1 : View.readAt (Elt Ideal) arg9.view (Rect.unit (s := S2x512) ![1, 0] S1x512.size inb_S2x512_S1x512_1_0).toLoadRect X_arg9 = bx1)

include hX hs0 hs1 hba0 hba1 hbx0 hbx1 in
theorem trip_inv (k : Fin k0_t1_loop.trips) (acc : FVec Ideal S1x512 .f32 × FVec Ideal S1x512 .f32) (f : BufTy.Contents (Elt Ideal) arg15.view.ty)
    (h : Inv arg15 v67 v69 v71 v73 v75 v77 v79 v81 v83 v85 v87 v89 v91 v92 v94 v96 v98 g q X ba0 bx0 ba1 bx1 h0 h1 acc f k.val) :
    Inv arg15 v67 v69 v71 v73 v75 v77 v79 v81 v83 v85 v87 v89 v91 v92 v94 v96 v98 g q X ba0 bx0 ba1 bx1 h0 h1 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 k).1 acc f) (arg15.view.writes (Elt Ideal) f ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 k).2.1 acc f)) (k.val + 1) := by
  have hk : k.val < 16 := lt_of_lt_of_eq k.isLt trips_eq
  obtain ⟨h1', h2', h3'⟩ := h
  rw [trip_R, trip_L, hba0, hba1, hbx0, hbx1]
  have x1 (n : Fin 256) (e : Fin 512) : View.readAt (Elt Ideal) arg14.view (Rect.unit (s := S4096x512) (k0_off1 k) S256x512.size (k0_off1_inb k)).toLoadRect X_arg14 (ix2 n e) = X (256 * k.val + n.val) e := by
    rw [← hX ⟨256 * k.val + n.val, by omega⟩ e]
    exact ld_rows _ _ _ _ (off1_eq k) n e _ rfl
  have x2 (n : Fin 256) (e : Fin 512) : View.readAt (Elt Ideal) arg14.view (Rect.unit (s := S4096x512) (k0_off2 k) S256x512.size (k0_off2_inb k)).toLoadRect X_arg14 (ix2 n e) = X (3840 - 256 * k.val + n.val) e := by
    have e1 : 3840 - 256 * k.val + n.val = 256 * (15 - k.val) + n.val := by omega
    rw [e1, ← hX ⟨256 * (15 - k.val) + n.val, by omega⟩ e]
    exact ld_rows _ _ _ _ (off2_eq k) n e _ rfl
  have ho : 256 * k.val ≤ 3840 := by omega
  refine ⟨?_, ?_, fun n => ?_⟩
  · exact lastF_col _ _ _ _ _ _ _ _ _ _ _ g q X h0 _ _ _ hs0 x1 h1'
  · exact lastB_col _ _ _ _ _ _ _ _ _ _ _ g q X h1 _ _ _ ho hs1 x2 h2'
  · refine (acc_rows arg15 f _ _ (256 * (15 - k.val)) (by omega) (off2_eq k) _ _ n _).trans ?_
    have e1 := acc_rows arg15 f _ (k0_off1_inb k) (256 * k.val) (by omega) (off1_eq k) (rowsF v69 v71 v73 v75 v85 v87 v89 v91 v67 ba0 bx0 (View.readAt (Elt Ideal) arg14.view (Rect.unit (s := S4096x512) (k0_off1 k) S256x512.size (k0_off1_inb k)).toLoadRect X_arg14) acc.1) [] n ⟨128 * g.val + q.val, by omega⟩
    rw [View.writes_nil] at e1
    rw [e1, h3' n]
    have r1 (m : Fin 256) := rowsF_col _ _ _ _ _ _ _ _ _ _ _ g q X h0 _ _ _ hs0 x1 h1' m
    have r2 (m : Fin 256) := rowsB_col _ _ _ _ _ _ _ _ _ _ _ g q X h1 _ _ _ ho hs1 x2 h2' m
    simp only [r1, r2]
    clear r1 r2 e1 h1' h2' h3' x1 x2
    rw [← accF _ k.val n.val, ← accB _ k.val n.val hk n.isLt]
    simp only [dite_eq_ite]
    exact (add_assoc _ _ _).trans (add_add_add_comm _ _ _ _)

include hX hs0 hs1 hba0 hba1 hbx0 hbx1 in
/-- The invariant holds before every trip and after the last. -/
theorem loop_inv (hi0 : init.1 (ix2 0 ⟨128 * g.val + q.val, by omega⟩) = h0) (hi1 : init.2 (ix2 0 ⟨128 * g.val + q.val, by omega⟩) = h1)
    (hG : ∀ n : Fin 4096, arg15.view.read (Elt Ideal) G_arg15 (ix2 n ⟨128 * g.val + q.val, by omega⟩) = 0) (K : ℕ) (hK : K ≤ 16) :
    Inv arg15 v67 v69 v71 v73 v75 v77 v79 v81 v83 v85 v87 v89 v91 v92 v94 v96 v98 g q X ba0 bx0 ba1 bx1 h0 h1 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 G_arg15 init K).1 (arg15.view.writes (Elt Ideal) G_arg15 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 G_arg15 init K).2) K := by
  induction K with
  | zero =>
    refine ⟨hi0, hi1, fun n => ?_⟩
    rw [if_neg (by omega), if_neg (by omega), add_zero]
    exact hG n
  | succ K ih =>
    have hk : K < k0_t1_loop.trips := by rw [trips_eq]; omega
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 G_arg15 init ⟨K, hk⟩
    simp only at e
    rw [e]
    dsimp only
    rw [View.writes_append]
    exact trip_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 g q X ba0 bx0 ba1 bx1 h0 h1 hX hs0 hs1 hba0 hba1 hbx0 hbx1 ⟨K, hk⟩ _ _ (ih (by omega))

include hX hs0 hs1 hba0 hba1 hbx0 hbx1 in
/-- The forward recurrence's last state. -/
theorem loop_fst (hi0 : init.1 (ix2 0 ⟨128 * g.val + q.val, by omega⟩) = h0) (hi1 : init.2 (ix2 0 ⟨128 * g.val + q.val, by omega⟩) = h1)
    (hG : ∀ n : Fin 4096, arg15.view.read (Elt Ideal) G_arg15 (ix2 n ⟨128 * g.val + q.val, by omega⟩) = 0) (K : ℕ) (hK : K = 16) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 G_arg15 init K).1.1 (ix2 0 ⟨128 * g.val + q.val, by omega⟩) = cF v69 v71 v73 v75 v85 v87 v89 v91 v67 ba0 bx0 g q X h0 4096 := by
  obtain ⟨h, -, -⟩ := loop_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 g q X ba0 bx0 ba1 bx1 h0 h1 G_arg15 init hX hs0 hs1 hba0 hba1 hbx0 hbx1 hi0 hi1 hG K hK.le
  rw [h, hK]

include hX hs0 hs1 hba0 hba1 hbx0 hbx1 in
/-- The backward recurrence's last state. -/
theorem loop_snd (hi0 : init.1 (ix2 0 ⟨128 * g.val + q.val, by omega⟩) = h0) (hi1 : init.2 (ix2 0 ⟨128 * g.val + q.val, by omega⟩) = h1)
    (hG : ∀ n : Fin 4096, arg15.view.read (Elt Ideal) G_arg15 (ix2 n ⟨128 * g.val + q.val, by omega⟩) = 0) (K : ℕ) (hK : K = 16) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 G_arg15 init K).1.2 (ix2 0 ⟨128 * g.val + q.val, by omega⟩) = cB v77 v79 v81 v83 (k0_pay126 v92) (k0_pay127 v94) (k0_pay128 v96) (k0_pay129 v98) v67 ba1 bx1 g q X h1 4096 := by
  obtain ⟨-, h, -⟩ := loop_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 g q X ba0 bx0 ba1 bx1 h0 h1 G_arg15 init hX hs0 hs1 hba0 hba1 hbx0 hbx1 hi0 hi1 hG K hK.le
  rw [h, hK]

include hX hs0 hs1 hba0 hba1 hbx0 hbx1 in
/-- The accumulator's rows after the loop. -/
theorem loop_acc (hi0 : init.1 (ix2 0 ⟨128 * g.val + q.val, by omega⟩) = h0) (hi1 : init.2 (ix2 0 ⟨128 * g.val + q.val, by omega⟩) = h1)
    (hG : ∀ n : Fin 4096, arg15.view.read (Elt Ideal) G_arg15 (ix2 n ⟨128 * g.val + q.val, by omega⟩) = 0) (K : ℕ) (hK : K = 16) (n : Fin 4096) :
    arg15.view.read (Elt Ideal) (arg15.view.writes (Elt Ideal) G_arg15 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 G_arg15 init K).2) (ix2 n ⟨128 * g.val + q.val, by omega⟩) = cF v69 v71 v73 v75 v85 v87 v89 v91 v67 ba0 bx0 g q X h0 (n.val + 1) + cB v77 v79 v81 v83 (k0_pay126 v92) (k0_pay127 v94) (k0_pay128 v96) (k0_pay129 v98) v67 ba1 bx1 g q X h1 (4095 - n.val + 1) := by
  obtain ⟨-, -, h⟩ := loop_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 v67 v69 v71 v73 v75 v77 v79 v81 v83 v85 v87 v89 v91 v92 v94 v96 v98 X_arg7 X_arg9 X_arg14 g q X ba0 bx0 ba1 bx1 h0 h1 G_arg15 init hX hs0 hs1 hba0 hba1 hbx0 hbx1 hi0 hi1 hG K hK.le
  rw [h n, if_pos (by omega), if_pos (by omega)]

end trip
end Cert.KernelIdeal.Gen
-- ==== Proof.Conv.lean ====
module

public import proofs.«01_k».proof.Proof.Loop

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Lru

variable (x : Vec Ideal S1x4096x512 .bf16) (w0 w1 w2 w3 b : FVec Ideal S1x512 .f32)

theorem pay105_apply (w : FVec Ideal S1x512 .f32) (n : Fin 4096) (e : Fin 512) :
    k0_pay105 x w (ix2 n e) = x (ix3 0 ⟨(n.val + 4095) % 4096, by omega⟩ e) * w (ix2 0 e) := by
  unfold k0_pay105 k0_pay104
  simp only [pointwise]
  simp

theorem pay107_apply (w : FVec Ideal S1x512 .f32) (n : Fin 4096) (e : Fin 512) :
    k0_pay107 x w (ix2 n e) = x (ix3 0 ⟨(n.val + 1) % 4096, by omega⟩ e) * w (ix2 0 e) := by
  unfold k0_pay107 k0_pay104
  simp only [pointwise]
  simp

theorem pay109_apply (w : FVec Ideal S1x512 .f32) (n : Fin 4096) (e : Fin 512) :
    k0_pay109 x w (ix2 n e) = x (ix3 0 ⟨(n.val + 2) % 4096, by omega⟩ e) * w (ix2 0 e) := by
  unfold k0_pay109 k0_pay104
  simp only [pointwise]
  simp

theorem pay110_apply (n : Fin 4096) (e : Fin 512) :
    k0_pay110 x w1 w0 w2 w3 (ix2 n e)
      = x (ix3 0 n e) * w1 (ix2 0 e) + k0_pay105 x w0 (ix2 n e) + k0_pay107 x w2 (ix2 n e) + k0_pay109 x w3 (ix2 n e) := by
  unfold k0_pay110 k0_pay104
  simp only [pointwise]
  simp

theorem pay106_apply (n : Fin 8) (e : Fin 512) :
    k0_pay106 x w0 (ix2 n e) = if n = 0 then k0_pay105 x w0 (ix2 0 e) else 0 := by
  unfold k0_pay106
  simp only [pointwise]
  fin_cases n <;> simp <;> rfl

theorem pay108_apply (n : Fin 8) (e : Fin 512) :
    k0_pay108 x w2 (ix2 n e) = if n = 7 then k0_pay107 x w2 (ix2 4095 e) else 0 := by
  unfold k0_pay108
  simp only [pointwise]
  fin_cases n <;> simp <;> rfl

section sel
variable (v19 v30 : FVec Ideal S8x512 .f32) (v34 v35 : FVec Ideal S4096x512 .f32) (e : Fin 512)

theorem pay112_head (r : Fin 8) :
    k0_pay112 (iota .tc S8x512 32 [0] iota_S8x512_d0_w32) v19 v30 v34 v35 k0_pay111 b (ix2 ⟨r.val, by omega⟩ e)
      = v35 (ix2 ⟨r.val, by omega⟩ e) - v19 (ix2 r e) + b (ix2 0 e) := by
  unfold k0_pay112 k0_pay111
  simp only [pointwise]
  simp

theorem pay112_mid (n : Fin 4096) (h1 : 8 ≤ n.val) (h2 : n.val < 4088) :
    k0_pay112 (iota .tc S8x512 32 [0] iota_S8x512_d0_w32) v19 v30 v34 v35 k0_pay111 b (ix2 n e) = v35 (ix2 n e) + b (ix2 0 e) := by
  unfold k0_pay112 k0_pay111
  simp only [pointwise]
  have e1 : ¬ n.val < 8 := by omega
  have e2 : n.val - 8 < 4080 := by omega
  have e3 : 8 + (n.val - 8) = n.val := by omega
  simp [e1, e2, e3]

theorem pay112_tail (r : Fin 8) :
    k0_pay112 (iota .tc S8x512 32 [0] iota_S8x512_d0_w32) v19 v30 v34 v35 k0_pay111 b (ix2 ⟨4088 + r.val, by omega⟩ e)
      = v35 (ix2 ⟨4088 + r.val, by omega⟩ e) - (v30 (ix2 r e) + (if 6 ≤ r.val then v34 (ix2 ⟨4088 + r.val, by omega⟩ e) else 0)) + b (ix2 0 e) := by
  unfold k0_pay112 k0_pay111
  simp only [pointwise]
  fin_cases r <;> simp <;> first | rfl | (change _ - (_ + 0) + _ = _; rw [add_zero])
end sel

/-- A real value. -/
def Fin' (y : EReal) : Prop := y ≠ ⊤ ∧ y ≠ ⊥

theorem Fin'.sub_cancel {P : EReal} (h : Fin' P) (A : EReal) : A + P - P = A := by
  obtain ⟨h1, h2⟩ := h
  lift P to ℝ using ⟨h1, h2⟩
  exact EReal.add_sub_cancel_right

/-- A row of the four-tap filter over a column, zero past the ends. -/
def conv4 (p : ℕ → EReal) (w0 w1 w2 w3 b : EReal) (n : ℕ) : EReal :=
  p n * w1 + (if 1 ≤ n then p (n - 1) * w0 else 0) + (if n + 1 < 4096 then p (n + 1) * w2 else 0)
    + (if n + 2 < 4096 then p (n + 2) * w3 else 0) + b

/-- A column of the loaded block at every row number. -/
def colX (e : Fin 512) (n : ℕ) : EReal := if h : n < 4096 then x (ix3 0 ⟨n, h⟩ e) else 0

theorem colX_of (n : Fin 4096) (e : Fin 512) : x (ix3 0 n e) = colX x e n.val := by
  unfold colX; rw [dif_pos n.isLt]

theorem v35_eq (n : Fin 4096) (e : Fin 512) :
    k0_pay110 x w1 w0 w2 w3 (ix2 n e)
      = colX x e n.val * w1 (ix2 0 e) + colX x e ((n.val + 4095) % 4096) * w0 (ix2 0 e) + colX x e ((n.val + 1) % 4096) * w2 (ix2 0 e)
        + colX x e ((n.val + 2) % 4096) * w3 (ix2 0 e) := by
  rw [pay110_apply, pay105_apply, pay107_apply, pay109_apply]
  simp only [colX_of x]

/-- The filter as the kernel takes it: the wrapped rows are added and then taken away again. -/
theorem conv_rows (n : Fin 4096) (e : Fin 512)
    (f0 : Fin' (colX x e 4095 * w0 (ix2 0 e))) (f2 : Fin' (colX x e 0 * w2 (ix2 0 e)))
    (f3 : Fin' (colX x e 0 * w3 (ix2 0 e))) (f3' : Fin' (colX x e 1 * w3 (ix2 0 e))) :
    k0_pay112 (iota .tc S8x512 32 [0] iota_S8x512_d0_w32) (k0_pay106 x w0) (k0_pay108 x w2) (k0_pay109 x w3) (k0_pay110 x w1 w0 w2 w3)
        k0_pay111 b (ix2 n e)
      = conv4 (colX x e) (w0 (ix2 0 e)) (w1 (ix2 0 e)) (w2 (ix2 0 e)) (w3 (ix2 0 e)) (b (ix2 0 e)) n.val := by
  unfold conv4
  by_cases h8 : n.val < 8
  · have e1 := pay112_head b (k0_pay106 x w0) (k0_pay108 x w2) (k0_pay109 x w3) (k0_pay110 x w1 w0 w2 w3) e ⟨n.val, h8⟩
    simp only [Fin.eta] at e1
    rw [e1, v35_eq, pay106_apply, pay105_apply, colX_of x]
    rw [if_pos (show n.val + 1 < 4096 by omega), if_pos (show n.val + 2 < 4096 by omega), Nat.mod_eq_of_lt (show n.val + 1 < 4096 by omega),
      Nat.mod_eq_of_lt (show n.val + 2 < 4096 by omega)]
    by_cases h0 : n.val = 0
    · have e2 : (⟨n.val, h8⟩ : Fin 8) = 0 := Fin.ext h0
      rw [if_pos e2, if_neg (by omega)]
      simp only [h0]
      rw [show ((0 : Fin 4096).val + 4095) % 4096 = 4095 from rfl, show (0 + 4095) % 4096 = 4095 from rfl]
      obtain ⟨g1, g2⟩ := f0
      generalize colX x e 4095 * w0 (ix2 0 e) = P at *
      rw [add_zero, show ∀ A B C : EReal, A + P + B + C = A + B + C + P by intros; ac_rfl, Fin'.sub_cancel ⟨g1, g2⟩]
    · have e2 : ¬ (⟨n.val, h8⟩ : Fin 8) = 0 := fun h => h0 (congrArg Fin.val h)
      rw [if_neg e2, if_pos (by omega), show (n.val + 4095) % 4096 = n.val - 1 by omega, sub_zero]
  · by_cases h9 : n.val < 4088
    · rw [pay112_mid b _ _ _ _ e n (by omega) h9, v35_eq, if_pos (show 1 ≤ n.val by omega), if_pos (show n.val + 1 < 4096 by omega),
        if_pos (show n.val + 2 < 4096 by omega), Nat.mod_eq_of_lt (show n.val + 1 < 4096 by omega),
        Nat.mod_eq_of_lt (show n.val + 2 < 4096 by omega), show (n.val + 4095) % 4096 = n.val - 1 by omega]
    · have e1 := pay112_tail b (k0_pay106 x w0) (k0_pay108 x w2) (k0_pay109 x w3) (k0_pay110 x w1 w0 w2 w3) e ⟨n.val - 4088, by omega⟩
      have e3 : 4088 + (n.val - 4088) = n.val := by omega
      simp only [e3, Fin.eta] at e1
      rw [e1, v35_eq, pay108_apply, pay107_apply, pay109_apply, colX_of x, colX_of x, if_pos (show 1 ≤ n.val by omega),
        show (n.val + 4095) % 4096 = n.val - 1 by omega]
      by_cases h15 : n.val = 4095
      · have e2 : (⟨n.val - 4088, by omega⟩ : Fin 8) = 7 := Fin.ext (by simp only [h15]; rfl)
        rw [if_pos e2, if_pos (by omega), if_neg (by omega), if_neg (by omega)]
        simp only [h15]
        rw [show ((4095 : Fin 4096).val + 1) % 4096 = 0 from rfl, show (4095 + 1) % 4096 = 0 from rfl, show (4095 + 2) % 4096 = 1 from rfl]
        obtain ⟨g1, g2⟩ := f2
        obtain ⟨g3, g4⟩ := f3'
        generalize colX x e 0 * w2 (ix2 0 e) = P at *
        generalize colX x e 1 * w3 (ix2 0 e) = Q at *
        lift P to ℝ using ⟨g1, g2⟩
        lift Q to ℝ using ⟨g3, g4⟩
        rw [add_zero, add_zero, add_assoc _ (P : EReal) (Q : EReal), ← EReal.coe_add, EReal.add_sub_cancel_right]
      · have e2 : ¬ (⟨n.val - 4088, by omega⟩ : Fin 8) = 7 := fun h => by
          have := congrArg Fin.val h
          simp only [show (7 : Fin 8).val = 7 from rfl] at this
          omega
        rw [if_neg e2, if_pos (show n.val + 1 < 4096 by omega), Nat.mod_eq_of_lt (show n.val + 1 < 4096 by omega)]
        by_cases h14 : n.val = 4094
        · rw [if_pos (by omega), if_neg (by omega)]
          simp only [h14]
          rw [show (4094 + 2) % 4096 = 0 from rfl, zero_add, add_zero, Fin'.sub_cancel f3]
        · rw [if_neg (by omega), if_pos (by omega), Nat.mod_eq_of_lt (show n.val + 2 < 4096 by omega), add_zero, sub_zero]

end Cert.KernelIdeal.Gen
-- ==== Proof.Out.lean ====
module

public import proofs.«01_k».proof.Proof.Loop
public import proofs.«01_k».proof.Proof.Conv
public import Idealize.ShloMosaic.Lib.Pipeline.ValueKit.Tiles
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Lru

/-- A load through a rectangle of a whole memref holding known contents reads them at the rectangle's place. -/
theorem rd_unit {s : Shape} {e : EltTy} (m : Memref sig .tc .vmem s e) (h : m.IsWhole) (X : s.Idx → Elt Ideal e)
    (off size : Fin s.rank → ℕ) (inb : ∀ a, off a + size a ≤ s.size a) (x : (Rect.unit off size inb).shape.Idx) (i : s.Idx)
    (hi : ∀ a, (i a).val = off a + (x a).val) :
    View.readAt (Elt Ideal) m.view (Rect.unit off size inb).toLoadRect (h.unread X) x = X i := by
  rw [View.readAt_eq_ld, h.read_unread]
  exact View.ld_unit_apply_of X off size inb x i hi

section spec
variable (x0 x1 : Vec Ideal S1x4096x512 EltTy.bf16) (x2 : Vec Ideal S4x512 EltTy.f32) (x3 : Vec Ideal S1x512 EltTy.f32)
  (x4 : Vec Ideal S2x4x128x128 EltTy.bf16) (x5 : Vec Ideal S2x512 EltTy.f32) (x6 : Vec Ideal S2x4x128x128 EltTy.bf16)
  (x7 x8 : Vec Ideal S2x512 EltTy.f32) (x9 : Vec Ideal S1x2x512 EltTy.f32) (g : Fin 4) (q : Fin 128)

/-- The block's convolved branch, at every row and column. -/
def bX (n : ℕ) (e : Fin 512) : EReal :=
  conv4 (colX x0 e) (x2 (ix2 0 e)) (x2 (ix2 1 e)) (x2 (ix2 2 e)) (x2 (ix2 3 e)) (x3 (ix2 0 e)) n

/-- A gate's pre-activation of direction `d` in the block's operands. -/
def bZ (w : Vec Ideal S2x4x128x128 EltTy.bf16) (b : Vec Ideal S2x512 EltTy.f32) (d : Fin 2) (n : ℕ) : EReal :=
  (∑ j : Fin 128, bX x0 x2 x3 n ⟨128 * g.val + j.val, by omega⟩ * w (ix4 d g j q)) + b (ix2 d ⟨128 * g.val + q.val, by omega⟩)

/-- The block's forward states of a column. -/
def bF : ℕ → EReal :=
  hF (bZ x0 x2 x3 g q x4 x5 0) (bZ x0 x2 x3 g q x6 x7 0) (fun n => bX x0 x2 x3 n ⟨128 * g.val + q.val, by omega⟩)
    (sp (-(x8 (ix2 0 ⟨128 * g.val + q.val, by omega⟩)))) (x9 (ix3 0 0 ⟨128 * g.val + q.val, by omega⟩))

/-- The block's backward states of a column. -/
def bB : ℕ → EReal :=
  hB (bZ x0 x2 x3 g q x4 x5 1) (bZ x0 x2 x3 g q x6 x7 1) (fun n => bX x0 x2 x3 n ⟨128 * g.val + q.val, by omega⟩)
    (sp (-(x8 (ix2 1 ⟨128 * g.val + q.val, by omega⟩)))) (x9 (ix3 0 1 ⟨128 * g.val + q.val, by omega⟩))

/-- The gate branch's activation. -/
def gel (y : EReal) : EReal :=
  Ideal.ofBits .f32 0x3F000000#32 * y *
    (1 + Ideal.tanh (Ideal.ofBits .f32 0x3F4C422A#32 * (y + Ideal.ofBits .f32 0x3D372713#32 * (y * y * y))))

/-- The convolution's wrapped-round products of a block are finite. -/
def bFin : Prop := ∀ e, Fin' (colX x0 e 4095 * x2 (ix2 0 e)) ∧ Fin' (colX x0 e 0 * x2 (ix2 2 e)) ∧
  Fin' (colX x0 e 0 * x2 (ix2 3 e)) ∧ Fin' (colX x0 e 1 * x2 (ix2 3 e))
end spec

section pays
theorem pay113_apply (v : FVec Ideal S2x512 .f32) (d : Fin 2) (e : Fin 512) : k0_pay113 (F := Ideal) v (ix2 d e) = sp (-(v (ix2 d e))) := by
  unfold k0_pay113 sp
  simp only [pointwise]
  simp [Ideal.ofBits_one_f32, Ideal.ofBits_zero_f32]
  change _ + Ideal.log (1 + Ideal.exp (-max (-v (ix2 d e)) (- -v (ix2 d e)))) = _
  rw [neg_neg]
theorem pay2_apply (v : FVec Ideal S2x512 .f32) (e : Fin 512) : k0_pay2 v (ix2 0 e) = v (ix2 0 e) := by
  unfold k0_pay2
  simp only [pointwise]
  simp
theorem pay51_apply (v : FVec Ideal S2x512 .f32) (e : Fin 512) : k0_pay51 v (ix2 0 e) = v (ix2 1 e) := by
  unfold k0_pay51
  simp only [pointwise]
  simp
theorem pay130_apply (n : Fin 4096) (e : Fin 512) : k0_pay130 (F := Ideal) (ix2 n e) = 0 := by
  unfold k0_pay130
  simp only [pointwise]
theorem pay132_apply (v : Vec Ideal S1x2x512 .f32) (e : Fin 512) : k0_pay132 v (ix2 0 e) = v (ix3 0 0 e) := by
  unfold k0_pay132 k0_pay131
  simp only [pointwise]
  simp
theorem pay133_apply (v : Vec Ideal S1x2x512 .f32) (e : Fin 512) : k0_pay133 v (ix2 0 e) = v (ix3 0 1 e) := by
  unfold k0_pay133 k0_pay131
  simp only [pointwise]
  simp
theorem pay136_0 (a b : FVec Ideal S1x512 .f32) (e : Fin 512) : k0_pay136 a b (ix3 0 0 e) = a (ix2 0 e) := by
  unfold k0_pay136
  simp only [pointwise]
  simp
theorem unsq_apply (w : FVec Ideal S2x512 .f32) (h) (d : Fin 2) (e : Fin 512) : shapeCast S1x2x512 w h (ix3 0 d e) = w (ix2 d e) := by
  simp only [pointwise]
theorem pay136_1 (a b : FVec Ideal S1x512 .f32) (e : Fin 512) : k0_pay136 a b (ix3 0 1 e) = b (ix2 0 e) := by
  unfold k0_pay136
  rw [unsq_apply]
  refine concatenate_pair_apply_right (t := S2x512) (s₁ := S1x512) (s₂ := S1x512) 0 a b _ (ix2 1 e) rfl rfl (ix2 0 e) ?_ ?_
  · intro k hk
    fin_cases k
    · exact absurd rfl hk
    · rfl
  ·
    rfl
theorem pay1_apply (y : Vec Ideal S1x4096x512 .bf16) (h : Vec Ideal S4096x512 .f32) (n : Fin 4096) (e : Fin 512) :
    k0_pay1 (k0_pay137 y) (k0_pay138 y) (k0_pay139 y) (Scalar.ofBits .f32 0x3D372713#32) h (ix3 0 n e) = h (ix2 n e) * gel (y (ix3 0 n e)) := by
  unfold k0_pay1 k0_pay138 k0_pay139 k0_pay137 gel
  simp only [pointwise]
theorem squeeze_apply (v : Vec Ideal S1x1x128x128 .bf16) (j q : Fin 128) (h) : shapeCast S128x128 v h (ix2 j q) = v (ix4 0 0 j q) := by
  simp only [pointwise]
end pays

section fold
variable (x0 : Vec Ideal S1x4096x512 EltTy.bf16) (x2 : Vec Ideal S4x512 EltTy.f32) (x3 : Vec Ideal S1x512 EltTy.f32)
  (x4 : Vec Ideal S2x4x128x128 EltTy.bf16) (x5 : Vec Ideal S2x512 EltTy.f32) (x6 : Vec Ideal S2x4x128x128 EltTy.bf16)
  (x7 x8 : Vec Ideal S2x512 EltTy.f32) (x9 : Vec Ideal S1x2x512 EltTy.f32) (g : Fin 4) (q : Fin 128)
  (w0 w1 w2 w3 u0 u1 u2 u3 : FVec Ideal S128x128 .bf16) (v67 : FVec Ideal S2x512 .f32) (b bx : FVec Ideal S1x512 .f32)

theorem zcol_b (W : Vec Ideal S2x4x128x128 EltTy.bf16) (B : Vec Ideal S2x512 EltTy.f32) (d : Fin 2)
    (h : ∀ (g : Fin 4) (j q : Fin 128), (![w0, w1, w2, w3] g) (ix2 j q) = W (ix4 d g j q)) (hb : ∀ e, b (ix2 0 e) = B (ix2 d e)) :
    zcol w0 w1 w2 w3 b (bX x0 x2 x3) g q = bZ x0 x2 x3 g q W B d := by
  funext n
  unfold zcol bZ
  rw [hb]
  simp only [h]

theorem cF_b (h : ∀ (g : Fin 4) (j q : Fin 128), (![w0, w1, w2, w3] g) (ix2 j q) = x4 (ix4 0 g j q))
    (h' : ∀ (g : Fin 4) (j q : Fin 128), (![u0, u1, u2, u3] g) (ix2 j q) = x6 (ix4 0 g j q))
    (hb : ∀ e, b (ix2 0 e) = x5 (ix2 0 e)) (hb' : ∀ e, bx (ix2 0 e) = x7 (ix2 0 e))
    (hs : k0_pay2 v67 (ix2 0 ⟨128 * g.val + q.val, by omega⟩) = sp (-(x8 (ix2 0 ⟨128 * g.val + q.val, by omega⟩)))) :
    cF w0 w1 w2 w3 u0 u1 u2 u3 v67 b bx g q (bX x0 x2 x3) (x9 (ix3 0 0 ⟨128 * g.val + q.val, by omega⟩)) = bF x0 x2 x3 x4 x5 x6 x7 x8 x9 g q := by
  unfold cF bF
  rw [zcol_b x0 x2 x3 g q _ _ _ _ _ x4 x5 0 h hb, zcol_b x0 x2 x3 g q _ _ _ _ _ x6 x7 0 h' hb', hs]

theorem cB_b (h : ∀ (g : Fin 4) (j q : Fin 128), (![w0, w1, w2, w3] g) (ix2 j q) = x4 (ix4 1 g j q))
    (h' : ∀ (g : Fin 4) (j q : Fin 128), (![u0, u1, u2, u3] g) (ix2 j q) = x6 (ix4 1 g j q))
    (hb : ∀ e, b (ix2 0 e) = x5 (ix2 1 e)) (hb' : ∀ e, bx (ix2 0 e) = x7 (ix2 1 e))
    (hs : k0_pay51 v67 (ix2 0 ⟨128 * g.val + q.val, by omega⟩) = sp (-(x8 (ix2 1 ⟨128 * g.val + q.val, by omega⟩)))) :
    cB w0 w1 w2 w3 u0 u1 u2 u3 v67 b bx g q (bX x0 x2 x3) (x9 (ix3 0 1 ⟨128 * g.val + q.val, by omega⟩)) = bB x0 x2 x3 x4 x5 x6 x7 x8 x9 g q := by
  unfold cB bB
  rw [zcol_b x0 x2 x3 g q _ _ _ _ _ x4 x5 1 h hb, zcol_b x0 x2 x3 g q _ _ _ _ _ x6 x7 1 h' hb', hs]
end fold

theorem zero3 : (![0, 0, 0] : Fin 3 → ℕ) = fun _ => 0 := by
  funext a; fin_cases a <;> rfl

section loads
theorem ldW (m : Memref sig .tc .vmem S2x4x128x128 .bf16) (h : m.IsWhole) (X : Vec Ideal S2x4x128x128 .bf16) (d : Fin 2) (g : Fin 4) (j q : Fin 128)
    (inb : ∀ a, (![d.val, g.val, 0, 0] : Fin 4 → ℕ) a + S1x1x128x128.size a ≤ S2x4x128x128.size a) :
    shapeCast S128x128 (View.readAt (Elt Ideal) m.view (Rect.unit (s := S2x4x128x128) ![d.val, g.val, 0, 0] S1x1x128x128.size inb).toLoadRect (h.unread X))
      shapeCasts_S1x1x128x128_S128x128 (ix2 j q) = X (ix4 d g j q) := by
  refine (squeeze_apply _ j q _).trans (rd_unit m h X ![d.val, g.val, 0, 0] S1x1x128x128.size inb (ix4 0 0 j q) (ix4 d g j q) fun a => ?_)
  fin_cases a <;> first | rfl | exact (Nat.zero_add _).symm

theorem ldR (m : Memref sig .tc .vmem S2x512 .f32) (h : m.IsWhole) (X : Vec Ideal S2x512 .f32) (d : Fin 2) (e : Fin 512)
    (inb : ∀ a, (![d.val, 0] : Fin 2 → ℕ) a + S1x512.size a ≤ S2x512.size a) :
    View.readAt (Elt Ideal) m.view (Rect.unit (s := S2x512) ![d.val, 0] S1x512.size inb).toLoadRect (h.unread X) (ix2 0 e) = X (ix2 d e) := by
  refine rd_unit m h X ![d.val, 0] S1x512.size inb (ix2 0 e) (ix2 d e) fun a => ?_
  fin_cases a <;> first | rfl | exact (Nat.zero_add _).symm

theorem ldC (m : Memref sig .tc .vmem S4x512 .f32) (h : m.IsWhole) (X : Vec Ideal S4x512 .f32) (d : Fin 4) (e : Fin 512)
    (inb : ∀ a, (![d.val, 0] : Fin 2 → ℕ) a + S1x512.size a ≤ S4x512.size a) :
    View.readAt (Elt Ideal) m.view (Rect.unit (s := S4x512) ![d.val, 0] S1x512.size inb).toLoadRect (h.unread X) (ix2 0 e) = X (ix2 d e) := by
  refine rd_unit m h X ![d.val, 0] S1x512.size inb (ix2 0 e) (ix2 d e) fun a => ?_
  fin_cases a <;> first | rfl | exact (Nat.zero_add _).symm

theorem ldB (m : Memref sig .tc .vmem S1x512 .f32) (h : m.IsWhole) (X : Vec Ideal S1x512 .f32) (e : Fin 512)
    (inb : ∀ a, (![0, 0] : Fin 2 → ℕ) a + S1x512.size a ≤ S1x512.size a) :
    View.readAt (Elt Ideal) m.view (Rect.unit (s := S1x512) ![0, 0] S1x512.size inb).toLoadRect (h.unread X) (ix2 0 e) = X (ix2 0 e) := by
  refine rd_unit m h X ![0, 0] S1x512.size inb (ix2 0 e) (ix2 0 e) fun a => ?_
  fin_cases a <;> first | rfl | exact (Nat.zero_add _).symm

theorem ldF2 (m : Memref sig .tc .vmem S2x512 .f32) (h : m.IsWhole) (X : Vec Ideal S2x512 .f32) (d : Fin 2) (e : Fin 512)
    (inb : ∀ a, (![0, 0] : Fin 2 → ℕ) a + S2x512.size a ≤ S2x512.size a) :
    View.readAt (Elt Ideal) m.view (Rect.unit (s := S2x512) ![0, 0] S2x512.size inb).toLoadRect (h.unread X) (ix2 d e) = X (ix2 d e) := by
  refine rd_unit m h X ![0, 0] S2x512.size inb (ix2 d e) (ix2 d e) fun a => ?_
  fin_cases a <;> exact (Nat.zero_add _).symm

theorem ldF3 (m : Memref sig .tc .vmem S1x2x512 .f32) (h : m.IsWhole) (X : Vec Ideal S1x2x512 .f32) (d : Fin 2) (e : Fin 512)
    (inb : ∀ a, (![0, 0, 0] : Fin 3 → ℕ) a + S1x2x512.size a ≤ S1x2x512.size a) :
    View.readAt (Elt Ideal) m.view (Rect.unit (s := S1x2x512) ![0, 0, 0] S1x2x512.size inb).toLoadRect (h.unread X) (ix3 0 d e) = X (ix3 0 d e) := by
  refine rd_unit m h X ![0, 0, 0] S1x2x512.size inb (ix3 0 d e) (ix3 0 d e) fun a => ?_
  fin_cases a <;> exact (Nat.zero_add _).symm

theorem ldP (m : Memref sig .tc .vmem S1x4096x512 .bf16) (h : m.IsWhole) (X : Vec Ideal S1x4096x512 .bf16) (d : Fin 4096) (e : Fin 512)
    (inb : ∀ a, (![0, 0, 0] : Fin 3 → ℕ) a + S1x4096x512.size a ≤ S1x4096x512.size a) :
    View.readAt (Elt Ideal) m.view (Rect.unit (s := S1x4096x512) ![0, 0, 0] S1x4096x512.size inb).toLoadRect (h.unread X) (ix3 0 d e) = X (ix3 0 d e) := by
  refine rd_unit m h X ![0, 0, 0] S1x4096x512.size inb (ix3 0 d e) (ix3 0 d e) fun a => ?_
  fin_cases a <;> exact (Nat.zero_add _).symm

theorem ldX (m : Memref sig .tc .vmem S1x4096x512 .bf16) (h : m.IsWhole) (X : Vec Ideal S1x4096x512 .bf16) (e : Fin 512)
    (inb : ∀ a, (![0, 0, 0] : Fin 3 → ℕ) a + S1x4096x512.size a ≤ S1x4096x512.size a) :
    colX (View.readAt (Elt Ideal) m.view (Rect.unit (s := S1x4096x512) ![0, 0, 0] S1x4096x512.size inb).toLoadRect (h.unread X)) e = colX X e := by
  funext k
  unfold colX
  by_cases c : k < 4096
  · rw [dif_pos c, dif_pos c]
    exact ldP m h X ⟨k, c⟩ e inb
  · rw [dif_neg c, dif_neg c]
end loads

section out
variable (c : Dev nD) (i : grid0.Coords) (arg2 : Memref sig .tc .vmem S1x4096x512 .bf16) (harg2 : arg2.IsWhole) (arg3 : Memref sig .tc .vmem S1x4096x512 .bf16) (harg3 : arg3.IsWhole) (arg4 : Memref sig .tc .vmem S4x512 .f32) (harg4 : arg4.IsWhole) (arg5 : Memref sig .tc .vmem S1x512 .f32) (harg5 : arg5.IsWhole) (arg6 : Memref sig .tc .vmem S2x4x128x128 .bf16) (harg6 : arg6.IsWhole) (arg7 : Memref sig .tc .vmem S2x512 .f32) (harg7 : arg7.IsWhole) (arg8 : Memref sig .tc .vmem S2x4x128x128 .bf16) (harg8 : arg8.IsWhole) (arg9 : Memref sig .tc .vmem S2x512 .f32) (harg9 : arg9.IsWhole) (arg10 : Memref sig .tc .vmem S2x512 .f32) (harg10 : arg10.IsWhole) (arg11 : Memref sig .tc .vmem S1x2x512 .f32) (harg11 : arg11.IsWhole) (arg12 : Memref sig .tc .vmem S1x4096x512 .bf16) (harg12 : arg12.IsWhole) (arg13 : Memref sig .tc .vmem S1x2x512 .f32) (harg13 : arg13.IsWhole) (arg14 : Memref sig .tc .vmem S4096x512 .f32) (harg14 : arg14.IsWhole) (arg15 : Memref sig .tc .vmem S4096x512 .f32) (harg15 : arg15.IsWhole) (x0 : Vec Ideal S1x4096x512 .bf16) (x1 : Vec Ideal S1x4096x512 .bf16) (x2 : Vec Ideal S4x512 .f32) (x3 : Vec Ideal S1x512 .f32) (x4 : Vec Ideal S2x4x128x128 .bf16) (x5 : Vec Ideal S2x512 .f32) (x6 : Vec Ideal S2x4x128x128 .bf16) (x7 : Vec Ideal S2x512 .f32) (x8 : Vec Ideal S2x512 .f32) (x9 : Vec Ideal S1x2x512 .f32) (hfin : bFin x0 x2) (g : Fin 4) (q : Fin 128)

include hfin

set_option maxHeartbeats 1000000 in
theorem out11_fst : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 (ix3 0 0 ⟨128 * g.val + q.val, by omega⟩) = bF x0 x2 x3 x4 x5 x6 x7 x8 x9 g q 4096 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  unfold kernelRun0_A
  dsimp only
  sl_unfold_words

  rw [View.canon_unit_zero zero3]
  refine (pay136_0 _ _ _).trans ?_
  refine (loop_fst _ _ _ _ _ _ _ _ _ _ _ _ _ _ _ _ _ _ _ _ _ _ _ _ _ _ _ _ _ _ _ _ _ _ _ _ _ _ _ _ _ _ _ _ _ _ _ _ _ _ _ _ g q (bX x0 x2 x3) _ _ _ _ (x9 (ix3 0 0 ⟨128 * g.val + q.val, by omega⟩)) (x9 (ix3 0 1 ⟨128 * g.val + q.val, by omega⟩)) _ _ ?hX ?hs0 ?hs1 rfl rfl rfl rfl ?hi0 ?hi1 ?hG _ (by decide)).trans ?_
  case hX =>
    intro n e
    rw [View.read_writes_full]
    obtain ⟨f0, f2, f3, f3'⟩ := hfin e
    have a (r : Fin 4) (inb) := ldC arg4 harg4 x2 r e inb
    have b (inb) := ldB arg5 harg5 x3 e inb
    have y (inb) := ldX arg2 harg2 x0 e inb
    have a0 := a 0 inb_S4x512_S1x512_0_0
    have a1 := a 1 inb_S4x512_S1x512_1_0
    have a2 := a 2 inb_S4x512_S1x512_2_0
    have a3 := a 3 inb_S4x512_S1x512_3_0
    refine (conv_rows _ _ _ _ _ _ n e ?_ ?_ ?_ ?_).trans ?_
    · rw [y]; exact (congrArg (fun t => Fin' (colX x0 e 4095 * t)) a0).mpr f0
    · rw [y]; exact (congrArg (fun t => Fin' (colX x0 e 0 * t)) a2).mpr f2
    · rw [y]; exact (congrArg (fun t => Fin' (colX x0 e 0 * t)) a3).mpr f3
    · rw [y]; exact (congrArg (fun t => Fin' (colX x0 e 1 * t)) a3).mpr f3'
    · rw [y]
      unfold bX
      rw [← a0, ← a1, ← a2, ← a3, ← b inb_S1x512_S1x512_0_0]
      rfl
  case hs0 =>
    intro e
    rw [pay2_apply, pay113_apply]
    exact sp_nonneg _
  case hs1 =>
    intro e
    rw [pay51_apply, pay113_apply]
    exact sp_nonneg _
  case hi0 =>
    exact (pay132_apply _ _).trans (ldF3 arg11 harg11 x9 0 _ _)
  case hi1 =>
    exact (pay133_apply _ _).trans (ldF3 arg11 harg11 x9 1 _ _)
  case hG =>
    intro n
    rw [View.read_writes_full]
    exact pay130_apply _ _

  refine congrFun (cF_b x0 x2 x3 x4 x5 x6 x7 x8 x9 g q _ _ _ _ _ _ _ _ _ _ _
      (fun g j q => by
      fin_cases g
      · exact ldW arg6 harg6 x4 0 0 j q _
      · exact ldW arg6 harg6 x4 0 1 j q _
      · exact ldW arg6 harg6 x4 0 2 j q _
      · exact ldW arg6 harg6 x4 0 3 j q _)
      (fun g j q => by
      fin_cases g
      · exact ldW arg8 harg8 x6 0 0 j q _
      · exact ldW arg8 harg8 x6 0 1 j q _
      · exact ldW arg8 harg8 x6 0 2 j q _
      · exact ldW arg8 harg8 x6 0 3 j q _)
      (fun e => ldR arg7 harg7 x5 0 e _) (fun e => ldR arg9 harg9 x7 0 e _)
      (by
        rw [pay2_apply, pay113_apply]
        exact congrArg (fun t => sp (-t)) (ldF2 arg10 harg10 x8 0 _ _))) 4096

set_option maxHeartbeats 1000000 in
theorem out11_snd : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 (ix3 0 1 ⟨128 * g.val + q.val, by omega⟩) = bB x0 x2 x3 x4 x5 x6 x7 x8 x9 g q 4096 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  unfold kernelRun0_A
  dsimp only
  sl_unfold_words

  rw [View.canon_unit_zero zero3]
  refine (pay136_1 _ _ _).trans ?_
  refine (loop_snd _ _ _ _ _ _ _ _ _ _ _ _ _ _ _ _ _ _ _ _ _ _ _ _ _ _ _ _ _ _ _ _ _ _ _ _ _ _ _ _ _ _ _ _ _ _ _ _ _ _ _ _ g q (bX x0 x2 x3) _ _ _ _ (x9 (ix3 0 0 ⟨128 * g.val + q.val, by omega⟩)) (x9 (ix3 0 1 ⟨128 * g.val + q.val, by omega⟩)) _ _ ?hX ?hs0 ?hs1 rfl rfl rfl rfl ?hi0 ?hi1 ?hG _ (by decide)).trans ?_
  case hX =>
    intro n e
    rw [View.read_writes_full]
    obtain ⟨f0, f2, f3, f3'⟩ := hfin e
    have a (r : Fin 4) (inb) := ldC arg4 harg4 x2 r e inb
    have b (inb) := ldB arg5 harg5 x3 e inb
    have y (inb) := ldX arg2 harg2 x0 e inb
    have a0 := a 0 inb_S4x512_S1x512_0_0
    have a1 := a 1 inb_S4x512_S1x512_1_0
    have a2 := a 2 inb_S4x512_S1x512_2_0
    have a3 := a 3 inb_S4x512_S1x512_3_0
    refine (conv_rows _ _ _ _ _ _ n e ?_ ?_ ?_ ?_).trans ?_
    · rw [y]; exact (congrArg (fun t => Fin' (colX x0 e 4095 * t)) a0).mpr f0
    · rw [y]; exact (congrArg (fun t => Fin' (colX x0 e 0 * t)) a2).mpr f2
    · rw [y]; exact (congrArg (fun t => Fin' (colX x0 e 0 * t)) a3).mpr f3
    · rw [y]; exact (congrArg (fun t => Fin' (colX x0 e 1 * t)) a3).mpr f3'
    · rw [y]
      unfold bX
      rw [← a0, ← a1, ← a2, ← a3, ← b inb_S1x512_S1x512_0_0]
      rfl
  case hs0 =>
    intro e
    rw [pay2_apply, pay113_apply]
    exact sp_nonneg _
  case hs1 =>
    intro e
    rw [pay51_apply, pay113_apply]
    exact sp_nonneg _
  case hi0 =>
    exact (pay132_apply _ _).trans (ldF3 arg11 harg11 x9 0 _ _)
  case hi1 =>
    exact (pay133_apply _ _).trans (ldF3 arg11 harg11 x9 1 _ _)
  case hG =>
    intro n
    rw [View.read_writes_full]
    exact pay130_apply _ _

  refine congrFun (cB_b x0 x2 x3 x4 x5 x6 x7 x8 x9 g q _ _ _ _ _ _ _ _ _ _ _
      (fun g j q => by
      fin_cases g
      · exact ldW arg6 harg6 x4 1 0 j q _
      · exact ldW arg6 harg6 x4 1 1 j q _
      · exact ldW arg6 harg6 x4 1 2 j q _
      · exact ldW arg6 harg6 x4 1 3 j q _)
      (fun g j q => by
      fin_cases g
      · exact ldW arg8 harg8 x6 1 0 j q _
      · exact ldW arg8 harg8 x6 1 1 j q _
      · exact ldW arg8 harg8 x6 1 2 j q _
      · exact ldW arg8 harg8 x6 1 3 j q _)
      (fun e => ldR arg7 harg7 x5 1 e _) (fun e => ldR arg9 harg9 x7 1 e _)
      (by
        rw [pay51_apply, pay113_apply]
        exact congrArg (fun t => sp (-t)) (ldF2 arg10 harg10 x8 1 _ _))) 4096

set_option maxHeartbeats 1000000 in
theorem out10_eq (n : Fin 4096) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 (ix3 0 n ⟨128 * g.val + q.val, by omega⟩)
    = (bF x0 x2 x3 x4 x5 x6 x7 x8 x9 g q (n.val + 1) + bB x0 x2 x3 x4 x5 x6 x7 x8 x9 g q (4095 - n.val + 1)) * gel (x1 (ix3 0 n ⟨128 * g.val + q.val, by omega⟩)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  unfold kernelRun0_A
  dsimp only
  sl_unfold_words

  rw [View.canon_unit_zero zero3]
  refine (pay1_apply _ _ n _).trans ?_
  refine congrArg₂ (fun s t : EReal => s * gel t) ?_ (ldP arg3 harg3 x1 n _ _)
  unfold View.readCov
  rw [View.writes_append]
  refine (congrFun (View.readAt_full _ _ _) _).trans ?_
  refine (loop_acc _ _ _ _ _ _ _ _ _ _ _ _ _ _ _ _ _ _ _ _ _ _ _ _ _ _ _ _ _ _ _ _ _ _ _ _ _ _ _ _ _ _ _ _ _ _ _ _ _ _ _ _ g q (bX x0 x2 x3) _ _ _ _ (x9 (ix3 0 0 ⟨128 * g.val + q.val, by omega⟩)) (x9 (ix3 0 1 ⟨128 * g.val + q.val, by omega⟩)) _ _ ?hX ?hs0 ?hs1 rfl rfl rfl rfl ?hi0 ?hi1 ?hG _ (by decide) n).trans ?_
  case hX =>
    intro n e
    rw [View.read_writes_full]
    obtain ⟨f0, f2, f3, f3'⟩ := hfin e
    have a (r : Fin 4) (inb) := ldC arg4 harg4 x2 r e inb
    have b (inb) := ldB arg5 harg5 x3 e inb
    have y (inb) := ldX arg2 harg2 x0 e inb
    have a0 := a 0 inb_S4x512_S1x512_0_0
    have a1 := a 1 inb_S4x512_S1x512_1_0
    have a2 := a 2 inb_S4x512_S1x512_2_0
    have a3 := a 3 inb_S4x512_S1x512_3_0
    refine (conv_rows _ _ _ _ _ _ n e ?_ ?_ ?_ ?_).trans ?_
    · rw [y]; exact (congrArg (fun t => Fin' (colX x0 e 4095 * t)) a0).mpr f0
    · rw [y]; exact (congrArg (fun t => Fin' (colX x0 e 0 * t)) a2).mpr f2
    · rw [y]; exact (congrArg (fun t => Fin' (colX x0 e 0 * t)) a3).mpr f3
    · rw [y]; exact (congrArg (fun t => Fin' (colX x0 e 1 * t)) a3).mpr f3'
    · rw [y]
      unfold bX
      rw [← a0, ← a1, ← a2, ← a3, ← b inb_S1x512_S1x512_0_0]
      rfl
  case hs0 =>
    intro e
    rw [pay2_apply, pay113_apply]
    exact sp_nonneg _
  case hs1 =>
    intro e
    rw [pay51_apply, pay113_apply]
    exact sp_nonneg _
  case hi0 =>
    exact (pay132_apply _ _).trans (ldF3 arg11 harg11 x9 0 _ _)
  case hi1 =>
    exact (pay133_apply _ _).trans (ldF3 arg11 harg11 x9 1 _ _)
  case hG =>
    intro n
    rw [View.read_writes_full]
    exact pay130_apply _ _

  refine congrArg₂ (fun s t : EReal => s + t) (congrFun (cF_b x0 x2 x3 x4 x5 x6 x7 x8 x9 g q _ _ _ _ _ _ _ _ _ _ _
      (fun g j q => by
      fin_cases g
      · exact ldW arg6 harg6 x4 0 0 j q _
      · exact ldW arg6 harg6 x4 0 1 j q _
      · exact ldW arg6 harg6 x4 0 2 j q _
      · exact ldW arg6 harg6 x4 0 3 j q _)
      (fun g j q => by
      fin_cases g
      · exact ldW arg8 harg8 x6 0 0 j q _
      · exact ldW arg8 harg8 x6 0 1 j q _
      · exact ldW arg8 harg8 x6 0 2 j q _
      · exact ldW arg8 harg8 x6 0 3 j q _)
      (fun e => ldR arg7 harg7 x5 0 e _) (fun e => ldR arg9 harg9 x7 0 e _)
      (by
        rw [pay2_apply, pay113_apply]
        exact congrArg (fun t => sp (-t)) (ldF2 arg10 harg10 x8 0 _ _))) (n.val + 1))
    (congrFun (cB_b x0 x2 x3 x4 x5 x6 x7 x8 x9 g q _ _ _ _ _ _ _ _ _ _ _
      (fun g j q => by
      fin_cases g
      · exact ldW arg6 harg6 x4 1 0 j q _
      · exact ldW arg6 harg6 x4 1 1 j q _
      · exact ldW arg6 harg6 x4 1 2 j q _
      · exact ldW arg6 harg6 x4 1 3 j q _)
      (fun g j q => by
      fin_cases g
      · exact ldW arg8 harg8 x6 1 0 j q _
      · exact ldW arg8 harg8 x6 1 1 j q _
      · exact ldW arg8 harg8 x6 1 2 j q _
      · exact ldW arg8 harg8 x6 1 3 j q _)
      (fun e => ldR arg7 harg7 x5 1 e _) (fun e => ldR arg9 harg9 x7 1 e _)
      (by
        rw [pay51_apply, pay113_apply]
        exact congrArg (fun t => sp (-t)) (ldF2 arg10 harg10 x8 1 _ _))) (4095 - n.val + 1))

end out

end Cert.KernelIdeal.Gen
-- ==== Proof.Whole.lean ====
module

public import proofs.«01_k».proof.Proof.Out
public import proofs.«01_k».proof.Proof.Gen.KernelIdeal.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Lru

/-- A column of a half among all. -/
abbrev cc (h : Fin 2) (e : Fin 512) : Fin 1024 := ⟨512 * h.val + e.val, by omega⟩
/-- A column of a half among the projections'. -/
abbrev c7 (h : Fin 2) (e : Fin 512) : Fin 12288 := ⟨7168 + (512 * h.val + e.val), by omega⟩
/-- A group of a half among all. -/
abbrev cg (h : Fin 2) (g : Fin 4) : Fin 8 := ⟨4 * h.val + g.val, by omega⟩

section whole
variable (P : Fin 4 → Fin 4096 → Fin 12288 → EReal) (cw : Fin 4 → Fin 1024 → EReal) (cbias : Fin 1024 → EReal)
  (wa : Fin 2 → Fin 8 → Fin 128 → Fin 128 → EReal) (ba : Fin 2 → Fin 1024 → EReal)
  (wx : Fin 2 → Fin 8 → Fin 128 → Fin 128 → EReal) (bx lam : Fin 2 → Fin 1024 → EReal) (h0 : Fin 4 → Fin 2 → Fin 1024 → EReal)
  (b : Fin 4)

/-- The recurrence's input columns of the projections, at every row. -/
def gcol (C : Fin 1024) (n : ℕ) : EReal := if h : n < 4096 then P b ⟨n, h⟩ ⟨7168 + C.val, by omega⟩ else 0

/-- The convolved branch. -/
def gX (n : ℕ) (C : Fin 1024) : EReal := conv4 (gcol P b C) (cw 0 C) (cw 1 C) (cw 2 C) (cw 3 C) (cbias C) n

/-- A gate's pre-activation of direction `d`. -/
def gZ (w : Fin 2 → Fin 8 → Fin 128 → Fin 128 → EReal) (bb : Fin 2 → Fin 1024 → EReal) (d : Fin 2) (g : Fin 8) (q : Fin 128) (n : ℕ) : EReal :=
  (∑ j : Fin 128, gX P cw cbias b n ⟨128 * g.val + j.val, by omega⟩ * w d g j q) + bb d ⟨128 * g.val + q.val, by omega⟩

/-- The forward states of a column. -/
def gF (g : Fin 8) (q : Fin 128) : ℕ → EReal :=
  hF (gZ P cw cbias b wa ba 0 g q) (gZ P cw cbias b wx bx 0 g q) (fun n => gX P cw cbias b n ⟨128 * g.val + q.val, by omega⟩)
    (sp (-(lam 0 ⟨128 * g.val + q.val, by omega⟩))) (h0 b 0 ⟨128 * g.val + q.val, by omega⟩)

/-- The backward states of a column. -/
def gB (g : Fin 8) (q : Fin 128) : ℕ → EReal :=
  hB (gZ P cw cbias b wa ba 1 g q) (gZ P cw cbias b wx bx 1 g q) (fun n => gX P cw cbias b n ⟨128 * g.val + q.val, by omega⟩)
    (sp (-(lam 1 ⟨128 * g.val + q.val, by omega⟩))) (h0 b 1 ⟨128 * g.val + q.val, by omega⟩)

/-- The convolution's wrapped-round products are finite. -/
def gFin : Prop := ∀ b C, Fin' (gcol P b C 4095 * cw 0 C) ∧ Fin' (gcol P b C 0 * cw 2 C) ∧ Fin' (gcol P b C 0 * cw 3 C) ∧ Fin' (gcol P b C 1 * cw 3 C)

variable (x0 : Vec Ideal S1x4096x512 EltTy.bf16) (x2 : Vec Ideal S4x512 EltTy.f32) (x3 : Vec Ideal S1x512 EltTy.f32)
  (x4 : Vec Ideal S2x4x128x128 EltTy.bf16) (x5 : Vec Ideal S2x512 EltTy.f32) (x6 : Vec Ideal S2x4x128x128 EltTy.bf16)
  (x7 x8 : Vec Ideal S2x512 EltTy.f32) (x9 : Vec Ideal S1x2x512 EltTy.f32) (h : Fin 2)
  (e0 : ∀ n e, x0 (ix3 0 n e) = P b n (c7 h e))
  (e2 : ∀ r e, x2 (ix2 r e) = cw r (cc h e))
  (e3 : ∀ e, x3 (ix2 0 e) = cbias (cc h e))
  (e4 : ∀ d g j q, x4 (ix4 d g j q) = wa d (cg h g) j q)
  (e5 : ∀ d e, x5 (ix2 d e) = ba d (cc h e))
  (e6 : ∀ d g j q, x6 (ix4 d g j q) = wx d (cg h g) j q)
  (e7 : ∀ d e, x7 (ix2 d e) = bx d (cc h e))
  (e8 : ∀ d e, x8 (ix2 d e) = lam d (cc h e))
  (e9 : ∀ d e, x9 (ix3 0 d e) = h0 b d (cc h e))

theorem col_split (h : Fin 2) (g : Fin 4) (q : Fin 128) (p p') :
    cc h ⟨128 * g.val + q.val, p⟩ = ⟨128 * (cg h g).val + q.val, p'⟩ := Fin.ext (by simp only [cc, cg]; omega)

include e0 in
theorem colX_g (e : Fin 512) : colX x0 e = gcol P b (cc h e) := by
  funext n
  unfold colX gcol
  by_cases c : n < 4096
  · rw [dif_pos c, dif_pos c, e0]
  · rw [dif_neg c, dif_neg c]

include e0 e2 in
theorem bFin_g (hf : gFin P cw) : bFin x0 x2 := by
  intro e
  rw [colX_g P b x0 h e0, e2, e2, e2]
  exact hf b (cc h e)

include e0 e2 e3 in
theorem bX_g (n : ℕ) (e : Fin 512) : bX x0 x2 x3 n e = gX P cw cbias b n (cc h e) := by
  unfold bX gX
  rw [colX_g P b x0 h e0, e2, e2, e2, e2, e3]

include e0 e2 e3 in
theorem bZ_g (g : Fin 4) (q : Fin 128) (x : Vec Ideal S2x4x128x128 EltTy.bf16) (y : Vec Ideal S2x512 EltTy.f32)
    (w : Fin 2 → Fin 8 → Fin 128 → Fin 128 → EReal) (bb : Fin 2 → Fin 1024 → EReal)
    (ex : ∀ d g j q, x (ix4 d g j q) = w d (cg h g) j q)
    (ey : ∀ d e, y (ix2 d e) = bb d (cc h e)) (d : Fin 2) :
    bZ x0 x2 x3 g q x y d = gZ P cw cbias b w bb d (cg h g) q := by
  funext n
  unfold bZ gZ
  rw [ey, col_split h g q _ (by omega)]
  refine congrArg (fun t : EReal => t + _) (Finset.sum_congr rfl fun j _ => ?_)
  rw [bX_g P cw cbias b x0 x2 x3 h e0 e2 e3, ex, col_split h g j _ (by omega)]

include e0 e2 e3 e4 e5 e6 e7 e8 e9 in
theorem bF_g (g : Fin 4) (q : Fin 128) :
    bF x0 x2 x3 x4 x5 x6 x7 x8 x9 g q = gF P cw cbias wa ba wx bx lam h0 b (cg h g) q := by
  unfold bF gF
  rw [bZ_g P cw cbias b x0 x2 x3 h e0 e2 e3 g q x4 x5 wa ba e4 e5, bZ_g P cw cbias b x0 x2 x3 h e0 e2 e3 g q x6 x7 wx bx e6 e7, e8, e9,
    col_split h g q _ (by omega)]
  refine congrArg (fun t => hF _ _ t _ _) (funext fun n => ?_)
  rw [bX_g P cw cbias b x0 x2 x3 h e0 e2 e3, col_split h g q _ (by omega)]

include e0 e2 e3 e4 e5 e6 e7 e8 e9 in
theorem bB_g (g : Fin 4) (q : Fin 128) :
    bB x0 x2 x3 x4 x5 x6 x7 x8 x9 g q = gB P cw cbias wa ba wx bx lam h0 b (cg h g) q := by
  unfold bB gB
  rw [bZ_g P cw cbias b x0 x2 x3 h e0 e2 e3 g q x4 x5 wa ba e4 e5, bZ_g P cw cbias b x0 x2 x3 h e0 e2 e3 g q x6 x7 wx bx e6 e7, e8, e9,
    col_split h g q _ (by omega)]
  refine congrArg (fun t => hB _ _ t _ _) (funext fun n => ?_)
  rw [bX_g P cw cbias b x0 x2 x3 h e0 e2 e3, col_split h g q _ (by omega)]
end whole

variable (m : (ℓ : Loc nD τ sig) → Buf (Elt Ideal) ℓ)

theorem nGrid : cfg0.N = 8 := by decide

/-- A grid point's batch row. -/
def tb (t : Fin cfg0.N) : Fin 4 := ⟨t.val / 2, by have := lt_of_lt_of_eq t.isLt nGrid; omega⟩
/-- A grid point's column half. -/
def th (t : Fin cfg0.N) : Fin 2 := ⟨t.val % 2, by omega⟩

theorem idx_0 : ∀ t : Fin cfg0.N, win0_0.index t (0 : Fin 3) = t.val/2 ∧ win0_0.index t (1 : Fin 3) = 0 ∧ win0_0.index t (2 : Fin 3) = 14+t.val%2 :=
  (by decide +kernel : ∀ t : Fin grid0.N, _)
theorem idx_1 : ∀ t : Fin cfg0.N, win0_1.index t (0 : Fin 3) = t.val/2 ∧ win0_1.index t (1 : Fin 3) = 0 ∧ win0_1.index t (2 : Fin 3) = 16+t.val%2 :=
  (by decide +kernel : ∀ t : Fin grid0.N, _)
theorem idx_2 : ∀ t : Fin cfg0.N, win0_2.index t (0 : Fin 2) = 0 ∧ win0_2.index t (1 : Fin 2) = t.val%2 :=
  (by decide +kernel : ∀ t : Fin grid0.N, _)
theorem idx_3 : ∀ t : Fin cfg0.N, win0_3.index t (0 : Fin 2) = 0 ∧ win0_3.index t (1 : Fin 2) = t.val%2 :=
  (by decide +kernel : ∀ t : Fin grid0.N, _)
theorem idx_4 : ∀ t : Fin cfg0.N, win0_4.index t (0 : Fin 4) = 0 ∧ win0_4.index t (1 : Fin 4) = t.val%2 ∧ win0_4.index t (2 : Fin 4) = 0 ∧ win0_4.index t (3 : Fin 4) = 0 :=
  (by decide +kernel : ∀ t : Fin grid0.N, _)
theorem idx_5 : ∀ t : Fin cfg0.N, win0_5.index t (0 : Fin 2) = 0 ∧ win0_5.index t (1 : Fin 2) = t.val%2 :=
  (by decide +kernel : ∀ t : Fin grid0.N, _)
theorem idx_6 : ∀ t : Fin cfg0.N, win0_6.index t (0 : Fin 4) = 0 ∧ win0_6.index t (1 : Fin 4) = t.val%2 ∧ win0_6.index t (2 : Fin 4) = 0 ∧ win0_6.index t (3 : Fin 4) = 0 :=
  (by decide +kernel : ∀ t : Fin grid0.N, _)
theorem idx_7 : ∀ t : Fin cfg0.N, win0_7.index t (0 : Fin 2) = 0 ∧ win0_7.index t (1 : Fin 2) = t.val%2 :=
  (by decide +kernel : ∀ t : Fin grid0.N, _)
theorem idx_8 : ∀ t : Fin cfg0.N, win0_8.index t (0 : Fin 2) = 0 ∧ win0_8.index t (1 : Fin 2) = t.val%2 :=
  (by decide +kernel : ∀ t : Fin grid0.N, _)
theorem idx_9 : ∀ t : Fin cfg0.N, win0_9.index t (0 : Fin 3) = t.val/2 ∧ win0_9.index t (1 : Fin 3) = 0 ∧ win0_9.index t (2 : Fin 3) = t.val%2 :=
  (by decide +kernel : ∀ t : Fin grid0.N, _)
theorem idx_10 : ∀ t : Fin cfg0.N, win0_10.index t (0 : Fin 3) = t.val/2 ∧ win0_10.index t (1 : Fin 3) = 0 ∧ win0_10.index t (2 : Fin 3) = t.val%2 :=
  (by decide +kernel : ∀ t : Fin grid0.N, _)
theorem idx_11 : ∀ t : Fin cfg0.N, win0_11.index t (0 : Fin 3) = t.val/2 ∧ win0_11.index t (1 : Fin 3) = 0 ∧ win0_11.index t (2 : Fin 3) = t.val%2 :=
  (by decide +kernel : ∀ t : Fin grid0.N, _)

theorem V_v0 (c : Dev nD) : V m c main_v0 = (m ((c : Thread nD τ).loc main_arg3) : S2x8x128x128.Idx → EReal) := by
  show StableHlo.after hostOps0 _ (Proc.devRef .tc main_v0) = _
  after_results
  rfl
theorem V_v1 (c : Dev nD) : V m c main_v1 = (m ((c : Thread nD τ).loc main_arg5) : S2x8x128x128.Idx → EReal) := by
  show StableHlo.after hostOps0 _ (Proc.devRef .tc main_v1) = _
  after_results
  rfl
theorem squeeze1 (v : FVec Ideal S1024 .f32) (C : Fin 1024) (h) : shapeCast S1x1024 v h (ix2 0 C) = v (ix1 C) := by
  simp only [pointwise]
theorem V_v2' (c : Dev nD) : V m c main_v2 = (shapeCast S1x1024 (m ((c : Thread nD τ).loc main_arg2) : FVec Ideal S1024 .f32) shapeCasts_S1024_S1x1024 : S1x1024.Idx → EReal) := by
  show StableHlo.after hostOps0 _ (Proc.devRef .tc main_v2) = _
  after_results
  rfl
theorem V_v2 (c : Dev nD) (C : Fin 1024) : (V m c main_v2 : S1x1024.Idx → EReal) (ix2 0 C) = (m ((c : Thread nD τ).loc main_arg2) : S1024.Idx → EReal) (ix1 C) := by
  rw [V_v2']
  exact squeeze1 _ C _

theorem blk_0 (c : Dev nD) (t : Fin cfg0.N) (n : Fin 4096) (e : Fin 512) : (iblk m c 0 t : S1x4096x512.Idx → EReal) (ix3 0 n e) = (m ((c : Thread nD τ).loc main_arg0) : S4x4096x12288.Idx → EReal) (ix3 (tb t) n ⟨7168 + (512 * (th t).val + e.val), by omega⟩) := by
  obtain ⟨i0, i1, i2⟩ := idx_0 t
  refine Eq.trans ?_ (congrFun (V_main_arg0 m c) _)
  refine congrArg (V m c main_arg0 : S4x4096x12288.Idx → EReal) (a₁ := ((cfg0.win 0).blk t).view.emb (ix3 0 n e : S1x4096x512.Idx)) ?_
  funext a
  apply Fin.ext
  match a with
  | ⟨0, _⟩ => show win0_0.index t (0 : Fin 3) * 1 + 1 * 0 = t.val / 2; rw [i0] <;> omega
  | ⟨1, _⟩ => show win0_0.index t (1 : Fin 3) * 4096 + 1 * n.val = n.val; rw [i1] <;> omega
  | ⟨2, _⟩ => show win0_0.index t (2 : Fin 3) * 512 + 1 * e.val = 7168 + (512 * (t.val % 2) + e.val); rw [i2] <;> omega

theorem blk_1 (c : Dev nD) (t : Fin cfg0.N) (n : Fin 4096) (e : Fin 512) : (iblk m c 1 t : S1x4096x512.Idx → EReal) (ix3 0 n e) = (m ((c : Thread nD τ).loc main_arg0) : S4x4096x12288.Idx → EReal) (ix3 (tb t) n ⟨8192 + (512 * (th t).val + e.val), by omega⟩) := by
  obtain ⟨i0, i1, i2⟩ := idx_1 t
  refine Eq.trans ?_ (congrFun (V_main_arg0 m c) _)
  refine congrArg (V m c main_arg0 : S4x4096x12288.Idx → EReal) (a₁ := ((cfg0.win 1).blk t).view.emb (ix3 0 n e : S1x4096x512.Idx)) ?_
  funext a
  apply Fin.ext
  match a with
  | ⟨0, _⟩ => show win0_1.index t (0 : Fin 3) * 1 + 1 * 0 = t.val / 2; rw [i0] <;> omega
  | ⟨1, _⟩ => show win0_1.index t (1 : Fin 3) * 4096 + 1 * n.val = n.val; rw [i1] <;> omega
  | ⟨2, _⟩ => show win0_1.index t (2 : Fin 3) * 512 + 1 * e.val = 8192 + (512 * (t.val % 2) + e.val); rw [i2] <;> omega

theorem blk_2 (c : Dev nD) (t : Fin cfg0.N) (r : Fin 4) (e : Fin 512) : (iblk m c 2 t : S4x512.Idx → EReal) (ix2 r e) = (m ((c : Thread nD τ).loc main_arg1) : S4x1024.Idx → EReal) (ix2 r ⟨512 * (th t).val + e.val, by omega⟩) := by
  obtain ⟨i0, i1⟩ := idx_2 t
  refine Eq.trans ?_ (congrFun (V_main_arg1 m c) _)
  refine congrArg (V m c main_arg1 : S4x1024.Idx → EReal) (a₁ := ((cfg0.win 2).blk t).view.emb (ix2 r e : S4x512.Idx)) ?_
  funext a
  apply Fin.ext
  match a with
  | ⟨0, _⟩ => show win0_2.index t (0 : Fin 2) * 4 + 1 * r.val = r.val; rw [i0] <;> omega
  | ⟨1, _⟩ => show win0_2.index t (1 : Fin 2) * 512 + 1 * e.val = 512 * (t.val % 2) + e.val; rw [i1] <;> omega

theorem blk_3 (c : Dev nD) (t : Fin cfg0.N) (e : Fin 512) : (iblk m c 3 t : S1x512.Idx → EReal) (ix2 0 e) = (m ((c : Thread nD τ).loc main_arg2) : S1024.Idx → EReal) (ix1 ⟨512 * (th t).val + e.val, by omega⟩) := by
  obtain ⟨i0, i1⟩ := idx_3 t
  refine Eq.trans ?_ (V_v2 m c _)
  refine congrArg (V m c main_v2 : S1x1024.Idx → EReal) (a₁ := ((cfg0.win 3).blk t).view.emb (ix2 0 e : S1x512.Idx)) ?_
  funext a
  apply Fin.ext
  match a with
  | ⟨0, _⟩ => show win0_3.index t (0 : Fin 2) * 1 + 1 * 0 = 0; rw [i0] <;> omega
  | ⟨1, _⟩ => show win0_3.index t (1 : Fin 2) * 512 + 1 * e.val = 512 * (t.val % 2) + e.val; rw [i1] <;> omega

theorem blk_4 (c : Dev nD) (t : Fin cfg0.N) (d : Fin 2) (g : Fin 4) (j q : Fin 128) : (iblk m c 4 t : S2x4x128x128.Idx → EReal) (ix4 d g j q) = (m ((c : Thread nD τ).loc main_arg3) : S2x8x128x128.Idx → EReal) (ix4 d ⟨4 * (th t).val + g.val, by omega⟩ j q) := by
  obtain ⟨i0, i1, i2, i3⟩ := idx_4 t
  refine Eq.trans ?_ (congrFun (V_v0 m c) _)
  refine congrArg (V m c main_v0 : S2x8x128x128.Idx → EReal) (a₁ := ((cfg0.win 4).blk t).view.emb (ix4 d g j q : S2x4x128x128.Idx)) ?_
  funext a
  apply Fin.ext
  match a with
  | ⟨0, _⟩ => show win0_4.index t (0 : Fin 4) * 2 + 1 * d.val = d.val; rw [i0] <;> omega
  | ⟨1, _⟩ => show win0_4.index t (1 : Fin 4) * 4 + 1 * g.val = 4 * (t.val % 2) + g.val; rw [i1] <;> omega
  | ⟨2, _⟩ => show win0_4.index t (2 : Fin 4) * 128 + 1 * j.val = j.val; rw [i2] <;> omega
  | ⟨3, _⟩ => show win0_4.index t (3 : Fin 4) * 128 + 1 * q.val = q.val; rw [i3] <;> omega

theorem blk_5 (c : Dev nD) (t : Fin cfg0.N) (d : Fin 2) (e : Fin 512) : (iblk m c 5 t : S2x512.Idx → EReal) (ix2 d e) = (m ((c : Thread nD τ).loc main_arg4) : S2x1024.Idx → EReal) (ix2 d ⟨512 * (th t).val + e.val, by omega⟩) := by
  obtain ⟨i0, i1⟩ := idx_5 t
  refine Eq.trans ?_ (congrFun (V_main_arg4 m c) _)
  refine congrArg (V m c main_arg4 : S2x1024.Idx → EReal) (a₁ := ((cfg0.win 5).blk t).view.emb (ix2 d e : S2x512.Idx)) ?_
  funext a
  apply Fin.ext
  match a with
  | ⟨0, _⟩ => show win0_5.index t (0 : Fin 2) * 2 + 1 * d.val = d.val; rw [i0] <;> omega
  | ⟨1, _⟩ => show win0_5.index t (1 : Fin 2) * 512 + 1 * e.val = 512 * (t.val % 2) + e.val; rw [i1] <;> omega

theorem blk_6 (c : Dev nD) (t : Fin cfg0.N) (d : Fin 2) (g : Fin 4) (j q : Fin 128) : (iblk m c 6 t : S2x4x128x128.Idx → EReal) (ix4 d g j q) = (m ((c : Thread nD τ).loc main_arg5) : S2x8x128x128.Idx → EReal) (ix4 d ⟨4 * (th t).val + g.val, by omega⟩ j q) := by
  obtain ⟨i0, i1, i2, i3⟩ := idx_6 t
  refine Eq.trans ?_ (congrFun (V_v1 m c) _)
  refine congrArg (V m c main_v1 : S2x8x128x128.Idx → EReal) (a₁ := ((cfg0.win 6).blk t).view.emb (ix4 d g j q : S2x4x128x128.Idx)) ?_
  funext a
  apply Fin.ext
  match a with
  | ⟨0, _⟩ => show win0_6.index t (0 : Fin 4) * 2 + 1 * d.val = d.val; rw [i0] <;> omega
  | ⟨1, _⟩ => show win0_6.index t (1 : Fin 4) * 4 + 1 * g.val = 4 * (t.val % 2) + g.val; rw [i1] <;> omega
  | ⟨2, _⟩ => show win0_6.index t (2 : Fin 4) * 128 + 1 * j.val = j.val; rw [i2] <;> omega
  | ⟨3, _⟩ => show win0_6.index t (3 : Fin 4) * 128 + 1 * q.val = q.val; rw [i3] <;> omega

theorem blk_7 (c : Dev nD) (t : Fin cfg0.N) (d : Fin 2) (e : Fin 512) : (iblk m c 7 t : S2x512.Idx → EReal) (ix2 d e) = (m ((c : Thread nD τ).loc main_arg6) : S2x1024.Idx → EReal) (ix2 d ⟨512 * (th t).val + e.val, by omega⟩) := by
  obtain ⟨i0, i1⟩ := idx_7 t
  refine Eq.trans ?_ (congrFun (V_main_arg6 m c) _)
  refine congrArg (V m c main_arg6 : S2x1024.Idx → EReal) (a₁ := ((cfg0.win 7).blk t).view.emb (ix2 d e : S2x512.Idx)) ?_
  funext a
  apply Fin.ext
  match a with
  | ⟨0, _⟩ => show win0_7.index t (0 : Fin 2) * 2 + 1 * d.val = d.val; rw [i0] <;> omega
  | ⟨1, _⟩ => show win0_7.index t (1 : Fin 2) * 512 + 1 * e.val = 512 * (t.val % 2) + e.val; rw [i1] <;> omega

theorem blk_8 (c : Dev nD) (t : Fin cfg0.N) (d : Fin 2) (e : Fin 512) : (iblk m c 8 t : S2x512.Idx → EReal) (ix2 d e) = (m ((c : Thread nD τ).loc main_arg7) : S2x1024.Idx → EReal) (ix2 d ⟨512 * (th t).val + e.val, by omega⟩) := by
  obtain ⟨i0, i1⟩ := idx_8 t
  refine Eq.trans ?_ (congrFun (V_main_arg7 m c) _)
  refine congrArg (V m c main_arg7 : S2x1024.Idx → EReal) (a₁ := ((cfg0.win 8).blk t).view.emb (ix2 d e : S2x512.Idx)) ?_
  funext a
  apply Fin.ext
  match a with
  | ⟨0, _⟩ => show win0_8.index t (0 : Fin 2) * 2 + 1 * d.val = d.val; rw [i0] <;> omega
  | ⟨1, _⟩ => show win0_8.index t (1 : Fin 2) * 512 + 1 * e.val = 512 * (t.val % 2) + e.val; rw [i1] <;> omega

theorem blk_9 (c : Dev nD) (t : Fin cfg0.N) (d : Fin 2) (e : Fin 512) : (iblk m c 9 t : S1x2x512.Idx → EReal) (ix3 0 d e) = (m ((c : Thread nD τ).loc main_arg8) : S4x2x1024.Idx → EReal) (ix3 (tb t) d ⟨512 * (th t).val + e.val, by omega⟩) := by
  obtain ⟨i0, i1, i2⟩ := idx_9 t
  refine Eq.trans ?_ (congrFun (V_main_arg8 m c) _)
  refine congrArg (V m c main_arg8 : S4x2x1024.Idx → EReal) (a₁ := ((cfg0.win 9).blk t).view.emb (ix3 0 d e : S1x2x512.Idx)) ?_
  funext a
  apply Fin.ext
  match a with
  | ⟨0, _⟩ => show win0_9.index t (0 : Fin 3) * 1 + 1 * 0 = t.val / 2; rw [i0] <;> omega
  | ⟨1, _⟩ => show win0_9.index t (1 : Fin 3) * 2 + 1 * d.val = d.val; rw [i1] <;> omega
  | ⟨2, _⟩ => show win0_9.index t (2 : Fin 3) * 512 + 1 * e.val = 512 * (t.val % 2) + e.val; rw [i2] <;> omega

end Cert.KernelIdeal.Gen
-- ==== Proof.Final.lean ====
module

public import proofs.«01_k».proof.Proof.Whole

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

open Lru
variable (m : (ℓ : Loc nD τ sig) → Buf (Elt Ideal) ℓ) (c : Dev nD)

/-- The projections. -/
def aP (b : Fin 4) (n : Fin 4096) (e : Fin 12288) : EReal := (m ((c : Thread nD τ).loc main_arg0) : S4x4096x12288.Idx → EReal) (ix3 b n e)
/-- The convolution's taps. -/
def aCw (r : Fin 4) (e : Fin 1024) : EReal := (m ((c : Thread nD τ).loc main_arg1) : S4x1024.Idx → EReal) (ix2 r e)
/-- The convolution's offsets. -/
def aCb (e : Fin 1024) : EReal := (m ((c : Thread nD τ).loc main_arg2) : S1024.Idx → EReal) (ix1 e)
/-- The recurrence gate's matrices. -/
def aWa (d : Fin 2) (g : Fin 8) (j q : Fin 128) : EReal := (m ((c : Thread nD τ).loc main_arg3) : S2x8x128x128.Idx → EReal) (ix4 d g j q)
/-- The recurrence gate's offsets. -/
def aBa (d : Fin 2) (e : Fin 1024) : EReal := (m ((c : Thread nD τ).loc main_arg4) : S2x1024.Idx → EReal) (ix2 d e)
/-- The input gate's matrices. -/
def aWx (d : Fin 2) (g : Fin 8) (j q : Fin 128) : EReal := (m ((c : Thread nD τ).loc main_arg5) : S2x8x128x128.Idx → EReal) (ix4 d g j q)
/-- The input gate's offsets. -/
def aBx (d : Fin 2) (e : Fin 1024) : EReal := (m ((c : Thread nD τ).loc main_arg6) : S2x1024.Idx → EReal) (ix2 d e)
/-- The decay parameters. -/
def aLam (d : Fin 2) (e : Fin 1024) : EReal := (m ((c : Thread nD τ).loc main_arg7) : S2x1024.Idx → EReal) (ix2 d e)
/-- The states entered with. -/
def aH (b : Fin 4) (d : Fin 2) (e : Fin 1024) : EReal := (m ((c : Thread nD τ).loc main_arg8) : S4x2x1024.Idx → EReal) (ix3 b d e)

/-- The grid point of a batch row and a group of 128 columns. -/
def pt (b : Fin 4) (g : Fin 8) : Fin cfg0.N := ⟨2 * b.val + g.val / 4, by rw [nGrid]; omega⟩
/-- The group's place within its grid point. -/
def gm (g : Fin 8) : Fin 4 := ⟨g.val % 4, by omega⟩
theorem tb_pt (b : Fin 4) (g : Fin 8) : tb (pt b g) = b := Fin.ext (by simp only [tb, pt]; omega)
theorem th_pt (b : Fin 4) (g : Fin 8) : (⟨4 * (th (pt b g)).val + (gm g).val, by omega⟩ : Fin 8) = g := Fin.ext (by simp only [th, pt, gm]; omega)

theorem emb_10 (b : Fin 4) (n : Fin 4096) (g : Fin 8) (q : Fin 128) :
    ((cfg0.win 10).blk (pt b g)).view.emb (ix3 0 n ⟨128 * (gm g).val + q.val, by omega⟩ : S1x4096x512.Idx) = (ix3 b n ⟨128 * g.val + q.val, by omega⟩ : S4x4096x1024.Idx) := by
  obtain ⟨i0, i1, i2⟩ := idx_10 (pt b g)
  funext a
  apply Fin.ext
  match a with
  | ⟨0, _⟩ => show win0_10.index (pt b g) (0 : Fin 3) * 1 + 1 * 0 = b.val; rw [i0]; simp only [pt]; omega
  | ⟨1, _⟩ => show win0_10.index (pt b g) (1 : Fin 3) * 4096 + 1 * n.val = n.val; rw [i1]; omega
  | ⟨2, _⟩ => show win0_10.index (pt b g) (2 : Fin 3) * 512 + 1 * (128 * (gm g).val + q.val) = 128 * g.val + q.val; rw [i2]; simp only [pt, gm]; omega

theorem emb_11 (b : Fin 4) (d : Fin 2) (g : Fin 8) (q : Fin 128) :
    ((cfg0.win 11).blk (pt b g)).view.emb (ix3 0 d ⟨128 * (gm g).val + q.val, by omega⟩ : S1x2x512.Idx) = (ix3 b d ⟨128 * g.val + q.val, by omega⟩ : S4x2x1024.Idx) := by
  obtain ⟨i0, i1, i2⟩ := idx_11 (pt b g)
  funext a
  apply Fin.ext
  match a with
  | ⟨0, _⟩ => show win0_11.index (pt b g) (0 : Fin 3) * 1 + 1 * 0 = b.val; rw [i0]; simp only [pt]; omega
  | ⟨1, _⟩ => show win0_11.index (pt b g) (1 : Fin 3) * 2 + 1 * d.val = d.val; rw [i1]; omega
  | ⟨2, _⟩ => show win0_11.index (pt b g) (2 : Fin 3) * 512 + 1 * (128 * (gm g).val + q.val) = 128 * g.val + q.val; rw [i2]; simp only [pt, gm]; omega

variable (hf : gFin (aP m c) (aCw m c)) (b : Fin 4) (g : Fin 8) (q : Fin 128)

include hf in
theorem pt_fin (t : Fin cfg0.N) : bFin (iblk m c 0 t) (iblk m c 2 t) :=
  bFin_g (aP m c) (aCw m c) (tb t) (iblk m c 0 t) (iblk m c 2 t) (th t) (blk_0 m c t) (blk_2 m c t) hf

theorem pt_F (t : Fin cfg0.N) (g : Fin 4) (q : Fin 128) :
    bF (iblk m c 0 t) (iblk m c 2 t) (iblk m c 3 t) (iblk m c 4 t) (iblk m c 5 t) (iblk m c 6 t) (iblk m c 7 t) (iblk m c 8 t) (iblk m c 9 t) g q
      = gF (aP m c) (aCw m c) (aCb m c) (aWa m c) (aBa m c) (aWx m c) (aBx m c) (aLam m c) (aH m c) (tb t) ⟨4 * (th t).val + g.val, by omega⟩ q :=
  bF_g (aP m c) (aCw m c) (aCb m c) (aWa m c) (aBa m c) (aWx m c) (aBx m c) (aLam m c) (aH m c) (tb t) (iblk m c 0 t) (iblk m c 2 t) (iblk m c 3 t) (iblk m c 4 t) (iblk m c 5 t) (iblk m c 6 t) (iblk m c 7 t) (iblk m c 8 t) (iblk m c 9 t) (th t) (blk_0 m c t) (blk_2 m c t) (blk_3 m c t) (blk_4 m c t) (blk_5 m c t) (blk_6 m c t) (blk_7 m c t) (blk_8 m c t) (blk_9 m c t) g q

theorem pt_B (t : Fin cfg0.N) (g : Fin 4) (q : Fin 128) :
    bB (iblk m c 0 t) (iblk m c 2 t) (iblk m c 3 t) (iblk m c 4 t) (iblk m c 5 t) (iblk m c 6 t) (iblk m c 7 t) (iblk m c 8 t) (iblk m c 9 t) g q
      = gB (aP m c) (aCw m c) (aCb m c) (aWa m c) (aBa m c) (aWx m c) (aBx m c) (aLam m c) (aH m c) (tb t) ⟨4 * (th t).val + g.val, by omega⟩ q :=
  bB_g (aP m c) (aCw m c) (aCb m c) (aWa m c) (aBa m c) (aWx m c) (aBx m c) (aLam m c) (aH m c) (tb t) (iblk m c 0 t) (iblk m c 2 t) (iblk m c 3 t) (iblk m c 4 t) (iblk m c 5 t) (iblk m c 6 t) (iblk m c 7 t) (iblk m c 8 t) (iblk m c 9 t) (th t) (blk_0 m c t) (blk_2 m c t) (blk_3 m c t) (blk_4 m c t) (blk_5 m c t) (blk_6 m c t) (blk_7 m c t) (blk_8 m c t) (blk_9 m c t) g q

include hf in
/-- The last forward states. -/
theorem final11_0 : ((dats m 0 c).arrAt 11 cfg0.N : S4x2x1024.Idx → EReal) (ix3 b 0 ⟨128 * g.val + q.val, by omega⟩) = gF (aP m c) (aCw m c) (aCb m c) (aWa m c) (aBa m c) (aWx m c) (aBx m c) (aLam m c) (aH m c) b g q 4096 := by
  obtain ⟨t, ht⟩ : ∃ t, t = pt b g := ⟨_, rfl⟩
  have h := congrFun (Cert.KernelIdeal.Value.blocks11 m c t (flush0_11 t)) (ix3 0 0 ⟨128 * (gm g).val + q.val, by omega⟩ : S1x2x512.Idx)
  rw [Cert.KernelIdeal.Value.flushed11_A] at h
  have o := out11_fst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (pt_fin m c hf t) (gm g) q
  rw [pt_F m c t (gm g) q] at o
  have e := emb_11 b 0 g q
  rw [← ht] at e
  refine (congrArg ((dats m 0 c).arrAt 11 cfg0.N : S4x2x1024.Idx → EReal) e.symm).trans (Eq.trans h (o.trans ?_))
  subst ht
  rw [tb_pt, th_pt]

include hf in
/-- The last backward states. -/
theorem final11_1 : ((dats m 0 c).arrAt 11 cfg0.N : S4x2x1024.Idx → EReal) (ix3 b 1 ⟨128 * g.val + q.val, by omega⟩) = gB (aP m c) (aCw m c) (aCb m c) (aWa m c) (aBa m c) (aWx m c) (aBx m c) (aLam m c) (aH m c) b g q 4096 := by
  obtain ⟨t, ht⟩ : ∃ t, t = pt b g := ⟨_, rfl⟩
  have h := congrFun (Cert.KernelIdeal.Value.blocks11 m c t (flush0_11 t)) (ix3 0 1 ⟨128 * (gm g).val + q.val, by omega⟩ : S1x2x512.Idx)
  rw [Cert.KernelIdeal.Value.flushed11_A] at h
  have o := out11_snd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (pt_fin m c hf t) (gm g) q
  rw [pt_B m c t (gm g) q] at o
  have e := emb_11 b 1 g q
  rw [← ht] at e
  refine (congrArg ((dats m 0 c).arrAt 11 cfg0.N : S4x2x1024.Idx → EReal) e.symm).trans (Eq.trans h (o.trans ?_))
  subst ht
  rw [tb_pt, th_pt]

include hf in
/-- The layer's branch. -/
theorem final10 (n : Fin 4096) : ((dats m 0 c).arrAt 10 cfg0.N : S4x4096x1024.Idx → EReal) (ix3 b n ⟨128 * g.val + q.val, by omega⟩)
    = (gF (aP m c) (aCw m c) (aCb m c) (aWa m c) (aBa m c) (aWx m c) (aBx m c) (aLam m c) (aH m c) b g q (n.val + 1) + gB (aP m c) (aCw m c) (aCb m c) (aWa m c) (aBa m c) (aWx m c) (aBx m c) (aLam m c) (aH m c) b g q (4095 - n.val + 1)) * gel (aP m c b n ⟨8192 + (128 * g.val + q.val), by omega⟩) := by
  obtain ⟨t, ht⟩ : ∃ t, t = pt b g := ⟨_, rfl⟩
  have h := congrFun (Cert.KernelIdeal.Value.blocks10 m c t (flush0_10 t)) (ix3 0 n ⟨128 * (gm g).val + q.val, by omega⟩ : S1x4096x512.Idx)
  rw [Cert.KernelIdeal.Value.flushed10_A] at h
  have o := out10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (pt_fin m c hf t) (gm g) q n
  rw [pt_F m c t (gm g) q, pt_B m c t (gm g) q] at o
  have y := blk_1 m c t n ⟨128 * (gm g).val + q.val, by omega⟩
  have e := emb_10 b n g q
  rw [← ht] at e
  refine (congrArg ((dats m 0 c).arrAt 10 cfg0.N : S4x4096x1024.Idx → EReal) e.symm).trans (Eq.trans h (o.trans ?_))
  refine congrArg₂ (fun s u : EReal => s * gel u) ?_ (y.trans ?_)
  · subst ht
    rw [tb_pt, th_pt]
  · show aP m c (tb t) n _ = _
    subst ht
    rw [tb_pt]
    refine congrArg (aP m c b n) (Fin.ext ?_)
    simp only [th, pt, gm]
    omega

end Cert.KernelIdeal.Gen
-- ==== Proof.Edges.lean ====
module

public import proofs.«01_k».proof.Defs
public import proofs.«01_k».proof.Proof.Final

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Lru

/-- The precondition's side conditions. -/
theorem edgeFacts : Cert.Pre_finite_edges.Facts :=
  ⟨by decide, by decide, by decide, by decide, by decide, by decide, by decide, by decide, by decide⟩

theorem inf_bits : Ideal.ofBits .f32 0x7F800000#32 = ⊤ := by
  first | rfl | simp [Ideal.ofBits] | decide

/-- Less than infinity in absolute value: finite. -/
theorem fin_of_lt (x : EReal) (h : BitVec.ofBool (decide (max x (-x) < Ideal.ofBits .f32 0x7F800000#32)) = 1#1) : Fin' x := by
  rw [inf_bits] at h
  have h' : max x (-x) < ⊤ := by
    by_contra hn
    rw [decide_eq_false hn] at h
    exact absurd h (by decide)
  refine ⟨fun e => ?_, fun e => ?_⟩
  · rw [e] at h'; simp at h'
  · rw [e] at h'; simp at h'

/-- A product of finite numbers is finite. -/
theorem fin_mul {x y : EReal} (hx : Fin' x) (hy : Fin' y) : Fin' (x * y) := by
  obtain ⟨a, rfl⟩ : ∃ a : ℝ, x = a := ⟨x.toReal, (EReal.coe_toReal hx.1 hx.2).symm⟩
  obtain ⟨b, rfl⟩ : ∃ b : ℝ, y = b := ⟨y.toReal, (EReal.coe_toReal hy.1 hy.2).symm⟩
  rw [← EReal.coe_mul]
  exact ⟨EReal.coe_ne_top _, EReal.coe_ne_bot _⟩

variable (m : (ℓ : Loc nD τ sig) → Buf (Elt Ideal) ℓ) (c : Dev nD)

/-- The precondition makes the convolution's wrapped-round products finite. -/
theorem fin_edges (h : @Cert.Pre_KernelIdeal_finite_edges edgeFacts m) : gFin (aP m c) (aCw m c) := by
  obtain ⟨h1, h2, h3, h4⟩ := h c
  have e1 : ∀ (b : Fin 4) (r : Fin 2) (e : Fin 1024), Fin' (aP m c b ⟨r.val, by omega⟩ ⟨7168 + e.val, by omega⟩) := by
    intro b r e
    have q := congrFun h1 (ix3 b r e)
    unfold Cert.Pre_finite_edges.fn at q
    simp only [pointwise] at q
    simp at q
    exact fin_of_lt _ q
  have e2 : ∀ (b : Fin 4) (e : Fin 1024), Fin' (aP m c b 4095 ⟨7168 + e.val, by omega⟩) := by
    intro b e
    have q := congrFun h2 (ix3 b 0 e)
    unfold Cert.Pre_finite_edges.fn at q
    simp only [pointwise] at q
    simp at q
    exact fin_of_lt _ q
  have e3 : ∀ (e : Fin 1024), Fin' (aCw m c 0 e) := by
    intro e
    have q := congrFun h3 (ix2 0 e)
    unfold Cert.Pre_finite_edges.fn at q
    simp only [pointwise] at q
    simp at q
    exact fin_of_lt _ q
  have e4 : ∀ (r : Fin 2) (e : Fin 1024), Fin' (aCw m c ⟨2 + r.val, by omega⟩ e) := by
    intro r e
    have q := congrFun h4 (ix2 r e)
    unfold Cert.Pre_finite_edges.fn at q
    simp only [pointwise] at q
    simp at q
    exact fin_of_lt _ q
  intro b C
  have g0 : Fin' (gcol (aP m c) b C 0) := by
    unfold gcol; rw [dif_pos (by omega)]; exact e1 b 0 C
  have g1 : Fin' (gcol (aP m c) b C 1) := by
    unfold gcol; rw [dif_pos (by omega)]; exact e1 b 1 C
  have g2 : Fin' (gcol (aP m c) b C 4095) := by
    unfold gcol; rw [dif_pos (by omega)]; exact e2 b C
  exact ⟨fin_mul g2 (e3 C), fin_mul g0 (e4 0 C), fin_mul g0 (e4 1 C), fin_mul g1 (e4 1 C)⟩

end Cert.KernelIdeal.Gen
-- ==== Proof.RefLoop.lean ====
module

public import proofs.«01_k».proof.Proof.Gen.ReferenceIdeal.Run
public import proofs.«01_k».proof.Proof.Gate
public import Idealize.ShloMosaic.Lib.Pointwise
public import Idealize.ShloMosaic.Lib.DynamicIndex
public import Idealize.ShloMosaic.Lib.Routing.OpsSet

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.Routing (scatter_set_hit scatter_set_miss resultIdx?_eq_some)
open Idealize.SL Idealize.SL.RA Idealize.SL.BI

open Lru

/-- The decays, one row per position. -/
abbrev rA (V : Valuation τ sig (Elt Ideal)) : S4x4096x2x1024.Idx → EReal := V (Proc.devRef .tc main_v145_0)
/-- The inputs, one row per position. -/
abbrev rB (V : Valuation τ sig (Elt Ideal)) : S4x4096x2x1024.Idx → EReal := V (Proc.devRef .tc main_v145_1)
/-- The position. -/
abbrev rK (V : Valuation τ sig (Elt Ideal)) : S_.Idx → BitVec 32 := V (Proc.devRef .tc main_v145_3)
/-- The state. -/
abbrev rH (V : Valuation τ sig (Elt Ideal)) : S4x2x1024.Idx → EReal := V (Proc.devRef .tc main_v145_4)
/-- The states kept so far. -/
abbrev rO (V : Valuation τ sig (Elt Ideal)) : S4x4096x2x1024.Idx → EReal := V (Proc.devRef .tc main_v145_5)

variable (V : Valuation τ sig (Elt Ideal))

/-- The row cut at the position. -/
theorem row_at (x : S4x4096x2x1024.Idx → EReal) (w : S_.Idx → BitVec 32) (k : ℕ) (hk : k < 4096) (hw : w = fun _ => BitVec.ofNat 32 k)
    (b : Fin 4) (d : Fin 2) (e : Fin 1024) :
    (shapeCast S4x2x1024 (Host.dynamicSlice S4x1x2x1024 x (fun j => (((![select (cmpi .slt (constantI S_ 32 0#32) (constantI S_ 32 0#32)) (addi (constantI S_ 32 0#32) (constantI S_ 32 4#32)) (constantI S_ 32 0#32), select (cmpi .slt w (constantI S_ 32 0#32)) (addi w (constantI S_ 32 4096#32)) w, select (cmpi .slt (constantI S_ 32 0#32) (constantI S_ 32 0#32)) (addi (constantI S_ 32 0#32) (constantI S_ 32 2#32)) (constantI S_ 32 0#32), select (cmpi .slt (constantI S_ 32 0#32) (constantI S_ 32 0#32)) (addi (constantI S_ 32 0#32) (constantI S_ 32 1024#32)) (constantI S_ 32 0#32)] : Fin 4 → (⟨S_, .i32⟩ : BufTy).Contents (Elt Ideal))) j (Shape.Idx.first h_S_)).toInt) sliceFits_S4x4096x2x1024_S4x1x2x1024) shapeCasts_S4x1x2x1024_S4x2x1024) (ix3 b d e)
      = x (ix4 b ⟨k, hk⟩ d e) := by
  subst hw
  have hoff : S4x4096x2x1024.Slices ![0, k, 0, 0] S4x1x2x1024 := by
    refine ⟨rfl, fun a => ?_⟩
    fin_cases a
    · show 0 + 4 ≤ 4; omega
    · show k + 1 ≤ 4096; omega
    · show 0 + 2 ≤ 2; omega
    · show 0 + 1024 ≤ 1024; omega
  rw [Host.dynamicSlice_eq_extractStridedSlice S4x1x2x1024 x _ ![0, k, 0, 0] _ hoff]
  · simp only [pointwise]
    refine congrArg x (funext fun a => Fin.ext ?_)
    fin_cases a <;> simp
  · intro a
    fin_cases a
    · exact toInt_wrap_ofNat (s := S_) (d := constantI S_ 32 4#32) (i := Shape.Idx.first h_S_) 0 (by omega)
    · exact toInt_wrap_ofNat (s := S_) (d := constantI S_ 32 4096#32) (i := Shape.Idx.first h_S_) k (by omega)
    · exact toInt_wrap_ofNat (s := S_) (d := constantI S_ 32 2#32) (i := Shape.Idx.first h_S_) 0 (by omega)
    · exact toInt_wrap_ofNat (s := S_) (d := constantI S_ 32 1024#32) (i := Shape.Idx.first h_S_) 0 (by omega)

/-- One trip makes the next state. -/
theorem step_state (k : ℕ) (hk : k < 4096) (hw : rK V = fun _ => BitVec.ofNat 32 k) (b : Fin 4) (d : Fin 2) (e : Fin 1024) :
    (step_main_v145_4 V : S4x2x1024.Idx → EReal) (ix3 b d e) = rA V (ix4 b ⟨k, hk⟩ d e) * rH V (ix3 b d e) + rB V (ix4 b ⟨k, hk⟩ d e) := by
  have e1 := row_at (rA V) (rK V) k hk hw b d e
  have e2 := row_at (rB V) (rK V) k hk hw b d e
  rw [← e1, ← e2]
  rfl

theorem start_row (k : ℕ) (hk : k < 4096) (idx : IVec S1 32) (hidx : ∀ i, (idx i).toInt = (k : Int)) (u : S4x2x1024.Idx) :
    scatter_S4x4096x2x1024_S1_S4x2x1024_012_1_1_0.start u idx 1 = (k : Int) := by
  unfold ScatterDims.start
  rw [dif_pos (by decide)]
  exact hidx _

theorem lands_row (k : ℕ) (hk : k < 4096) (idx : IVec S1 32) (hidx : ∀ i, (idx i).toInt = (k : Int)) (u : S4x2x1024.Idx)
    (b : Fin 4) (n : Fin 4096) (d : Fin 2) (e : Fin 1024) :
    scatter_S4x4096x2x1024_S1_S4x2x1024_012_1_1_0.resultIdx? u idx = some (ix4 b n d e) ↔ (n.val = k ∧ u = ix3 b d e) := by
  have s0 : scatter_S4x4096x2x1024_S1_S4x2x1024_012_1_1_0.start u idx 0 = 0 := by
    unfold ScatterDims.start; rw [dif_neg (by decide)]
  have s2 : scatter_S4x4096x2x1024_S1_S4x2x1024_012_1_1_0.start u idx 2 = 0 := by
    unfold ScatterDims.start; rw [dif_neg (by decide)]
  have s3 : scatter_S4x4096x2x1024_S1_S4x2x1024_012_1_1_0.start u idx 3 = 0 := by
    unfold ScatterDims.start; rw [dif_neg (by decide)]
  have s1 := start_row k hk idx hidx u
  have w0 : scatter_S4x4096x2x1024_S1_S4x2x1024_012_1_1_0.window u 0 = (u 0).val := by
    unfold ScatterDims.window; rw [dif_pos (by decide)]; rfl
  have w1 : scatter_S4x4096x2x1024_S1_S4x2x1024_012_1_1_0.window u 1 = 0 := by
    unfold ScatterDims.window; rw [dif_neg (by decide)]
  have w2 : scatter_S4x4096x2x1024_S1_S4x2x1024_012_1_1_0.window u 2 = (u 1).val := by
    unfold ScatterDims.window; rw [dif_pos (by decide)]; rfl
  have w3 : scatter_S4x4096x2x1024_S1_S4x2x1024_012_1_1_0.window u 3 = (u 2).val := by
    unfold ScatterDims.window; rw [dif_pos (by decide)]; rfl
  rw [resultIdx?_eq_some]
  constructor
  · intro h
    have h0 := h 0; have h1 := h 1; have h2 := h 2; have h3 := h 3
    rw [s0, w0] at h0; rw [s1, w1] at h1; rw [s2, w2] at h2; rw [s3, w3] at h3
    have g0 : ((ix4 b n d e : S4x4096x2x1024.Idx) 0).val = b.val := rfl
    have g1 : ((ix4 b n d e : S4x4096x2x1024.Idx) 1).val = n.val := rfl
    have g2 : ((ix4 b n d e : S4x4096x2x1024.Idx) 2).val = d.val := rfl
    have g3 : ((ix4 b n d e : S4x4096x2x1024.Idx) 3).val = e.val := rfl
    rw [g0] at h0; rw [g1] at h1; rw [g2] at h2; rw [g3] at h3
    refine ⟨by omega, funext fun a => Fin.ext ?_⟩
    fin_cases a
    · show (u 0).val = b.val; omega
    · show (u 1).val = d.val; omega
    · show (u 2).val = e.val; omega
  · rintro ⟨rfl, rfl⟩ a
    fin_cases a
    · show _ + ((scatter_S4x4096x2x1024_S1_S4x2x1024_012_1_1_0.window _ 0 : ℕ) : Int) = (b.val : Int)
      rw [w0]; show scatter_S4x4096x2x1024_S1_S4x2x1024_012_1_1_0.start _ idx 0 + (b.val : Int) = _; rw [s0]; omega
    · show _ + ((scatter_S4x4096x2x1024_S1_S4x2x1024_012_1_1_0.window _ 1 : ℕ) : Int) = (n.val : Int)
      rw [w1]; show scatter_S4x4096x2x1024_S1_S4x2x1024_012_1_1_0.start _ idx 1 + _ = _; rw [s1]; omega
    · show _ + ((scatter_S4x4096x2x1024_S1_S4x2x1024_012_1_1_0.window _ 2 : ℕ) : Int) = (d.val : Int)
      rw [w2]; show scatter_S4x4096x2x1024_S1_S4x2x1024_012_1_1_0.start _ idx 2 + (d.val : Int) = _; rw [s2]; omega
    · show _ + ((scatter_S4x4096x2x1024_S1_S4x2x1024_012_1_1_0.window _ 3 : ℕ) : Int) = (e.val : Int)
      rw [w3]; show scatter_S4x4096x2x1024_S1_S4x2x1024_012_1_1_0.start _ idx 3 + (e.val : Int) = _; rw [s3]; omega

/-- A row written at the position. -/
theorem row_set (x : S4x4096x2x1024.Idx → EReal) (u : S4x2x1024.Idx → EReal) (k : ℕ) (hk : k < 4096) (idx : IVec S1 32)
    (hidx : ∀ i, (idx i).toInt = (k : Int)) (b : Fin 4) (n : Fin 4096) (d : Fin 2) (e : Fin 1024) :
    Host.scatter scatter_S4x4096x2x1024_S1_S4x2x1024_012_1_1_0 (fun _ b => b) x idx u (ix4 b n d e)
      = if n.val = k then u (ix3 b d e) else x (ix4 b n d e) := by
  by_cases h : n.val = k
  · rw [if_pos h]
    refine scatter_set_hit _ _ _ _ _ _ (fun v hv => ?_) (ix3 b d e) ((lands_row k hk idx hidx _ b n d e).2 ⟨h, rfl⟩)
    rw [((lands_row k hk idx hidx _ b n d e).1 hv).2]
  · rw [if_neg h]
    exact scatter_set_miss _ _ _ _ _ fun v hv => h ((lands_row k hk idx hidx _ b n d e).1 hv).1

theorem pos_word (w : S_.Idx → BitVec 32) (k : ℕ) (hk : k < 4096) (hw : w = fun _ => BitVec.ofNat 32 k) (i : S1.Idx) :
    ((broadcastInDim S1 ![] bcast_S_S1 (id (select (cmpi .slt w (constantI S_ 32 0#32)) (addi w (constantI S_ 32 4096#32)) w)) : IVec S1 32) i).toInt = (k : Int) := by
  subst hw
  exact toInt_wrap_ofNat (s := S_) (d := constantI S_ 32 4096#32) k (by omega)

/-- One trip keeps the new state in its row. -/
theorem step_rows (k : ℕ) (hk : k < 4096) (hw : rK V = fun _ => BitVec.ofNat 32 k) (b : Fin 4) (n : Fin 4096) (d : Fin 2) (e : Fin 1024) :
    (step_main_v145_5 V : S4x4096x2x1024.Idx → EReal) (ix4 b n d e)
      = if n.val = k then (step_main_v145_4 V : S4x2x1024.Idx → EReal) (ix3 b d e) else rO V (ix4 b n d e) := by
  unfold step_main_v145_5 step_main_v145_4
  have h := row_set (rO V) (res_main_while0b_v201 V) k hk _ (pos_word (rK V) k hk hw) b n d e
  simp only [id_eq] at h ⊢
  exact h

/-- A column of the decays at every row number. -/
def colA (b : Fin 4) (d : Fin 2) (e : Fin 1024) (n : ℕ) : EReal := if h : n < 4096 then rA V (ix4 b ⟨n, h⟩ d e) else 0
/-- A column of the inputs at every row number. -/
def colB (b : Fin 4) (d : Fin 2) (e : Fin 1024) (n : ℕ) : EReal := if h : n < 4096 then rB V (ix4 b ⟨n, h⟩ d e) else 0

/-- What the carried buffers hold after a number of trips. -/
theorem trips (h0 : rK V = fun _ => 0#32) (k : ℕ) (hk : k ≤ 4096) :
    rK ((STEP (F := Ideal))^[k] V) = (fun _ => BitVec.ofNat 32 k) ∧ rA ((STEP (F := Ideal))^[k] V) = rA V ∧ rB ((STEP (F := Ideal))^[k] V) = rB V
      ∧ (∀ b d e, rH ((STEP (F := Ideal))^[k] V) (ix3 b d e) = Lru.scan (colA V b d e) (colB V b d e) (rH V (ix3 b d e)) k)
      ∧ (∀ b n d e, n.val < k → rO ((STEP (F := Ideal))^[k] V) (ix4 b n d e) = Lru.scan (colA V b d e) (colB V b d e) (rH V (ix3 b d e)) (n.val + 1)) := by
  induction k with
  | zero => exact ⟨h0, rfl, rfl, fun _ _ _ => rfl, fun _ _ _ _ h => absurd h (by omega)⟩
  | succ k ih =>
    obtain ⟨i1, i2, i3, i4, i5⟩ := ih (by omega)
    have hk' : k < 4096 := by omega
    have hst : ∀ b d e, (step_main_v145_4 ((STEP (F := Ideal))^[k] V) : S4x2x1024.Idx → EReal) (ix3 b d e)
        = Lru.scan (colA V b d e) (colB V b d e) (rH V (ix3 b d e)) (k + 1) := by
      intro b d e
      rw [step_state _ k hk' i1, i2, i3, i4]
      show _ = colA V b d e k * _ + colB V b d e k
      unfold colA colB
      rw [dif_pos hk', dif_pos hk']
    rw [Function.iterate_succ_apply']
    refine ⟨?_, ?_, ?_, ?_, ?_⟩
    · refine (STEP_main_v145_3 _).trans (funext fun i => ?_)
      show rK ((STEP (F := Ideal))^[k] V) i + 1#32 = _
      rw [i1]
      exact (BitVec.ofNat_add k 1).symm
    · exact (STEP_main_v145_0 _).trans i2
    · exact (STEP_main_v145_1 _).trans i3
    · intro b d e
      exact (congrFun (STEP_main_v145_4 _) _).trans (hst b d e)
    · intro b n d e hn
      refine (congrFun (STEP_main_v145_5 _) _).trans ((step_rows _ k hk' i1 b n d e).trans ?_)
      by_cases h : n.val = k
      · rw [if_pos h, hst, h]
      · rw [if_neg h]; exact i5 b n d e (by omega)

end Cert.ReferenceIdeal.Value
-- ==== Proof.RefOps.lean ====
module

public import proofs.«01_k».proof.Proof.RefLoop
public import proofs.«01_k».proof.Proof.Whole

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.Routing (scatter_set_hit scatter_set_miss resultIdx?_eq_some)
open Idealize.SL Idealize.SL.RA Idealize.SL.BI

open Lru

/-- A constant for every entry of the sequence. -/
def rCst (w : BitVec 32) : FVec Ideal S4x4096x1024 .f32 := broadcastInDim S4x4096x1024 ![] bcast_S_S4x4096x1024 (constant S_ .f32 w)
/-- One number per channel, for every entry of the sequence. -/
def rRow (v : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 v)
/-- The sequence with a row of zeros before it and two after. -/
def rPad (p : FVec Ideal S4x4096x12288 .bf16) : FVec Ideal S4x4099x1024 .f32 :=
  pad S4x4099x1024 ![0, 1, 0] ![0, 2, 0] ![0, 0, 0] (extf .f32 (extractStridedSlice S4x4096x1024 ![0, 0, 7168] p slices_S4x4096x12288_S4x4096x1024_0_0_7168) bitsLt_bf16_f32)
    (sitofp .f32 (constantI S_ 32 0#32)) pads_S4x4096x1024_S4x4099x1024_000_120_000 h_S_
/-- Tap 0 of the convolution on the padded sequence. -/
def rTap0 (x : FVec Ideal S4x4099x1024 .f32) (w : FVec Ideal S4x1024 .f32) : FVec Ideal S4x4096x1024 .f32 :=
  mulf (extractStridedSlice S4x4096x1024 ![0, 0, 0] x slices_S4x4099x1024_S4x4096x1024_0_0_0)
    (rRow (shapeCast S1024 (extractStridedSlice S1x1024 ![0, 0] w slices_S4x1024_S1x1024_0_0) shapeCasts_S1x1024_S1024))
/-- Tap 1 of the convolution on the padded sequence. -/
def rTap1 (x : FVec Ideal S4x4099x1024 .f32) (w : FVec Ideal S4x1024 .f32) : FVec Ideal S4x4096x1024 .f32 :=
  mulf (extractStridedSlice S4x4096x1024 ![0, 1, 0] x slices_S4x4099x1024_S4x4096x1024_0_1_0)
    (rRow (shapeCast S1024 (extractStridedSlice S1x1024 ![1, 0] w slices_S4x1024_S1x1024_1_0) shapeCasts_S1x1024_S1024))
/-- Tap 2 of the convolution on the padded sequence. -/
def rTap2 (x : FVec Ideal S4x4099x1024 .f32) (w : FVec Ideal S4x1024 .f32) : FVec Ideal S4x4096x1024 .f32 :=
  mulf (extractStridedSlice S4x4096x1024 ![0, 2, 0] x slices_S4x4099x1024_S4x4096x1024_0_2_0)
    (rRow (shapeCast S1024 (extractStridedSlice S1x1024 ![2, 0] w slices_S4x1024_S1x1024_2_0) shapeCasts_S1x1024_S1024))
/-- Tap 3 of the convolution on the padded sequence. -/
def rTap3 (x : FVec Ideal S4x4099x1024 .f32) (w : FVec Ideal S4x1024 .f32) : FVec Ideal S4x4096x1024 .f32 :=
  mulf (extractStridedSlice S4x4096x1024 ![0, 3, 0] x slices_S4x4099x1024_S4x4096x1024_0_3_0)
    (rRow (shapeCast S1024 (extractStridedSlice S1x1024 ![3, 0] w slices_S4x1024_S1x1024_3_0) shapeCasts_S1x1024_S1024))
/-- The convolution. -/
def rConv (x : FVec Ideal S4x4099x1024 .f32) (w : FVec Ideal S4x1024 .f32) (cb : FVec Ideal S1024 .f32) : FVec Ideal S4x4096x1024 .f32 :=
  addf (addf (addf (addf (addf (rCst 0x00000000#32) (rTap0 x w)) (rTap1 x w)) (rTap2 x w)) (rTap3 x w)) (rRow cb)
/-- The block-diagonal map. -/
def rLin (x : FVec Ideal S4x4096x1024 .f32) (w : FVec Ideal S8x128x128 .f32) (bb : FVec Ideal S1024 .f32) : FVec Ideal S4x4096x1024 .f32 :=
  addf (shapeCast S4x4096x1024 (transpose S4x4096x8x128 [2, 3, 0, 1] (Host.dotGeneral dot_S8x128x128_S4x4096x8x128_S8x128x4x4096_1_3_2_01_0_2 none w
    (shapeCast S4x4096x8x128 x shapeCasts_S4x4096x1024_S4x4096x8x128)) transposes_S8x128x4x4096_S4x4096x8x128_2_3_0_1) shapeCasts_S4x4096x8x128_S4x4096x1024) (rRow bb)
/-- The logistic. -/
def rSig (z : FVec Ideal S4x4096x1024 .f32) : FVec Ideal S4x4096x1024 .f32 :=
  Host.divf (rCst 0x3F800000#32) (addf (rCst 0x3F800000#32) (Host.exp (Host.negf z)))
/-- Zero for every channel. -/
def rZ : FVec Ideal S1024 .f32 := broadcastInDim S1024 ![] bcast_S_S1024 (constant S_ .f32 0x00000000#32)
/-- The softplus. -/
def rSp (x : FVec Ideal S1024 .f32) : FVec Ideal S1024 .f32 :=
  select (cmpf .une (subf x rZ) (subf x rZ)) (addf x rZ) (addf (maximumf x rZ) (Host.log1p (Host.exp (Host.negf (Host.absf (subf x rZ))))))
/-- The scaled input. -/
def rIn (l i x : FVec Ideal S4x4096x1024 .f32) : FVec Ideal S4x4096x1024 .f32 :=
  mulf (Host.sqrt (Host.negf (Host.expm1 (mulf (rCst 0x40000000#32) l)))) (mulf i x)
/-- Direction 0's matrices. -/
def rMat0 (w : FVec Ideal S2x8x128x128 .f32) : FVec Ideal S8x128x128 .f32 :=
  shapeCast S8x128x128 (extractStridedSlice S1x8x128x128 ![0, 0, 0, 0] w slices_S2x8x128x128_S1x8x128x128_0_0_0_0) shapeCasts_S1x8x128x128_S8x128x128
/-- Direction 0's numbers. -/
def rVec0 (w : FVec Ideal S2x1024 .f32) : FVec Ideal S1024 .f32 :=
  shapeCast S1024 (extractStridedSlice S1x1024 ![0, 0] w slices_S2x1024_S1x1024_0_0) shapeCasts_S1x1024_S1024
/-- Direction 1's matrices. -/
def rMat1 (w : FVec Ideal S2x8x128x128 .f32) : FVec Ideal S8x128x128 .f32 :=
  shapeCast S8x128x128 (extractStridedSlice S1x8x128x128 ![1, 0, 0, 0] w slices_S2x8x128x128_S1x8x128x128_1_0_0_0) shapeCasts_S1x8x128x128_S8x128x128
/-- Direction 1's numbers. -/
def rVec1 (w : FVec Ideal S2x1024 .f32) : FVec Ideal S1024 .f32 :=
  shapeCast S1024 (extractStridedSlice S1x1024 ![1, 0] w slices_S2x1024_S1x1024_1_0) shapeCasts_S1x1024_S1024
/-- Two sequences, one per direction. -/
def rTwo (x y : FVec Ideal S4x4096x1024 .f32) : FVec Ideal S4x4096x2x1024 .f32 :=
  concatenate S4x4096x2x1024 2 [⟨S4x4096x1x1024, broadcastInDim S4x4096x1x1024 ![0, 1, 3] bcast_S4x4096x1024_S4x4096x1x1024_0_1_3 x⟩,
    ⟨S4x4096x1x1024, broadcastInDim S4x4096x1x1024 ![0, 1, 3] bcast_S4x4096x1024_S4x4096x1x1024_0_1_3 y⟩] concatenates_S4x4096x1x1024_S4x4096x1x1024_S4x4096x2x1024_d2

/-! ## The same read at an entry -/

theorem rCst_at (w : BitVec 32) (i : S4x4096x1024.Idx) : rCst w i = Ideal.ofBits .f32 w := rfl

theorem rRow_at (v : FVec Ideal S1024 .f32) (b : Fin 4) (n : Fin 4096) (e : Fin 1024) : rRow v (ix3 b n e) = v (ix1 e) := by
  unfold rRow; simp only [pointwise]; simp

theorem rPad_at (p : FVec Ideal S4x4096x12288 .bf16) (b : Fin 4) (r : Fin 4099) (e : Fin 1024) :
    rPad p (ix3 b r e) = if h : 1 ≤ r.val ∧ r.val < 4097 then p (ix3 b ⟨r.val - 1, by omega⟩ ⟨7168 + e.val, by omega⟩) else 0 := by
  unfold rPad
  simp only [pointwise]
  simp
  have hz : (FloatOps.sitofp FTy.f32 0#32 : Ideal .f32) = (0 : EReal) := by
    show (((0#32 : BitVec 32).toInt : ℝ) : EReal) = 0
    simp
  by_cases h : 1 ≤ r.val ∧ r.val < 4097
  · rw [dif_pos h, dif_pos]
    intro a
    fin_cases a
    · show 0 ≤ b.val ∧ (b.val - 0) % 1 = 0 ∧ (b.val - 0) / 1 < 4; omega
    · show 1 ≤ r.val ∧ (r.val - 1) % 1 = 0 ∧ (r.val - 1) / 1 < 4096; omega
    · show 0 ≤ e.val ∧ (e.val - 0) % 1 = 0 ∧ (e.val - 0) / 1 < 1024; omega
  · rw [dif_neg h, dif_neg, hz]
    intro ha
    have h1 : 1 ≤ r.val ∧ (r.val - 1) % 1 = 0 ∧ (r.val - 1) / 1 < 4096 := ha 1
    omega

theorem rLin_at (x : FVec Ideal S4x4096x1024 .f32) (w : FVec Ideal S8x128x128 .f32) (bb : FVec Ideal S1024 .f32)
    (b : Fin 4) (n : Fin 4096) (g : Fin 8) (q : Fin 128) :
    rLin x w bb (ix3 b n ⟨128 * g.val + q.val, by omega⟩)
      = (∑ j : Fin 128, x (ix3 b n ⟨128 * g.val + j.val, by omega⟩) * w (ix3 g j q)) + bb (ix1 ⟨128 * g.val + q.val, by omega⟩) := by
  unfold rLin
  simp only [pointwise, rRow_at]
  simp
  congr 1
  refine Finset.sum_congr rfl fun j _ => ?_
  rw [mul_comm]
  congr 3
  exact Fin.ext (by show g.val * 128 + j.val = 128 * g.val + j.val; omega)

theorem rSig_at (z : FVec Ideal S4x4096x1024 .f32) (i : S4x4096x1024.Idx) : rSig z i = gate (z i) := by
  show Ideal.div (rCst 0x3F800000#32 i) (rCst 0x3F800000#32 i + Ideal.exp (-(z i))) = _
  rw [rCst_at, Ideal.ofBits_one_f32]; rfl

theorem rZ_at (i : S1024.Idx) : rZ i = 0 := Ideal.ofBits_zero_f32

theorem rSp_at (x : FVec Ideal S1024 .f32) (i : S1024.Idx) : rSp x i = sp (x i) := by
  unfold rSp
  simp only [pointwise, rZ_at]
  simp
  rfl

/-- One less, negated. -/
theorem neg_sub_one (y : EReal) : -(y - 1) = 1 - y := by
  induction y with
  | bot => rfl
  | top => rfl
  | coe r =>
    rw [← EReal.coe_one, ← EReal.coe_sub, ← EReal.coe_neg, ← EReal.coe_sub]
    congr 1; ring

theorem rIn_at (l ii x : FVec Ideal S4x4096x1024 .f32) (i : S4x4096x1024.Idx) :
    rIn l ii x i = Ideal.sqrt (1 - Ideal.exp (Ideal.ofBits .f32 0x40000000#32 * l i)) * (ii i * x i) := by
  show Ideal.sqrt (-(Ideal.exp (rCst 0x40000000#32 i * l i) - 1)) * (ii i * x i) = _
  rw [rCst_at, neg_sub_one]

theorem rTap0_at (x : FVec Ideal S4x4099x1024 .f32) (w : FVec Ideal S4x1024 .f32) (b : Fin 4) (n : Fin 4096) (e : Fin 1024) :
    rTap0 x w (ix3 b n e) = x (ix3 b ⟨n.val + 0, by omega⟩ e) * w (ix2 0 e) := by
  unfold rTap0
  simp only [pointwise, rRow_at]
  simp

theorem rTap1_at (x : FVec Ideal S4x4099x1024 .f32) (w : FVec Ideal S4x1024 .f32) (b : Fin 4) (n : Fin 4096) (e : Fin 1024) :
    rTap1 x w (ix3 b n e) = x (ix3 b ⟨n.val + 1, by omega⟩ e) * w (ix2 1 e) := by
  unfold rTap1
  simp only [pointwise, rRow_at]
  simp [Nat.add_comm]

theorem rTap2_at (x : FVec Ideal S4x4099x1024 .f32) (w : FVec Ideal S4x1024 .f32) (b : Fin 4) (n : Fin 4096) (e : Fin 1024) :
    rTap2 x w (ix3 b n e) = x (ix3 b ⟨n.val + 2, by omega⟩ e) * w (ix2 2 e) := by
  unfold rTap2
  simp only [pointwise, rRow_at]
  simp [Nat.add_comm]

theorem rTap3_at (x : FVec Ideal S4x4099x1024 .f32) (w : FVec Ideal S4x1024 .f32) (b : Fin 4) (n : Fin 4096) (e : Fin 1024) :
    rTap3 x w (ix3 b n e) = x (ix3 b ⟨n.val + 3, by omega⟩ e) * w (ix2 3 e) := by
  unfold rTap3
  simp only [pointwise, rRow_at]
  simp [Nat.add_comm]

theorem rMat0_at (w : FVec Ideal S2x8x128x128 .f32) (g : Fin 8) (j q : Fin 128) : rMat0 w (ix3 g j q) = w (ix4 0 g j q) := by
  unfold rMat0
  simp only [pointwise]
  simp

theorem rVec0_at (w : FVec Ideal S2x1024 .f32) (e : Fin 1024) : rVec0 w (ix1 e) = w (ix2 0 e) := by
  unfold rVec0
  simp only [pointwise]
  simp

theorem rMat1_at (w : FVec Ideal S2x8x128x128 .f32) (g : Fin 8) (j q : Fin 128) : rMat1 w (ix3 g j q) = w (ix4 1 g j q) := by
  unfold rMat1
  simp only [pointwise]
  simp

theorem rVec1_at (w : FVec Ideal S2x1024 .f32) (e : Fin 1024) : rVec1 w (ix1 e) = w (ix2 1 e) := by
  unfold rVec1
  simp only [pointwise]
  simp

theorem rOne_at (x : FVec Ideal S4x4096x1024 .f32) (b : Fin 4) (n : Fin 4096) (z : Fin 1) (e : Fin 1024) :
    broadcastInDim S4x4096x1x1024 ![0, 1, 3] bcast_S4x4096x1024_S4x4096x1x1024_0_1_3 x (ix4 b n z e) = x (ix3 b n e) := by
  simp only [pointwise]
  simp

theorem rTwo_at0 (x y : FVec Ideal S4x4096x1024 .f32) (b : Fin 4) (n : Fin 4096) (e : Fin 1024) : rTwo x y (ix4 b n 0 e) = x (ix3 b n e) := by
  unfold rTwo
  rw [concatenate_pair_apply_left (t := S4x4096x2x1024) (s₁ := S4x4096x1x1024) (s₂ := S4x4096x1x1024) 2 _ _ _ (ix4 b n 0 e) rfl (ix4 b n 0 e) (fun a => by fin_cases a <;> rfl)]
  exact rOne_at x b n 0 e

theorem rTwo_at1 (x y : FVec Ideal S4x4096x1024 .f32) (b : Fin 4) (n : Fin 4096) (e : Fin 1024) : rTwo x y (ix4 b n 1 e) = y (ix3 b n e) := by
  unfold rTwo
  rw [concatenate_pair_apply_right (t := S4x4096x2x1024) (s₁ := S4x4096x1x1024) (s₂ := S4x4096x1x1024) 2 _ _ _ (ix4 b n 1 e) rfl rfl (ix4 b n 0 e) ?_ ?_]
  · exact rOne_at y b n 0 e
  · intro a ha
    fin_cases a
    · rfl
    · rfl
    · exact absurd rfl ha
    · rfl
  · rfl

/-- The padded convolution is the window's sum. -/
theorem rConv_at (p : FVec Ideal S4x4096x12288 .bf16) (w : FVec Ideal S4x1024 .f32) (cb : FVec Ideal S1024 .f32) (b : Fin 4) (n : Fin 4096) (e : Fin 1024) :
    rConv (rPad p) w cb (ix3 b n e)
      = Cert.KernelIdeal.Gen.gX (fun b n e => p (ix3 b n e)) (fun r e => w (ix2 r e)) (fun e => cb (ix1 e)) b n.val e := by
  show rCst 0x00000000#32 (ix3 b n e) + rTap0 (rPad p) w (ix3 b n e) + rTap1 (rPad p) w (ix3 b n e) + rTap2 (rPad p) w (ix3 b n e)
    + rTap3 (rPad p) w (ix3 b n e) + rRow cb (ix3 b n e) = _
  rw [rCst_at, rTap0_at, rTap1_at, rTap2_at, rTap3_at, rRow_at, rPad_at, rPad_at, rPad_at, rPad_at, Ideal.ofBits_zero_f32]
  unfold Cert.KernelIdeal.Gen.gX Cert.KernelIdeal.Gen.conv4 Cert.KernelIdeal.Gen.gcol
  have hn := n.isLt
  have z : ∀ x : EReal, 0 + x = x := zero_add
  rw [dif_pos (c := n.val < 4096) hn, dif_pos (c := 1 ≤ n.val + 1 ∧ n.val + 1 < 4097) (by omega), z]
  have q1 : (if h : 1 ≤ n.val + 0 ∧ n.val + 0 < 4097 then p (ix3 b ⟨n.val + 0 - 1, by omega⟩ ⟨7168 + e.val, by omega⟩) else (0 : EReal)) * w (ix2 0 e)
      = if 1 ≤ n.val then (if h : n.val - 1 < 4096 then p (ix3 b ⟨n.val - 1, h⟩ ⟨7168 + e.val, by omega⟩) else 0) * w (ix2 0 e) else 0 := by
    by_cases h : 1 ≤ n.val
    · rw [if_pos h, dif_pos (by omega), dif_pos (by omega)]
      rfl
    · rw [if_neg h, dif_neg (by omega), zero_mul]
  have q2 : (if h : 1 ≤ n.val + 2 ∧ n.val + 2 < 4097 then p (ix3 b ⟨n.val + 2 - 1, by omega⟩ ⟨7168 + e.val, by omega⟩) else (0 : EReal)) * w (ix2 2 e)
      = if n.val + 1 < 4096 then (if h : n.val + 1 < 4096 then p (ix3 b ⟨n.val + 1, h⟩ ⟨7168 + e.val, by omega⟩) else 0) * w (ix2 2 e) else 0 := by
    by_cases h : n.val + 1 < 4096
    · rw [if_pos h, dif_pos (by omega), dif_pos (by omega)]
      rfl
    · rw [if_neg h, dif_neg (by omega), zero_mul]
  have q3 : (if h : 1 ≤ n.val + 3 ∧ n.val + 3 < 4097 then p (ix3 b ⟨n.val + 3 - 1, by omega⟩ ⟨7168 + e.val, by omega⟩) else (0 : EReal)) * w (ix2 3 e)
      = if n.val + 2 < 4096 then (if h : n.val + 2 < 4096 then p (ix3 b ⟨n.val + 2, h⟩ ⟨7168 + e.val, by omega⟩) else 0) * w (ix2 3 e) else 0 := by
    by_cases h : n.val + 2 < 4096
    · rw [if_pos h, dif_pos (by omega), dif_pos (by omega)]
      rfl
    · rw [if_neg h, dif_neg (by omega), zero_mul]
  refine (congrArg₂ (· + ·) (congrArg₂ (· + ·) (congrArg₂ (· + ·) (congrArg₂ (· + ·) q1 rfl) q2) q3) rfl).trans ?_
  dsimp only
  congr 3
  exact add_comm _ _

end Cert.ReferenceIdeal.Value
-- ==== Proof.RefEntry.lean ====
module

public import proofs.«01_k».proof.Proof.RefOps

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.Routing (scatter_set_hit scatter_set_miss resultIdx?_eq_some)
open Idealize.SL Idealize.SL.RA Idealize.SL.BI

open Lru
open Idealize.ShloMosaic.StableHlo (after after_of_writes_sub afterL afterL_cons afterL_nil entryContents)

variable (V : Valuation τ sig (Elt Ideal))

set_option maxHeartbeats 2000000 in
theorem at_v1 : after hostOps0 V (Proc.devRef .tc main_v1) = (extf .f32 (extractStridedSlice S4x4096x1024 ![0, 0, 7168] (V (Proc.devRef .tc main_arg0)) slices_S4x4096x12288_S4x4096x1024_0_0_7168) bitsLt_bf16_f32 : FVec Ideal S4x4096x1024 .f32) := by
  show StableHlo.after hostOps0 _ (Proc.devRef .tc main_v1) = _
  after_results

set_option maxHeartbeats 2000000 in
theorem at_c : after hostOps0 V (Proc.devRef .tc main_c) = (constantI S_ 32 0#32 : IVec S_ 32) := by
  show StableHlo.after hostOps0 _ (Proc.devRef .tc main_c) = _
  after_results

set_option maxHeartbeats 2000000 in
theorem at_v2 : after hostOps0_1 V (Proc.devRef .tc main_v2) = (pad S4x4099x1024 ![0, 1, 0] ![0, 2, 0] ![0, 0, 0] ((V (Proc.devRef .tc main_v1)) : FVec Ideal S4x4096x1024 .f32) (sitofp .f32 ((V (Proc.devRef .tc main_c)) : IVec S_ 32) : FVec Ideal S_ .f32) pads_S4x4096x1024_S4x4099x1024_000_120_000 h_S_ : FVec Ideal S4x4099x1024 .f32) := by
  show StableHlo.after hostOps0_1 _ (Proc.devRef .tc main_v2) = _
  after_results
  rfl

set_option maxHeartbeats 2000000 in
theorem at_v34 : after hostOps0_2 V (Proc.devRef .tc main_v34) = (rConv (V (Proc.devRef .tc main_v2)) (V (Proc.devRef .tc main_arg1)) (V (Proc.devRef .tc main_arg2))) := by
  show StableHlo.after hostOps0_2 _ (Proc.devRef .tc main_v34) = _
  after_results
  rfl

set_option maxHeartbeats 2000000 in
theorem at_v68 : after hostOps0_2 V (Proc.devRef .tc main_v68) = rSig (rLin (rConv (V (Proc.devRef .tc main_v2)) (V (Proc.devRef .tc main_arg1)) (V (Proc.devRef .tc main_arg2))) (rMat0 (V (Proc.devRef .tc main_arg5))) (rVec0 (V (Proc.devRef .tc main_arg6)))) := by
  show StableHlo.after hostOps0_2 _ (Proc.devRef .tc main_v68) = _
  after_results
  rfl

set_option maxHeartbeats 2000000 in
theorem at_v70 : after hostOps0_2 V (Proc.devRef .tc main_v70) = (mulf (rCst 0xC1000000#32) (rSig (rLin (rConv (V (Proc.devRef .tc main_v2)) (V (Proc.devRef .tc main_arg1)) (V (Proc.devRef .tc main_arg2))) (rMat0 (V (Proc.devRef .tc main_arg3))) (rVec0 (V (Proc.devRef .tc main_arg4))))) : FVec Ideal S4x4096x1024 .f32) := by
  show StableHlo.after hostOps0_2 _ (Proc.devRef .tc main_v70) = _
  after_results
  rfl

set_option maxHeartbeats 2000000 in
theorem at_v73 : after hostOps0_2 V (Proc.devRef .tc main_v73) = (Host.negf (rVec0 (V (Proc.devRef .tc main_arg7))) : FVec Ideal S1024 .f32) := by
  show StableHlo.after hostOps0_2 _ (Proc.devRef .tc main_v73) = _
  after_results
  rfl

set_option maxHeartbeats 2000000 in
theorem at_v74 : after hostOps0_3 V (Proc.devRef .tc main_v74) = rSp (V (Proc.devRef .tc main_v73)) := by
  show StableHlo.after hostOps0_3 _ (Proc.devRef .tc main_v74) = _
  after_results
  rfl

set_option maxHeartbeats 2000000 in
theorem at_v78 : after hostOps0_4 V (Proc.devRef .tc main_v78) = (Host.exp (mulf (V (Proc.devRef .tc main_v70)) (rRow (V (Proc.devRef .tc main_v74)))) : FVec Ideal S4x4096x1024 .f32) := by
  show StableHlo.after hostOps0_4 _ (Proc.devRef .tc main_v78) = _
  after_results
  rfl

set_option maxHeartbeats 2000000 in
theorem at_v85 : after hostOps0_4 V (Proc.devRef .tc main_v85) = rIn (mulf (V (Proc.devRef .tc main_v70)) (rRow (V (Proc.devRef .tc main_v74)))) (V (Proc.devRef .tc main_v68)) (V (Proc.devRef .tc main_v34)) := by
  show StableHlo.after hostOps0_4 _ (Proc.devRef .tc main_v85) = _
  after_results
  rfl

set_option maxHeartbeats 2000000 in
theorem at_v86 : after hostOps0_5 V (Proc.devRef .tc main_v86) = (Host.reverse [1] ((V (Proc.devRef .tc main_v34)) : FVec Ideal S4x4096x1024 .f32) : FVec Ideal S4x4096x1024 .f32) := by
  show StableHlo.after hostOps0_5 _ (Proc.devRef .tc main_v86) = _
  after_results
  rfl

set_option maxHeartbeats 2000000 in
theorem at_v120 : after hostOps0_6 V (Proc.devRef .tc main_v120) = rSig (rLin (V (Proc.devRef .tc main_v86)) (rMat1 (V (Proc.devRef .tc main_arg5))) (rVec1 (V (Proc.devRef .tc main_arg6)))) := by
  show StableHlo.after hostOps0_6 _ (Proc.devRef .tc main_v120) = _
  after_results
  rfl

set_option maxHeartbeats 2000000 in
theorem at_v122 : after hostOps0_6 V (Proc.devRef .tc main_v122) = (mulf (rCst 0xC1000000#32) (rSig (rLin (V (Proc.devRef .tc main_v86)) (rMat1 (V (Proc.devRef .tc main_arg3))) (rVec1 (V (Proc.devRef .tc main_arg4))))) : FVec Ideal S4x4096x1024 .f32) := by
  show StableHlo.after hostOps0_6 _ (Proc.devRef .tc main_v122) = _
  after_results
  rfl

set_option maxHeartbeats 2000000 in
theorem at_v125 : after hostOps0_6 V (Proc.devRef .tc main_v125) = (Host.negf (rVec1 (V (Proc.devRef .tc main_arg7))) : FVec Ideal S1024 .f32) := by
  show StableHlo.after hostOps0_6 _ (Proc.devRef .tc main_v125) = _
  after_results
  rfl

set_option maxHeartbeats 2000000 in
theorem at_v126 : after hostOps0_7 V (Proc.devRef .tc main_v126) = rSp (V (Proc.devRef .tc main_v125)) := by
  show StableHlo.after hostOps0_7 _ (Proc.devRef .tc main_v126) = _
  after_results
  rfl

set_option maxHeartbeats 2000000 in
theorem at_v145_0 : after hostOps0_8 V (Proc.devRef .tc main_v145_0) = rTwo (V (Proc.devRef .tc main_v78)) (Host.exp (mulf (V (Proc.devRef .tc main_v122)) (rRow (V (Proc.devRef .tc main_v126))))) := by
  show StableHlo.after hostOps0_8 _ (Proc.devRef .tc main_v145_0) = _
  after_results
  rfl

set_option maxHeartbeats 2000000 in
theorem at_v145_1 : after hostOps0_8 V (Proc.devRef .tc main_v145_1) = rTwo (V (Proc.devRef .tc main_v85)) (rIn (mulf (V (Proc.devRef .tc main_v122)) (rRow (V (Proc.devRef .tc main_v126)))) (V (Proc.devRef .tc main_v120)) (V (Proc.devRef .tc main_v86))) := by
  show StableHlo.after hostOps0_8 _ (Proc.devRef .tc main_v145_1) = _
  after_results
  rfl

set_option maxHeartbeats 2000000 in
theorem at_v145_3 : after hostOps0_8 V (Proc.devRef .tc main_v145_3) = (constantI S_ 32 0#32 : IVec S_ 32) := by
  show StableHlo.after hostOps0_8 _ (Proc.devRef .tc main_v145_3) = _
  after_results
  rfl

set_option maxHeartbeats 2000000 in
theorem at_v145_4 : after hostOps0_8 V (Proc.devRef .tc main_v145_4) = (V (Proc.devRef .tc main_arg8)) := by
  show StableHlo.after hostOps0_8 _ (Proc.devRef .tc main_v145_4) = _
  after_results
  rfl

end Cert.ReferenceIdeal.Value
-- ==== Proof.RefFinal.lean ====
module

public import proofs.«01_k».proof.Proof.RefEntry

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.Routing (scatter_set_hit scatter_set_miss resultIdx?_eq_some)
open Idealize.SL Idealize.SL.RA Idealize.SL.BI

open Lru
open Cert.KernelIdeal.Gen (gcol gX gZ gF gB hF hB conv4 gel)
open Idealize.ShloMosaic.StableHlo (after after_of_writes_sub afterL afterL_cons afterL_nil entryContents)

variable (V : Valuation τ sig (Elt Ideal))
/-- The buffers after the first 1 stretches. -/
def U1 : Valuation τ sig (Elt Ideal) := after hostOps0 V
/-- The buffers after the first 2 stretches. -/
def U2 : Valuation τ sig (Elt Ideal) := after hostOps0_1 (U1 V)
/-- The buffers after the first 3 stretches. -/
def U3 : Valuation τ sig (Elt Ideal) := after hostOps0_2 (U2 V)
/-- The buffers after the first 4 stretches. -/
def U4 : Valuation τ sig (Elt Ideal) := after hostOps0_3 (U3 V)
/-- The buffers after the first 5 stretches. -/
def U5 : Valuation τ sig (Elt Ideal) := after hostOps0_4 (U4 V)
/-- The buffers after the first 6 stretches. -/
def U6 : Valuation τ sig (Elt Ideal) := after hostOps0_5 (U5 V)
/-- The buffers after the first 7 stretches. -/
def U7 : Valuation τ sig (Elt Ideal) := after hostOps0_6 (U6 V)
/-- The buffers after the first 8 stretches. -/
def U8 : Valuation τ sig (Elt Ideal) := after hostOps0_7 (U7 V)
/-- The buffers after the first 9 stretches. -/
def U9 : Valuation τ sig (Elt Ideal) := after hostOps0_8 (U8 V)
theorem k1_arg0 : U1 V (Proc.devRef .tc main_arg0) = V (Proc.devRef .tc main_arg0) := (keep_main_arg0_hostOps0 V)
theorem k1_arg1 : U1 V (Proc.devRef .tc main_arg1) = V (Proc.devRef .tc main_arg1) := (keep_main_arg1_hostOps0 V)
theorem k1_arg2 : U1 V (Proc.devRef .tc main_arg2) = V (Proc.devRef .tc main_arg2) := (keep_main_arg2_hostOps0 V)
theorem k1_arg3 : U1 V (Proc.devRef .tc main_arg3) = V (Proc.devRef .tc main_arg3) := (keep_main_arg3_hostOps0 V)
theorem k1_arg4 : U1 V (Proc.devRef .tc main_arg4) = V (Proc.devRef .tc main_arg4) := (keep_main_arg4_hostOps0 V)
theorem k1_arg5 : U1 V (Proc.devRef .tc main_arg5) = V (Proc.devRef .tc main_arg5) := (keep_main_arg5_hostOps0 V)
theorem k1_arg6 : U1 V (Proc.devRef .tc main_arg6) = V (Proc.devRef .tc main_arg6) := (keep_main_arg6_hostOps0 V)
theorem k1_arg7 : U1 V (Proc.devRef .tc main_arg7) = V (Proc.devRef .tc main_arg7) := (keep_main_arg7_hostOps0 V)
theorem k1_arg8 : U1 V (Proc.devRef .tc main_arg8) = V (Proc.devRef .tc main_arg8) := (keep_main_arg8_hostOps0 V)
theorem k2_arg0 : U2 V (Proc.devRef .tc main_arg0) = V (Proc.devRef .tc main_arg0) := (keep_main_arg0_hostOps0_1 (U1 V)).trans (k1_arg0 V)
theorem k2_arg1 : U2 V (Proc.devRef .tc main_arg1) = V (Proc.devRef .tc main_arg1) := (keep_main_arg1_hostOps0_1 (U1 V)).trans (k1_arg1 V)
theorem k2_arg2 : U2 V (Proc.devRef .tc main_arg2) = V (Proc.devRef .tc main_arg2) := (keep_main_arg2_hostOps0_1 (U1 V)).trans (k1_arg2 V)
theorem k2_arg3 : U2 V (Proc.devRef .tc main_arg3) = V (Proc.devRef .tc main_arg3) := (keep_main_arg3_hostOps0_1 (U1 V)).trans (k1_arg3 V)
theorem k2_arg4 : U2 V (Proc.devRef .tc main_arg4) = V (Proc.devRef .tc main_arg4) := (keep_main_arg4_hostOps0_1 (U1 V)).trans (k1_arg4 V)
theorem k2_arg5 : U2 V (Proc.devRef .tc main_arg5) = V (Proc.devRef .tc main_arg5) := (keep_main_arg5_hostOps0_1 (U1 V)).trans (k1_arg5 V)
theorem k2_arg6 : U2 V (Proc.devRef .tc main_arg6) = V (Proc.devRef .tc main_arg6) := (keep_main_arg6_hostOps0_1 (U1 V)).trans (k1_arg6 V)
theorem k2_arg7 : U2 V (Proc.devRef .tc main_arg7) = V (Proc.devRef .tc main_arg7) := (keep_main_arg7_hostOps0_1 (U1 V)).trans (k1_arg7 V)
theorem k2_arg8 : U2 V (Proc.devRef .tc main_arg8) = V (Proc.devRef .tc main_arg8) := (keep_main_arg8_hostOps0_1 (U1 V)).trans (k1_arg8 V)
theorem k3_arg0 : U3 V (Proc.devRef .tc main_arg0) = V (Proc.devRef .tc main_arg0) := (keep_main_arg0_hostOps0_2 (U2 V)).trans (k2_arg0 V)
theorem k3_arg1 : U3 V (Proc.devRef .tc main_arg1) = V (Proc.devRef .tc main_arg1) := (keep_main_arg1_hostOps0_2 (U2 V)).trans (k2_arg1 V)
theorem k3_arg2 : U3 V (Proc.devRef .tc main_arg2) = V (Proc.devRef .tc main_arg2) := (keep_main_arg2_hostOps0_2 (U2 V)).trans (k2_arg2 V)
theorem k3_arg3 : U3 V (Proc.devRef .tc main_arg3) = V (Proc.devRef .tc main_arg3) := (keep_main_arg3_hostOps0_2 (U2 V)).trans (k2_arg3 V)
theorem k3_arg4 : U3 V (Proc.devRef .tc main_arg4) = V (Proc.devRef .tc main_arg4) := (keep_main_arg4_hostOps0_2 (U2 V)).trans (k2_arg4 V)
theorem k3_arg5 : U3 V (Proc.devRef .tc main_arg5) = V (Proc.devRef .tc main_arg5) := (keep_main_arg5_hostOps0_2 (U2 V)).trans (k2_arg5 V)
theorem k3_arg6 : U3 V (Proc.devRef .tc main_arg6) = V (Proc.devRef .tc main_arg6) := (keep_main_arg6_hostOps0_2 (U2 V)).trans (k2_arg6 V)
theorem k3_arg7 : U3 V (Proc.devRef .tc main_arg7) = V (Proc.devRef .tc main_arg7) := (keep_main_arg7_hostOps0_2 (U2 V)).trans (k2_arg7 V)
theorem k3_arg8 : U3 V (Proc.devRef .tc main_arg8) = V (Proc.devRef .tc main_arg8) := (keep_main_arg8_hostOps0_2 (U2 V)).trans (k2_arg8 V)
theorem k4_arg0 : U4 V (Proc.devRef .tc main_arg0) = V (Proc.devRef .tc main_arg0) := (keep_main_arg0_hostOps0_3 (U3 V)).trans (k3_arg0 V)
theorem k4_arg1 : U4 V (Proc.devRef .tc main_arg1) = V (Proc.devRef .tc main_arg1) := (keep_main_arg1_hostOps0_3 (U3 V)).trans (k3_arg1 V)
theorem k4_arg2 : U4 V (Proc.devRef .tc main_arg2) = V (Proc.devRef .tc main_arg2) := (keep_main_arg2_hostOps0_3 (U3 V)).trans (k3_arg2 V)
theorem k4_arg3 : U4 V (Proc.devRef .tc main_arg3) = V (Proc.devRef .tc main_arg3) := (keep_main_arg3_hostOps0_3 (U3 V)).trans (k3_arg3 V)
theorem k4_arg4 : U4 V (Proc.devRef .tc main_arg4) = V (Proc.devRef .tc main_arg4) := (keep_main_arg4_hostOps0_3 (U3 V)).trans (k3_arg4 V)
theorem k4_arg5 : U4 V (Proc.devRef .tc main_arg5) = V (Proc.devRef .tc main_arg5) := (keep_main_arg5_hostOps0_3 (U3 V)).trans (k3_arg5 V)
theorem k4_arg6 : U4 V (Proc.devRef .tc main_arg6) = V (Proc.devRef .tc main_arg6) := (keep_main_arg6_hostOps0_3 (U3 V)).trans (k3_arg6 V)
theorem k4_arg7 : U4 V (Proc.devRef .tc main_arg7) = V (Proc.devRef .tc main_arg7) := (keep_main_arg7_hostOps0_3 (U3 V)).trans (k3_arg7 V)
theorem k4_arg8 : U4 V (Proc.devRef .tc main_arg8) = V (Proc.devRef .tc main_arg8) := (keep_main_arg8_hostOps0_3 (U3 V)).trans (k3_arg8 V)
theorem k5_arg0 : U5 V (Proc.devRef .tc main_arg0) = V (Proc.devRef .tc main_arg0) := (keep_main_arg0_hostOps0_4 (U4 V)).trans (k4_arg0 V)
theorem k5_arg1 : U5 V (Proc.devRef .tc main_arg1) = V (Proc.devRef .tc main_arg1) := (keep_main_arg1_hostOps0_4 (U4 V)).trans (k4_arg1 V)
theorem k5_arg2 : U5 V (Proc.devRef .tc main_arg2) = V (Proc.devRef .tc main_arg2) := (keep_main_arg2_hostOps0_4 (U4 V)).trans (k4_arg2 V)
theorem k5_arg3 : U5 V (Proc.devRef .tc main_arg3) = V (Proc.devRef .tc main_arg3) := (keep_main_arg3_hostOps0_4 (U4 V)).trans (k4_arg3 V)
theorem k5_arg4 : U5 V (Proc.devRef .tc main_arg4) = V (Proc.devRef .tc main_arg4) := (keep_main_arg4_hostOps0_4 (U4 V)).trans (k4_arg4 V)
theorem k5_arg5 : U5 V (Proc.devRef .tc main_arg5) = V (Proc.devRef .tc main_arg5) := (keep_main_arg5_hostOps0_4 (U4 V)).trans (k4_arg5 V)
theorem k5_arg6 : U5 V (Proc.devRef .tc main_arg6) = V (Proc.devRef .tc main_arg6) := (keep_main_arg6_hostOps0_4 (U4 V)).trans (k4_arg6 V)
theorem k5_arg7 : U5 V (Proc.devRef .tc main_arg7) = V (Proc.devRef .tc main_arg7) := (keep_main_arg7_hostOps0_4 (U4 V)).trans (k4_arg7 V)
theorem k5_arg8 : U5 V (Proc.devRef .tc main_arg8) = V (Proc.devRef .tc main_arg8) := (keep_main_arg8_hostOps0_4 (U4 V)).trans (k4_arg8 V)
theorem k6_arg0 : U6 V (Proc.devRef .tc main_arg0) = V (Proc.devRef .tc main_arg0) := (keep_main_arg0_hostOps0_5 (U5 V)).trans (k5_arg0 V)
theorem k6_arg1 : U6 V (Proc.devRef .tc main_arg1) = V (Proc.devRef .tc main_arg1) := (keep_main_arg1_hostOps0_5 (U5 V)).trans (k5_arg1 V)
theorem k6_arg2 : U6 V (Proc.devRef .tc main_arg2) = V (Proc.devRef .tc main_arg2) := (keep_main_arg2_hostOps0_5 (U5 V)).trans (k5_arg2 V)
theorem k6_arg3 : U6 V (Proc.devRef .tc main_arg3) = V (Proc.devRef .tc main_arg3) := (keep_main_arg3_hostOps0_5 (U5 V)).trans (k5_arg3 V)
theorem k6_arg4 : U6 V (Proc.devRef .tc main_arg4) = V (Proc.devRef .tc main_arg4) := (keep_main_arg4_hostOps0_5 (U5 V)).trans (k5_arg4 V)
theorem k6_arg5 : U6 V (Proc.devRef .tc main_arg5) = V (Proc.devRef .tc main_arg5) := (keep_main_arg5_hostOps0_5 (U5 V)).trans (k5_arg5 V)
theorem k6_arg6 : U6 V (Proc.devRef .tc main_arg6) = V (Proc.devRef .tc main_arg6) := (keep_main_arg6_hostOps0_5 (U5 V)).trans (k5_arg6 V)
theorem k6_arg7 : U6 V (Proc.devRef .tc main_arg7) = V (Proc.devRef .tc main_arg7) := (keep_main_arg7_hostOps0_5 (U5 V)).trans (k5_arg7 V)
theorem k6_arg8 : U6 V (Proc.devRef .tc main_arg8) = V (Proc.devRef .tc main_arg8) := (keep_main_arg8_hostOps0_5 (U5 V)).trans (k5_arg8 V)
theorem k7_arg0 : U7 V (Proc.devRef .tc main_arg0) = V (Proc.devRef .tc main_arg0) := (keep_main_arg0_hostOps0_6 (U6 V)).trans (k6_arg0 V)
theorem k7_arg1 : U7 V (Proc.devRef .tc main_arg1) = V (Proc.devRef .tc main_arg1) := (keep_main_arg1_hostOps0_6 (U6 V)).trans (k6_arg1 V)
theorem k7_arg2 : U7 V (Proc.devRef .tc main_arg2) = V (Proc.devRef .tc main_arg2) := (keep_main_arg2_hostOps0_6 (U6 V)).trans (k6_arg2 V)
theorem k7_arg3 : U7 V (Proc.devRef .tc main_arg3) = V (Proc.devRef .tc main_arg3) := (keep_main_arg3_hostOps0_6 (U6 V)).trans (k6_arg3 V)
theorem k7_arg4 : U7 V (Proc.devRef .tc main_arg4) = V (Proc.devRef .tc main_arg4) := (keep_main_arg4_hostOps0_6 (U6 V)).trans (k6_arg4 V)
theorem k7_arg5 : U7 V (Proc.devRef .tc main_arg5) = V (Proc.devRef .tc main_arg5) := (keep_main_arg5_hostOps0_6 (U6 V)).trans (k6_arg5 V)
theorem k7_arg6 : U7 V (Proc.devRef .tc main_arg6) = V (Proc.devRef .tc main_arg6) := (keep_main_arg6_hostOps0_6 (U6 V)).trans (k6_arg6 V)
theorem k7_arg7 : U7 V (Proc.devRef .tc main_arg7) = V (Proc.devRef .tc main_arg7) := (keep_main_arg7_hostOps0_6 (U6 V)).trans (k6_arg7 V)
theorem k7_arg8 : U7 V (Proc.devRef .tc main_arg8) = V (Proc.devRef .tc main_arg8) := (keep_main_arg8_hostOps0_6 (U6 V)).trans (k6_arg8 V)
theorem k8_arg0 : U8 V (Proc.devRef .tc main_arg0) = V (Proc.devRef .tc main_arg0) := (keep_main_arg0_hostOps0_7 (U7 V)).trans (k7_arg0 V)
theorem k8_arg1 : U8 V (Proc.devRef .tc main_arg1) = V (Proc.devRef .tc main_arg1) := (keep_main_arg1_hostOps0_7 (U7 V)).trans (k7_arg1 V)
theorem k8_arg2 : U8 V (Proc.devRef .tc main_arg2) = V (Proc.devRef .tc main_arg2) := (keep_main_arg2_hostOps0_7 (U7 V)).trans (k7_arg2 V)
theorem k8_arg3 : U8 V (Proc.devRef .tc main_arg3) = V (Proc.devRef .tc main_arg3) := (keep_main_arg3_hostOps0_7 (U7 V)).trans (k7_arg3 V)
theorem k8_arg4 : U8 V (Proc.devRef .tc main_arg4) = V (Proc.devRef .tc main_arg4) := (keep_main_arg4_hostOps0_7 (U7 V)).trans (k7_arg4 V)
theorem k8_arg5 : U8 V (Proc.devRef .tc main_arg5) = V (Proc.devRef .tc main_arg5) := (keep_main_arg5_hostOps0_7 (U7 V)).trans (k7_arg5 V)
theorem k8_arg6 : U8 V (Proc.devRef .tc main_arg6) = V (Proc.devRef .tc main_arg6) := (keep_main_arg6_hostOps0_7 (U7 V)).trans (k7_arg6 V)
theorem k8_arg7 : U8 V (Proc.devRef .tc main_arg7) = V (Proc.devRef .tc main_arg7) := (keep_main_arg7_hostOps0_7 (U7 V)).trans (k7_arg7 V)
theorem k8_arg8 : U8 V (Proc.devRef .tc main_arg8) = V (Proc.devRef .tc main_arg8) := (keep_main_arg8_hostOps0_7 (U7 V)).trans (k7_arg8 V)

/-- The convolved sequence. -/
def rX : FVec Ideal S4x4096x1024 .f32 := (rConv (rPad (V (Proc.devRef .tc main_arg0))) (V (Proc.devRef .tc main_arg1)) (V (Proc.devRef .tc main_arg2)))
/-- The same from its end. -/
def rY : FVec Ideal S4x4096x1024 .f32 := Host.reverse [1] (rX V)
/-- Forward decays' logarithms. -/
def rL0 : FVec Ideal S4x4096x1024 .f32 := mulf (mulf (rCst 0xC1000000#32) (rSig (rLin (rX V) (rMat0 (V (Proc.devRef .tc main_arg3))) (rVec0 (V (Proc.devRef .tc main_arg4)))))) (rRow (rSp (Host.negf (rVec0 (V (Proc.devRef .tc main_arg7))))))
/-- Backward decays' logarithms. -/
def rL1 : FVec Ideal S4x4096x1024 .f32 := mulf (mulf (rCst 0xC1000000#32) (rSig (rLin (rY V) (rMat1 (V (Proc.devRef .tc main_arg3))) (rVec1 (V (Proc.devRef .tc main_arg4)))))) (rRow (rSp (Host.negf (rVec1 (V (Proc.devRef .tc main_arg7))))))

theorem u2_v2 : U2 V (Proc.devRef .tc main_v2) = rPad (V (Proc.devRef .tc main_arg0)) := by
  refine (at_v2 (U1 V)).trans ?_
  rw [show U1 V (Proc.devRef .tc main_v1) = _ from at_v1 V, show U1 V (Proc.devRef .tc main_c) = _ from at_c V]
  rfl

theorem u3_v34 : U3 V (Proc.devRef .tc main_v34) = rX V := by
  refine (at_v34 (U2 V)).trans ?_
  rw [u2_v2 V, k2_arg1 V, k2_arg2 V]
  try rfl

theorem u3_v68 : U3 V (Proc.devRef .tc main_v68) = rSig (rLin (rX V) (rMat0 (V (Proc.devRef .tc main_arg5))) (rVec0 (V (Proc.devRef .tc main_arg6)))) := by
  refine (at_v68 (U2 V)).trans ?_
  rw [u2_v2 V, k2_arg1 V, k2_arg2 V, k2_arg5 V, k2_arg6 V]
  try rfl

theorem u3_v70 : U3 V (Proc.devRef .tc main_v70) = (mulf (rCst 0xC1000000#32) (rSig (rLin (rX V) (rMat0 (V (Proc.devRef .tc main_arg3))) (rVec0 (V (Proc.devRef .tc main_arg4))))) : FVec Ideal S4x4096x1024 .f32) := by
  refine (at_v70 (U2 V)).trans ?_
  rw [u2_v2 V, k2_arg1 V, k2_arg2 V, k2_arg3 V, k2_arg4 V]
  try rfl

theorem u3_v73 : U3 V (Proc.devRef .tc main_v73) = (Host.negf (rVec0 (V (Proc.devRef .tc main_arg7))) : FVec Ideal S1024 .f32) := by
  refine (at_v73 (U2 V)).trans ?_
  rw [k2_arg7 V]
  try rfl
theorem k4_v34 : U4 V (Proc.devRef .tc main_v34) = U3 V (Proc.devRef .tc main_v34) := after_of_writes_sub hostOps0_3 (U3 V) hostOps0_3_writes (by decide +kernel)
theorem k4_v68 : U4 V (Proc.devRef .tc main_v68) = U3 V (Proc.devRef .tc main_v68) := after_of_writes_sub hostOps0_3 (U3 V) hostOps0_3_writes (by decide +kernel)
theorem k4_v70 : U4 V (Proc.devRef .tc main_v70) = U3 V (Proc.devRef .tc main_v70) := after_of_writes_sub hostOps0_3 (U3 V) hostOps0_3_writes (by decide +kernel)
theorem k5_v34 : U5 V (Proc.devRef .tc main_v34) = U4 V (Proc.devRef .tc main_v34) := after_of_writes_sub hostOps0_4 (U4 V) hostOps0_4_writes (by decide +kernel)
theorem k6_v78 : U6 V (Proc.devRef .tc main_v78) = U5 V (Proc.devRef .tc main_v78) := after_of_writes_sub hostOps0_5 (U5 V) hostOps0_5_writes (by decide +kernel)
theorem k7_v78 : U7 V (Proc.devRef .tc main_v78) = U6 V (Proc.devRef .tc main_v78) := after_of_writes_sub hostOps0_6 (U6 V) hostOps0_6_writes (by decide +kernel)
theorem k8_v78 : U8 V (Proc.devRef .tc main_v78) = U7 V (Proc.devRef .tc main_v78) := after_of_writes_sub hostOps0_7 (U7 V) hostOps0_7_writes (by decide +kernel)
theorem k6_v85 : U6 V (Proc.devRef .tc main_v85) = U5 V (Proc.devRef .tc main_v85) := after_of_writes_sub hostOps0_5 (U5 V) hostOps0_5_writes (by decide +kernel)
theorem k7_v85 : U7 V (Proc.devRef .tc main_v85) = U6 V (Proc.devRef .tc main_v85) := after_of_writes_sub hostOps0_6 (U6 V) hostOps0_6_writes (by decide +kernel)
theorem k8_v85 : U8 V (Proc.devRef .tc main_v85) = U7 V (Proc.devRef .tc main_v85) := after_of_writes_sub hostOps0_7 (U7 V) hostOps0_7_writes (by decide +kernel)
theorem k7_v86 : U7 V (Proc.devRef .tc main_v86) = U6 V (Proc.devRef .tc main_v86) := after_of_writes_sub hostOps0_6 (U6 V) hostOps0_6_writes (by decide +kernel)
theorem k8_v86 : U8 V (Proc.devRef .tc main_v86) = U7 V (Proc.devRef .tc main_v86) := after_of_writes_sub hostOps0_7 (U7 V) hostOps0_7_writes (by decide +kernel)
theorem k8_v120 : U8 V (Proc.devRef .tc main_v120) = U7 V (Proc.devRef .tc main_v120) := after_of_writes_sub hostOps0_7 (U7 V) hostOps0_7_writes (by decide +kernel)
theorem k8_v122 : U8 V (Proc.devRef .tc main_v122) = U7 V (Proc.devRef .tc main_v122) := after_of_writes_sub hostOps0_7 (U7 V) hostOps0_7_writes (by decide +kernel)

theorem u4_v74 : U4 V (Proc.devRef .tc main_v74) = rSp (Host.negf (rVec0 (V (Proc.devRef .tc main_arg7)))) := by
  refine (at_v74 (U3 V)).trans ?_
  rw [u3_v73 V]
  try rfl

theorem u5_v78 : U5 V (Proc.devRef .tc main_v78) = (Host.exp (rL0 V) : FVec Ideal S4x4096x1024 .f32) := by
  refine (at_v78 (U4 V)).trans ?_
  rw [k4_v70 V, u3_v70 V, u4_v74 V]
  try rfl

theorem u5_v85 : U5 V (Proc.devRef .tc main_v85) = rIn (rL0 V) (rSig (rLin (rX V) (rMat0 (V (Proc.devRef .tc main_arg5))) (rVec0 (V (Proc.devRef .tc main_arg6))))) (rX V) := by
  refine (at_v85 (U4 V)).trans ?_
  rw [k4_v70 V, u3_v70 V, u4_v74 V, k4_v68 V, u3_v68 V, k4_v34 V, u3_v34 V]
  try rfl

theorem u6_v86 : U6 V (Proc.devRef .tc main_v86) = rY V := by
  refine (at_v86 (U5 V)).trans ?_
  rw [k5_v34 V, k4_v34 V, u3_v34 V]
  try rfl

theorem u7_v120 : U7 V (Proc.devRef .tc main_v120) = rSig (rLin (rY V) (rMat1 (V (Proc.devRef .tc main_arg5))) (rVec1 (V (Proc.devRef .tc main_arg6)))) := by
  refine (at_v120 (U6 V)).trans ?_
  rw [u6_v86 V, k6_arg5 V, k6_arg6 V]
  try rfl

theorem u7_v122 : U7 V (Proc.devRef .tc main_v122) = (mulf (rCst 0xC1000000#32) (rSig (rLin (rY V) (rMat1 (V (Proc.devRef .tc main_arg3))) (rVec1 (V (Proc.devRef .tc main_arg4))))) : FVec Ideal S4x4096x1024 .f32) := by
  refine (at_v122 (U6 V)).trans ?_
  rw [u6_v86 V, k6_arg3 V, k6_arg4 V]
  try rfl

theorem u7_v125 : U7 V (Proc.devRef .tc main_v125) = (Host.negf (rVec1 (V (Proc.devRef .tc main_arg7))) : FVec Ideal S1024 .f32) := by
  refine (at_v125 (U6 V)).trans ?_
  rw [k6_arg7 V]
  try rfl

theorem u8_v126 : U8 V (Proc.devRef .tc main_v126) = rSp (Host.negf (rVec1 (V (Proc.devRef .tc main_arg7)))) := by
  refine (at_v126 (U7 V)).trans ?_
  rw [u7_v125 V]
  try rfl

theorem u9_v145_0 : U9 V (Proc.devRef .tc main_v145_0) = rTwo (Host.exp (rL0 V)) (Host.exp (rL1 V)) := by
  refine (at_v145_0 (U8 V)).trans ?_
  rw [k8_v78 V, k7_v78 V, k6_v78 V, u5_v78 V, k8_v122 V, u7_v122 V, u8_v126 V]
  try rfl

theorem u9_v145_1 : U9 V (Proc.devRef .tc main_v145_1) = rTwo (rIn (rL0 V) (rSig (rLin (rX V) (rMat0 (V (Proc.devRef .tc main_arg5))) (rVec0 (V (Proc.devRef .tc main_arg6))))) (rX V)) (rIn (rL1 V) (rSig (rLin (rY V) (rMat1 (V (Proc.devRef .tc main_arg5))) (rVec1 (V (Proc.devRef .tc main_arg6))))) (rY V)) := by
  refine (at_v145_1 (U8 V)).trans ?_
  rw [k8_v85 V, k7_v85 V, k6_v85 V, u5_v85 V, k8_v122 V, u7_v122 V, u8_v126 V, k8_v120 V, u7_v120 V, k8_v86 V, k7_v86 V, u6_v86 V]
  try rfl

theorem u9_v145_3 : rK (U9 V) = fun _ => 0#32 := at_v145_3 (U8 V)

theorem u9_v145_4 : rH (U9 V) = (V (Proc.devRef .tc main_arg8)) := (at_v145_4 (U8 V)).trans (k8_arg8 V)

/-! ## The arguments as functions -/

/-- The projections. -/
def bP (b : Fin 4) (n : Fin 4096) (e : Fin 12288) : EReal := ((V (Proc.devRef .tc main_arg0)) : S4x4096x12288.Idx → EReal) (ix3 b n e)
/-- The convolution's taps. -/
def bCw (r : Fin 4) (e : Fin 1024) : EReal := ((V (Proc.devRef .tc main_arg1)) : S4x1024.Idx → EReal) (ix2 r e)
/-- The convolution's offsets. -/
def bCb (e : Fin 1024) : EReal := ((V (Proc.devRef .tc main_arg2)) : S1024.Idx → EReal) (ix1 e)
/-- The recurrence gate's matrices. -/
def bWa (d : Fin 2) (g : Fin 8) (j q : Fin 128) : EReal := ((V (Proc.devRef .tc main_arg3)) : S2x8x128x128.Idx → EReal) (ix4 d g j q)
/-- The recurrence gate's offsets. -/
def bBa (d : Fin 2) (e : Fin 1024) : EReal := ((V (Proc.devRef .tc main_arg4)) : S2x1024.Idx → EReal) (ix2 d e)
/-- The input gate's matrices. -/
def bWx (d : Fin 2) (g : Fin 8) (j q : Fin 128) : EReal := ((V (Proc.devRef .tc main_arg5)) : S2x8x128x128.Idx → EReal) (ix4 d g j q)
/-- The input gate's offsets. -/
def bBx (d : Fin 2) (e : Fin 1024) : EReal := ((V (Proc.devRef .tc main_arg6)) : S2x1024.Idx → EReal) (ix2 d e)
/-- The decays' parameters. -/
def bLam (d : Fin 2) (e : Fin 1024) : EReal := ((V (Proc.devRef .tc main_arg7)) : S2x1024.Idx → EReal) (ix2 d e)
/-- The first states. -/
def bH (b : Fin 4) (d : Fin 2) (e : Fin 1024) : EReal := ((V (Proc.devRef .tc main_arg8)) : S4x2x1024.Idx → EReal) (ix3 b d e)

variable (b : Fin 4) (g : Fin 8) (q : Fin 128)

theorem rX_at (n : Fin 4096) (e : Fin 1024) : rX V (ix3 b n e) = gX (bP V) (bCw V) (bCb V) b n.val e := rConv_at _ _ _ b n e

theorem rY_at (n : Fin 4096) (e : Fin 1024) : rY V (ix3 b n e) = gX (bP V) (bCw V) (bCb V) b (4095 - n.val) e := by
  have h : rY V (ix3 b n e) = rX V (ix3 b ⟨4095 - n.val, by omega⟩ e) := by
    unfold rY
    simp only [pointwise]
    refine congrArg (rX V) (funext fun a => Fin.ext ?_)
    fin_cases a <;> simp
    done
  rw [h, rX_at]

theorem rNeg0_at (v : FVec Ideal S2x1024 .f32) (e : Fin 1024) : rSp (Host.negf (rVec0 v)) (ix1 e) = sp (-(v (ix2 0 e))) := by
  rw [rSp_at]
  show sp (-(rVec0 v (ix1 e))) = _
  rw [rVec0_at]

theorem rNeg1_at (v : FVec Ideal S2x1024 .f32) (e : Fin 1024) : rSp (Host.negf (rVec1 v)) (ix1 e) = sp (-(v (ix2 1 e))) := by
  rw [rSp_at]
  show sp (-(rVec1 v (ix1 e))) = _
  rw [rVec1_at]

theorem z0a_at (n : Fin 4096) : rLin (rX V) (rMat0 (V (Proc.devRef .tc main_arg3))) (rVec0 (V (Proc.devRef .tc main_arg4))) (ix3 b n ⟨128 * g.val + q.val, by omega⟩)
    = gZ (bP V) (bCw V) (bCb V) b (bWa V) (bBa V) 0 g q n.val := by
  rw [rLin_at, rVec0_at]
  unfold gZ
  refine congrArg₂ (· + ·) (Finset.sum_congr rfl fun j _ => ?_) rfl
  rw [rX_at, rMat0_at]
  rfl

theorem z0x_at (n : Fin 4096) : rLin (rX V) (rMat0 (V (Proc.devRef .tc main_arg5))) (rVec0 (V (Proc.devRef .tc main_arg6))) (ix3 b n ⟨128 * g.val + q.val, by omega⟩)
    = gZ (bP V) (bCw V) (bCb V) b (bWx V) (bBx V) 0 g q n.val := by
  rw [rLin_at, rVec0_at]
  unfold gZ
  refine congrArg₂ (· + ·) (Finset.sum_congr rfl fun j _ => ?_) rfl
  rw [rX_at, rMat0_at]
  rfl

theorem l0_at (n : Fin 4096) : rL0 V (ix3 b n ⟨128 * g.val + q.val, by omega⟩)
    = ldec (sp (-(bLam V 0 ⟨128 * g.val + q.val, by omega⟩))) (gZ (bP V) (bCw V) (bCb V) b (bWa V) (bBa V) 0 g q n.val) := by
  show rCst 0xC1000000#32 _ * rSig (rLin (rX V) (rMat0 (V (Proc.devRef .tc main_arg3))) (rVec0 (V (Proc.devRef .tc main_arg4)))) (ix3 b n ⟨128 * g.val + q.val, by omega⟩)
    * rRow (rSp (Host.negf (rVec0 (V (Proc.devRef .tc main_arg7))))) (ix3 b n ⟨128 * g.val + q.val, by omega⟩) = _
  rw [rCst_at, rSig_at, z0a_at, rRow_at, rNeg0_at]
  rfl

theorem a0_at (n : Fin 4096) : rA (U9 V) (ix4 b n 0 ⟨128 * g.val + q.val, by omega⟩)
    = ca (sp (-(bLam V 0 ⟨128 * g.val + q.val, by omega⟩))) (gZ (bP V) (bCw V) (bCb V) b (bWa V) (bBa V) 0 g q n.val) := by
  refine (congrFun (u9_v145_0 V) _).trans ?_
  rw [rTwo_at0]
  show Ideal.exp (rL0 V _) = _
  rw [l0_at]
  rfl

theorem b0_at (n : Fin 4096) : rB (U9 V) (ix4 b n 0 ⟨128 * g.val + q.val, by omega⟩)
    = cb (sp (-(bLam V 0 ⟨128 * g.val + q.val, by omega⟩))) (gZ (bP V) (bCw V) (bCb V) b (bWa V) (bBa V) 0 g q n.val)
        (gZ (bP V) (bCw V) (bCb V) b (bWx V) (bBx V) 0 g q n.val) (gX (bP V) (bCw V) (bCb V) b n.val ⟨128 * g.val + q.val, by omega⟩) := by
  refine (congrFun (u9_v145_1 V) _).trans ?_
  rw [rTwo_at0, rIn_at, l0_at, rSig_at, z0x_at, rX_at]
  rfl

theorem z1a_at (n : Fin 4096) : rLin (rY V) (rMat1 (V (Proc.devRef .tc main_arg3))) (rVec1 (V (Proc.devRef .tc main_arg4))) (ix3 b n ⟨128 * g.val + q.val, by omega⟩)
    = gZ (bP V) (bCw V) (bCb V) b (bWa V) (bBa V) 1 g q (4095 - n.val) := by
  rw [rLin_at, rVec1_at]
  unfold gZ
  refine congrArg₂ (· + ·) (Finset.sum_congr rfl fun j _ => ?_) rfl
  rw [rY_at, rMat1_at]
  rfl

theorem z1x_at (n : Fin 4096) : rLin (rY V) (rMat1 (V (Proc.devRef .tc main_arg5))) (rVec1 (V (Proc.devRef .tc main_arg6))) (ix3 b n ⟨128 * g.val + q.val, by omega⟩)
    = gZ (bP V) (bCw V) (bCb V) b (bWx V) (bBx V) 1 g q (4095 - n.val) := by
  rw [rLin_at, rVec1_at]
  unfold gZ
  refine congrArg₂ (· + ·) (Finset.sum_congr rfl fun j _ => ?_) rfl
  rw [rY_at, rMat1_at]
  rfl

theorem l1_at (n : Fin 4096) : rL1 V (ix3 b n ⟨128 * g.val + q.val, by omega⟩)
    = ldec (sp (-(bLam V 1 ⟨128 * g.val + q.val, by omega⟩))) (gZ (bP V) (bCw V) (bCb V) b (bWa V) (bBa V) 1 g q (4095 - n.val)) := by
  show rCst 0xC1000000#32 _ * rSig (rLin (rY V) (rMat1 (V (Proc.devRef .tc main_arg3))) (rVec1 (V (Proc.devRef .tc main_arg4)))) (ix3 b n ⟨128 * g.val + q.val, by omega⟩)
    * rRow (rSp (Host.negf (rVec1 (V (Proc.devRef .tc main_arg7))))) (ix3 b n ⟨128 * g.val + q.val, by omega⟩) = _
  rw [rCst_at, rSig_at, z1a_at, rRow_at, rNeg1_at]
  rfl

theorem a1_at (n : Fin 4096) : rA (U9 V) (ix4 b n 1 ⟨128 * g.val + q.val, by omega⟩)
    = ca (sp (-(bLam V 1 ⟨128 * g.val + q.val, by omega⟩))) (gZ (bP V) (bCw V) (bCb V) b (bWa V) (bBa V) 1 g q (4095 - n.val)) := by
  refine (congrFun (u9_v145_0 V) _).trans ?_
  rw [rTwo_at1]
  show Ideal.exp (rL1 V _) = _
  rw [l1_at]
  rfl

theorem b1_at (n : Fin 4096) : rB (U9 V) (ix4 b n 1 ⟨128 * g.val + q.val, by omega⟩)
    = cb (sp (-(bLam V 1 ⟨128 * g.val + q.val, by omega⟩))) (gZ (bP V) (bCw V) (bCb V) b (bWa V) (bBa V) 1 g q (4095 - n.val))
        (gZ (bP V) (bCw V) (bCb V) b (bWx V) (bBx V) 1 g q (4095 - n.val)) (gX (bP V) (bCw V) (bCb V) b (4095 - n.val) ⟨128 * g.val + q.val, by omega⟩) := by
  refine (congrFun (u9_v145_1 V) _).trans ?_
  rw [rTwo_at1, rIn_at, l1_at, rSig_at, z1x_at, rY_at]
  rfl

theorem scan0 (k : ℕ) (hk : k ≤ 4096) :
    Lru.scan (colA (U9 V) b 0 ⟨128 * g.val + q.val, by omega⟩) (colB (U9 V) b 0 ⟨128 * g.val + q.val, by omega⟩)
      (rH (U9 V) (ix3 b 0 ⟨128 * g.val + q.val, by omega⟩)) k = gF (bP V) (bCw V) (bCb V) (bWa V) (bBa V) (bWx V) (bBx V) (bLam V) (bH V) b g q k := by
  rw [u9_v145_4]
  unfold gF hF
  refine scan_congr _ k (fun n hn => ?_) (fun n hn => ?_)
  · have h : n < 4096 := by omega
    unfold colA
    rw [dif_pos h, a0_at]
  · have h : n < 4096 := by omega
    unfold colB
    rw [dif_pos h, b0_at]

/-- The state after all positions. -/
theorem last0 : rH ((STEP (F := Ideal))^[4096] (U9 V)) (ix3 b 0 ⟨128 * g.val + q.val, by omega⟩) = gF (bP V) (bCw V) (bCb V) (bWa V) (bBa V) (bWx V) (bBx V) (bLam V) (bH V) b g q 4096 := by
  rw [(trips (U9 V) (u9_v145_3 V) 4096 le_rfl).2.2.2.1, scan0 V b g q 4096 le_rfl]

/-- The states kept. -/
theorem kept0 (n : Fin 4096) : rO ((STEP (F := Ideal))^[4096] (U9 V)) (ix4 b n 0 ⟨128 * g.val + q.val, by omega⟩) = gF (bP V) (bCw V) (bCb V) (bWa V) (bBa V) (bWx V) (bBx V) (bLam V) (bH V) b g q (n.val + 1) := by
  rw [(trips (U9 V) (u9_v145_3 V) 4096 le_rfl).2.2.2.2 _ _ _ _ n.isLt, scan0 V b g q (n.val + 1) (by omega)]

theorem scan1 (k : ℕ) (hk : k ≤ 4096) :
    Lru.scan (colA (U9 V) b 1 ⟨128 * g.val + q.val, by omega⟩) (colB (U9 V) b 1 ⟨128 * g.val + q.val, by omega⟩)
      (rH (U9 V) (ix3 b 1 ⟨128 * g.val + q.val, by omega⟩)) k = gB (bP V) (bCw V) (bCb V) (bWa V) (bBa V) (bWx V) (bBx V) (bLam V) (bH V) b g q k := by
  rw [u9_v145_4]
  unfold gB hB hF
  refine scan_congr _ k (fun n hn => ?_) (fun n hn => ?_)
  · have h : n < 4096 := by omega
    unfold colA
    rw [dif_pos h, a1_at]
  · have h : n < 4096 := by omega
    unfold colB
    rw [dif_pos h, b1_at]

/-- The state after all positions. -/
theorem last1 : rH ((STEP (F := Ideal))^[4096] (U9 V)) (ix3 b 1 ⟨128 * g.val + q.val, by omega⟩) = gB (bP V) (bCw V) (bCb V) (bWa V) (bBa V) (bWx V) (bBx V) (bLam V) (bH V) b g q 4096 := by
  rw [(trips (U9 V) (u9_v145_3 V) 4096 le_rfl).2.2.2.1, scan1 V b g q 4096 le_rfl]

/-- The states kept. -/
theorem kept1 (n : Fin 4096) : rO ((STEP (F := Ideal))^[4096] (U9 V)) (ix4 b n 1 ⟨128 * g.val + q.val, by omega⟩) = gB (bP V) (bCw V) (bCb V) (bWa V) (bBa V) (bWx V) (bBx V) (bLam V) (bH V) b g q (n.val + 1) := by
  rw [(trips (U9 V) (u9_v145_3 V) 4096 le_rfl).2.2.2.2 _ _ _ _ n.isLt, scan1 V b g q (n.val + 1) (by omega)]

/-- The result's last stretch. -/
theorem out_at (W : Valuation τ sig (Elt Ideal)) (n : Fin 4096) (e : Fin 1024) : (out_main_v168 W : S4x4096x1024.Idx → EReal) (ix3 b n e)
    = (rO W (ix4 b n 0 e) + rO W (ix4 b ⟨4095 - n.val, by omega⟩ 1 e)) * gel ((W (Proc.devRef .tc main_arg0) : S4x4096x12288.Idx → EReal) (ix3 b n ⟨8192 + e.val, by omega⟩)) := by
  unfold out_main_v168
  simp only [pointwise]
  simp
  have key : ∀ y c t : EReal, y * (c * t) = c * y * t := fun y c t => by rw [← mul_assoc, mul_comm y c]
  exact congrArg _ (key _ _ _)

end Cert.ReferenceIdeal.Value
-- ==== Proof.Meet.lean ====
module

public import proofs.«01_k».proof.Proof.Edges
public import proofs.«01_k».proof.Proof.RefFinal

@[expose] public section

set_option maxRecDepth 16384

noncomputable section

namespace Cert.Meet

open Idealize.ShloMosaic Idealize.ShloMosaic.TcCoe Idealize.ShloMosaic.Tactic
open Idealize.SL Idealize.SL.RA Idealize.SL.BI
open Cert.KernelIdeal.Gen Cert.ReferenceIdeal.Value
open Idealize.ShloMosaic.StableHlo (entryContents)

/-- A channel as a block and a place in it. -/
theorem chan (e : Fin 1024) : ∃ (g : Fin 8) (q : Fin 128), e = ⟨128 * g.val + q.val, by omega⟩ :=
  ⟨⟨e.val / 128, by omega⟩, ⟨e.val % 128, by omega⟩, Fin.ext (by show e.val = 128 * (e.val / 128) + e.val % 128; omega)⟩

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's buffers at its start. -/
abbrev VR (c : Dev Cert.ReferenceIdeal.nD) : Valuation Cert.ReferenceIdeal.τ Cert.ReferenceIdeal.sig (Elt Ideal) := Idealize.ShloMosaic.StableHlo.launchContents m' c

theorem entry_eq (c : Dev Cert.ReferenceIdeal.nD) : entryContents Cert.ReferenceIdeal.Value.preI m' c = U9 (VR m' c) := rfl

theorem arg0_eq (c : Dev Cert.KernelIdeal.nD) (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    bP (VR m' c) = aP m c := by
  funext a0 b0 c0
  exact congrFun h _

theorem arg1_eq (c : Dev Cert.KernelIdeal.nD) (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    bCw (VR m' c) = aCw m c := by
  funext a0 b0
  exact congrFun h _

theorem arg2_eq (c : Dev Cert.KernelIdeal.nD) (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    bCb (VR m' c) = aCb m c := by
  funext a0
  exact congrFun h _

theorem arg3_eq (c : Dev Cert.KernelIdeal.nD) (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    bWa (VR m' c) = aWa m c := by
  funext a0 b0 c0 d0
  exact congrFun h _

theorem arg4_eq (c : Dev Cert.KernelIdeal.nD) (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    bBa (VR m' c) = aBa m c := by
  funext a0 b0
  exact congrFun h _

theorem arg5_eq (c : Dev Cert.KernelIdeal.nD) (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    bWx (VR m' c) = aWx m c := by
  funext a0 b0 c0 d0
  exact congrFun h _

theorem arg6_eq (c : Dev Cert.KernelIdeal.nD) (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    bBx (VR m' c) = aBx m c := by
  funext a0 b0
  exact congrFun h _

theorem arg7_eq (c : Dev Cert.KernelIdeal.nD) (h : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    bLam (VR m' c) = aLam m c := by
  funext a0 b0
  exact congrFun h _

theorem arg8_eq (c : Dev Cert.KernelIdeal.nD) (h : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    bH (VR m' c) = aH m c := by
  funext a0 b0 c0
  exact congrFun h _

/-- The two memories agree on the arguments. -/
def Same (c : Dev Cert.KernelIdeal.nD) : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
      m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
      m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
      m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
      m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
      m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
      m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
      m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
      m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-- The states after the last position agree. -/
theorem last_eq (c : Dev Cert.KernelIdeal.nD) (hs : Same m m' c) (hf : gFin (aP m c) (aCw m c)) :
    (STEP^[4096] (entryContents Cert.ReferenceIdeal.Value.preI m' c) (Proc.devRef .tc Cert.ReferenceIdeal.main_v145_4) : Cert.KernelIdeal.S4x2x1024.Idx → EReal)
      = ((Cert.KernelIdeal.Gen.dats m 0 c).arrAt 11 Cert.KernelIdeal.cfg0.N : Cert.KernelIdeal.S4x2x1024.Idx → EReal) := by
  obtain ⟨q0, q1, q2, q3, q4, q5, q6, q7, q8⟩ := hs
  funext i
  obtain ⟨b, d, e, rfl⟩ : ∃ b d e, i = ix3 b d e := ⟨_, _, _, (ix3_eta i).symm⟩
  obtain ⟨g, q, rfl⟩ := chan e
  rw [entry_eq]
  fin_cases d
  · refine (last0 (VR m' c) b g q).trans ?_
    rw [arg0_eq m m' c q0, arg1_eq m m' c q1, arg2_eq m m' c q2, arg3_eq m m' c q3, arg4_eq m m' c q4, arg5_eq m m' c q5, arg6_eq m m' c q6, arg7_eq m m' c q7, arg8_eq m m' c q8]
    exact (final11_0 m c hf b g q).symm
  · refine (last1 (VR m' c) b g q).trans ?_
    rw [arg0_eq m m' c q0, arg1_eq m m' c q1, arg2_eq m m' c q2, arg3_eq m m' c q3, arg4_eq m m' c q4, arg5_eq m m' c q5, arg6_eq m m' c q6, arg7_eq m m' c q7, arg8_eq m m' c q8]
    exact (final11_1 m c hf b g q).symm

/-- The outputs agree. -/
theorem out_eq (c : Dev Cert.KernelIdeal.nD) (hs : Same m m' c) (hf : gFin (aP m c) (aCw m c)) :
    (out_main_v168 (STEP^[4096] (entryContents Cert.ReferenceIdeal.Value.preI m' c)) : Cert.KernelIdeal.S4x4096x1024.Idx → EReal)
      = ((Cert.KernelIdeal.Gen.dats m 0 c).arrAt 10 Cert.KernelIdeal.cfg0.N : Cert.KernelIdeal.S4x4096x1024.Idx → EReal) := by
  obtain ⟨q0, q1, q2, q3, q4, q5, q6, q7, q8⟩ := hs
  funext i
  obtain ⟨b, n, e, rfl⟩ : ∃ b n e, i = ix3 b n e := ⟨_, _, _, (ix3_eta i).symm⟩
  obtain ⟨g, q, rfl⟩ := chan e
  refine (out_at b (STEP^[4096] (entryContents Cert.ReferenceIdeal.Value.preI m' c)) n ⟨128 * g.val + q.val, by omega⟩).trans ?_
  rw [iter_main_arg0 m' c 4096, entry_eq, kept0, kept1, final10 m c hf b g q n, ← q0.symm]
  rw [arg0_eq m m' c q0, arg1_eq m m' c q1, arg2_eq m m' c q2, arg3_eq m m' c q3, arg4_eq m m' c q4, arg5_eq m m' c q5, arg6_eq m m' c q6, arg7_eq m m' c q7, arg8_eq m m' c q8]
  refine congrArg _ (congrArg gel ?_)
  exact rfl

end Cert.Meet
-- ==== Proof.Rms.lean ====
module

public import Idealize.ShloMosaic.Lib.Pointwise
public import Idealize.ShloMosaic.Lib.Pipeline.ValueKit

@[expose] public section

noncomputable section

namespace Lay

open Idealize.ShloMosaic

/-- The factor of a root-mean-square norm: one over the root of the mean of the squares (the divisor's word is `d`) and the norm's small addend. -/
def inv {K : ℕ} (d : BitVec 32) (x : Fin K → EReal) : EReal :=
  Ideal.rsqrt (Ideal.div (∑ k, x k * x k) (Ideal.ofBits .f32 d) + Ideal.ofBits .f32 0x358637BD#32)

/-- A normalised row: each element times the factor, times its gain. -/
def nrm {K : ℕ} (d : BitVec 32) (x g : Fin K → EReal) (e : Fin K) : EReal := x e * inv d x * g e

/-- A modulated, normalised row. -/
def modn (x g sh sc : Fin 1024 → EReal) (e : Fin 1024) : EReal := nrm 0x44800000#32 x g e * (1 + sc e) + sh e

/-- A load through a rectangle of a whole memref holding known contents reads them at the rectangle's place. -/
theorem rd_unit {sig : RefSig} {κ : Kind} {sp : Space} {s : Shape} {e : EltTy} (m : Memref sig κ sp s e) (h : m.IsWhole) (X : s.Idx → Elt Ideal e)
    (off size : Fin s.rank → ℕ) (inb : ∀ a, off a + size a ≤ s.size a) (x : (Rect.unit off size inb).shape.Idx) (i : s.Idx)
    (hi : ∀ a, (i a).val = off a + (x a).val) :
    View.readAt (Elt Ideal) m.view (Rect.unit off size inb).toLoadRect (h.unread X) x = X i := by
  rw [View.readAt_eq_ld, h.read_unread]
  exact View.ld_unit_apply_of X off size inb x i hi

end Lay
-- ==== Proof.Up.lean ====
module

public import Idealize.ShloMosaic.Lib.Pointwise
public import Idealize.ShloMosaic.Lib.Pipeline.ValueKit
public import proofs.«01_k».proof.Proof.Gen.Kernel3Ideal.Value
public import proofs.«01_k».proof.Proof.Rms
public import proofs.«01_k».proof.Proof.Gen.Reference3Ideal.Run

@[expose] public section

set_option maxRecDepth 16384

noncomputable section

namespace Cert.Kernel3Ideal.Gen

open Cert.Kernel3Ideal Idealize.ShloMosaic Idealize.ShloMosaic.TcCoe Idealize.ShloMosaic.Tactic
open Idealize.SL Idealize.SL.RA Idealize.SL.BI

variable (m : (ℓ : Loc nD τ sig) → Buf (Elt Ideal) ℓ)

theorem nGrid : cfg0.N = 32 := N_0

theorem V_v0 (c : Dev nD) : V m c main_v0 = (m ((c : Thread nD τ).loc main_arg4) : S1024x5632.Idx → EReal) := by
  show StableHlo.after hostOps0 _ (Proc.devRef .tc main_v0) = _
  after_results
  rfl
theorem V_v1 (c : Dev nD) : V m c main_v1 = (shapeCast S1x1024 (m ((c : Thread nD τ).loc main_arg1) : FVec Ideal S1024 .f32) shapeCasts_S1024_S1x1024 : S1x1024.Idx → EReal) := by
  show StableHlo.after hostOps0 _ (Proc.devRef .tc main_v1) = _
  after_results
  rfl
theorem row1 (v : FVec Ideal S1024 .f32) (e : Fin 1024) : (shapeCast S1x1024 v shapeCasts_S1024_S1x1024 : S1x1024.Idx → EReal) (ix2 0 e) = v (ix1 e) := by
  simp only [pointwise]

theorem idx_0 : ∀ t : Fin cfg0.N, win0_0.index t (0 : Fin 3) = t.val / 8 ∧ win0_0.index t (1 : Fin 3) = t.val / 2 % 4 ∧ win0_0.index t (2 : Fin 3) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem idx_3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem idx_4 : ∀ t : Fin cfg0.N, win0_4.index t (0 : Fin 2) = 0 ∧ win0_4.index t (1 : Fin 2) = t.val % 2 :=
  (by decide +kernel : ∀ t : Fin grid0.N, _)
theorem idx_5 : ∀ t : Fin cfg0.N, win0_5.index t (0 : Fin 3) = t.val / 8 ∧ win0_5.index t (1 : Fin 3) = t.val / 2 % 4 ∧ win0_5.index t (2 : Fin 3) = t.val % 2 :=
  (by decide +kernel : ∀ t : Fin grid0.N, _)

theorem blk_0 (c : Dev nD) (t : Fin cfg0.N) (y : Fin 1024) (z : Fin 1024) : (iblk m c 0 t : S1x1024x1024.Idx → EReal) (ix3 0 y z) = (m ((c : Thread nD τ).loc main_arg0) : S4x4096x1024.Idx → EReal) (ix3 ⟨t.val / 8, by have := lt_of_lt_of_eq t.isLt nGrid; omega⟩ ⟨1024 * (t.val / 2 % 4) + y.val, by have := lt_of_lt_of_eq t.isLt nGrid; omega⟩ z) := by
  obtain ⟨i0, i1, i2⟩ := idx_0 t
  refine Eq.trans ?_ (congrFun (V_main_arg0 m c) _)
  refine congrArg (V m c main_arg0 : S4x4096x1024.Idx → EReal) (a₁ := ((cfg0.win 0).blk t).view.emb (ix3 0 y z : S1x1024x1024.Idx)) ?_
  funext a
  apply Fin.ext
  match a with
  | ⟨0, _⟩ => show win0_0.index t (0 : Fin 3) * 1 + 1 * 0 = t.val / 8; rw [i0] <;> omega
  | ⟨1, _⟩ => show win0_0.index t (1 : Fin 3) * 1024 + 1 * y.val = 1024 * (t.val / 2 % 4) + y.val; rw [i1] <;> omega
  | ⟨2, _⟩ => show win0_0.index t (2 : Fin 3) * 1024 + 1 * z.val = z.val; rw [i2] <;> omega

theorem blk_1 (c : Dev nD) (t : Fin cfg0.N) (y : Fin 1024) : (iblk m c 1 t : S1x1024.Idx → EReal) (ix2 0 y) = (shapeCast S1x1024 (m ((c : Thread nD τ).loc main_arg1) : FVec Ideal S1024 .f32) shapeCasts_S1024_S1x1024 : S1x1024.Idx → EReal) (ix2 0 y) := by
  obtain ⟨i0, i1⟩ := idx_1 t
  refine Eq.trans ?_ (congrFun (V_v1 m c) _)
  refine congrArg (V m c main_v1 : S1x1024.Idx → EReal) (a₁ := ((cfg0.win 1).blk t).view.emb (ix2 0 y : S1x1024.Idx)) ?_
  funext a
  apply Fin.ext
  match a with
  | ⟨0, _⟩ => show win0_1.index t (0 : Fin 2) * 1 + 1 * 0 = 0; rw [i0] <;> omega
  | ⟨1, _⟩ => show win0_1.index t (1 : Fin 2) * 1024 + 1 * y.val = y.val; rw [i1] <;> omega

theorem blk_2 (c : Dev nD) (t : Fin cfg0.N) (z : Fin 1024) : (iblk m c 2 t : S1x1x1024.Idx → EReal) (ix3 0 0 z) = (m ((c : Thread nD τ).loc main_arg2) : S4x1x1024.Idx → EReal) (ix3 ⟨t.val / 8, by have := lt_of_lt_of_eq t.isLt nGrid; omega⟩ 0 z) := by
  obtain ⟨i0, i1, i2⟩ := idx_2 t
  refine Eq.trans ?_ (congrFun (V_main_arg2 m c) _)
  refine congrArg (V m c main_arg2 : S4x1x1024.Idx → EReal) (a₁ := ((cfg0.win 2).blk t).view.emb (ix3 0 0 z : S1x1x1024.Idx)) ?_
  funext a
  apply Fin.ext
  match a with
  | ⟨0, _⟩ => show win0_2.index t (0 : Fin 3) * 1 + 1 * 0 = t.val / 8; rw [i0] <;> omega
  | ⟨1, _⟩ => show win0_2.index t (1 : Fin 3) * 1 + 1 * 0 = 0; rw [i1] <;> omega
  | ⟨2, _⟩ => show win0_2.index t (2 : Fin 3) * 1024 + 1 * z.val = z.val; rw [i2] <;> omega

theorem blk_3 (c : Dev nD) (t : Fin cfg0.N) (z : Fin 1024) : (iblk m c 3 t : S1x1x1024.Idx → EReal) (ix3 0 0 z) = (m ((c : Thread nD τ).loc main_arg3) : S4x1x1024.Idx → EReal) (ix3 ⟨t.val / 8, by have := lt_of_lt_of_eq t.isLt nGrid; omega⟩ 0 z) := by
  obtain ⟨i0, i1, i2⟩ := idx_3 t
  refine Eq.trans ?_ (congrFun (V_main_arg3 m c) _)
  refine congrArg (V m c main_arg3 : S4x1x1024.Idx → EReal) (a₁ := ((cfg0.win 3).blk t).view.emb (ix3 0 0 z : S1x1x1024.Idx)) ?_
  funext a
  apply Fin.ext
  match a with
  | ⟨0, _⟩ => show win0_3.index t (0 : Fin 3) * 1 + 1 * 0 = t.val / 8; rw [i0] <;> omega
  | ⟨1, _⟩ => show win0_3.index t (1 : Fin 3) * 1 + 1 * 0 = 0; rw [i1] <;> omega
  | ⟨2, _⟩ => show win0_3.index t (2 : Fin 3) * 1024 + 1 * z.val = z.val; rw [i2] <;> omega

theorem blk_4 (c : Dev nD) (t : Fin cfg0.N) (x : Fin 1024) (y : Fin 2816) : (iblk m c 4 t : S1024x2816.Idx → EReal) (ix2 x y) = (m ((c : Thread nD τ).loc main_arg4) : S1024x5632.Idx → EReal) (ix2 x ⟨2816 * (t.val % 2) + y.val, by have := lt_of_lt_of_eq t.isLt nGrid; omega⟩) := by
  obtain ⟨i0, i1⟩ := idx_4 t
  refine Eq.trans ?_ (congrFun (V_v0 m c) _)
  refine congrArg (V m c main_v0 : S1024x5632.Idx → EReal) (a₁ := ((cfg0.win 4).blk t).view.emb (ix2 x y : S1024x2816.Idx)) ?_
  funext a
  apply Fin.ext
  match a with
  | ⟨0, _⟩ => show win0_4.index t (0 : Fin 2) * 1024 + 1 * x.val = x.val; rw [i0] <;> omega
  | ⟨1, _⟩ => show win0_4.index t (1 : Fin 2) * 2816 + 1 * y.val = 2816 * (t.val % 2) + y.val; rw [i1] <;> omega

/-- The block's normalised, modulated rows: what the carried scratch holds. -/
def hid (x0 : Vec Ideal S1x1024x1024 .f32) (x1 : Vec Ideal S1x1024 .f32) (x2 x3 : Vec Ideal S1x1x1024 .f32) (n : Fin 1024) (k : Fin 1024) : EReal :=
  Lay.modn (fun k => x0 (ix3 0 n k)) (fun k => x1 (ix2 0 k)) (fun k => x2 (ix3 0 0 k)) (fun k => x3 (ix3 0 0 k)) k

/-- A chunk's payload at a place. -/
theorem pay3_at (v6 : Vec Ideal S1x256x1024 .f32) (v18 : Vec Ideal S1x1024 .f32) (v22 v28 : Vec Ideal S1x1x1024 .f32) (n : Fin 256) (e : Fin 1024) :
    (k0_pay3 v6 v18 v22 v28 : S256x1024.Idx → EReal) (ix2 n e)
      = Lay.modn (fun k => v6 (ix3 0 n k)) (fun k => v18 (ix2 0 k)) (fun k => v28 (ix3 0 0 k)) (fun k => v22 (ix3 0 0 k)) e := by
  unfold k0_pay3
  simp only [pointwise]
  simp [Lay.modn, Lay.nrm, Lay.inv]

theorem pay4_at (v6 : Vec Ideal S1x256x1024 .f32) (v18 : Vec Ideal S1x1024 .f32) (v22 v28 : Vec Ideal S1x1x1024 .f32) (n : Fin 256) (e : Fin 1024) :
    (k0_pay4 v6 v18 v22 v28 : S256x1024.Idx → EReal) (ix2 n e) = (k0_pay3 v6 v18 v22 v28 : S256x1024.Idx → EReal) (ix2 n e) := by
  unfold k0_pay4
  simp only [pointwise]
theorem pay16_at (v6 : Vec Ideal S1x256x1024 .f32) (v18 : Vec Ideal S1x1024 .f32) (v22 v28 : Vec Ideal S1x1x1024 .f32) (n : Fin 256) (e : Fin 1024) :
    (k0_pay16 v6 v18 v22 v28 : S256x1024.Idx → EReal) (ix2 n e) = (k0_pay3 v6 v18 v22 v28 : S256x1024.Idx → EReal) (ix2 n e) := pay4_at v6 v18 v22 v28 n e

/-- A chunk's product at a place. -/
theorem pay6_at (v6 : Vec Ideal S1x256x1024 .f32) (v18 : Vec Ideal S1x1024 .f32) (v22 v28 : Vec Ideal S1x1x1024 .f32) (w : Vec Ideal S1024x2816 .bf16) (n : Fin 256) (e : Fin 2816) :
    (k0_pay6 (k0_pay5 v6 v18 v22 v28 w) : S1x256x2816.Idx → EReal) (ix3 0 n e)
      = ∑ k, (k0_pay3 v6 v18 v22 v28 : S256x1024.Idx → EReal) (ix2 n k) * w (ix2 k e) := by
  unfold k0_pay6 k0_pay5
  simp only [pointwise]
  simp

theorem pay2_at (h : Vec Ideal S1024x1024 .bf16) (w : Vec Ideal S1024x2816 .bf16) (n : Fin 1024) (e : Fin 2816) :
    (k0_pay2 h w : S1x1024x2816.Idx → EReal) (ix3 0 n e) = ∑ k, h (ix2 n k) * w (ix2 k e) := by
  unfold k0_pay2
  simp only [pointwise]
  simp

section loads
variable {arg3 : Memref sig .tc .vmem S1x1024x1024 .f32} {harg3 : arg3.IsWhole} {arg4 : Memref sig .tc .vmem S1x1024 .f32} {harg4 : arg4.IsWhole} {arg5 : Memref sig .tc .vmem S1x1x1024 .f32} {harg5 : arg5.IsWhole} {arg6 : Memref sig .tc .vmem S1x1x1024 .f32} {harg6 : arg6.IsWhole} {arg7 : Memref sig .tc .vmem S1024x2816 .bf16} {harg7 : arg7.IsWhole} {arg8 : Memref sig .tc .vmem S1x1024x2816 .bf16} {harg8 : arg8.IsWhole} {arg9 : Memref sig .tc .vmem S1024x1024 .bf16} {harg9 : arg9.IsWhole}
  {x0 : Vec Ideal S1x1024x1024 .f32} {x1 : Vec Ideal S1x1024 .f32} {x2 : Vec Ideal S1x1x1024 .f32} {x3 : Vec Ideal S1x1x1024 .f32} {x4 : Vec Ideal S1024x2816 .bf16}

/-- A chunk's rows read out of the staged block. -/
theorem chunk (o : ℕ) (inb : ∀ a, (![0, o, 0] : Fin 3 → ℕ) a + S1x256x1024.size a ≤ S1x1024x1024.size a) (ig is1 is2)
    (n : Fin 256) (k : Fin 1024) (ho : o + n.val < 1024) :
    (k0_pay3 (View.readAt (Elt Ideal) arg3.view (Rect.unit (s := S1x1024x1024) ![0, o, 0] S1x256x1024.size inb).toLoadRect (harg3.unread x0))
      (View.readAt (Elt Ideal) arg4.view (Rect.unit (s := S1x1024) ![0, 0] S1x1024.size ig).toLoadRect (harg4.unread x1))
      (View.readAt (Elt Ideal) arg6.view (Rect.unit (s := S1x1x1024) ![0, 0, 0] S1x1x1024.size is1).toLoadRect (harg6.unread x3))
      (View.readAt (Elt Ideal) arg5.view (Rect.unit (s := S1x1x1024) ![0, 0, 0] S1x1x1024.size is2).toLoadRect (harg5.unread x2)) : S256x1024.Idx → EReal) (ix2 n k)
      = hid x0 x1 x2 x3 ⟨o + n.val, ho⟩ k := by
  rw [pay3_at]
  unfold hid
  congr 1 <;> funext k
  · refine Lay.rd_unit arg3 harg3 x0 _ _ inb (ix3 0 n k) (ix3 0 ⟨o + n.val, ho⟩ k) fun a => ?_
    fin_cases a <;> first | rfl | exact (Nat.zero_add _).symm
  · refine Lay.rd_unit arg4 harg4 x1 _ _ ig (ix2 0 k) (ix2 0 k) fun a => ?_
    fin_cases a <;> first | rfl | exact (Nat.zero_add _).symm
  · refine Lay.rd_unit arg5 harg5 x2 _ _ is2 (ix3 0 0 k) (ix3 0 0 k) fun a => ?_
    fin_cases a <;> first | rfl | exact (Nat.zero_add _).symm
  · refine Lay.rd_unit arg6 harg6 x3 _ _ is1 (ix3 0 0 k) (ix3 0 0 k) fun a => ?_
    fin_cases a <;> first | rfl | exact (Nat.zero_add _).symm

theorem wts (inb) (k : Fin 1024) (e : Fin 2816) :
    (View.readAt (Elt Ideal) arg7.view (Rect.unit (s := S1024x2816) ![0, 0] S1024x2816.size inb).toLoadRect (harg7.unread x4) : S1024x2816.Idx → EReal) (ix2 k e) = x4 (ix2 k e) := by
  refine Lay.rd_unit arg7 harg7 x4 _ _ inb (ix2 k e) (ix2 k e) fun a => ?_
  fin_cases a <;> exact (Nat.zero_add _).symm

theorem kept (xs : Vec Ideal S1024x1024 .bf16) (inb) (n k : Fin 1024) :
    (View.readAt (Elt Ideal) arg9.view (Rect.unit (s := S1024x1024) ![0, 0] S1024x1024.size inb).toLoadRect (harg9.unread xs) : S1024x1024.Idx → EReal) (ix2 n k) = xs (ix2 n k) := by
  refine Lay.rd_unit arg9 harg9 xs _ _ inb (ix2 n k) (ix2 n k) fun a => ?_
  fin_cases a <;> exact (Nat.zero_add _).symm

/-- A chunk's stored product against the block's. -/
theorem chunkOut (o : ℕ) (inb : ∀ a, (![0, o, 0] : Fin 3 → ℕ) a + S1x256x1024.size a ≤ S1x1024x1024.size a) (ig is1 is2 iw)
    (n : Fin 256) (e : Fin 2816) (ho : o + n.val < 1024) :
    (k0_pay6 (k0_pay5 (View.readAt (Elt Ideal) arg3.view (Rect.unit (s := S1x1024x1024) ![0, o, 0] S1x256x1024.size inb).toLoadRect (harg3.unread x0))
      (View.readAt (Elt Ideal) arg4.view (Rect.unit (s := S1x1024) ![0, 0] S1x1024.size ig).toLoadRect (harg4.unread x1))
      (View.readAt (Elt Ideal) arg6.view (Rect.unit (s := S1x1x1024) ![0, 0, 0] S1x1x1024.size is1).toLoadRect (harg6.unread x3))
      (View.readAt (Elt Ideal) arg5.view (Rect.unit (s := S1x1x1024) ![0, 0, 0] S1x1x1024.size is2).toLoadRect (harg5.unread x2))
      (View.readAt (Elt Ideal) arg7.view (Rect.unit (s := S1024x2816) ![0, 0] S1024x2816.size iw).toLoadRect (harg7.unread x4))) : S1x256x2816.Idx → EReal) (ix3 0 n e)
      = ∑ k, hid x0 x1 x2 x3 ⟨o + n.val, ho⟩ k * x4 (ix2 k e) := by
  rw [pay6_at]
  refine Finset.sum_congr rfl fun k _ => ?_
  rw [chunk o inb ig is1 is2 n k ho, wts]

end loads

section body
variable (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x2816 .bf16) (harg7 : arg7.IsWhole) (arg8 : Memref sig .tc .vmem S1x1024x2816 .bf16) (harg8 : arg8.IsWhole) (arg9 : Memref sig .tc .vmem S1024x1024 .bf16) (harg9 : arg9.IsWhole)
  (x0 : Vec Ideal S1x1024x1024 .f32) (x1 : Vec Ideal S1x1024 .f32) (x2 : Vec Ideal S1x1x1024 .f32) (x3 : Vec Ideal S1x1x1024 .f32) (x4 : Vec Ideal S1024x2816 .bf16)

set_option maxHeartbeats 1000000 in
/-- What the first point of a pair leaves in the scratch. -/
theorem soutA (hc0 : cond0_0 i) (hc1 : ¬cond0_1 i) (n k : Fin 1024) : (sout0_A_0 (F := Ideal) c i arg3 harg3 arg4 harg4 arg5 harg5 arg6 harg6 arg7 harg7 arg8 harg8 arg9 harg9 hc0 hc1 x0 x1 x2 x3 x4 : S1024x1024.Idx → EReal) (ix2 n k) = hid x0 x1 x2 x3 n k := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  refine (View.canon_apply_of_pieces (fun y : S1024x1024.Idx => hid x0 x1 x2 x3 (y 0) (y 1)) _ ?_ (ix2 n k) (scover0_A_0 c i arg3 harg3 arg4 harg4 arg5 harg5 arg6 harg6 arg7 harg7 arg8 harg8 arg9 harg9 hc0 hc1 x0 x1 x2 x3 x4 _)).trans rfl
  unfold kernelRun0_A
  dsimp only
  sl_unfold_words
  intro p hp
  simp only [List.mem_cons, List.mem_nil_iff, or_false] at hp
  rcases hp with rfl | rfl | rfl | rfl
  all_goals
    intro x
    obtain ⟨n, k, rfl⟩ : ∃ (n : Fin 256) (k : Fin 1024), x = ix2 n k := ⟨x 0, x 1, (ix2_eta x).symm⟩
    have hn := n.isLt
  · exact (pay4_at _ _ _ _ n k).trans ((chunk 768 inb_S1x1024x1024_S1x256x1024_0_768_0 _ _ _ n k (by omega)).trans
      (congrArg₂ (hid x0 x1 x2 x3) (Fin.ext (by show 768 + n.val = 768 + 1 * n.val; omega)) (Fin.ext (by show k.val = 0 + 1 * k.val; omega))))
  · exact (pay4_at _ _ _ _ n k).trans ((chunk 512 inb_S1x1024x1024_S1x256x1024_0_512_0 _ _ _ n k (by omega)).trans
      (congrArg₂ (hid x0 x1 x2 x3) (Fin.ext (by show 512 + n.val = 512 + 1 * n.val; omega)) (Fin.ext (by show k.val = 0 + 1 * k.val; omega))))
  · exact (pay4_at _ _ _ _ n k).trans ((chunk 256 inb_S1x1024x1024_S1x256x1024_0_256_0 _ _ _ n k (by omega)).trans
      (congrArg₂ (hid x0 x1 x2 x3) (Fin.ext (by show 256 + n.val = 256 + 1 * n.val; omega)) (Fin.ext (by show k.val = 0 + 1 * k.val; omega))))
  · exact (pay4_at _ _ _ _ n k).trans ((chunk 0 inb_S1x1024x1024_S1x256x1024_0_0_0 _ _ _ n k (by omega)).trans
      (congrArg₂ (hid x0 x1 x2 x3) (Fin.ext (by show 0 + n.val = 0 + 1 * n.val; omega)) (Fin.ext (by show k.val = 0 + 1 * k.val; omega))))

set_option maxHeartbeats 1000000 in
/-- What the first point of a pair leaves in the result's block. -/
theorem outA (hc0 : cond0_0 i) (hc1 : ¬cond0_1 i) (n : Fin 1024) (e : Fin 2816) : (out0_A_5 (F := Ideal) c i arg3 harg3 arg4 harg4 arg5 harg5 arg6 harg6 arg7 harg7 arg8 harg8 arg9 harg9 hc0 hc1 x0 x1 x2 x3 x4 : S1x1024x2816.Idx → EReal) (ix3 0 n e) = ∑ k, hid x0 x1 x2 x3 n k * x4 (ix2 k e) := by
  unfold out0_A_5
  rw [View.read_writes_eq_canon _ _ _ (cover0_A_5 c i arg3 harg3 arg4 harg4 arg5 harg5 arg6 harg6 arg7 harg7 arg8 harg8 arg9 harg9 hc0 hc1 x0 x1 x2 x3 x4)]
  refine (View.canon_apply_of_pieces (fun y : S1x1024x2816.Idx => (∑ k, hid x0 x1 x2 x3 (y 1) k * x4 (ix2 k (y 2)) : EReal)) _ ?_ (ix3 0 n e) (cover0_A_5 c i arg3 harg3 arg4 harg4 arg5 harg5 arg6 harg6 arg7 harg7 arg8 harg8 arg9 harg9 hc0 hc1 x0 x1 x2 x3 x4 _)).trans rfl
  unfold kernelRun0_A
  dsimp only
  sl_unfold_words
  intro p hp
  simp only [List.mem_cons, List.mem_nil_iff, or_false] at hp
  have cl (o : ℕ) (n : Fin 256) (e : Fin 2816) (ho : o + n.val < 1024) (y : S1x1024x2816.Idx) (h1 : (y 1).val = o + 1 * n.val) (h2 : (y 2).val = 0 + 1 * e.val) :
      (∑ k, hid x0 x1 x2 x3 ⟨o + n.val, ho⟩ k * x4 (ix2 k e) : EReal) = ∑ k, hid x0 x1 x2 x3 (y 1) k * x4 (ix2 k (y 2)) := by
    have e1 : (⟨o + n.val, ho⟩ : Fin 1024) = y 1 := Fin.ext (by show o + n.val = _; rw [h1]; omega)
    have e2 : e = y 2 := Fin.ext (by rw [h2]; omega)
    rw [e1, e2]
  rcases hp with rfl | rfl | rfl | rfl
  all_goals
    intro x
    obtain ⟨z, n, e, rfl⟩ : ∃ (z : Fin 1) (n : Fin 256) (e : Fin 2816), x = ix3 z n e := ⟨x 0, x 1, x 2, (ix3_eta x).symm⟩
    obtain rfl : z = 0 := Subsingleton.elim _ _
    have hn := n.isLt
  · exact (chunkOut 768 inb_S1x1024x1024_S1x256x1024_0_768_0 _ _ _ _ n e (by omega)).trans (cl 768 n e _ _ rfl rfl)
  · exact (chunkOut 512 inb_S1x1024x1024_S1x256x1024_0_512_0 _ _ _ _ n e (by omega)).trans (cl 512 n e _ _ rfl rfl)
  · exact (chunkOut 256 inb_S1x1024x1024_S1x256x1024_0_256_0 _ _ _ _ n e (by omega)).trans (cl 256 n e _ _ rfl rfl)
  · exact (chunkOut 0 inb_S1x1024x1024_S1x256x1024_0_0_0 _ _ _ _ n e (by omega)).trans (cl 0 n e _ _ rfl rfl)

set_option maxHeartbeats 1000000 in
/-- What the second point of a pair leaves in the result's block. -/
theorem outB (hc0 : ¬cond0_0 i) (hc1 : cond0_1 i) (xs : Vec Ideal S1024x1024 .bf16) (n : Fin 1024) (e : Fin 2816) : (out0_B_5 (F := Ideal) c i arg3 harg3 arg4 harg4 arg5 harg5 arg6 harg6 arg7 harg7 arg8 harg8 arg9 harg9 hc0 hc1 x0 x1 x2 x3 x4 xs : S1x1024x2816.Idx → EReal) (ix3 0 n e) = ∑ k, xs (ix2 n k) * x4 (ix2 k e) := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xs)]
  unfold kernelRun0_B
  dsimp only
  sl_unfold_words
  rw [View.canon_unit_zero (View.eq_zero_of_forall (by decide)), pay2_at]
  refine Finset.sum_congr rfl fun k _ => ?_
  rw [kept, wts]

end body

/-- A row of the normalised, modulated activations. -/
def row (X : S4x4096x1024.Idx → EReal) (g : S1024.Idx → EReal) (sh sc : S4x1x1024.Idx → EReal) (b : Fin 4) (n : Fin 4096) (k : Fin 1024) : EReal :=
  Lay.modn (fun k => X (ix3 b n k)) (fun k => g (ix1 k)) (fun k => sh (ix3 b 0 k)) (fun k => sc (ix3 b 0 k)) k

theorem hid_blk (c : Dev nD) (t : Fin cfg0.N) (b : Fin 4) (n : Fin 4096) (r k : Fin 1024) (hb : b.val = t.val / 8) (hn : n.val = 1024 * (t.val / 2 % 4) + r.val) :
    hid (iblk m c 0 t) (iblk m c 1 t) (iblk m c 2 t) (iblk m c 3 t) r k
      = row (m ((c : Thread nD τ).loc main_arg0)) (m ((c : Thread nD τ).loc main_arg1)) (m ((c : Thread nD τ).loc main_arg2)) (m ((c : Thread nD τ).loc main_arg3)) b n k := by
  have tl := lt_of_lt_of_eq t.isLt nGrid
  have hb' : (⟨t.val / 8, by omega⟩ : Fin 4) = b := Fin.ext hb.symm
  have hn' : (⟨1024 * (t.val / 2 % 4) + r.val, by omega⟩ : Fin 4096) = n := Fin.ext hn.symm
  unfold hid row
  simp only [blk_0, blk_1, blk_2, blk_3, row1]
  rw [hb', hn']

/-- What the first point of a pair leaves in the scratch, by the pair's block. -/
theorem scr (c : Dev nD) (t : Fin cfg0.N) (h : t.val % 2 = 0) (r k : Fin 1024) :
    ((outsAt0 m c t.val t.isLt).2 : S1024x1024.Idx → EReal) (ix2 r k) = hid (iblk m c 0 t) (iblk m c 1 t) (iblk m c 2 t) (iblk m c 3 t) r k := by
  rw [outsAt0_A m c t h (by omega)]
  dsimp only
  exact soutA _ _ _ _ _ _ _ _ _ _ _ _ _ _ _ _ _ _ _ _ _ _ _ r k

/-- What a point writes back. -/
theorem point (c : Dev nD) (t : Fin cfg0.N) (b : Fin 4) (n : Fin 4096) (e : Fin 5632) (r : Fin 1024) (q : Fin 2816)
    (hb : b.val = t.val / 8) (hn : n.val = 1024 * (t.val / 2 % 4) + r.val) (he : e.val = 2816 * (t.val % 2) + q.val) :
    ((dats m 0 c).flushed 5 t : S1x1024x2816.Idx → EReal) (ix3 0 r q)
      = ∑ k, row (m ((c : Thread nD τ).loc main_arg0)) (m ((c : Thread nD τ).loc main_arg1)) (m ((c : Thread nD τ).loc main_arg2)) (m ((c : Thread nD τ).loc main_arg3)) b n k * (m ((c : Thread nD τ).loc main_arg4) : S1024x5632.Idx → EReal) (ix2 k e) := by
  have tl := lt_of_lt_of_eq t.isLt nGrid
  have he' : (⟨2816 * (t.val % 2) + q.val, by omega⟩ : Fin 5632) = e := Fin.ext he.symm
  have w (k : Fin 1024) : (iblk m c 4 t : S1024x2816.Idx → EReal) (ix2 k q) = (m ((c : Thread nD τ).loc main_arg4) : S1024x5632.Idx → EReal) (ix2 k e) := by
    rw [blk_4, he']
  rcases Nat.mod_two_eq_zero_or_one t.val with h | h
  · rw [Cert.Kernel3Ideal.Value.flushed5_A m c t h (by omega)]
    refine (outA _ _ _ _ _ _ _ _ _ _ _ _ _ _ _ _ _ _ _ _ _ _ _ r q).trans (Finset.sum_congr rfl fun k _ => ?_)
    rw [hid_blk m c t b n r k hb hn, w]
  · rw [Cert.Kernel3Ideal.Value.flushed5_B m c t (by omega) h]
    refine (outB _ _ _ _ _ _ _ _ _ _ _ _ _ _ _ _ _ _ _ _ _ _ _ _ r q).trans (Finset.sum_congr rfl fun k _ => ?_)
    have s3 := scr m c ⟨t.val - 1, by omega⟩ (by show (t.val - 1) % 2 = 0; omega) r k
    rw [hid_blk m c ⟨t.val - 1, by omega⟩ b n r k (by show _ = (t.val - 1) / 8; omega) (by show _ = 1024 * ((t.val - 1) / 2 % 4) + _; omega)] at s3
    exact congrArg₂ (· * ·) s3 (w k)

/-- The array after the run, at a place. -/
theorem final (c : Dev nD) (b : Fin 4) (n : Fin 4096) (e : Fin 5632) :
    ((dats m 0 c).arrAt 5 cfg0.N : S4x4096x5632.Idx → EReal) (ix3 b n e)
      = ∑ k, row (m ((c : Thread nD τ).loc main_arg0)) (m ((c : Thread nD τ).loc main_arg1)) (m ((c : Thread nD τ).loc main_arg2)) (m ((c : Thread nD τ).loc main_arg3)) b n k * (m ((c : Thread nD τ).loc main_arg4) : S1024x5632.Idx → EReal) (ix2 k e) := by
  obtain ⟨t, ht⟩ : ∃ t : Fin cfg0.N, t.val = 8 * b.val + 2 * (n.val / 1024) + e.val / 2816 := ⟨⟨8 * b.val + 2 * (n.val / 1024) + e.val / 2816, by rw [nGrid]; omega⟩, rfl⟩
  obtain ⟨r, hr⟩ : ∃ r : Fin 1024, r.val = n.val % 1024 := ⟨⟨n.val % 1024, by omega⟩, rfl⟩
  obtain ⟨q, hq⟩ : ∃ q : Fin 2816, q.val = e.val % 2816 := ⟨⟨e.val % 2816, by omega⟩, rfl⟩
  have h := congrFun (Cert.Kernel3Ideal.Value.blocks5 m c t (flush0_5 t)) (ix3 0 r q : S1x1024x2816.Idx)
  have o := point m c t b n e r q (by omega) (by omega) (by omega)
  obtain ⟨i0, i1, i2⟩ := idx_5 t
  have em : ((cfg0.win 5).blk t).view.emb (ix3 0 r q : S1x1024x2816.Idx) = (ix3 b n e : S4x4096x5632.Idx) := by
    funext a
    apply Fin.ext
    match a with
    | ⟨0, _⟩ => show win0_5.index t (0 : Fin 3) * 1 + 1 * 0 = b.val; rw [i0]; omega
    | ⟨1, _⟩ => show win0_5.index t (1 : Fin 3) * 1024 + 1 * r.val = n.val; rw [i1]; omega
    | ⟨2, _⟩ => show win0_5.index t (2 : Fin 3) * 2816 + 1 * q.val = e.val; rw [i2]; omega
  exact (congrArg ((dats m 0 c).arrAt 5 cfg0.N : S4x4096x5632.Idx → EReal) em.symm).trans (Eq.trans h o)

end Cert.Kernel3Ideal.Gen

namespace Cert.Reference3Ideal.Gen

open Cert.Reference3Ideal Idealize.ShloMosaic Idealize.ShloMosaic.TcCoe Idealize.ShloMosaic.Tactic

/-- The reference's result from its arguments. -/
def out (a0 : FVec Ideal S4x4096x1024 .f32) (a1 : FVec Ideal S1024 .f32) (a2 a3 : FVec Ideal S4x1x1024 .f32) (a4 : FVec Ideal S1024x5632 .f32) : FVec Ideal S4x4096x5632 .bf16 :=
  truncf .bf16 (Host.dotGeneral dot_S4x4096x1024_S1024x5632_S4x4096x5632_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a1))) (broadcastInDim S4x4096x1024 ![0, 1, 2] bcast_S4x1x1024_S4x4096x1024_0_1_2 (addf (broadcastInDim S4x1x1024 ![] bcast_S_S4x1x1024 (constant S_ .f32 0x3F800000#32)) a3))) (broadcastInDim S4x4096x1024 ![0, 1, 2] bcast_S4x1x1024_S4x4096x1024_0_1_2 a2)) a4) bitsLt_bf16_f32

theorem out_at (a0 : FVec Ideal S4x4096x1024 .f32) (a1 : FVec Ideal S1024 .f32) (a2 a3 : FVec Ideal S4x1x1024 .f32) (a4 : FVec Ideal S1024x5632 .f32) (b : Fin 4) (n : Fin 4096) (e : Fin 5632) :
    (out a0 a1 a2 a3 a4 : S4x4096x5632.Idx → EReal) (ix3 b n e) = ∑ k, Cert.Kernel3Ideal.Gen.row a0 a1 a2 a3 b n k * a4 (ix2 k e) := by
  unfold out
  simp only [pointwise]
  simp [Cert.Kernel3Ideal.Gen.row, Lay.modn, Lay.nrm, Lay.inv]

end Cert.Reference3Ideal.Gen
-- ==== Proof.Down.lean ====
module

public import Idealize.ShloMosaic.Lib.Pointwise
public import Idealize.ShloMosaic.Lib.Pipeline.ValueKit
public import proofs.«01_k».proof.Proof.Gen.Kernel4Ideal.Value
public import proofs.«01_k».proof.Proof.Rms
public import proofs.«01_k».proof.Proof.Gen.Reference4Ideal.Run

@[expose] public section

set_option maxRecDepth 16384

noncomputable section

namespace Cert.Kernel4Ideal.Gen

open Cert.Kernel4Ideal Idealize.ShloMosaic Idealize.ShloMosaic.TcCoe Idealize.ShloMosaic.Tactic
open Idealize.SL Idealize.SL.RA Idealize.SL.BI

variable (m : (ℓ : Loc nD τ sig) → Buf (Elt Ideal) ℓ)

theorem nGrid : cfg0.N = 32 := by decide

theorem V_v0 (c : Dev nD) : V m c main_v0 = (m ((c : Thread nD τ).loc main_arg1) : S2816x1024.Idx → EReal) := by
  show StableHlo.after hostOps0 _ (Proc.devRef .tc main_v0) = _
  after_results
  rfl
theorem V_v1 (c : Dev nD) : V m c main_v1 = (shapeCast S1x1024 (m ((c : Thread nD τ).loc main_arg4) : FVec Ideal S1024 .f32) shapeCasts_S1024_S1x1024 : S1x1024.Idx → EReal) := by
  show StableHlo.after hostOps0 _ (Proc.devRef .tc main_v1) = _
  after_results
  rfl
theorem row1 (v : FVec Ideal S1024 .f32) (e : Fin 1024) : (shapeCast S1x1024 v shapeCasts_S1024_S1x1024 : S1x1024.Idx → EReal) (ix2 0 e) = v (ix1 e) := by
  simp only [pointwise]

theorem idx_0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem idx_3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)

theorem blk_0 (c : Dev nD) (t : Fin cfg0.N) (y : Fin 512) (z : Fin 2816) : (iblk m c 0 t : S1x512x2816.Idx → EReal) (ix3 0 y z) = (m ((c : Thread nD τ).loc main_arg0) : S4x4096x2816.Idx → EReal) (ix3 ⟨t.val / 8, by have := lt_of_lt_of_eq t.isLt nGrid; omega⟩ ⟨512 * (t.val % 8) + y.val, by have := lt_of_lt_of_eq t.isLt nGrid; omega⟩ z) := by
  obtain ⟨i0, i1, i2⟩ := idx_0 t
  refine Eq.trans ?_ (congrFun (V_main_arg0 m c) _)
  refine congrArg (V m c main_arg0 : S4x4096x2816.Idx → EReal) (a₁ := ((cfg0.win 0).blk t).view.emb (ix3 0 y z : S1x512x2816.Idx)) ?_
  funext a
  apply Fin.ext
  match a with
  | ⟨0, _⟩ => show win0_0.index t (0 : Fin 3) * 1 + 1 * 0 = t.val / 8; rw [i0] <;> omega
  | ⟨1, _⟩ => show win0_0.index t (1 : Fin 3) * 512 + 1 * y.val = 512 * (t.val % 8) + y.val; rw [i1] <;> omega
  | ⟨2, _⟩ => show win0_0.index t (2 : Fin 3) * 2816 + 1 * z.val = z.val; rw [i2] <;> omega

theorem blk_1 (c : Dev nD) (t : Fin cfg0.N) (x : Fin 2816) (y : Fin 1024) : (iblk m c 1 t : S2816x1024.Idx → EReal) (ix2 x y) = (m ((c : Thread nD τ).loc main_arg1) : S2816x1024.Idx → EReal) (ix2 x y) := by
  obtain ⟨i0, i1⟩ := idx_1 t
  refine Eq.trans ?_ (congrFun (V_v0 m c) _)
  refine congrArg (V m c main_v0 : S2816x1024.Idx → EReal) (a₁ := ((cfg0.win 1).blk t).view.emb (ix2 x y : S2816x1024.Idx)) ?_
  funext a
  apply Fin.ext
  match a with
  | ⟨0, _⟩ => show win0_1.index t (0 : Fin 2) * 2816 + 1 * x.val = x.val; rw [i0] <;> omega
  | ⟨1, _⟩ => show win0_1.index t (1 : Fin 2) * 1024 + 1 * y.val = y.val; rw [i1] <;> omega

theorem blk_2 (c : Dev nD) (t : Fin cfg0.N) (y : Fin 512) (z : Fin 1024) : (iblk m c 2 t : S1x512x1024.Idx → EReal) (ix3 0 y z) = (m ((c : Thread nD τ).loc main_arg2) : S4x4096x1024.Idx → EReal) (ix3 ⟨t.val / 8, by have := lt_of_lt_of_eq t.isLt nGrid; omega⟩ ⟨512 * (t.val % 8) + y.val, by have := lt_of_lt_of_eq t.isLt nGrid; omega⟩ z) := by
  obtain ⟨i0, i1, i2⟩ := idx_2 t
  refine Eq.trans ?_ (congrFun (V_main_arg2 m c) _)
  refine congrArg (V m c main_arg2 : S4x4096x1024.Idx → EReal) (a₁ := ((cfg0.win 2).blk t).view.emb (ix3 0 y z : S1x512x1024.Idx)) ?_
  funext a
  apply Fin.ext
  match a with
  | ⟨0, _⟩ => show win0_2.index t (0 : Fin 3) * 1 + 1 * 0 = t.val / 8; rw [i0] <;> omega
  | ⟨1, _⟩ => show win0_2.index t (1 : Fin 3) * 512 + 1 * y.val = 512 * (t.val % 8) + y.val; rw [i1] <;> omega
  | ⟨2, _⟩ => show win0_2.index t (2 : Fin 3) * 1024 + 1 * z.val = z.val; rw [i2] <;> omega

theorem blk_3 (c : Dev nD) (t : Fin cfg0.N) (z : Fin 1024) : (iblk m c 3 t : S1x1x1024.Idx → EReal) (ix3 0 0 z) = (m ((c : Thread nD τ).loc main_arg3) : S4x1x1024.Idx → EReal) (ix3 ⟨t.val / 8, by have := lt_of_lt_of_eq t.isLt nGrid; omega⟩ 0 z) := by
  obtain ⟨i0, i1, i2⟩ := idx_3 t
  refine Eq.trans ?_ (congrFun (V_main_arg3 m c) _)
  refine congrArg (V m c main_arg3 : S4x1x1024.Idx → EReal) (a₁ := ((cfg0.win 3).blk t).view.emb (ix3 0 0 z : S1x1x1024.Idx)) ?_
  funext a
  apply Fin.ext
  match a with
  | ⟨0, _⟩ => show win0_3.index t (0 : Fin 3) * 1 + 1 * 0 = t.val / 8; rw [i0] <;> omega
  | ⟨1, _⟩ => show win0_3.index t (1 : Fin 3) * 1 + 1 * 0 = 0; rw [i1] <;> omega
  | ⟨2, _⟩ => show win0_3.index t (2 : Fin 3) * 1024 + 1 * z.val = z.val; rw [i2] <;> omega

theorem blk_4 (c : Dev nD) (t : Fin cfg0.N) (y : Fin 1024) : (iblk m c 4 t : S1x1024.Idx → EReal) (ix2 0 y) = (shapeCast S1x1024 (m ((c : Thread nD τ).loc main_arg4) : FVec Ideal S1024 .f32) shapeCasts_S1024_S1x1024 : S1x1024.Idx → EReal) (ix2 0 y) := by
  obtain ⟨i0, i1⟩ := idx_4 t
  refine Eq.trans ?_ (congrFun (V_v1 m c) _)
  refine congrArg (V m c main_v1 : S1x1024.Idx → EReal) (a₁ := ((cfg0.win 4).blk t).view.emb (ix2 0 y : S1x1024.Idx)) ?_
  funext a
  apply Fin.ext
  match a with
  | ⟨0, _⟩ => show win0_4.index t (0 : Fin 2) * 1 + 1 * 0 = 0; rw [i0] <;> omega
  | ⟨1, _⟩ => show win0_4.index t (1 : Fin 2) * 1024 + 1 * y.val = y.val; rw [i1] <;> omega

/-- The residual row before the norm. -/
def res (A : Fin 2816 → EReal) (W : Fin 2816 → Fin 1024 → EReal) (X G : Fin 1024 → EReal) (e : Fin 1024) : EReal := X e + G e * ∑ k, A k * W k e

/-- What the body leaves at a place of its block. -/
theorem pay (x0 : Vec Ideal S1x512x2816 .bf16) (x1 : Vec Ideal S2816x1024 .bf16) (x2 : Vec Ideal S1x512x1024 .f32) (x3 : Vec Ideal S1x1x1024 .f32) (x4 : Vec Ideal S1x1024 .f32) (n : Fin 512) (e : Fin 1024) :
    (out0_5 x0 x1 x2 x3 x4 : S1x512x1024.Idx → EReal) (ix3 0 n e)
      = Lay.nrm 0x44800000#32 (res (fun k => x0 (ix3 0 n k)) (fun k e => x1 (ix2 k e)) (fun e => x2 (ix3 0 n e)) (fun e => x3 (ix3 0 0 e))) (fun e => x4 (ix2 0 e)) e := by
  unfold out0_5
  rw [View.canon_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide))]
  unfold k0_pay1
  simp only [pointwise]
  simp [Lay.nrm, Lay.inv, res]

/-- The array after the run, at a place. -/
theorem final (c : Dev nD) (b : Fin 4) (n : Fin 4096) (e : Fin 1024) :
    ((dats m 0 c).arrAt 5 cfg0.N : S4x4096x1024.Idx → EReal) (ix3 b n e)
      = Lay.nrm 0x44800000#32 (res (fun k => (m ((c : Thread nD τ).loc main_arg0) : S4x4096x2816.Idx → EReal) (ix3 b n k)) (fun k e => (m ((c : Thread nD τ).loc main_arg1) : S2816x1024.Idx → EReal) (ix2 k e)) (fun e => (m ((c : Thread nD τ).loc main_arg2) : S4x4096x1024.Idx → EReal) (ix3 b n e)) (fun e => (m ((c : Thread nD τ).loc main_arg3) : S4x1x1024.Idx → EReal) (ix3 b 0 e))) (fun e => (m ((c : Thread nD τ).loc main_arg4) : S1024.Idx → EReal) (ix1 e)) e := by
  obtain ⟨t, ht⟩ : ∃ t : Fin cfg0.N, t.val = 8 * b.val + n.val / 512 := ⟨⟨8 * b.val + n.val / 512, by rw [nGrid]; omega⟩, rfl⟩
  obtain ⟨r, hr⟩ : ∃ r : Fin 512, r.val = n.val % 512 := ⟨⟨n.val % 512, by omega⟩, rfl⟩
  have h := congrFun (Cert.Kernel4Ideal.Value.blocks5 m c t (flush0_5 t)) (ix3 0 r e : S1x512x1024.Idx)
  rw [Cert.Kernel4Ideal.Value.flushed5] at h
  have o := pay (iblk m c 0 t) (iblk m c 1 t) (iblk m c 2 t) (iblk m c 3 t) (iblk m c 4 t) r e
  simp only [blk_0, blk_1, blk_2, blk_3, blk_4, row1] at o
  have hb : (⟨t.val / 8, by omega⟩ : Fin 4) = b := Fin.ext (by show t.val / 8 = b.val; omega)
  have hn : (⟨512 * (t.val % 8) + r.val, by omega⟩ : Fin 4096) = n := Fin.ext (by show 512 * (t.val % 8) + r.val = n.val; omega)
  rw [hb, hn] at o
  obtain ⟨i0, i1, i2⟩ := idx_5 t
  have em : ((cfg0.win 5).blk t).view.emb (ix3 0 r e : S1x512x1024.Idx) = (ix3 b n e : S4x4096x1024.Idx) := by
    funext a
    apply Fin.ext
    match a with
    | ⟨0, _⟩ => show win0_5.index t (0 : Fin 3) * 1 + 1 * 0 = b.val; rw [i0]; omega
    | ⟨1, _⟩ => show win0_5.index t (1 : Fin 3) * 512 + 1 * r.val = n.val; rw [i1]; omega
    | ⟨2, _⟩ => show win0_5.index t (2 : Fin 3) * 1024 + 1 * e.val = e.val; rw [i2]; omega
  exact (congrArg ((dats m 0 c).arrAt 5 cfg0.N : S4x4096x1024.Idx → EReal) em.symm).trans (Eq.trans h o)

end Cert.Kernel4Ideal.Gen

namespace Cert.Reference4Ideal.Gen

open Cert.Reference4Ideal Idealize.ShloMosaic Idealize.ShloMosaic.TcCoe Idealize.ShloMosaic.Tactic

/-- The reference's result from its arguments. -/
def out (a0 : FVec Ideal S4x4096x2816 .bf16) (a1 : FVec Ideal S2816x1024 .f32) (a2 : FVec Ideal S4x4096x1024 .f32) (a3 : FVec Ideal S4x1x1024 .f32) (a4 : FVec Ideal S1024 .f32) : FVec Ideal S4x4096x1024 .f32 :=
  mulf (mulf (addf a2 (mulf (broadcastInDim S4x4096x1024 ![0, 1, 2] bcast_S4x1x1024_S4x4096x1024_0_1_2 a3) (Host.dotGeneral dot_S4x4096x2816_S2816x1024_S4x4096x1024_2_0_01_1_n_n none (extf .f32 a0 bitsLt_bf16_f32) a1))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (addf a2 (mulf (broadcastInDim S4x4096x1024 ![0, 1, 2] bcast_S4x1x1024_S4x4096x1024_0_1_2 a3) (Host.dotGeneral dot_S4x4096x2816_S2816x1024_S4x4096x1024_2_0_01_1_n_n none (extf .f32 a0 bitsLt_bf16_f32) a1))) (addf a2 (mulf (broadcastInDim S4x4096x1024 ![0, 1, 2] bcast_S4x1x1024_S4x4096x1024_0_1_2 a3) (Host.dotGeneral dot_S4x4096x2816_S2816x1024_S4x4096x1024_2_0_01_1_n_n none (extf .f32 a0 bitsLt_bf16_f32) a1)))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a4))

theorem out_at (a0 : FVec Ideal S4x4096x2816 .bf16) (a1 : FVec Ideal S2816x1024 .f32) (a2 : FVec Ideal S4x4096x1024 .f32) (a3 : FVec Ideal S4x1x1024 .f32) (a4 : FVec Ideal S1024 .f32) (b : Fin 4) (n : Fin 4096) (e : Fin 1024) :
    (out a0 a1 a2 a3 a4 : S4x4096x1024.Idx → EReal) (ix3 b n e)
      = Lay.nrm 0x44800000#32 (Cert.Kernel4Ideal.Gen.res (fun k => a0 (ix3 b n k)) (fun k e => a1 (ix2 k e)) (fun e => a2 (ix3 b n e)) (fun e => a3 (ix3 b 0 e))) (fun e => a4 (ix1 e)) e := by
  unfold out
  simp only [pointwise]
  simp [Lay.nrm, Lay.inv, Cert.Kernel4Ideal.Gen.res]

end Cert.Reference4Ideal.Gen
-- ==== Proof.Merge.lean ====
module

public import Idealize.ShloMosaic.Lib.Pointwise
public import Idealize.ShloMosaic.Lib.Pipeline.ValueKit
public import proofs.«01_k».proof.Proof.Gen.Kernel5Ideal.Value
public import proofs.«01_k».proof.Proof.Rms
public import proofs.«01_k».proof.Proof.Gen.Reference5Ideal.Run

@[expose] public section

set_option maxRecDepth 16384

noncomputable section

namespace Cert.Kernel5Ideal.Gen

open Cert.Kernel5Ideal Idealize.ShloMosaic Idealize.ShloMosaic.TcCoe Idealize.ShloMosaic.Tactic
open Idealize.SL Idealize.SL.RA Idealize.SL.BI

variable (m : (ℓ : Loc nD τ sig) → Buf (Elt Ideal) ℓ)

theorem nGrid : cfg0.N = 64 := N_0

theorem V_v0 (c : Dev nD) : V m c main_v0 = (m ((c : Thread nD τ).loc main_arg5) : S1024x1024.Idx → EReal) := by
  show StableHlo.after hostOps0 _ (Proc.devRef .tc main_v0) = _
  after_results
  rfl
theorem V_v1 (c : Dev nD) : V m c main_v1 = (m ((c : Thread nD τ).loc main_arg6) : S1024x1024.Idx → EReal) := by
  show StableHlo.after hostOps0 _ (Proc.devRef .tc main_v1) = _
  after_results
  rfl
theorem V_v2 (c : Dev nD) : V m c main_v2 = (m ((c : Thread nD τ).loc main_arg7) : S1024x1024.Idx → EReal) := by
  show StableHlo.after hostOps0 _ (Proc.devRef .tc main_v2) = _
  after_results
  rfl
theorem V_v3 (c : Dev nD) : V m c main_v3 = (m ((c : Thread nD τ).loc main_arg8) : S1024x1024.Idx → EReal) := by
  show StableHlo.after hostOps0 _ (Proc.devRef .tc main_v3) = _
  after_results
  rfl
theorem V_v4 (c : Dev nD) : V m c main_v4 = (shapeCast S1x128 (m ((c : Thread nD τ).loc main_arg1) : FVec Ideal S128 .f32) shapeCasts_S128_S1x128 : S1x128.Idx → EReal) := by
  show StableHlo.after hostOps0 _ (Proc.devRef .tc main_v4) = _
  after_results
  rfl
theorem row1 (v : FVec Ideal S128 .f32) (e : Fin 128) : (shapeCast S1x128 v shapeCasts_S128_S1x128 : S1x128.Idx → EReal) (ix2 0 e) = v (ix1 e) := by
  simp only [pointwise]

theorem idx_0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx_1 : ∀ t : Fin cfg0.N, win0_1.index t (0 : Fin 3) = t.val / 16 ∧ win0_1.index t (1 : Fin 3) = t.val % 16 ∧ win0_1.index t (2 : Fin 3) = 3 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 3) = t.val / 16 ∧ win0_3.index t (1 : Fin 3) = t.val % 16 ∧ win0_3.index t (2 : Fin 3) = 0 :=
  (by decide +kernel : ∀ t : Fin grid0.N, _)
theorem idx_4 : ∀ t : Fin cfg0.N, win0_4.index t (0 : Fin 3) = t.val / 16 ∧ win0_4.index t (1 : Fin 3) = t.val % 16 ∧ win0_4.index t (2 : Fin 3) = 0 :=
  (by decide +kernel : ∀ t : Fin grid0.N, _)
theorem idx_5 : ∀ t : Fin cfg0.N, win0_5.index t (0 : Fin 3) = t.val / 16 ∧ win0_5.index t (1 : Fin 3) = t.val % 16 ∧ win0_5.index t (2 : Fin 3) = 9 :=
  (by decide +kernel : ∀ t : Fin grid0.N, _)
theorem idx_6 : ∀ t : Fin cfg0.N, win0_6.index t (0 : Fin 3) = t.val / 16 ∧ win0_6.index t (1 : Fin 3) = t.val % 16 ∧ win0_6.index t (2 : Fin 3) = 10 :=
  (by decide +kernel : ∀ t : Fin grid0.N, _)
theorem idx_7 : ∀ t : Fin cfg0.N, win0_7.index t (0 : Fin 3) = t.val / 16 ∧ win0_7.index t (1 : Fin 3) = t.val % 16 ∧ win0_7.index t (2 : Fin 3) = 11 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 3) = t.val / 16 ∧ win0_12.index t (1 : Fin 3) = t.val % 16 ∧ win0_12.index t (2 : Fin 3) = 0 :=
  (by decide +kernel : ∀ t : Fin grid0.N, _)
theorem idx_13 : ∀ t : Fin cfg0.N, win0_13.index t (0 : Fin 3) = t.val / 16 ∧ win0_13.index t (1 : Fin 3) = 0 ∧ win0_13.index t (2 : Fin 3) = 0 :=
  (by decide +kernel : ∀ t : Fin grid0.N, _)
theorem idx_14 : ∀ t : Fin cfg0.N, win0_14.index t (0 : Fin 3) = t.val / 16 ∧ win0_14.index t (1 : Fin 3) = t.val % 16 ∧ win0_14.index t (2 : Fin 3) = 0 :=
  (by decide +kernel : ∀ t : Fin grid0.N, _)

theorem blk_0 (c : Dev nD) (t : Fin cfg0.N) (y : Fin 256) (z : Fin 1024) : (iblk m c 0 t : S1x256x1024.Idx → EReal) (ix3 0 y z) = (m ((c : Thread nD τ).loc main_arg0) : S4x4096x1024.Idx → EReal) (ix3 ⟨t.val / 16, by have := lt_of_lt_of_eq t.isLt nGrid; omega⟩ ⟨256 * (t.val % 16) + y.val, by have := lt_of_lt_of_eq t.isLt nGrid; omega⟩ z) := by
  obtain ⟨i0, i1, i2⟩ := idx_0 t
  refine Eq.trans ?_ (congrFun (V_main_arg0 m c) _)
  refine congrArg (V m c main_arg0 : S4x4096x1024.Idx → EReal) (a₁ := ((cfg0.win 0).blk t).view.emb (ix3 0 y z : S1x256x1024.Idx)) ?_
  funext a
  apply Fin.ext
  match a with
  | ⟨0, _⟩ => show win0_0.index t (0 : Fin 3) * 1 + 1 * 0 = t.val / 16; rw [i0] <;> omega
  | ⟨1, _⟩ => show win0_0.index t (1 : Fin 3) * 256 + 1 * y.val = 256 * (t.val % 16) + y.val; rw [i1] <;> omega
  | ⟨2, _⟩ => show win0_0.index t (2 : Fin 3) * 1024 + 1 * z.val = z.val; rw [i2] <;> omega

theorem blk_1 (c : Dev nD) (t : Fin cfg0.N) (y : Fin 256) (z : Fin 1024) : (iblk m c 1 t : S1x256x1024.Idx → EReal) (ix3 0 y z) = (m ((c : Thread nD τ).loc main_arg4) : S4x4096x12288.Idx → EReal) (ix3 ⟨t.val / 16, by have := lt_of_lt_of_eq t.isLt nGrid; omega⟩ ⟨256 * (t.val % 16) + y.val, by have := lt_of_lt_of_eq t.isLt nGrid; omega⟩ ⟨1024 * (3) + z.val, by have := lt_of_lt_of_eq t.isLt nGrid; omega⟩) := by
  obtain ⟨i0, i1, i2⟩ := idx_1 t
  refine Eq.trans ?_ (congrFun (V_main_arg4 m c) _)
  refine congrArg (V m c main_arg4 : S4x4096x12288.Idx → EReal) (a₁ := ((cfg0.win 1).blk t).view.emb (ix3 0 y z : S1x256x1024.Idx)) ?_
  funext a
  apply Fin.ext
  match a with
  | ⟨0, _⟩ => show win0_1.index t (0 : Fin 3) * 1 + 1 * 0 = t.val / 16; rw [i0] <;> omega
  | ⟨1, _⟩ => show win0_1.index t (1 : Fin 3) * 256 + 1 * y.val = 256 * (t.val % 16) + y.val; rw [i1] <;> omega
  | ⟨2, _⟩ => show win0_1.index t (2 : Fin 3) * 1024 + 1 * z.val = 1024 * (3) + z.val; rw [i2] <;> omega

theorem blk_2 (c : Dev nD) (t : Fin cfg0.N) (y : Fin 128) : (iblk m c 2 t : S1x128.Idx → EReal) (ix2 0 y) = (shapeCast S1x128 (m ((c : Thread nD τ).loc main_arg1) : FVec Ideal S128 .f32) shapeCasts_S128_S1x128 : S1x128.Idx → EReal) (ix2 0 y) := by
  obtain ⟨i0, i1⟩ := idx_2 t
  refine Eq.trans ?_ (congrFun (V_v4 m c) _)
  refine congrArg (V m c main_v4 : S1x128.Idx → EReal) (a₁ := ((cfg0.win 2).blk t).view.emb (ix2 0 y : S1x128.Idx)) ?_
  funext a
  apply Fin.ext
  match a with
  | ⟨0, _⟩ => show win0_2.index t (0 : Fin 2) * 1 + 1 * 0 = 0; rw [i0] <;> omega
  | ⟨1, _⟩ => show win0_2.index t (1 : Fin 2) * 128 + 1 * y.val = y.val; rw [i1] <;> omega

theorem blk_3 (c : Dev nD) (t : Fin cfg0.N) (y : Fin 256) (z : Fin 1024) : (iblk m c 3 t : S1x256x1024.Idx → EReal) (ix3 0 y z) = (m ((c : Thread nD τ).loc main_arg2) : S4x4096x1024.Idx → EReal) (ix3 ⟨t.val / 16, by have := lt_of_lt_of_eq t.isLt nGrid; omega⟩ ⟨256 * (t.val % 16) + y.val, by have := lt_of_lt_of_eq t.isLt nGrid; omega⟩ z) := by
  obtain ⟨i0, i1, i2⟩ := idx_3 t
  refine Eq.trans ?_ (congrFun (V_main_arg2 m c) _)
  refine congrArg (V m c main_arg2 : S4x4096x1024.Idx → EReal) (a₁ := ((cfg0.win 3).blk t).view.emb (ix3 0 y z : S1x256x1024.Idx)) ?_
  funext a
  apply Fin.ext
  match a with
  | ⟨0, _⟩ => show win0_3.index t (0 : Fin 3) * 1 + 1 * 0 = t.val / 16; rw [i0] <;> omega
  | ⟨1, _⟩ => show win0_3.index t (1 : Fin 3) * 256 + 1 * y.val = 256 * (t.val % 16) + y.val; rw [i1] <;> omega
  | ⟨2, _⟩ => show win0_3.index t (2 : Fin 3) * 1024 + 1 * z.val = z.val; rw [i2] <;> omega

theorem blk_4 (c : Dev nD) (t : Fin cfg0.N) (y : Fin 256) (z : Fin 1024) : (iblk m c 4 t : S1x256x1024.Idx → EReal) (ix3 0 y z) = (m ((c : Thread nD τ).loc main_arg3) : S4x4096x1024.Idx → EReal) (ix3 ⟨t.val / 16, by have := lt_of_lt_of_eq t.isLt nGrid; omega⟩ ⟨256 * (t.val % 16) + y.val, by have := lt_of_lt_of_eq t.isLt nGrid; omega⟩ z) := by
  obtain ⟨i0, i1, i2⟩ := idx_4 t
  refine Eq.trans ?_ (congrFun (V_main_arg3 m c) _)
  refine congrArg (V m c main_arg3 : S4x4096x1024.Idx → EReal) (a₁ := ((cfg0.win 4).blk t).view.emb (ix3 0 y z : S1x256x1024.Idx)) ?_
  funext a
  apply Fin.ext
  match a with
  | ⟨0, _⟩ => show win0_4.index t (0 : Fin 3) * 1 + 1 * 0 = t.val / 16; rw [i0] <;> omega
  | ⟨1, _⟩ => show win0_4.index t (1 : Fin 3) * 256 + 1 * y.val = 256 * (t.val % 16) + y.val; rw [i1] <;> omega
  | ⟨2, _⟩ => show win0_4.index t (2 : Fin 3) * 1024 + 1 * z.val = z.val; rw [i2] <;> omega

theorem blk_5 (c : Dev nD) (t : Fin cfg0.N) (y : Fin 256) (z : Fin 1024) : (iblk m c 5 t : S1x256x1024.Idx → EReal) (ix3 0 y z) = (m ((c : Thread nD τ).loc main_arg4) : S4x4096x12288.Idx → EReal) (ix3 ⟨t.val / 16, by have := lt_of_lt_of_eq t.isLt nGrid; omega⟩ ⟨256 * (t.val % 16) + y.val, by have := lt_of_lt_of_eq t.isLt nGrid; omega⟩ ⟨1024 * (9) + z.val, by have := lt_of_lt_of_eq t.isLt nGrid; omega⟩) := by
  obtain ⟨i0, i1, i2⟩ := idx_5 t
  refine Eq.trans ?_ (congrFun (V_main_arg4 m c) _)
  refine congrArg (V m c main_arg4 : S4x4096x12288.Idx → EReal) (a₁ := ((cfg0.win 5).blk t).view.emb (ix3 0 y z : S1x256x1024.Idx)) ?_
  funext a
  apply Fin.ext
  match a with
  | ⟨0, _⟩ => show win0_5.index t (0 : Fin 3) * 1 + 1 * 0 = t.val / 16; rw [i0] <;> omega
  | ⟨1, _⟩ => show win0_5.index t (1 : Fin 3) * 256 + 1 * y.val = 256 * (t.val % 16) + y.val; rw [i1] <;> omega
  | ⟨2, _⟩ => show win0_5.index t (2 : Fin 3) * 1024 + 1 * z.val = 1024 * (9) + z.val; rw [i2] <;> omega

theorem blk_6 (c : Dev nD) (t : Fin cfg0.N) (y : Fin 256) (z : Fin 1024) : (iblk m c 6 t : S1x256x1024.Idx → EReal) (ix3 0 y z) = (m ((c : Thread nD τ).loc main_arg4) : S4x4096x12288.Idx → EReal) (ix3 ⟨t.val / 16, by have := lt_of_lt_of_eq t.isLt nGrid; omega⟩ ⟨256 * (t.val % 16) + y.val, by have := lt_of_lt_of_eq t.isLt nGrid; omega⟩ ⟨1024 * (10) + z.val, by have := lt_of_lt_of_eq t.isLt nGrid; omega⟩) := by
  obtain ⟨i0, i1, i2⟩ := idx_6 t
  refine Eq.trans ?_ (congrFun (V_main_arg4 m c) _)
  refine congrArg (V m c main_arg4 : S4x4096x12288.Idx → EReal) (a₁ := ((cfg0.win 6).blk t).view.emb (ix3 0 y z : S1x256x1024.Idx)) ?_
  funext a
  apply Fin.ext
  match a with
  | ⟨0, _⟩ => show win0_6.index t (0 : Fin 3) * 1 + 1 * 0 = t.val / 16; rw [i0] <;> omega
  | ⟨1, _⟩ => show win0_6.index t (1 : Fin 3) * 256 + 1 * y.val = 256 * (t.val % 16) + y.val; rw [i1] <;> omega
  | ⟨2, _⟩ => show win0_6.index t (2 : Fin 3) * 1024 + 1 * z.val = 1024 * (10) + z.val; rw [i2] <;> omega

theorem blk_7 (c : Dev nD) (t : Fin cfg0.N) (y : Fin 256) (z : Fin 1024) : (iblk m c 7 t : S1x256x1024.Idx → EReal) (ix3 0 y z) = (m ((c : Thread nD τ).loc main_arg4) : S4x4096x12288.Idx → EReal) (ix3 ⟨t.val / 16, by have := lt_of_lt_of_eq t.isLt nGrid; omega⟩ ⟨256 * (t.val % 16) + y.val, by have := lt_of_lt_of_eq t.isLt nGrid; omega⟩ ⟨1024 * (11) + z.val, by have := lt_of_lt_of_eq t.isLt nGrid; omega⟩) := by
  obtain ⟨i0, i1, i2⟩ := idx_7 t
  refine Eq.trans ?_ (congrFun (V_main_arg4 m c) _)
  refine congrArg (V m c main_arg4 : S4x4096x12288.Idx → EReal) (a₁ := ((cfg0.win 7).blk t).view.emb (ix3 0 y z : S1x256x1024.Idx)) ?_
  funext a
  apply Fin.ext
  match a with
  | ⟨0, _⟩ => show win0_7.index t (0 : Fin 3) * 1 + 1 * 0 = t.val / 16; rw [i0] <;> omega
  | ⟨1, _⟩ => show win0_7.index t (1 : Fin 3) * 256 + 1 * y.val = 256 * (t.val % 16) + y.val; rw [i1] <;> omega
  | ⟨2, _⟩ => show win0_7.index t (2 : Fin 3) * 1024 + 1 * z.val = 1024 * (11) + z.val; rw [i2] <;> omega

theorem blk_8 (c : Dev nD) (t : Fin cfg0.N) (x : Fin 1024) (y : Fin 1024) : (iblk m c 8 t : S1024x1024.Idx → EReal) (ix2 x y) = (m ((c : Thread nD τ).loc main_arg5) : S1024x1024.Idx → EReal) (ix2 x y) := by
  obtain ⟨i0, i1⟩ := idx_8 t
  refine Eq.trans ?_ (congrFun (V_v0 m c) _)
  refine congrArg (V m c main_v0 : S1024x1024.Idx → EReal) (a₁ := ((cfg0.win 8).blk t).view.emb (ix2 x y : S1024x1024.Idx)) ?_
  funext a
  apply Fin.ext
  match a with
  | ⟨0, _⟩ => show win0_8.index t (0 : Fin 2) * 1024 + 1 * x.val = x.val; rw [i0] <;> omega
  | ⟨1, _⟩ => show win0_8.index t (1 : Fin 2) * 1024 + 1 * y.val = y.val; rw [i1] <;> omega

theorem blk_9 (c : Dev nD) (t : Fin cfg0.N) (x : Fin 1024) (y : Fin 1024) : (iblk m c 9 t : S1024x1024.Idx → EReal) (ix2 x y) = (m ((c : Thread nD τ).loc main_arg6) : S1024x1024.Idx → EReal) (ix2 x y) := by
  obtain ⟨i0, i1⟩ := idx_9 t
  refine Eq.trans ?_ (congrFun (V_v1 m c) _)
  refine congrArg (V m c main_v1 : S1024x1024.Idx → EReal) (a₁ := ((cfg0.win 9).blk t).view.emb (ix2 x y : S1024x1024.Idx)) ?_
  funext a
  apply Fin.ext
  match a with
  | ⟨0, _⟩ => show win0_9.index t (0 : Fin 2) * 1024 + 1 * x.val = x.val; rw [i0] <;> omega
  | ⟨1, _⟩ => show win0_9.index t (1 : Fin 2) * 1024 + 1 * y.val = y.val; rw [i1] <;> omega

theorem blk_10 (c : Dev nD) (t : Fin cfg0.N) (x : Fin 1024) (y : Fin 1024) : (iblk m c 10 t : S1024x1024.Idx → EReal) (ix2 x y) = (m ((c : Thread nD τ).loc main_arg7) : S1024x1024.Idx → EReal) (ix2 x y) := by
  obtain ⟨i0, i1⟩ := idx_10 t
  refine Eq.trans ?_ (congrFun (V_v2 m c) _)
  refine congrArg (V m c main_v2 : S1024x1024.Idx → EReal) (a₁ := ((cfg0.win 10).blk t).view.emb (ix2 x y : S1024x1024.Idx)) ?_
  funext a
  apply Fin.ext
  match a with
  | ⟨0, _⟩ => show win0_10.index t (0 : Fin 2) * 1024 + 1 * x.val = x.val; rw [i0] <;> omega
  | ⟨1, _⟩ => show win0_10.index t (1 : Fin 2) * 1024 + 1 * y.val = y.val; rw [i1] <;> omega

theorem blk_11 (c : Dev nD) (t : Fin cfg0.N) (x : Fin 1024) (y : Fin 1024) : (iblk m c 11 t : S1024x1024.Idx → EReal) (ix2 x y) = (m ((c : Thread nD τ).loc main_arg8) : S1024x1024.Idx → EReal) (ix2 x y) := by
  obtain ⟨i0, i1⟩ := idx_11 t
  refine Eq.trans ?_ (congrFun (V_v3 m c) _)
  refine congrArg (V m c main_v3 : S1024x1024.Idx → EReal) (a₁ := ((cfg0.win 11).blk t).view.emb (ix2 x y : S1024x1024.Idx)) ?_
  funext a
  apply Fin.ext
  match a with
  | ⟨0, _⟩ => show win0_11.index t (0 : Fin 2) * 1024 + 1 * x.val = x.val; rw [i0] <;> omega
  | ⟨1, _⟩ => show win0_11.index t (1 : Fin 2) * 1024 + 1 * y.val = y.val; rw [i1] <;> omega

theorem blk_12 (c : Dev nD) (t : Fin cfg0.N) (y : Fin 256) (z : Fin 1024) : (iblk m c 12 t : S1x256x1024.Idx → EReal) (ix3 0 y z) = (m ((c : Thread nD τ).loc main_arg9) : S4x4096x1024.Idx → EReal) (ix3 ⟨t.val / 16, by have := lt_of_lt_of_eq t.isLt nGrid; omega⟩ ⟨256 * (t.val % 16) + y.val, by have := lt_of_lt_of_eq t.isLt nGrid; omega⟩ z) := by
  obtain ⟨i0, i1, i2⟩ := idx_12 t
  refine Eq.trans ?_ (congrFun (V_main_arg9 m c) _)
  refine congrArg (V m c main_arg9 : S4x4096x1024.Idx → EReal) (a₁ := ((cfg0.win 12).blk t).view.emb (ix3 0 y z : S1x256x1024.Idx)) ?_
  funext a
  apply Fin.ext
  match a with
  | ⟨0, _⟩ => show win0_12.index t (0 : Fin 3) * 1 + 1 * 0 = t.val / 16; rw [i0] <;> omega
  | ⟨1, _⟩ => show win0_12.index t (1 : Fin 3) * 256 + 1 * y.val = 256 * (t.val % 16) + y.val; rw [i1] <;> omega
  | ⟨2, _⟩ => show win0_12.index t (2 : Fin 3) * 1024 + 1 * z.val = z.val; rw [i2] <;> omega

theorem blk_13 (c : Dev nD) (t : Fin cfg0.N) (z : Fin 1024) : (iblk m c 13 t : S1x1x1024.Idx → EReal) (ix3 0 0 z) = (m ((c : Thread nD τ).loc main_arg10) : S4x1x1024.Idx → EReal) (ix3 ⟨t.val / 16, by have := lt_of_lt_of_eq t.isLt nGrid; omega⟩ 0 z) := by
  obtain ⟨i0, i1, i2⟩ := idx_13 t
  refine Eq.trans ?_ (congrFun (V_main_arg10 m c) _)
  refine congrArg (V m c main_arg10 : S4x1x1024.Idx → EReal) (a₁ := ((cfg0.win 13).blk t).view.emb (ix3 0 0 z : S1x1x1024.Idx)) ?_
  funext a
  apply Fin.ext
  match a with
  | ⟨0, _⟩ => show win0_13.index t (0 : Fin 3) * 1 + 1 * 0 = t.val / 16; rw [i0] <;> omega
  | ⟨1, _⟩ => show win0_13.index t (1 : Fin 3) * 1 + 1 * 0 = 0; rw [i1] <;> omega
  | ⟨2, _⟩ => show win0_13.index t (2 : Fin 3) * 1024 + 1 * z.val = z.val; rw [i2] <;> omega

/-- The sigmoid, as both programs spell it. -/
def sg (x : EReal) : EReal := Ideal.div 1 (1 + Ideal.exp (-x))

/-- One head's normalised row, gated. -/
def hd (O Z g : Fin 128 → EReal) (j : Fin 128) : EReal := Lay.nrm 0x43000000#32 O g j * (Z j * sg (Z j))

/-- The heads side by side. -/
def wide (O Z : Fin 1024 → EReal) (g : Fin 128 → EReal) (k : Fin 1024) : EReal :=
  hd (fun j => O ⟨128 * (k.val / 128) + j.val, by omega⟩) (fun j => Z ⟨128 * (k.val / 128) + j.val, by omega⟩) g ⟨k.val % 128, by omega⟩

/-- The merged row. -/
def mix (D Y L G1 G2 G3 : Fin 1024 → EReal) (W1 W2 W3 : Fin 1024 → Fin 1024 → EReal) (e : Fin 1024) : EReal :=
  sg (G1 e) * ∑ k, D k * W1 k e + sg (G2 e) * ∑ k, Y k * W2 k e + sg (G3 e) * ∑ k, L k * W3 k e

theorem pay2_at (o : Vec Ideal S1x256x128 .bf16) (g : Vec Ideal S1x128 .f32) (z : Vec Ideal S1x256x128 .bf16) (n : Fin 256) (j : Fin 128) :
    (k0_pay2 o g z : S256x128.Idx → EReal) (ix2 n j) = hd (fun j => o (ix3 0 n j)) (fun j => z (ix3 0 n j)) (fun j => g (ix2 0 j)) j := by
  unfold k0_pay2
  simp only [pointwise]
  simp [Lay.nrm, Lay.inv, hd, sg]

/-- The heads' payloads are one payload at the heads' columns. -/
theorem cat (o0 o1 o2 o3 o4 o5 o6 o7 z0 z1 z2 z3 z4 z5 z6 z7 : Vec Ideal S1x256x128 .bf16) (g : Vec Ideal S1x128 .f32) :
    k0_pay17 (k0_pay2 o0 g z0) (k0_pay5 (k0_pay3 o1) (k0_pay4 o1) (Scalar.ofBits .f32 0x358637BD#32) g z1) (k0_pay8 (k0_pay6 o2 g) (k0_pay7 z2)) (k0_pay9 o3 g z3) (k0_pay10 o4 g z4)
        (k0_pay13 (k0_pay11 o5) (k0_pay12 o5) g z5) (k0_pay14 o6 g) (k0_pay15 z6) (k0_pay16 z6) o7 g z7
      = concatenate S256x1024 1 [⟨S256x128, k0_pay2 o0 g z0⟩, ⟨S256x128, k0_pay2 o1 g z1⟩, ⟨S256x128, k0_pay2 o2 g z2⟩, ⟨S256x128, k0_pay2 o3 g z3⟩, ⟨S256x128, k0_pay2 o4 g z4⟩, ⟨S256x128, k0_pay2 o5 g z5⟩, ⟨S256x128, k0_pay2 o6 g z6⟩, ⟨S256x128, k0_pay2 o7 g z7⟩] concatenates_S256x128_S256x128_S256x128_S256x128_S256x128_S256x128_S256x128_S256x128_S256x1024_d1 := rfl

/-- A head's columns of the block. -/
theorem cols (x : Vec Ideal S1x256x1024 .bf16) (o : ℕ) (inb : ∀ a, (![0, 0, o] : Fin 3 → ℕ) a + S1x256x128.size a ≤ S1x256x1024.size a) (n : Fin 256) (j : Fin 128) (h : o + j.val < 1024) :
    (View.ld x (Rect.unit (s := S1x256x1024) ![0, 0, o] S1x256x128.size inb) : S1x256x128.Idx → EReal) (ix3 0 n j) = x (ix3 0 n ⟨o + j.val, h⟩) := by
  refine View.ld_unit_apply_of x _ _ inb (ix3 0 n j) (ix3 0 n ⟨o + j.val, h⟩) fun a => ?_
  fin_cases a <;> first | rfl | exact (Nat.zero_add _).symm

theorem wide_of (O Z : Fin 1024 → EReal) (g : Fin 128 → EReal) (h : ℕ) (hh : h < 8) (k : Fin 1024) (j : Fin 128) (hk : k.val = 128 * h + j.val) :
    hd (fun j => O ⟨128 * h + j.val, by omega⟩) (fun j => Z ⟨128 * h + j.val, by omega⟩) g j = wide O Z g k := by
  unfold wide
  have e1 : k.val / 128 = h := by omega
  have e2 : (⟨k.val % 128, by omega⟩ : Fin 128) = j := Fin.ext (by show k.val % 128 = j.val; omega)
  simp only [e1, e2]

theorem pay19_at (d : FVec Ideal S256x1024 .bf16) (g1 : Vec Ideal S1x256x1024 .bf16) (w1 : Vec Ideal S1024x1024 .bf16) (g2 y : Vec Ideal S1x256x1024 .bf16) (w2 : Vec Ideal S1024x1024 .bf16) (n : Fin 256) (e : Fin 1024) :
    (k0_pay19 d (k0_pay18 g1) w1 g2 y w2 : S256x1024.Idx → EReal) (ix2 n e)
      = sg (g1 (ix3 0 n e)) * ∑ k, d (ix2 n k) * w1 (ix2 k e) + sg (g2 (ix3 0 n e)) * ∑ k, y (ix3 0 n k) * w2 (ix2 k e) := by
  unfold k0_pay19 k0_pay18
  simp only [pointwise]
  simp [sg]

theorem pay1_at (p : FVec Ideal S256x1024 .f32) (g3 l : Vec Ideal S1x256x1024 .bf16) (w3 wo : Vec Ideal S1024x1024 .bf16) (x : Vec Ideal S1x256x1024 .f32) (g : Vec Ideal S1x1x1024 .f32) (n : Fin 256) (e : Fin 1024) :
    (k0_pay1 p (k0_pay20 g3) l w3 wo x g : S1x256x1024.Idx → EReal) (ix3 0 n e)
      = x (ix3 0 n e) + g (ix3 0 0 e) * ∑ q, (p (ix2 n q) + sg (g3 (ix3 0 n q)) * ∑ k, l (ix3 0 n k) * w3 (ix2 k q)) * wo (ix2 q e) := by
  unfold k0_pay1 k0_pay20
  simp only [pointwise]
  simp [sg]

/-- Eight pieces side by side, each agreeing with one row at its own columns, are that row. -/
theorem cat8 (v0 v1 v2 v3 v4 v5 v6 v7 : FVec Ideal S256x128 .bf16) (R : Fin 1024 → EReal) (n : Fin 256) (k : Fin 1024)
    (h0 : ∀ (j : Fin 128) (k : Fin 1024), k.val = 0 + j.val → (v0 : S256x128.Idx → EReal) (ix2 n j) = R k)
    (h1 : ∀ (j : Fin 128) (k : Fin 1024), k.val = 128 + j.val → (v1 : S256x128.Idx → EReal) (ix2 n j) = R k)
    (h2 : ∀ (j : Fin 128) (k : Fin 1024), k.val = 256 + j.val → (v2 : S256x128.Idx → EReal) (ix2 n j) = R k)
    (h3 : ∀ (j : Fin 128) (k : Fin 1024), k.val = 384 + j.val → (v3 : S256x128.Idx → EReal) (ix2 n j) = R k)
    (h4 : ∀ (j : Fin 128) (k : Fin 1024), k.val = 512 + j.val → (v4 : S256x128.Idx → EReal) (ix2 n j) = R k)
    (h5 : ∀ (j : Fin 128) (k : Fin 1024), k.val = 640 + j.val → (v5 : S256x128.Idx → EReal) (ix2 n j) = R k)
    (h6 : ∀ (j : Fin 128) (k : Fin 1024), k.val = 768 + j.val → (v6 : S256x128.Idx → EReal) (ix2 n j) = R k)
    (h7 : ∀ (j : Fin 128) (k : Fin 1024), k.val = 896 + j.val → (v7 : S256x128.Idx → EReal) (ix2 n j) = R k) :
    (concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩] concatenates_S256x128_S256x128_S256x128_S256x128_S256x128_S256x128_S256x128_S256x128_S256x1024_d1 : S256x1024.Idx → EReal) (ix2 n k) = R k := by
  have hk := k.isLt
  simp only [pointwise]
  have w : (![256, 128] : Fin 2 → ℕ) 1 = 128 := rfl
  have ne : ¬((0 : Fin 2).val = (1 : Fin 2).val) := by decide
  split_ifs <;> first
    | exact absurd ‹_› ne
    | exact h0 _ k (by simp only [] <;> omega)
    | exact h1 _ k (by show k.val = 128 + (k.val - 128); omega)
    | exact h2 _ k (by show k.val = 256 + (k.val - 128 - 128); omega)
    | exact h3 _ k (by show k.val = 384 + (k.val - 128 - 128 - 128); omega)
    | exact h4 _ k (by show k.val = 512 + (k.val - 128 - 128 - 128 - 128); omega)
    | exact h5 _ k (by show k.val = 640 + (k.val - 128 - 128 - 128 - 128 - 128); omega)
    | exact h6 _ k (by show k.val = 768 + (k.val - 128 - 128 - 128 - 128 - 128 - 128); omega)
    | exact h7 _ k (by show k.val = 896 + (k.val - 128 - 128 - 128 - 128 - 128 - 128 - 128); omega)

theorem cat_at (o z : Vec Ideal S1x256x1024 .bf16) (g : Vec Ideal S1x128 .f32) (n : Fin 256) (k : Fin 1024) :
    (concatenate S256x1024 1 [⟨S256x128, k0_pay2 (View.ld o r0_0) g (View.ld z r0_0)⟩, ⟨S256x128, k0_pay2 (View.ld o r0_2) g (View.ld z r0_2)⟩, ⟨S256x128, k0_pay2 (View.ld o r0_3) g (View.ld z r0_3)⟩, ⟨S256x128, k0_pay2 (View.ld o r0_4) g (View.ld z r0_4)⟩, ⟨S256x128, k0_pay2 (View.ld o r0_5) g (View.ld z r0_5)⟩, ⟨S256x128, k0_pay2 (View.ld o r0_6) g (View.ld z r0_6)⟩, ⟨S256x128, k0_pay2 (View.ld o r0_7) g (View.ld z r0_7)⟩, ⟨S256x128, k0_pay2 (View.ld o r0_8) g (View.ld z r0_8)⟩] concatenates_S256x128_S256x128_S256x128_S256x128_S256x128_S256x128_S256x128_S256x128_S256x1024_d1 : S256x1024.Idx → EReal) (ix2 n k)
      = wide (fun k => o (ix3 0 n k)) (fun k => z (ix3 0 n k)) (fun j => g (ix2 0 j)) k := by
  have pt (h : ℕ) (hh : h < 8) (inb : ∀ a, (![0, 0, 128 * h] : Fin 3 → ℕ) a + S1x256x128.size a ≤ S1x256x1024.size a) (j : Fin 128) (k : Fin 1024) (hk : k.val = 128 * h + j.val) :
      (k0_pay2 (View.ld o (Rect.unit (s := S1x256x1024) ![0, 0, 128 * h] S1x256x128.size inb)) g (View.ld z (Rect.unit (s := S1x256x1024) ![0, 0, 128 * h] S1x256x128.size inb)) : S256x128.Idx → EReal) (ix2 n j)
        = wide (fun k => o (ix3 0 n k)) (fun k => z (ix3 0 n k)) (fun j => g (ix2 0 j)) k := by
    rw [pay2_at, ← wide_of _ _ _ h hh k j hk]
    congr 1 <;> funext j
    · exact cols o _ inb n j (by omega)
    · exact cols z _ inb n j (by omega)
  exact cat8 _ _ _ _ _ _ _ _ _ n k (pt 0 (by omega) inb_S1x256x1024_S1x256x128_0_0_0) (pt 1 (by omega) inb_S1x256x1024_S1x256x128_0_0_128) (pt 2 (by omega) inb_S1x256x1024_S1x256x128_0_0_256) (pt 3 (by omega) inb_S1x256x1024_S1x256x128_0_0_384) (pt 4 (by omega) inb_S1x256x1024_S1x256x128_0_0_512) (pt 5 (by omega) inb_S1x256x1024_S1x256x128_0_0_640) (pt 6 (by omega) inb_S1x256x1024_S1x256x128_0_0_768) (pt 7 (by omega) inb_S1x256x1024_S1x256x128_0_0_896)

/-- What the body leaves at a place of its block. -/
theorem pay (x0 x1 : Vec Ideal S1x256x1024 .bf16) (x2 : Vec Ideal S1x128 .f32) (x3 x4 x5 x6 x7 : Vec Ideal S1x256x1024 .bf16) (x8 x9 x10 x11 : Vec Ideal S1024x1024 .bf16) (x12 : Vec Ideal S1x256x1024 .f32) (x13 : Vec Ideal S1x1x1024 .f32) (n : Fin 256) (e : Fin 1024) :
    (out0_14 x0 x1 x2 x3 x4 x5 x6 x7 x8 x9 x10 x11 x12 x13 : S1x256x1024.Idx → EReal) (ix3 0 n e)
      = x12 (ix3 0 n e) + x13 (ix3 0 0 e) * ∑ q, mix (wide (fun k => x0 (ix3 0 n k)) (fun k => x1 (ix3 0 n k)) (fun j => x2 (ix2 0 j))) (fun k => x3 (ix3 0 n k)) (fun k => x4 (ix3 0 n k))
          (fun k => x5 (ix3 0 n k)) (fun k => x6 (ix3 0 n k)) (fun k => x7 (ix3 0 n k)) (fun k e => x8 (ix2 k e)) (fun k e => x9 (ix2 k e)) (fun k e => x10 (ix2 k e)) q * x11 (ix2 q e) := by
  unfold out0_14
  rw [View.canon_unit_zero (View.eq_zero_of_forall (by decide)), cat]
  rw [View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide))]
  rw [pay1_at]
  simp only [pay19_at, cat_at]
  rfl

/-- The result's element, from the arguments. -/
def elem (a0 : S4x4096x1024.Idx → EReal) (a1 : S128.Idx → EReal) (a2 a3 : S4x4096x1024.Idx → EReal) (a4 : S4x4096x12288.Idx → EReal) (a5 a6 a7 a8 : S1024x1024.Idx → EReal)
    (a9 : S4x4096x1024.Idx → EReal) (a10 : S4x1x1024.Idx → EReal) (b : Fin 4) (n : Fin 4096) (e : Fin 1024) : EReal :=
  a9 (ix3 b n e) + a10 (ix3 b 0 e) * ∑ q, mix (wide (fun k => a0 (ix3 b n k)) (fun k => a4 (ix3 b n ⟨1024 * 3 + k.val, by omega⟩)) (fun j => a1 (ix1 j))) (fun k => a2 (ix3 b n k)) (fun k => a3 (ix3 b n k))
    (fun k => a4 (ix3 b n ⟨1024 * 9 + k.val, by omega⟩)) (fun k => a4 (ix3 b n ⟨1024 * 10 + k.val, by omega⟩)) (fun k => a4 (ix3 b n ⟨1024 * 11 + k.val, by omega⟩))
    (fun k e => a5 (ix2 k e)) (fun k e => a6 (ix2 k e)) (fun k e => a7 (ix2 k e)) q * a8 (ix2 q e)

/-- The array after the run, at a place. -/
theorem final (c : Dev nD) (b : Fin 4) (n : Fin 4096) (e : Fin 1024) :
    ((dats m 0 c).arrAt 14 cfg0.N : S4x4096x1024.Idx → EReal) (ix3 b n e)
      = elem (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b n e := by
  obtain ⟨t, ht⟩ : ∃ t : Fin cfg0.N, t.val = 16 * b.val + n.val / 256 := ⟨⟨16 * b.val + n.val / 256, by rw [nGrid]; omega⟩, rfl⟩
  obtain ⟨r, hr⟩ : ∃ r : Fin 256, r.val = n.val % 256 := ⟨⟨n.val % 256, by omega⟩, rfl⟩
  have h := congrFun (Cert.Kernel5Ideal.Value.blocks14 m c t (flush0_14 t)) (ix3 0 r e : S1x256x1024.Idx)
  rw [Cert.Kernel5Ideal.Value.flushed14] at h
  have o := pay (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r e
  simp only [blk_0, blk_1, blk_2, blk_3, blk_4, blk_5, blk_6, blk_7, blk_8, blk_9, blk_10, blk_11, blk_12, blk_13, row1] at o
  have hb : (⟨t.val / 16, by omega⟩ : Fin 4) = b := Fin.ext (by show t.val / 16 = b.val; omega)
  have hn : (⟨256 * (t.val % 16) + r.val, by omega⟩ : Fin 4096) = n := Fin.ext (by show 256 * (t.val % 16) + r.val = n.val; omega)
  rw [hb, hn] at o
  obtain ⟨i0, i1, i2⟩ := idx_14 t
  have em : ((cfg0.win 14).blk t).view.emb (ix3 0 r e : S1x256x1024.Idx) = (ix3 b n e : S4x4096x1024.Idx) := by
    funext a
    apply Fin.ext
    match a with
    | ⟨0, _⟩ => show win0_14.index t (0 : Fin 3) * 1 + 1 * 0 = b.val; rw [i0]; omega
    | ⟨1, _⟩ => show win0_14.index t (1 : Fin 3) * 256 + 1 * r.val = n.val; rw [i1]; omega
    | ⟨2, _⟩ => show win0_14.index t (2 : Fin 3) * 1024 + 1 * e.val = e.val; rw [i2]; omega
  exact (congrArg ((dats m 0 c).arrAt 14 cfg0.N : S4x4096x1024.Idx → EReal) em.symm).trans (Eq.trans h o)

end Cert.Kernel5Ideal.Gen

namespace Cert.Reference5Ideal.Gen

open Cert.Reference5Ideal Idealize.ShloMosaic Idealize.ShloMosaic.TcCoe Idealize.ShloMosaic.Tactic

variable (a0 : FVec Ideal S4x4096x1024 .bf16) (a1 : FVec Ideal S128 .f32) (a2 a3 : FVec Ideal S4x4096x1024 .bf16) (a4 : FVec Ideal S4x4096x12288 .bf16) (a5 a6 a7 a8 : FVec Ideal S1024x1024 .f32) (a9 : FVec Ideal S4x4096x1024 .f32) (a10 : FVec Ideal S4x1x1024 .f32)

/-- The delta net's rows after their norm and gate. -/
def odn : FVec Ideal S4x4096x1024 .f32 :=
  shapeCast S4x4096x1024 (mulf (mulf (mulf (shapeCast _ (extf .f32 a0 bitsLt_bf16_f32) shapeCasts_S4x4096x1024_S4x4096x8x128) (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf (shapeCast _ (extf .f32 a0 bitsLt_bf16_f32) shapeCasts_S4x4096x1024_S4x4096x8x128) (shapeCast _ (extf .f32 a0 bitsLt_bf16_f32) shapeCasts_S4x4096x1024_S4x4096x8x128)) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 a1))) (mulf (shapeCast _ (extf .f32 (extractStridedSlice S4x4096x1024 ![0, 0, 3072] a4 slices_S4x4096x12288_S4x4096x1024_0_0_3072) bitsLt_bf16_f32) shapeCasts_S4x4096x1024_S4x4096x8x128) (Host.divf (broadcastInDim S4x4096x8x128 ![] bcast_S_S4x4096x8x128 (constant S_ .f32 0x3F800000#32)) (addf (broadcastInDim S4x4096x8x128 ![] bcast_S_S4x4096x8x128 (constant S_ .f32 0x3F800000#32)) (Host.exp (Host.negf (shapeCast _ (extf .f32 (extractStridedSlice S4x4096x1024 ![0, 0, 3072] a4 slices_S4x4096x12288_S4x4096x1024_0_0_3072) bitsLt_bf16_f32) shapeCasts_S4x4096x1024_S4x4096x8x128))))))) shapeCasts_S4x4096x8x128_S4x4096x1024

/-- The three gates side by side. -/
def gts : FVec Ideal S4x4096x3072 .f32 :=
  Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf (extf .f32 (extractStridedSlice S4x4096x3072 ![0, 0, 9216] a4 slices_S4x4096x12288_S4x4096x3072_0_0_9216) bitsLt_bf16_f32))))

/-- The reference's result from its arguments. -/
def out : FVec Ideal S4x4096x1024 .f32 :=
  addf a9 (mulf (broadcastInDim S4x4096x1024 ![0, 1, 2] bcast_S4x1x1024_S4x4096x1024_0_1_2 a10) (Host.dotGeneral dot_S4x4096x1024_S1024x1024_S4x4096x1024_2_0_01_1_n_n none (addf (addf (mulf (extractStridedSlice S4x4096x1024 ![0, 0, 0] (gts a4) slices_S4x4096x3072_S4x4096x1024_0_0_0) (Host.dotGeneral dot_S4x4096x1024_S1024x1024_S4x4096x1024_2_0_01_1_n_n none (odn a0 a1 a4) a5)) (mulf (extractStridedSlice S4x4096x1024 ![0, 0, 1024] (gts a4) slices_S4x4096x3072_S4x4096x1024_0_0_1024) (Host.dotGeneral dot_S4x4096x1024_S1024x1024_S4x4096x1024_2_0_01_1_n_n none (extf .f32 a2 bitsLt_bf16_f32) a6))) (mulf (extractStridedSlice S4x4096x1024 ![0, 0, 2048] (gts a4) slices_S4x4096x3072_S4x4096x1024_0_0_2048) (Host.dotGeneral dot_S4x4096x1024_S1024x1024_S4x4096x1024_2_0_01_1_n_n none (extf .f32 a3 bitsLt_bf16_f32) a7))) a8))

theorem odn_at (b : Fin 4) (n : Fin 4096) (k : Fin 1024) :
    (odn a0 a1 a4 : S4x4096x1024.Idx → EReal) (ix3 b n k)
      = Cert.Kernel5Ideal.Gen.wide (fun k => a0 (ix3 b n k)) (fun k => a4 (ix3 b n ⟨1024 * 3 + k.val, by omega⟩)) (fun j => a1 (ix1 j)) k := by
  unfold odn
  simp only [pointwise]
  unfold Cert.Kernel5Ideal.Gen.wide Cert.Kernel5Ideal.Gen.hd Lay.nrm Lay.inv Cert.Kernel5Ideal.Gen.sg
  have hk : 128 * (k.val / 128) + k.val % 128 = k.val := by omega
  have hm : k.val / 128 * 128 = 128 * (k.val / 128) := Nat.mul_comm _ _
  simp [hk, hm]

theorem gts_at (b : Fin 4) (n : Fin 4096) (k : Fin 3072) :
    (gts a4 : S4x4096x3072.Idx → EReal) (ix3 b n k)
      = Cert.Kernel5Ideal.Gen.sg (a4 (ix3 b n ⟨9216 + k.val, by omega⟩)) := by
  unfold gts
  simp only [pointwise]
  simp [Cert.Kernel5Ideal.Gen.sg]

theorem out_at (b : Fin 4) (n : Fin 4096) (e : Fin 1024) :
    (out a0 a1 a2 a3 a4 a5 a6 a7 a8 a9 a10 : S4x4096x1024.Idx → EReal) (ix3 b n e)
      = Cert.Kernel5Ideal.Gen.elem a0 a1 a2 a3 a4 a5 a6 a7 a8 a9 a10 b n e := by
  unfold out Cert.Kernel5Ideal.Gen.elem Cert.Kernel5Ideal.Gen.mix
  simp only [pointwise, odn_at, gts_at]
  have h1 : ∀ x : Nat, 9216 + (1024 + x) = 10240 + x := by omega
  have h2 : ∀ x : Nat, 9216 + (2048 + x) = 11264 + x := by omega
  simp [h1, h2]

end Cert.Reference5Ideal.Gen
-- ==== Proof.Plain.lean ====
module

public import Idealize.ShloMosaic.Lib.Pointwise
public import Idealize.ShloMosaic.Lib.Pipeline.ValueKit
public import proofs.«01_k».proof.Proof.Gen.Kernel6Ideal.Value
public import proofs.«01_k».proof.Proof.Gen.Reference6Ideal.Run

@[expose] public section

set_option maxRecDepth 16384

noncomputable section

namespace Cert.Kernel6Ideal.Gen

open Cert.Kernel6Ideal Idealize.ShloMosaic Idealize.ShloMosaic.TcCoe Idealize.ShloMosaic.Tactic
open Idealize.SL Idealize.SL.RA Idealize.SL.BI

variable (m : (ℓ : Loc nD τ sig) → Buf (Elt Ideal) ℓ)

theorem nGrid : cfg0.N = 32 := by decide

theorem V_v0 (c : Dev nD) : V m c main_v0 = (m ((c : Thread nD τ).loc main_arg1) : S2816x1024.Idx → EReal) := by
  show StableHlo.after hostOps0 _ (Proc.devRef .tc main_v0) = _
  after_results
  rfl
theorem idx_0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem idx_3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem idx_4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)

theorem blk_0 (c : Dev nD) (t : Fin cfg0.N) (y : Fin 512) (z : Fin 2816) : (iblk m c 0 t : S1x512x2816.Idx → EReal) (ix3 0 y z) = (m ((c : Thread nD τ).loc main_arg0) : S4x4096x2816.Idx → EReal) (ix3 ⟨t.val / 8, by have := lt_of_lt_of_eq t.isLt nGrid; omega⟩ ⟨512 * (t.val % 8) + y.val, by have := lt_of_lt_of_eq t.isLt nGrid; omega⟩ z) := by
  obtain ⟨i0, i1, i2⟩ := idx_0 t
  refine Eq.trans ?_ (congrFun (V_main_arg0 m c) _)
  refine congrArg (V m c main_arg0 : S4x4096x2816.Idx → EReal) (a₁ := ((cfg0.win 0).blk t).view.emb (ix3 0 y z : S1x512x2816.Idx)) ?_
  funext a
  apply Fin.ext
  match a with
  | ⟨0, _⟩ => show win0_0.index t (0 : Fin 3) * 1 + 1 * 0 = t.val / 8; rw [i0] <;> omega
  | ⟨1, _⟩ => show win0_0.index t (1 : Fin 3) * 512 + 1 * y.val = 512 * (t.val % 8) + y.val; rw [i1] <;> omega
  | ⟨2, _⟩ => show win0_0.index t (2 : Fin 3) * 2816 + 1 * z.val = z.val; rw [i2] <;> omega

theorem blk_1 (c : Dev nD) (t : Fin cfg0.N) (x : Fin 2816) (y : Fin 1024) : (iblk m c 1 t : S2816x1024.Idx → EReal) (ix2 x y) = (m ((c : Thread nD τ).loc main_arg1) : S2816x1024.Idx → EReal) (ix2 x y) := by
  obtain ⟨i0, i1⟩ := idx_1 t
  refine Eq.trans ?_ (congrFun (V_v0 m c) _)
  refine congrArg (V m c main_v0 : S2816x1024.Idx → EReal) (a₁ := ((cfg0.win 1).blk t).view.emb (ix2 x y : S2816x1024.Idx)) ?_
  funext a
  apply Fin.ext
  match a with
  | ⟨0, _⟩ => show win0_1.index t (0 : Fin 2) * 2816 + 1 * x.val = x.val; rw [i0] <;> omega
  | ⟨1, _⟩ => show win0_1.index t (1 : Fin 2) * 1024 + 1 * y.val = y.val; rw [i1] <;> omega

theorem blk_2 (c : Dev nD) (t : Fin cfg0.N) (y : Fin 512) (z : Fin 1024) : (iblk m c 2 t : S1x512x1024.Idx → EReal) (ix3 0 y z) = (m ((c : Thread nD τ).loc main_arg2) : S4x4096x1024.Idx → EReal) (ix3 ⟨t.val / 8, by have := lt_of_lt_of_eq t.isLt nGrid; omega⟩ ⟨512 * (t.val % 8) + y.val, by have := lt_of_lt_of_eq t.isLt nGrid; omega⟩ z) := by
  obtain ⟨i0, i1, i2⟩ := idx_2 t
  refine Eq.trans ?_ (congrFun (V_main_arg2 m c) _)
  refine congrArg (V m c main_arg2 : S4x4096x1024.Idx → EReal) (a₁ := ((cfg0.win 2).blk t).view.emb (ix3 0 y z : S1x512x1024.Idx)) ?_
  funext a
  apply Fin.ext
  match a with
  | ⟨0, _⟩ => show win0_2.index t (0 : Fin 3) * 1 + 1 * 0 = t.val / 8; rw [i0] <;> omega
  | ⟨1, _⟩ => show win0_2.index t (1 : Fin 3) * 512 + 1 * y.val = 512 * (t.val % 8) + y.val; rw [i1] <;> omega
  | ⟨2, _⟩ => show win0_2.index t (2 : Fin 3) * 1024 + 1 * z.val = z.val; rw [i2] <;> omega

theorem blk_3 (c : Dev nD) (t : Fin cfg0.N) (z : Fin 1024) : (iblk m c 3 t : S1x1x1024.Idx → EReal) (ix3 0 0 z) = (m ((c : Thread nD τ).loc main_arg3) : S4x1x1024.Idx → EReal) (ix3 ⟨t.val / 8, by have := lt_of_lt_of_eq t.isLt nGrid; omega⟩ 0 z) := by
  obtain ⟨i0, i1, i2⟩ := idx_3 t
  refine Eq.trans ?_ (congrFun (V_main_arg3 m c) _)
  refine congrArg (V m c main_arg3 : S4x1x1024.Idx → EReal) (a₁ := ((cfg0.win 3).blk t).view.emb (ix3 0 0 z : S1x1x1024.Idx)) ?_
  funext a
  apply Fin.ext
  match a with
  | ⟨0, _⟩ => show win0_3.index t (0 : Fin 3) * 1 + 1 * 0 = t.val / 8; rw [i0] <;> omega
  | ⟨1, _⟩ => show win0_3.index t (1 : Fin 3) * 1 + 1 * 0 = 0; rw [i1] <;> omega
  | ⟨2, _⟩ => show win0_3.index t (2 : Fin 3) * 1024 + 1 * z.val = z.val; rw [i2] <;> omega

/-- A row of the result. -/
def res (A : Fin 2816 → EReal) (W : Fin 2816 → Fin 1024 → EReal) (X G : Fin 1024 → EReal) (e : Fin 1024) : EReal := X e + G e * ∑ k, A k * W k e

/-- What the body leaves at a place of its block. -/
theorem pay (x0 : Vec Ideal S1x512x2816 .bf16) (x1 : Vec Ideal S2816x1024 .bf16) (x2 : Vec Ideal S1x512x1024 .f32) (x3 : Vec Ideal S1x1x1024 .f32) (n : Fin 512) (e : Fin 1024) :
    (out0_4 x0 x1 x2 x3 : S1x512x1024.Idx → EReal) (ix3 0 n e)
      = res (fun k => x0 (ix3 0 n k)) (fun k e => x1 (ix2 k e)) (fun e => x2 (ix3 0 n e)) (fun e => x3 (ix3 0 0 e)) e := by
  unfold out0_4
  rw [View.canon_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide))]
  unfold k0_pay1
  simp only [pointwise]
  simp [res]

/-- The array after the run, at a place. -/
theorem final (c : Dev nD) (b : Fin 4) (n : Fin 4096) (e : Fin 1024) :
    ((dats m 0 c).arrAt 4 cfg0.N : S4x4096x1024.Idx → EReal) (ix3 b n e)
      = res (fun k => (m ((c : Thread nD τ).loc main_arg0) : S4x4096x2816.Idx → EReal) (ix3 b n k)) (fun k e => (m ((c : Thread nD τ).loc main_arg1) : S2816x1024.Idx → EReal) (ix2 k e)) (fun e => (m ((c : Thread nD τ).loc main_arg2) : S4x4096x1024.Idx → EReal) (ix3 b n e)) (fun e => (m ((c : Thread nD τ).loc main_arg3) : S4x1x1024.Idx → EReal) (ix3 b 0 e)) e := by
  obtain ⟨t, ht⟩ : ∃ t : Fin cfg0.N, t.val = 8 * b.val + n.val / 512 := ⟨⟨8 * b.val + n.val / 512, by rw [nGrid]; omega⟩, rfl⟩
  obtain ⟨r, hr⟩ : ∃ r : Fin 512, r.val = n.val % 512 := ⟨⟨n.val % 512, by omega⟩, rfl⟩
  have h := congrFun (Cert.Kernel6Ideal.Value.blocks4 m c t (flush0_4 t)) (ix3 0 r e : S1x512x1024.Idx)
  rw [Cert.Kernel6Ideal.Value.flushed4] at h
  have o := pay (iblk m c 0 t) (iblk m c 1 t) (iblk m c 2 t) (iblk m c 3 t) r e
  simp only [blk_0, blk_1, blk_2, blk_3] at o
  have hb : (⟨t.val / 8, by omega⟩ : Fin 4) = b := Fin.ext (by show t.val / 8 = b.val; omega)
  have hn : (⟨512 * (t.val % 8) + r.val, by omega⟩ : Fin 4096) = n := Fin.ext (by show 512 * (t.val % 8) + r.val = n.val; omega)
  rw [hb, hn] at o
  obtain ⟨i0, i1, i2⟩ := idx_4 t
  have em : ((cfg0.win 4).blk t).view.emb (ix3 0 r e : S1x512x1024.Idx) = (ix3 b n e : S4x4096x1024.Idx) := by
    funext a
    apply Fin.ext
    match a with
    | ⟨0, _⟩ => show win0_4.index t (0 : Fin 3) * 1 + 1 * 0 = b.val; rw [i0]; omega
    | ⟨1, _⟩ => show win0_4.index t (1 : Fin 3) * 512 + 1 * r.val = n.val; rw [i1]; omega
    | ⟨2, _⟩ => show win0_4.index t (2 : Fin 3) * 1024 + 1 * e.val = e.val; rw [i2]; omega
  exact (congrArg ((dats m 0 c).arrAt 4 cfg0.N : S4x4096x1024.Idx → EReal) em.symm).trans (Eq.trans h o)

end Cert.Kernel6Ideal.Gen

namespace Cert.Reference6Ideal.Gen

open Cert.Reference6Ideal Idealize.ShloMosaic Idealize.ShloMosaic.TcCoe Idealize.ShloMosaic.Tactic

/-- The reference's result from its arguments. -/
def out (a0 : FVec Ideal S4x4096x2816 .bf16) (a1 : FVec Ideal S2816x1024 .f32) (a2 : FVec Ideal S4x4096x1024 .f32) (a3 : FVec Ideal S4x1x1024 .f32) : FVec Ideal S4x4096x1024 .f32 :=
  addf a2 (mulf (broadcastInDim S4x4096x1024 ![0, 1, 2] bcast_S4x1x1024_S4x4096x1024_0_1_2 a3) (Host.dotGeneral dot_S4x4096x2816_S2816x1024_S4x4096x1024_2_0_01_1_n_n none (extf .f32 a0 bitsLt_bf16_f32) a1))

theorem out_at (a0 : FVec Ideal S4x4096x2816 .bf16) (a1 : FVec Ideal S2816x1024 .f32) (a2 : FVec Ideal S4x4096x1024 .f32) (a3 : FVec Ideal S4x1x1024 .f32) (b : Fin 4) (n : Fin 4096) (e : Fin 1024) :
    (out a0 a1 a2 a3 : S4x4096x1024.Idx → EReal) (ix3 b n e)
      = Cert.Kernel6Ideal.Gen.res (fun k => a0 (ix3 b n k)) (fun k e => a1 (ix2 k e)) (fun e => a2 (ix3 b n e)) (fun e => a3 (ix3 b 0 e)) e := by
  unfold out
  simp only [pointwise]
  simp [Cert.Kernel6Ideal.Gen.res]

end Cert.Reference6Ideal.Gen
-- ==== Proof.Mod.lean ====
module

public import Idealize.ShloMosaic.Lib.Pointwise
public import Idealize.ShloMosaic.Lib.Pipeline.ValueKit
public import proofs.«01_k».proof.Proof.Gen.Kernel7Ideal.Value
public import proofs.«01_k».proof.Proof.Gen.Reference7Ideal.Run

@[expose] public section

set_option maxRecDepth 16384

noncomputable section

namespace Cert.Kernel7Ideal.Gen

open Cert.Kernel7Ideal Idealize.ShloMosaic Idealize.ShloMosaic.TcCoe Idealize.ShloMosaic.Tactic
open Idealize.SL Idealize.SL.RA Idealize.SL.BI

variable (m : (ℓ : Loc nD τ sig) → Buf (Elt Ideal) ℓ)

theorem nGrid : cfg0.N = 6 := by decide

theorem V_v0 (c : Dev nD) : V m c main_v0 = (m ((c : Thread nD τ).loc main_arg1) : S1024x6144.Idx → EReal) := by
  show StableHlo.after hostOps0 _ (Proc.devRef .tc main_v0) = _
  after_results
  rfl
theorem V_v1 (c : Dev nD) : V m c main_v1 = (shapeCast S1x6144 (m ((c : Thread nD τ).loc main_arg2) : FVec Ideal S6144 .f32) shapeCasts_S6144_S1x6144 : S1x6144.Idx → EReal) := by
  show StableHlo.after hostOps0 _ (Proc.devRef .tc main_v1) = _
  after_results
  rfl
theorem row1 (v : FVec Ideal S6144 .f32) (e : Fin 6144) : (shapeCast S1x6144 v shapeCasts_S6144_S1x6144 : S1x6144.Idx → EReal) (ix2 0 e) = v (ix1 e) := by
  simp only [pointwise]

theorem idx_0 : ∀ t : Fin cfg0.N, win0_0.index t (0 : Fin 2) = 0 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = t.val :=
  (by decide +kernel : ∀ t : Fin grid0.N, _)
theorem idx_2 : ∀ t : Fin cfg0.N, win0_2.index t (0 : Fin 2) = 0 ∧ win0_2.index t (1 : Fin 2) = t.val :=
  (by decide +kernel : ∀ t : Fin grid0.N, _)
theorem idx_3 : ∀ t : Fin cfg0.N, win0_3.index t (0 : Fin 2) = 0 ∧ win0_3.index t (1 : Fin 2) = t.val :=
  (by decide +kernel : ∀ t : Fin grid0.N, _)

theorem blk_0 (c : Dev nD) (t : Fin cfg0.N) (x : Fin 8) (y : Fin 1024) : (iblk m c 0 t : S8x1024.Idx → EReal) (ix2 x y) = (m ((c : Thread nD τ).loc main_arg0) : S8x1024.Idx → EReal) (ix2 x y) := by
  obtain ⟨i0, i1⟩ := idx_0 t
  refine Eq.trans ?_ (congrFun (V_main_arg0 m c) _)
  refine congrArg (V m c main_arg0 : S8x1024.Idx → EReal) (a₁ := ((cfg0.win 0).blk t).view.emb (ix2 x y : S8x1024.Idx)) ?_
  funext a
  apply Fin.ext
  match a with
  | ⟨0, _⟩ => show win0_0.index t (0 : Fin 2) * 8 + 1 * x.val = x.val; rw [i0] <;> omega
  | ⟨1, _⟩ => show win0_0.index t (1 : Fin 2) * 1024 + 1 * y.val = y.val; rw [i1] <;> omega

theorem blk_1 (c : Dev nD) (t : Fin cfg0.N) (x : Fin 1024) (y : Fin 1024) : (iblk m c 1 t : S1024x1024.Idx → EReal) (ix2 x y) = (m ((c : Thread nD τ).loc main_arg1) : S1024x6144.Idx → EReal) (ix2 x ⟨1024 * t.val + y.val, by have := lt_of_lt_of_eq t.isLt nGrid; omega⟩) := by
  obtain ⟨i0, i1⟩ := idx_1 t
  refine Eq.trans ?_ (congrFun (V_v0 m c) _)
  refine congrArg (V m c main_v0 : S1024x6144.Idx → EReal) (a₁ := ((cfg0.win 1).blk t).view.emb (ix2 x y : S1024x1024.Idx)) ?_
  funext a
  apply Fin.ext
  match a with
  | ⟨0, _⟩ => show win0_1.index t (0 : Fin 2) * 1024 + 1 * x.val = x.val; rw [i0] <;> omega
  | ⟨1, _⟩ => show win0_1.index t (1 : Fin 2) * 1024 + 1 * y.val = 1024 * t.val + y.val; rw [i1] <;> omega

theorem blk_2 (c : Dev nD) (t : Fin cfg0.N) (y : Fin 1024) : (iblk m c 2 t : S1x1024.Idx → EReal) (ix2 0 y) = (shapeCast S1x6144 (m ((c : Thread nD τ).loc main_arg2) : FVec Ideal S6144 .f32) shapeCasts_S6144_S1x6144 : S1x6144.Idx → EReal) (ix2 0 ⟨1024 * t.val + y.val, by have := lt_of_lt_of_eq t.isLt nGrid; omega⟩) := by
  obtain ⟨i0, i1⟩ := idx_2 t
  refine Eq.trans ?_ (congrFun (V_v1 m c) _)
  refine congrArg (V m c main_v1 : S1x6144.Idx → EReal) (a₁ := ((cfg0.win 2).blk t).view.emb (ix2 0 y : S1x1024.Idx)) ?_
  funext a
  apply Fin.ext
  match a with
  | ⟨0, _⟩ => show win0_2.index t (0 : Fin 2) * 1 + 1 * 0 = 0; rw [i0] <;> omega
  | ⟨1, _⟩ => show win0_2.index t (1 : Fin 2) * 1024 + 1 * y.val = 1024 * t.val + y.val; rw [i1] <;> omega

/-- A modulation vector's entry: the silu of the condition, projected. -/
def vec (A : Fin 1024 → EReal) (W : Fin 1024 → EReal) (b : EReal) : EReal := ∑ k, A k * Ideal.div 1 (1 + Ideal.exp (-A k)) * W k + b

/-- What the body leaves at a place of its block. -/
theorem pay (x0 : Vec Ideal S8x1024 .f32) (x1 : Vec Ideal S1024x1024 .bf16) (x2 : Vec Ideal S1x1024 .f32) (n : Fin 8) (e : Fin 1024) :
    (out0_3 x0 x1 x2 : S8x1024.Idx → EReal) (ix2 n e) = vec (fun k => x0 (ix2 n k)) (fun k => x1 (ix2 k e)) (x2 (ix2 0 e)) := by
  unfold out0_3
  rw [View.canon_unit_zero (View.eq_zero_of_forall (by decide)), View.ld_unit_zero (View.eq_zero_of_forall (by decide)), View.ld_unit_zero (View.eq_zero_of_forall (by decide)), View.ld_unit_zero (View.eq_zero_of_forall (by decide))]
  unfold k0_pay1
  simp only [pointwise]
  simp [vec]

/-- The array after the run, at a place. -/
theorem final (c : Dev nD) (n : Fin 8) (e : Fin 6144) :
    ((dats m 0 c).arrAt 3 cfg0.N : S8x6144.Idx → EReal) (ix2 n e)
      = vec (fun k => (m ((c : Thread nD τ).loc main_arg0) : S8x1024.Idx → EReal) (ix2 n k)) (fun k => (m ((c : Thread nD τ).loc main_arg1) : S1024x6144.Idx → EReal) (ix2 k e)) ((m ((c : Thread nD τ).loc main_arg2) : S6144.Idx → EReal) (ix1 e)) := by
  obtain ⟨t, ht⟩ : ∃ t : Fin cfg0.N, t.val = e.val / 1024 := ⟨⟨e.val / 1024, by rw [nGrid]; omega⟩, rfl⟩
  obtain ⟨r, hr⟩ : ∃ r : Fin 1024, r.val = e.val % 1024 := ⟨⟨e.val % 1024, by omega⟩, rfl⟩
  have h := congrFun (Cert.Kernel7Ideal.Value.blocks3 m c t (flush0_3 t)) (ix2 n r : S8x1024.Idx)
  rw [Cert.Kernel7Ideal.Value.flushed3] at h
  have o := pay (iblk m c 0 t) (iblk m c 1 t) (iblk m c 2 t) n r
  simp only [blk_0, blk_1, blk_2, row1] at o
  have he : (⟨1024 * t.val + r.val, by omega⟩ : Fin 6144) = e := Fin.ext (by show 1024 * t.val + r.val = e.val; omega)
  rw [he] at o
  obtain ⟨i0, i1⟩ := idx_3 t
  have em : ((cfg0.win 3).blk t).view.emb (ix2 n r : S8x1024.Idx) = (ix2 n e : S8x6144.Idx) := by
    funext a
    apply Fin.ext
    match a with
    | ⟨0, _⟩ => show win0_3.index t (0 : Fin 2) * 8 + 1 * n.val = n.val; rw [i0]; omega
    | ⟨1, _⟩ => show win0_3.index t (1 : Fin 2) * 1024 + 1 * r.val = e.val; rw [i1]; omega
  exact (congrArg ((dats m 0 c).arrAt 3 cfg0.N : S8x6144.Idx → EReal) em.symm).trans (Eq.trans h o)

end Cert.Kernel7Ideal.Gen

namespace Cert.Reference7Ideal.Gen

open Cert.Reference7Ideal Idealize.ShloMosaic Idealize.ShloMosaic.TcCoe Idealize.ShloMosaic.Tactic

/-- The reference's result from its arguments. -/
def out (a0 : FVec Ideal S8x1024 .f32) (a1 : FVec Ideal S1024x6144 .f32) (a2 : FVec Ideal S6144 .f32) : FVec Ideal S8x6144 .f32 :=
  addf (Host.dotGeneral dot_S8x1024_S1024x6144_S8x6144_1_0_0_1_n_n none (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))) a1) (broadcastInDim S8x6144 ![0, 1] bcast_S1x6144_S8x6144_0_1 (broadcastInDim S1x6144 ![1] bcast_S6144_S1x6144_1 a2))

theorem out_at (a0 : FVec Ideal S8x1024 .f32) (a1 : FVec Ideal S1024x6144 .f32) (a2 : FVec Ideal S6144 .f32) (n : Fin 8) (e : Fin 6144) :
    (out a0 a1 a2 : S8x6144.Idx → EReal) (ix2 n e) = Cert.Kernel7Ideal.Gen.vec (fun k => a0 (ix2 n k)) (fun k => a1 (ix2 k e)) (a2 (ix1 e)) := by
  unfold out
  simp only [pointwise]
  simp [Cert.Kernel7Ideal.Gen.vec]

end Cert.Reference7Ideal.Gen
-- ==== Proof.Calls.lean ====
module

public import proofs.«01_k».proof.Defs
public import proofs.«01_k».proof.Proof.Up
public import proofs.«01_k».proof.Proof.Down
public import proofs.«01_k».proof.Proof.Merge
public import proofs.«01_k».proof.Proof.Plain
public import proofs.«01_k».proof.Proof.Mod
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import Idealize.ShloMosaic.Adequacy
public import Idealize.ShloMosaic.Init

@[expose] public section

noncomputable section

/-! The matmul kernels of the layer: each ends with its reference's result, whatever the arguments. -/

namespace Cert.Calls

open Idealize.ShloMosaic Idealize.SL.Sem

attribute [local instance] Cert.Kernel3.Gen.facts Cert.Kernel3Ideal.Gen.facts Cert.Reference3Ideal.Gen.facts Cert.Kernel4.Gen.facts Cert.Kernel4Ideal.Gen.facts Cert.Reference4Ideal.Gen.facts Cert.Kernel5.Gen.facts Cert.Kernel5Ideal.Gen.facts Cert.Reference5Ideal.Gen.facts Cert.Kernel6.Gen.facts Cert.Kernel6Ideal.Gen.facts Cert.Reference6Ideal.Gen.facts Cert.Kernel7.Gen.facts Cert.Kernel7Ideal.Gen.facts Cert.Reference7Ideal.Gen.facts

/-- The feed-forward's first projection: the reference's result is the kernel's. -/
theorem eq3 (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
    (hs : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0) ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1) ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2) ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3) ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    Cert.Reference3Ideal.Gen.out (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = (Cert.Kernel3Ideal.Gen.dats m 0 c).arrAt 5 Cert.Kernel3Ideal.cfg0.N := by
  obtain ⟨q0, q1, q2, q3, q4⟩ := hs
  rw [q0, q1, q2, q3, q4]
  funext i
  obtain ⟨b, n, e, rfl⟩ : ∃ b n e, i = ix3 b n e := ⟨_, _, _, (ix3_eta i).symm⟩
  exact (Cert.Reference3Ideal.Gen.out_at _ _ _ _ _ b n e).trans (Cert.Kernel3Ideal.Gen.final m c b n e).symm

/-- The feed-forward's first projection: the kernel and its reference end with equal results. -/
theorem equal3 : Cert.algebraic_Kernel3Ideal_Reference3Ideal := fun m ρ m' ρ' _ hs =>
  ⟨fun c => (Cert.Kernel3Ideal.Gen.dats m 0 c).arrAt 5 Cert.Kernel3Ideal.cfg0.N, Cert.Kernel3Ideal.Value.run_blocks m ρ,
    (θ_run Cert.Reference3Ideal.defs _ _).mono (fun r h c => ⟨(h c).1.trans (eq3 m m' c (hs c)), (h c).2⟩) (Cert.Reference3Ideal.Value.run (F := Ideal) m' ρ')⟩

/-- The feed-forward's first projection: the reference keeps its arguments. -/
theorem kept3 : Cert.quiescent_Reference3Ideal := fun m ρ _ =>
  (θ_run Cert.Reference3Ideal.defs _ _).mono (fun r h => ⟨fun c => (h c).2, Idealize.ShloMosaic.sem_eq_zero_of_no_sems (by decide) r.2⟩) (Cert.Reference3Ideal.Value.run (F := Ideal) m ρ)

/-- The feed-forward's last projection with the final norm: the reference's result is the kernel's. -/
theorem eq4 (m : (ℓ : Loc Cert.Kernel4Ideal.nD Cert.Kernel4Ideal.τ Cert.Kernel4Ideal.sig) → Buf (Elt Ideal) ℓ) (m' : (ℓ : Loc Cert.Reference4Ideal.nD Cert.Reference4Ideal.τ Cert.Reference4Ideal.sig) → Buf (Elt Ideal) ℓ) (c : Dev Cert.Kernel4Ideal.nD)
    (hs : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0) ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1) ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2) ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3) ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) :
    Cert.Reference4Ideal.Gen.out (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = (Cert.Kernel4Ideal.Gen.dats m 0 c).arrAt 5 Cert.Kernel4Ideal.cfg0.N := by
  obtain ⟨q0, q1, q2, q3, q4⟩ := hs
  rw [q0, q1, q2, q3, q4]
  funext i
  obtain ⟨b, n, e, rfl⟩ : ∃ b n e, i = ix3 b n e := ⟨_, _, _, (ix3_eta i).symm⟩
  exact (Cert.Reference4Ideal.Gen.out_at _ _ _ _ _ b n e).trans (Cert.Kernel4Ideal.Gen.final m c b n e).symm

/-- The feed-forward's last projection with the final norm: the kernel and its reference end with equal results. -/
theorem equal4 : Cert.algebraic_Kernel4Ideal_Reference4Ideal := fun m ρ m' ρ' _ hs =>
  ⟨fun c => (Cert.Kernel4Ideal.Gen.dats m 0 c).arrAt 5 Cert.Kernel4Ideal.cfg0.N, Cert.Kernel4Ideal.Value.run_blocks m ρ,
    (θ_run Cert.Reference4Ideal.defs _ _).mono (fun r h c => ⟨(h c).1.trans (eq4 m m' c (hs c)), (h c).2⟩) (Cert.Reference4Ideal.Value.run (F := Ideal) m' ρ')⟩

/-- The feed-forward's last projection with the final norm: the reference keeps its arguments. -/
theorem kept4 : Cert.quiescent_Reference4Ideal := fun m ρ _ =>
  (θ_run Cert.Reference4Ideal.defs _ _).mono (fun r h => ⟨fun c => (h c).2, Idealize.ShloMosaic.sem_eq_zero_of_no_sems (by decide) r.2⟩) (Cert.Reference4Ideal.Value.run (F := Ideal) m ρ)

/-- The gated merge of the three branches: the reference's result is the kernel's. -/
theorem eq5 (m : (ℓ : Loc Cert.Kernel5Ideal.nD Cert.Kernel5Ideal.τ Cert.Kernel5Ideal.sig) → Buf (Elt Ideal) ℓ) (m' : (ℓ : Loc Cert.Reference5Ideal.nD Cert.Reference5Ideal.τ Cert.Reference5Ideal.sig) → Buf (Elt Ideal) ℓ) (c : Dev Cert.Kernel5Ideal.nD)
    (hs : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0) ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1) ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2) ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3) ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4) ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5) ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6) ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7) ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8) ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9) ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) :
    Cert.Reference5Ideal.Gen.out (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) = (Cert.Kernel5Ideal.Gen.dats m 0 c).arrAt 14 Cert.Kernel5Ideal.cfg0.N := by
  obtain ⟨q0, q1, q2, q3, q4, q5, q6, q7, q8, q9, q10⟩ := hs
  rw [q0, q1, q2, q3, q4, q5, q6, q7, q8, q9, q10]
  funext i
  obtain ⟨b, n, e, rfl⟩ : ∃ b n e, i = ix3 b n e := ⟨_, _, _, (ix3_eta i).symm⟩
  exact (Cert.Reference5Ideal.Gen.out_at _ _ _ _ _ _ _ _ _ _ _ b n e).trans (Cert.Kernel5Ideal.Gen.final m c b n e).symm

/-- The gated merge of the three branches: the kernel and its reference end with equal results. -/
theorem equal5 : Cert.algebraic_Kernel5Ideal_Reference5Ideal := fun m ρ m' ρ' _ hs =>
  ⟨fun c => (Cert.Kernel5Ideal.Gen.dats m 0 c).arrAt 14 Cert.Kernel5Ideal.cfg0.N, Cert.Kernel5Ideal.Value.run_blocks m ρ,
    (θ_run Cert.Reference5Ideal.defs _ _).mono (fun r h c => ⟨(h c).1.trans (eq5 m m' c (hs c)), (h c).2⟩) (Cert.Reference5Ideal.Value.run (F := Ideal) m' ρ')⟩

/-- The gated merge of the three branches: the reference keeps its arguments. -/
theorem kept5 : Cert.quiescent_Reference5Ideal := fun m ρ _ =>
  (θ_run Cert.Reference5Ideal.defs _ _).mono (fun r h => ⟨fun c => (h c).2, Idealize.ShloMosaic.sem_eq_zero_of_no_sems (by decide) r.2⟩) (Cert.Reference5Ideal.Value.run (F := Ideal) m ρ)

/-- The feed-forward's last projection without a norm: the reference's result is the kernel's. -/
theorem eq6 (m : (ℓ : Loc Cert.Kernel6Ideal.nD Cert.Kernel6Ideal.τ Cert.Kernel6Ideal.sig) → Buf (Elt Ideal) ℓ) (m' : (ℓ : Loc Cert.Reference6Ideal.nD Cert.Reference6Ideal.τ Cert.Reference6Ideal.sig) → Buf (Elt Ideal) ℓ) (c : Dev Cert.Kernel6Ideal.nD)
    (hs : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0) ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1) ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2) ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) :
    Cert.Reference6Ideal.Gen.out (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) = (Cert.Kernel6Ideal.Gen.dats m 0 c).arrAt 4 Cert.Kernel6Ideal.cfg0.N := by
  obtain ⟨q0, q1, q2, q3⟩ := hs
  rw [q0, q1, q2, q3]
  funext i
  obtain ⟨b, n, e, rfl⟩ : ∃ b n e, i = ix3 b n e := ⟨_, _, _, (ix3_eta i).symm⟩
  exact (Cert.Reference6Ideal.Gen.out_at _ _ _ _ b n e).trans (Cert.Kernel6Ideal.Gen.final m c b n e).symm

/-- The feed-forward's last projection without a norm: the kernel and its reference end with equal results. -/
theorem equal6 : Cert.algebraic_Kernel6Ideal_Reference6Ideal := fun m ρ m' ρ' _ hs =>
  ⟨fun c => (Cert.Kernel6Ideal.Gen.dats m 0 c).arrAt 4 Cert.Kernel6Ideal.cfg0.N, Cert.Kernel6Ideal.Value.run_blocks m ρ,
    (θ_run Cert.Reference6Ideal.defs _ _).mono (fun r h c => ⟨(h c).1.trans (eq6 m m' c (hs c)), (h c).2⟩) (Cert.Reference6Ideal.Value.run (F := Ideal) m' ρ')⟩

/-- The feed-forward's last projection without a norm: the reference keeps its arguments. -/
theorem kept6 : Cert.quiescent_Reference6Ideal := fun m ρ _ =>
  (θ_run Cert.Reference6Ideal.defs _ _).mono (fun r h => ⟨fun c => (h c).2, Idealize.ShloMosaic.sem_eq_zero_of_no_sems (by decide) r.2⟩) (Cert.Reference6Ideal.Value.run (F := Ideal) m ρ)

/-- The modulation vectors: the reference's result is the kernel's. -/
theorem eq7 (m : (ℓ : Loc Cert.Kernel7Ideal.nD Cert.Kernel7Ideal.τ Cert.Kernel7Ideal.sig) → Buf (Elt Ideal) ℓ) (m' : (ℓ : Loc Cert.Reference7Ideal.nD Cert.Reference7Ideal.τ Cert.Reference7Ideal.sig) → Buf (Elt Ideal) ℓ) (c : Dev Cert.Kernel7Ideal.nD)
    (hs : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0) ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1) ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) :
    Cert.Reference7Ideal.Gen.out (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) = (Cert.Kernel7Ideal.Gen.dats m 0 c).arrAt 3 Cert.Kernel7Ideal.cfg0.N := by
  obtain ⟨q0, q1, q2⟩ := hs
  rw [q0, q1, q2]
  funext i
  obtain ⟨n, e, rfl⟩ : ∃ n e, i = ix2 n e := ⟨_, _, (ix2_eta i).symm⟩
  exact (Cert.Reference7Ideal.Gen.out_at _ _ _ n e).trans (Cert.Kernel7Ideal.Gen.final m c n e).symm

/-- The modulation vectors: the kernel and its reference end with equal results. -/
theorem equal7 : Cert.algebraic_Kernel7Ideal_Reference7Ideal := fun m ρ m' ρ' _ hs =>
  ⟨fun c => (Cert.Kernel7Ideal.Gen.dats m 0 c).arrAt 3 Cert.Kernel7Ideal.cfg0.N, Cert.Kernel7Ideal.Value.run_blocks m ρ,
    (θ_run Cert.Reference7Ideal.defs _ _).mono (fun r h c => ⟨(h c).1.trans (eq7 m m' c (hs c)), (h c).2⟩) (Cert.Reference7Ideal.Value.run (F := Ideal) m' ρ')⟩

/-- The modulation vectors: the reference keeps its arguments. -/
theorem kept7 : Cert.quiescent_Reference7Ideal := fun m ρ _ =>
  (θ_run Cert.Reference7Ideal.defs _ _).mono (fun r h => ⟨fun c => (h c).2, Idealize.ShloMosaic.sem_eq_zero_of_no_sems (by decide) r.2⟩) (Cert.Reference7Ideal.Value.run (F := Ideal) m ρ)

end Cert.Calls

end
-- ==== Proof.InRuns.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input projection up to its region -/

/-- The host operations before the region, the called `where` among them, in order. -/
abbrev hostOps : List (List (HloOp τ sig (Elt F))) := [hostOps0, hostOps0_1, hostOps0_2]

/-- A core's buffers when the region is entered. -/
abbrev V (c : Dev nD) (b : Ref sig .tc) : Buf (Elt F) ((c : Thread nD τ).loc b) := StableHlo.after (hostOps (F := F)).flatten (fun b => m (c, b)) b

theorem hostOps_fresh : (hostOps : List (List (HloOp τ sig (Elt F)))).Forall fun ops => ops.Forall fun op => op.fresh = ∅ := by
  simp only [List.Forall]; repeat' constructor

set_option maxHeartbeats 800000 in
/-- The whole program: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostOps (by simp only [List.Forall]; exact ⟨hostOps0_sub, hostOps0_1_sub, hostOps0_2_sub⟩) hostOps_fresh main_chain

/-- The host operations leave argument 0 alone. -/
theorem V_main_arg0 (c : Dev nD) : V m c main_arg0 = m ((c : Thread nD τ).loc main_arg0) := by
  show StableHlo.after (hostOps (F := F)).flatten _ (Proc.devRef .tc main_arg0) = _
  simp only [hostOps, List.flatten_cons, List.flatten_nil, List.append_nil, List.cons_append, List.nil_append]
  after_results
/-- The host operations leave argument 1 alone. -/
theorem V_main_arg1 (c : Dev nD) : V m c main_arg1 = m ((c : Thread nD τ).loc main_arg1) := by
  show StableHlo.after (hostOps (F := F)).flatten _ (Proc.devRef .tc main_arg1) = _
  simp only [hostOps, List.flatten_cons, List.flatten_nil, List.append_nil, List.cons_append, List.nil_append]
  after_results
/-- The host operations leave argument 2 alone. -/
theorem V_main_arg2 (c : Dev nD) : V m c main_arg2 = m ((c : Thread nD τ).loc main_arg2) := by
  show StableHlo.after (hostOps (F := F)).flatten _ (Proc.devRef .tc main_arg2) = _
  simp only [hostOps, List.flatten_cons, List.flatten_nil, List.append_nil, List.cons_append, List.nil_append]
  after_results
/-- The host operations leave argument 3 alone. -/
theorem V_main_arg3 (c : Dev nD) : V m c main_arg3 = m ((c : Thread nD τ).loc main_arg3) := by
  show StableHlo.after (hostOps (F := F)).flatten _ (Proc.devRef .tc main_arg3) = _
  simp only [hostOps, List.flatten_cons, List.flatten_nil, List.append_nil, List.cons_append, List.nil_append]
  after_results
/-- The host operations leave argument 4 alone. -/
theorem V_main_arg4 (c : Dev nD) : V m c main_arg4 = m ((c : Thread nD τ).loc main_arg4) := by
  show StableHlo.after (hostOps (F := F)).flatten _ (Proc.devRef .tc main_arg4) = _
  simp only [hostOps, List.flatten_cons, List.flatten_nil, List.append_nil, List.cons_append, List.nil_append]
  after_results

/-! ## The windows' blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0 is found at its block at every point. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1 is found at its block at every point. -/
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2 is found at its block at every point. -/
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3 is found at its block at every point. -/
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4 is found at its block at every point. -/
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5 is found at its block at every point. -/
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two conditions and the places where the gate output is left alone -/

/-- The first branch: the first column step of a row block. -/
abbrev cond0_0 (i : grid0.Coords) : Prop := k0_cond1 i = 1#1
/-- The second branch: the other column steps. -/
abbrev cond0_1 (i : grid0.Coords) : Prop := k0_cond2 i = 1#1
theorem hcond0_0 : ∀ t : Fin cfg0.N, cond0_0 (grid0.coords t) ↔ t.val % 12 = 0 :=
  (by decide +kernel : ∀ t : Fin grid0.N, cond0_0 (grid0.coords t) ↔ t.val % 12 = 0)
theorem hcond0_1 : ∀ t : Fin cfg0.N, cond0_1 (grid0.coords t) ↔ ¬t.val % 12 = 0 :=
  (by decide +kernel : ∀ t : Fin grid0.N, cond0_1 (grid0.coords t) ↔ ¬t.val % 12 = 0)

/-- The main output is stored at every point. -/
theorem live6 : ∀ t : Fin cfg0.N, cfg0.idle 6 (grid0.coords t) = false :=
  (by decide +kernel : ∀ t : Fin grid0.N, idle0 6 (grid0.coords t) = false)
/-- The gate output is stored at the first column step. -/
theorem live7 : ∀ t : Fin cfg0.N, t.val % 12 = 0 → cfg0.idle 7 (grid0.coords t) = false :=
  (by decide +kernel : ∀ t : Fin grid0.N, t.val % 12 = 0 → idle0 7 (grid0.coords t) = false)
/-- The gate output is left alone at the others. -/
theorem idle7 : ∀ t : Fin cfg0.N, ¬t.val % 12 = 0 → cfg0.idle 7 (grid0.coords t) = true :=
  (by decide +kernel : ∀ t : Fin grid0.N, ¬t.val % 12 = 0 → idle0 7 (grid0.coords t) = true)

/-! ## The staging memrefs -/

abbrev VO0_6 : View sig .tc .vmem S1x2048x1024 .bf16 := (Memref.whole cc0_stg6_0 : Memref sig .tc .vmem S1x2048x1024 .bf16).view
abbrev VO0_7 : View sig .tc .vmem S1x2048x128 .f32 := (Memref.whole cc0_stg7_0 : Memref sig .tc .vmem S1x2048x128 .f32).view
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x128 .f32 := win0_7.stage (cfg0.slots t 7)
abbrev hs0_7 (t : Fin cfg0.N) : (ms0_7 t).IsWhole := hstage0_7 ((cfg0.slots t 7).cast nbuf0_7)
/-- The scratch that carries the modulated rows. -/
abbrev scM0_0 : Memref sig .tc .vmem S2048x1024 .bf16 := Memref.whole cc0_scratch0
abbrev VS0_0 : View sig .tc .vmem S2048x1024 .bf16 := scM0_0.view

/-- What the launch hands the region: the scratch at something, and the generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel2Ideal.Gen

end
-- ==== Proof.InRunA.lean ====
module

public import proofs.«01_k».proof.Proof.InRuns

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The first column step of a row block, run on any staging memrefs: what it stores into the two outputs and the
    scratch, with the proof that it runs so. -/
def kernelRun0_A (c : Dev nD) (i : grid0.Coords) (arg3 : Memref sig .tc .vmem S1x2048x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1x2048x1024 .bf16) (harg9 : arg9.IsWhole) (arg10 : Memref sig .tc .vmem S1x2048x128 .f32) (harg10 : arg10.IsWhole) (arg11 : Memref sig .tc .vmem S2048x1024 .bf16) (harg11 : arg11.IsWhole) (hc0 : cond0_0 i) (hc1 : ¬cond0_1 i)
    (x0 : Vec F S1x2048x1024 .f32) (x1 : Vec F S1x1024 .f32) (x2 : Vec F S1x1x1024 .f32) (x3 : Vec F S1x1x1024 .f32) (x4 : Vec F S1024x1024 .bf16) (x5 : Vec F S1024x128 .bf16) :
    Σ' (L6 : List (View.Piece (Elt F) S1x2048x1024 .bf16)) (L7 : List (View.Piece (Elt F) S1x2048x128 .f32)), { LS0 : List (View.Piece (Elt F) S2048x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0_norm_mod_matmul i arg3 harg3 arg4 harg4 arg5 harg5 arg6 harg6 arg7 harg7 arg8 harg8 arg9 harg9 arg10 harg10 arg11 harg11) K } := by
  refine ⟨?_, ?_, ?_, fun E K => ?run⟩
  case run =>
    simp only [cc0_norm_mod_matmul_eq_skeleton]; unfold cc0_norm_mod_matmul_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact HS0

end Cert.Kernel2Ideal.Gen

end
-- ==== Proof.InRunB.lean ====
module

public import proofs.«01_k».proof.Proof.InRunA

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The other column steps: they read the kept rows and this step's columns, and store one block of the main output. -/
def kernelRun0_B (c : Dev nD) (i : grid0.Coords) (arg3 : Memref sig .tc .vmem S1x2048x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1x2048x1024 .bf16) (harg9 : arg9.IsWhole) (arg10 : Memref sig .tc .vmem S1x2048x128 .f32) (harg10 : arg10.IsWhole) (arg11 : Memref sig .tc .vmem S2048x1024 .bf16) (harg11 : arg11.IsWhole) (hc0 : ¬cond0_0 i) (hc1 : cond0_1 i)
    (x4 : Vec F S1024x1024 .bf16) (xs0 : Vec F S2048x1024 .bf16) :
    { L6 : List (View.Piece (Elt F) S1x2048x1024 .bf16) //
      ∀ (E : Set ℕ) (K : PUnit → sProp 𝕄),
        iprop(owns (c : Thread nD τ) arg7 fullShare x4 ∗ (∃ d, owns (c : Thread nD τ) arg9 fullShare d) ∗ owns (c : Thread nD τ) arg11 fullShare xs0
            ∗ (iprop(owns (c : Thread nD τ) arg7 fullShare x4 ∗ (∃ f, arg9.view.loc (c : Thread nD τ) ↦[arg9.view.set]{fullShare} arg9.view.writes (Elt F) f L6) ∗ owns (c : Thread nD τ) arg11 fullShare xs0) -∗ K ⟨⟩))
          ⊢ wp frame (wpE (defs₀ (F := F)) Variants.none c none) E (cc0_norm_mod_matmul i arg3 harg3 arg4 harg4 arg5 harg5 arg6 harg6 arg7 harg7 arg8 harg8 arg9 harg9 arg10 harg10 arg11 harg11) K } := by
  refine ⟨?_, fun E K => ?run⟩
  case run =>
    simp only [cc0_norm_mod_matmul_eq_skeleton]; unfold cc0_norm_mod_matmul_skel
    unfold owns
    iintro ⟨⟨%f4, %hf4, H4⟩, ⟨%d6, %f6, -, H6⟩, ⟨%fs0, %hfs0, HS0⟩, Hk⟩
    obtain rfl := harg7.eq_unread hf4; obtain rfl := harg11.eq_unread hfs0
    sl_exec (disch := first | sl_exact hc0 | sl_exact hc1)
    sl_step
    iapply Hk
    isplitl [H4]
    · iexists _; isplitr; · ipureintro; exact harg7.read_unread _
      iexact H4
    isplitl [H6]; · iexists _; iexact H6
    iexists _; isplitr; · ipureintro; exact harg11.read_unread _
    iexact HS0

end Cert.Kernel2Ideal.Gen

end
-- ==== Proof.InFrame.lean ====
module

public import proofs.«01_k».proof.Proof.InRunB
public import Idealize.ShloMosaic.Lib.Claim
public import Idealize.ShloMosaic.Lib.Pipeline.Value

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave -/

/-- At the first column step the stores fill the main block. -/
theorem cover0_A_6 (c : Dev nD) (i : grid0.Coords) (arg3 : Memref sig .tc .vmem S1x2048x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1x2048x1024 .bf16) (harg9 : arg9.IsWhole) (arg10 : Memref sig .tc .vmem S1x2048x128 .f32) (harg10 : arg10.IsWhole) (arg11 : Memref sig .tc .vmem S2048x1024 .bf16) (harg11 : arg11.IsWhole) (hc0 : cond0_0 i) (hc1 : ¬cond0_1 i)
    (x0 : Vec F S1x2048x1024 .f32) (x1 : Vec F S1x1024 .f32) (x2 : Vec F S1x1x1024 .f32) (x3 : Vec F S1x1x1024 .f32) (x4 : Vec F S1024x1024 .bf16) (x5 : Vec F S1024x128 .bf16) (y : S1x2048x1024.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5).1 S1x256x1024.size (by sl_kernel_rfl) y
/-- The same stores read back. -/
def out0_A_6 (c : Dev nD) (i : grid0.Coords) (arg3 : Memref sig .tc .vmem S1x2048x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1x2048x1024 .bf16) (harg9 : arg9.IsWhole) (arg10 : Memref sig .tc .vmem S1x2048x128 .f32) (harg10 : arg10.IsWhole) (arg11 : Memref sig .tc .vmem S2048x1024 .bf16) (harg11 : arg11.IsWhole) (hc0 : cond0_0 i) (hc1 : ¬cond0_1 i)
    (x0 : Vec F S1x2048x1024 .f32) (x1 : Vec F S1x1024 .f32) (x2 : Vec F S1x1x1024 .f32) (x3 : Vec F S1x1x1024 .f32) (x4 : Vec F S1024x1024 .bf16) (x5 : Vec F S1024x128 .bf16) : Vec F S1x2048x1024 .bf16 :=
  VO0_6.read (Elt F) (VO0_6.writes (Elt F) VO0_6.junk (kernelRun0_A c i arg3 harg3 arg4 harg4 arg5 harg5 arg6 harg6 arg7 harg7 arg8 harg8 arg9 harg9 arg10 harg10 arg11 harg11 hc0 hc1 x0 x1 x2 x3 x4 x5).1)

/-- And the gate block. -/
theorem cover0_A_7 (c : Dev nD) (i : grid0.Coords) (arg3 : Memref sig .tc .vmem S1x2048x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1x2048x1024 .bf16) (harg9 : arg9.IsWhole) (arg10 : Memref sig .tc .vmem S1x2048x128 .f32) (harg10 : arg10.IsWhole) (arg11 : Memref sig .tc .vmem S2048x1024 .bf16) (harg11 : arg11.IsWhole) (hc0 : cond0_0 i) (hc1 : ¬cond0_1 i)
    (x0 : Vec F S1x2048x1024 .f32) (x1 : Vec F S1x1024 .f32) (x2 : Vec F S1x1x1024 .f32) (x3 : Vec F S1x1x1024 .f32) (x4 : Vec F S1024x1024 .bf16) (x5 : Vec F S1024x128 .bf16) (y : S1x2048x128.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5).2.1 S1x256x128.size (by sl_kernel_rfl) y
/-- The same stores read back. -/
def out0_A_7 (c : Dev nD) (i : grid0.Coords) (arg3 : Memref sig .tc .vmem S1x2048x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1x2048x1024 .bf16) (harg9 : arg9.IsWhole) (arg10 : Memref sig .tc .vmem S1x2048x128 .f32) (harg10 : arg10.IsWhole) (arg11 : Memref sig .tc .vmem S2048x1024 .bf16) (harg11 : arg11.IsWhole) (hc0 : cond0_0 i) (hc1 : ¬cond0_1 i)
    (x0 : Vec F S1x2048x1024 .f32) (x1 : Vec F S1x1024 .f32) (x2 : Vec F S1x1x1024 .f32) (x3 : Vec F S1x1x1024 .f32) (x4 : Vec F S1024x1024 .bf16) (x5 : Vec F S1024x128 .bf16) : Vec F S1x2048x128 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 hc0 hc1 x0 x1 x2 x3 x4 x5).2.1)

/-- And the scratch. -/
theorem scover0_A_0 (c : Dev nD) (i : grid0.Coords) (arg3 : Memref sig .tc .vmem S1x2048x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1x2048x1024 .bf16) (harg9 : arg9.IsWhole) (arg10 : Memref sig .tc .vmem S1x2048x128 .f32) (harg10 : arg10.IsWhole) (arg11 : Memref sig .tc .vmem S2048x1024 .bf16) (harg11 : arg11.IsWhole) (hc0 : cond0_0 i) (hc1 : ¬cond0_1 i)
    (x0 : Vec F S1x2048x1024 .f32) (x1 : Vec F S1x1024 .f32) (x2 : Vec F S1x1x1024 .f32) (x3 : Vec F S1x1x1024 .f32) (x4 : Vec F S1024x1024 .bf16) (x5 : Vec F S1024x128 .bf16) (y : S2048x1024.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5).2.2.1 S256x1024.size (by sl_kernel_rfl) y
/-- The same stores read back. -/
def sout0_A_0 (c : Dev nD) (i : grid0.Coords) (arg3 : Memref sig .tc .vmem S1x2048x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1x2048x1024 .bf16) (harg9 : arg9.IsWhole) (arg10 : Memref sig .tc .vmem S1x2048x128 .f32) (harg10 : arg10.IsWhole) (arg11 : Memref sig .tc .vmem S2048x1024 .bf16) (harg11 : arg11.IsWhole) (hc0 : cond0_0 i) (hc1 : ¬cond0_1 i)
    (x0 : Vec F S1x2048x1024 .f32) (x1 : Vec F S1x1024 .f32) (x2 : Vec F S1x1x1024 .f32) (x3 : Vec F S1x1x1024 .f32) (x4 : Vec F S1024x1024 .bf16) (x5 : Vec F S1024x128 .bf16) : Vec F S2048x1024 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 hc0 hc1 x0 x1 x2 x3 x4 x5).2.2.1)

/-- At the other column steps the one store fills the main block. -/
theorem cover0_B_6 (c : Dev nD) (i : grid0.Coords) (arg3 : Memref sig .tc .vmem S1x2048x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1x2048x1024 .bf16) (harg9 : arg9.IsWhole) (arg10 : Memref sig .tc .vmem S1x2048x128 .f32) (harg10 : arg10.IsWhole) (arg11 : Memref sig .tc .vmem S2048x1024 .bf16) (harg11 : arg11.IsWhole) (hc0 : ¬cond0_0 i) (hc1 : cond0_1 i)
    (x4 : Vec F S1024x1024 .bf16) (xs0 : Vec F S2048x1024 .bf16) (y : S1x2048x1024.Idx) :
    ∃ pc ∈ (kernelRun0_B c i arg3 harg3 arg4 harg4 arg5 harg5 arg6 harg6 arg7 harg7 arg8 harg8 arg9 harg9 arg10 harg10 arg11 harg11 hc0 hc1 x4 xs0).1, y ∈ pc.1.set :=
  View.cover_of_tiledL (kernelRun0_B c i arg3 harg3 arg4 harg4 arg5 harg5 arg6 harg6 arg7 harg7 arg8 harg8 arg9 harg9 arg10 harg10 arg11 harg11 hc0 hc1 x4 xs0).1 S1x2048x1024.size (by sl_kernel_rfl) y
/-- The same stores read back. -/
def out0_B_6 (c : Dev nD) (i : grid0.Coords) (arg3 : Memref sig .tc .vmem S1x2048x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x128 .bf16) (harg8 : arg8.IsWhole) (arg9 : Memref sig .tc .vmem S1x2048x1024 .bf16) (harg9 : arg9.IsWhole) (arg10 : Memref sig .tc .vmem S1x2048x128 .f32) (harg10 : arg10.IsWhole) (arg11 : Memref sig .tc .vmem S2048x1024 .bf16) (harg11 : arg11.IsWhole) (hc0 : ¬cond0_0 i) (hc1 : cond0_1 i)
    (x4 : Vec F S1024x1024 .bf16) (xs0 : Vec F S2048x1024 .bf16) : Vec F S1x2048x1024 .bf16 :=
  VO0_6.read (Elt F) (VO0_6.writes (Elt F) VO0_6.junk (kernelRun0_B c i arg3 harg3 arg4 harg4 arg5 harg5 arg6 harg6 arg7 harg7 arg8 harg8 arg9 harg9 arg10 harg10 arg11 harg11 hc0 hc1 x4 xs0).1)

/-! ## What the buffers hold after each point -/

/-- The main block, the gate block and the scratch after a first column step. -/
def mainA (c : Dev nD) (t : Fin cfg0.N) (h : t.val % 12 = 0) : Vec F S1x2048x1024 .bf16 := out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h) (fun h1 => (hcond0_1 t).mp h1 h) (iblk m c 0 t) (iblk m c 1 t) (iblk m c 2 t) (iblk m c 3 t) (iblk m c 4 t) (iblk m c 5 t)
def gateA (c : Dev nD) (t : Fin cfg0.N) (h : t.val % 12 = 0) : Vec F S1x2048x128 .f32 := out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h) (fun h1 => (hcond0_1 t).mp h1 h) (iblk m c 0 t) (iblk m c 1 t) (iblk m c 2 t) (iblk m c 3 t) (iblk m c 4 t) (iblk m c 5 t)
def rowsA (c : Dev nD) (t : Fin cfg0.N) (h : t.val % 12 = 0) : Vec F S2048x1024 .bf16 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h) (fun h1 => (hcond0_1 t).mp h1 h) (iblk m c 0 t) (iblk m c 1 t) (iblk m c 2 t) (iblk m c 3 t) (iblk m c 4 t) (iblk m c 5 t)
/-- The main block after another column step, over the kept rows. -/
def mainB (c : Dev nD) (t : Fin cfg0.N) (h : ¬t.val % 12 = 0) (xs : Vec F S2048x1024 .bf16) : Vec F S1x2048x1024 .bf16 := out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h0 => h ((hcond0_0 t).mp h0)) ((hcond0_1 t).mpr h) (iblk m c 4 t) xs

/-- The first column step of a point's row block. -/
def firstPt (t : Fin cfg0.N) : Fin cfg0.N := ⟨12 * (t.val / 12), by have := t.isLt; omega⟩
theorem firstPt_mod (t : Fin cfg0.N) : (firstPt t).val % 12 = 0 := Nat.mul_mod_right _ _
theorem firstPt_self (t : Fin cfg0.N) (h : t.val % 12 = 0) : firstPt t = t := Fin.ext (by show 12 * (t.val / 12) = t.val; omega)
theorem firstPt_pred (t : Fin cfg0.N) (h : ¬t.val % 12 = 0) (hl : t.val - 1 < cfg0.N) : firstPt ⟨t.val - 1, hl⟩ = firstPt t :=
  Fin.ext (by show 12 * ((t.val - 1) / 12) = 12 * (t.val / 12); omega)

/-- What the scratch, the gate buffer and the main buffer hold after a point. -/
def rows (c : Dev nD) (t : Fin cfg0.N) : Vec F S2048x1024 .bf16 := rowsA m c (firstPt t) (firstPt_mod t)
def gate (c : Dev nD) (t : Fin cfg0.N) : Vec F S1x2048x128 .f32 := gateA m c (firstPt t) (firstPt_mod t)
def out (c : Dev nD) (t : Fin cfg0.N) : Vec F S1x2048x1024 .bf16 :=
  if h : t.val % 12 = 0 then mainA m c t h else mainB m c t h (rows m c t)

theorem rowsA_congr (c : Dev nD) (t p : Fin cfg0.N) (hp : p.val % 12 = 0) (h : t.val % 12 = 0) (e : p = t) : rowsA m c p hp = rowsA m c t h := by subst e; rfl
theorem gateA_congr (c : Dev nD) (t p : Fin cfg0.N) (hp : p.val % 12 = 0) (h : t.val % 12 = 0) (e : p = t) : gateA m c p hp = gateA m c t h := by subst e; rfl
theorem rows_A (c : Dev nD) (t : Fin cfg0.N) (h : t.val % 12 = 0) : rows m c t = rowsA m c t h := rowsA_congr m c _ _ _ _ (firstPt_self t h)
theorem gate_A (c : Dev nD) (t : Fin cfg0.N) (h : t.val % 12 = 0) : gate m c t = gateA m c t h := gateA_congr m c _ _ _ _ (firstPt_self t h)
theorem rows_pred (c : Dev nD) (t : Fin cfg0.N) (h : ¬t.val % 12 = 0) (hl : t.val - 1 < cfg0.N) : rows m c ⟨t.val - 1, hl⟩ = rows m c t :=
  rowsA_congr m c _ _ _ _ (firstPt_pred t h hl)
theorem gate_first (c : Dev nD) (t : Fin cfg0.N) : gate m c (firstPt t) = gate m c t := gateA_congr m c _ _ _ _ (firstPt_self _ (firstPt_mod t))
theorem out_A (c : Dev nD) (t : Fin cfg0.N) (h : t.val % 12 = 0) : out m c t = mainA m c t h := dif_pos h
theorem out_B (c : Dev nD) (t : Fin cfg0.N) (h : ¬t.val % 12 = 0) : out m c t = mainB m c t h (rows m c t) := dif_neg h

/-- What the region holds between points: the scratch at the rows the last point left, and the generator. -/
def PhiS (c : Dev nD) : (n : ℕ) → n ≤ cfg0.N → sProp 𝕄
  | 0, _ => Pipeline.ΦA spec0 c
  | n + 1, hn => iprop(iprop(owns (c : Thread nD τ) scM0_0 fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (rows m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM0_0 fullShare (rows m c ⟨n - 1, by omega⟩)) ∗ (∃ r, prngReg c r)) := by
  cases n with
  | zero => exact absurd rfl hz
  | succ n => rfl

/-! ## The pipeline's proof data -/

/-- The arrays as the region finds them, and what each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out m c t
    | ⟨7, _⟩ => gate m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out m c t := by dsimp only [dats]
theorem after0_7 (c : Dev nD) (t : Fin cfg0.N) : (dats m 0 c).after 7 t = gate m c t := by dsimp only [dats]
theorem before0_0 (c : Dev nD) (t : Fin cfg0.N) (d) : (dats m 0 c).before 0 t d = iblk m c 0 t :=
  found0_of m (dats m 0 c) (A_eq m c 0) (after0_0 m c) t d
theorem before0_1 (c : Dev nD) (t : Fin cfg0.N) (d) : (dats m 0 c).before 1 t d = iblk m c 1 t :=
  found1_of m (dats m 0 c) (A_eq m c 1) (after0_1 m c) t d
theorem before0_2 (c : Dev nD) (t : Fin cfg0.N) (d) : (dats m 0 c).before 2 t d = iblk m c 2 t :=
  found2_of m (dats m 0 c) (A_eq m c 2) (after0_2 m c) t d
theorem before0_3 (c : Dev nD) (t : Fin cfg0.N) (d) : (dats m 0 c).before 3 t d = iblk m c 3 t :=
  found3_of m (dats m 0 c) (A_eq m c 3) (after0_3 m c) t d
theorem before0_4 (c : Dev nD) (t : Fin cfg0.N) (d) : (dats m 0 c).before 4 t d = iblk m c 4 t :=
  found4_of m (dats m 0 c) (A_eq m c 4) (after0_4 m c) t d
theorem before0_5 (c : Dev nD) (t : Fin cfg0.N) (d) : (dats m 0 c).before 5 t d = iblk m c 5 t :=
  found5_of m (dats m 0 c) (A_eq m c 5) (after0_5 m c) t d

theorem noFlush7 (t : Fin cfg0.N) (h : ¬t.val % 12 = 11) : (cfg0.win 7).flush t = false :=
  Bool.eq_false_iff.mpr fun hf => h ((flush0_7 t).mp hf)

/-- The gate buffer, once stored, is found as it was stored until it is written back. -/
theorem before0_7 (c : Dev nD) (t : Fin cfg0.N) (h : ¬t.val % 12 = 0) (d) : (dats m 0 c).before 7 t d = gate m c t := by
  have hN : t.val < 96 := lt_of_lt_of_eq t.isLt (show cfg0.N = 96 from N_0)
  rw [(dats m 0 c).before_idle_run 7 ((cfg0.win 7).fetch_out rfl) d (t.val % 12 - 1) t (by omega) (fun j h1 h2 =>
    ⟨idle7 j (by omega), noFlush7 j (by omega)⟩)]
  rw [(dats m 0 c).before_of_pos 7 _ (by show t.val - (t.val % 12 - 1) ≠ 0; omega) ((cfg0.win 7).fetch_out rfl _),
    noFlush7 _ (by show ¬(t.val - (t.val % 12 - 1) - 1) % 12 = 11; omega), if_neg Bool.false_ne_true]
  unfold Dat.left
  rw [live7 _ (by show (t.val - (t.val % 12 - 1) - 1) % 12 = 0; omega)]
  show (dats m 0 c).kept 7 _ d = _
  unfold Dat.kept
  rw [Pipeline.fill_of_clip_none (cfg := cfg0) 7 _ (fun _ => rfl) d ((dats m 0 c).after 7 _), Window.fill_cut, after0_7]
  rw [← gate_first m c t]
  congr 1
  exact Fin.ext (by show t.val - (t.val % 12 - 1) - 1 = 12 * (t.val / 12); omega)

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) : (dats m 0 c).leavesExact 0 t = owns (c : Thread nD τ) (ms0_0 t) fullShare (iblk m c 0 t) := by
  rw [← after0_0]
theorem leaves1 (c : Dev nD) (t : Fin cfg0.N) : (dats m 0 c).leavesExact 1 t = owns (c : Thread nD τ) (ms0_1 t) fullShare (iblk m c 1 t) := by
  rw [← after0_1]
theorem leaves2 (c : Dev nD) (t : Fin cfg0.N) : (dats m 0 c).leavesExact 2 t = owns (c : Thread nD τ) (ms0_2 t) fullShare (iblk m c 2 t) := by
  rw [← after0_2]
theorem leaves3 (c : Dev nD) (t : Fin cfg0.N) : (dats m 0 c).leavesExact 3 t = owns (c : Thread nD τ) (ms0_3 t) fullShare (iblk m c 3 t) := by
  rw [← after0_3]
theorem leaves4 (c : Dev nD) (t : Fin cfg0.N) : (dats m 0 c).leavesExact 4 t = owns (c : Thread nD τ) (ms0_4 t) fullShare (iblk m c 4 t) := by
  rw [← after0_4]
theorem leaves5 (c : Dev nD) (t : Fin cfg0.N) : (dats m 0 c).leavesExact 5 t = owns (c : Thread nD τ) (ms0_5 t) fullShare (iblk m c 5 t) := by
  rw [← after0_5]
theorem leaves6 (c : Dev nD) (t : Fin cfg0.N) : (dats m 0 c).leavesExact 6 t = owns (c : Thread nD τ) (ms0_6 t) fullShare (out m c t) := by
  rw [← after0_6]; unfold Dat.leavesExact; rw [live6 t]
theorem leaves7_A (c : Dev nD) (t : Fin cfg0.N) (h : t.val % 12 = 0) : (dats m 0 c).leavesExact 7 t = owns (c : Thread nD τ) (ms0_7 t) fullShare (gate m c t) := by
  rw [← after0_7]; unfold Dat.leavesExact; rw [live7 t h]
theorem leaves7_B (c : Dev nD) (t : Fin cfg0.N) (h : ¬t.val % 12 = 0) :
    owns (c : Thread nD τ) (ms0_7 t) fullShare (gate m c t) ⊢ ((dats m 0 c).leavesExact 7 t : sProp 𝕄) := by
  by_cases hf : t.val % 12 = 11
  · rw [← after0_7]; unfold Dat.leavesExact; rw [idle7 t h, (flush0_7 t).mpr hf]
  · rw [(dats m 0 c).leavesExact_idle 7 t (idle7 t h) (noFlush7 t hf)]
    iintro H
    iexists ((dats m 0 c).before 7 t (gate m c t))
    rw [before0_7 m c t h]
    iexact H

set_option maxHeartbeats 3200000 in
/-- The body at a point does what the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6]
  have hN : t.val < 96 := lt_of_lt_of_eq t.isLt (show cfg0.N = 96 from N_0)
  by_cases h : t.val % 12 = 0
  · rw [leaves7_A m c t h, rows_A m c t h, gate_A m c t h, out_A m c t h]
    unfold mainA gateA rowsA out0_A_6 out0_A_7 sout0_A_0
    by_cases hz : t.val = 0
    · rw [PhiS_castSucc m c t, PhiS_zero m c _ _ hz, PhiA0_eq]
      (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h) (fun h1 => (hcond0_1 t).mp h1 h) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _)
    · rw [PhiS_castSucc m c t, PhiS_pos m c _ _ hz]
      (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h) (fun h1 => (hcond0_1 t).mp h1 h) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _)
  · have hz : t.val ≠ 0 := by omega
    rw [PhiS_castSucc m c t, PhiS_pos m c _ _ hz, rows_pred m c t h, out_B m c t h]
    simp only [before0_7 m c t h]
    unfold mainB out0_B_6
    (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h0 => h ((hcond0_0 t).mp h0)) ((hcond0_1 t).mpr h) (iblk m c 4 t) (rows m c t)).2 Set.univ _)
    isplitl [H4]; · iexact H4
    isplitl [H6]; · iexists _; iexact H6
    isplitl [HS0]; · iexact HS0
    iintro ⟨H4, ⟨%e6, H6⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _)
    iapply (leaves7_B m c t h)
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 96 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run -/

set_option backward.isDefEq.respectTransparency.types false in
/-- The whole program runs, and leaves the arrays as the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run with its two results named, the arguments kept, and every counter at zero. -/
theorem run_blocks : θ_run defs (onTc (τ := τ) (main (F := F))) ⟨m, fun _ => 0, ρ⟩ (fun r => (∀ c : Dev nD,
      (r.2.mem ((c : Thread nD τ).loc main_v14_0) = (dats m 0 c).arrAt 6 cfg0.N
      ∧ r.2.mem ((c : Thread nD τ).loc main_v14_1) = (dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨⟨(h.1 c).1 6, (h.1 c).1 7⟩,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c)⟩, h.2⟩) (run_main_quiescent m ρ)

/-- The arguments end as they began, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (run_blocks m ρ)

/-! ## The results block by block -/

theorem flushed6 (c : Dev nD) (t : Fin cfg0.N) :
    (dats m 0 c).flushed 6 t = (cfg0.win 6).cut (grid0.coords t) (out m c t) := by
  show (cfg0.win 6).cut (grid0.coords t) ((dats m 0 c).after 6 t) = _
  rw [after0_6]
theorem flushed7 (c : Dev nD) (t : Fin cfg0.N) :
    (dats m 0 c).flushed 7 t = (cfg0.win 7).cut (grid0.coords t) (gate m c t) := by
  show (cfg0.win 7).cut (grid0.coords t) ((dats m 0 c).after 7 t) = _
  rw [after0_7]

theorem idx_inj6 : ∀ t t' : Fin cfg0.N, win0_6.index t = win0_6.index t' → t = t' := by
  have key : ∀ t : Fin grid0.N, 24 * win0_6.index t (0 : Fin 3) + 12 * win0_6.index t (1 : Fin 3) + win0_6.index t (2 : Fin 3) = t.val := by decide +kernel
  intro t t' e
  have h := key t
  rw [e, key t'] at h
  exact Fin.ext h.symm
theorem idx_div7 : ∀ t t' : Fin cfg0.N, win0_7.index t = win0_7.index t' → t.val / 12 = t'.val / 12 := by
  have key : ∀ t : Fin grid0.N, 2 * win0_7.index t (0 : Fin 3) + win0_7.index t (1 : Fin 3) = t.val / 12 := by decide +kernel
  intro t t' e
  have h := key t
  rw [e, key t'] at h
  exact h.symm
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)
theorem disjoint7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun h => hne (Fin.ext (by
    have h1 := idx_div7 t t' h
    have h2 := (flush0_7 t).mp hf
    have h3 := (flush0_7 t').mp hf'
    omega))

/-- A written block of a result is what its point stored. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

end Cert.Kernel2Ideal.Gen

end
-- ==== Proof.InWire.lean ====
module

public import proofs.«01_k».proof.Proof.InFrame
public import proofs.«01_k».proof.Proof.Gen.Reference2Ideal.Run
public import proofs.«01_k».proof.Proof.Rms
public import Idealize.ShloMosaic.Lib.Pointwise
public import Idealize.ShloMosaic.Lib.Pipeline.ValueKit

@[expose] public section

set_option maxRecDepth 16384

noncomputable section

/-! ## The gate columns: which column of the weights each of the 128 places takes

Both programs gather along the last axis by one table of start indices; read at a place, a gather is the operand at the
table's entry, clamped into the axis. -/

namespace Cert.Kernel2Ideal.Gen

open Cert.Kernel2Ideal Idealize.ShloMosaic Idealize.ShloMosaic.TcCoe Idealize.ShloMosaic.Tactic

/-- A start index clamped to the 32 gate columns. -/
def clamp (w : BitVec 32) : Fin 32 := ⟨min w.toInt.toNat 31, by omega⟩

theorem gather_col {α : Type} (x : S1024x32.Idx → α) (idx : IVec S128x1 32) (k : Fin 1024) (p : Fin 128) :
    Host.gather gather_S1024x32_S128x1_S1024x128_0_1_n_n_1_1_10241 x idx (ix2 k p) = x (ix2 k (clamp (idx (ix2 p 0)))) := by
  unfold Host.gather
  refine congrArg x (funext fun a => Fin.ext ?_)
  match a with
  | ⟨0, _⟩ =>
    show GatherDims.start gather_S1024x32_S128x1_S1024x128_0_1_n_n_1_1_10241 (ix2 k p) idx (0 : Fin 2) + GatherDims.batchCoord gather_S1024x32_S128x1_S1024x128_0_1_n_n_1_1_10241 (ix2 k p) (0 : Fin 2) + GatherDims.offCoord gather_S1024x32_S128x1_S1024x128_0_1_n_n_1_1_10241 (ix2 k p) (0 : Fin 2) = k.val
    rw [GatherDims.batchCoord_eq_zero _ _ _ List.not_mem_nil]
    unfold GatherDims.start GatherDims.offCoord
    rw [dif_neg (show (0 : Fin 2) ∉ gather_S1024x32_S128x1_S1024x128_0_1_n_n_1_1_10241.startIndexMap from (by decide : (0 : Fin 2) ∉ [(1 : Fin 2)])), dif_pos ((GatherDims.mem_sKept _ _).2 ⟨by decide, List.not_mem_nil⟩)]
    exact (Nat.zero_add _).trans rfl
  | ⟨1, _⟩ =>
    show GatherDims.start gather_S1024x32_S128x1_S1024x128_0_1_n_n_1_1_10241 (ix2 k p) idx (1 : Fin 2) + GatherDims.batchCoord gather_S1024x32_S128x1_S1024x128_0_1_n_n_1_1_10241 (ix2 k p) (1 : Fin 2) + GatherDims.offCoord gather_S1024x32_S128x1_S1024x128_0_1_n_n_1_1_10241 (ix2 k p) (1 : Fin 2) = (clamp (idx (ix2 p 0))).val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S1024x32_S128x1_S1024x128_0_1_n_n_1_1_10241.startIndexMap from List.mem_singleton.mpr rfl)]
    simp only [Nat.add_zero]
    refine congrArg (fun i => min (idx i).toInt.toNat 31) (?_ : _ = ix2 p 0)
    funext b
    refine Fin.ext ?_
    match b with
    | ⟨0, _⟩ => rfl
    | ⟨1, _⟩ => rfl

end Cert.Kernel2Ideal.Gen

namespace Cert.Reference2Ideal.Gen

open Cert.Reference2Ideal Idealize.ShloMosaic Idealize.ShloMosaic.TcCoe Idealize.ShloMosaic.Tactic
open Cert.Kernel2Ideal.Gen (clamp)

theorem gather_col {α : Type} (x : S4x4096x32.Idx → α) (idx : IVec S128x1 32) (b : Fin 4) (n : Fin 4096) (p : Fin 128) :
    Host.gather gather_S4x4096x32_S128x1_S4x4096x128_01_2_n_n_2_1_440961 x idx (ix3 b n p) = x (ix3 b n (clamp (idx (ix2 p 0)))) := by
  unfold Host.gather
  refine congrArg x (funext fun a => Fin.ext ?_)
  match a with
  | ⟨0, _⟩ =>
    show GatherDims.start gather_S4x4096x32_S128x1_S4x4096x128_01_2_n_n_2_1_440961 (ix3 b n p) idx (0 : Fin 3) + GatherDims.batchCoord gather_S4x4096x32_S128x1_S4x4096x128_01_2_n_n_2_1_440961 (ix3 b n p) (0 : Fin 3) + GatherDims.offCoord gather_S4x4096x32_S128x1_S4x4096x128_01_2_n_n_2_1_440961 (ix3 b n p) (0 : Fin 3) = b.val
    rw [GatherDims.batchCoord_eq_zero _ _ _ List.not_mem_nil]
    unfold GatherDims.start GatherDims.offCoord
    rw [dif_neg (show (0 : Fin 3) ∉ gather_S4x4096x32_S128x1_S4x4096x128_01_2_n_n_2_1_440961.startIndexMap from (by decide : (0 : Fin 3) ∉ [(2 : Fin 3)])), dif_pos ((GatherDims.mem_sKept _ _).2 ⟨by decide, List.not_mem_nil⟩)]
    exact (Nat.zero_add _).trans rfl
  | ⟨1, _⟩ =>
    show GatherDims.start gather_S4x4096x32_S128x1_S4x4096x128_01_2_n_n_2_1_440961 (ix3 b n p) idx (1 : Fin 3) + GatherDims.batchCoord gather_S4x4096x32_S128x1_S4x4096x128_01_2_n_n_2_1_440961 (ix3 b n p) (1 : Fin 3) + GatherDims.offCoord gather_S4x4096x32_S128x1_S4x4096x128_01_2_n_n_2_1_440961 (ix3 b n p) (1 : Fin 3) = n.val
    rw [GatherDims.batchCoord_eq_zero _ _ _ List.not_mem_nil]
    unfold GatherDims.start GatherDims.offCoord
    rw [dif_neg (show (1 : Fin 3) ∉ gather_S4x4096x32_S128x1_S4x4096x128_01_2_n_n_2_1_440961.startIndexMap from (by decide : (1 : Fin 3) ∉ [(2 : Fin 3)])), dif_pos ((GatherDims.mem_sKept _ _).2 ⟨by decide, List.not_mem_nil⟩)]
    exact (Nat.zero_add _).trans rfl
  | ⟨2, _⟩ =>
    show GatherDims.start gather_S4x4096x32_S128x1_S4x4096x128_01_2_n_n_2_1_440961 (ix3 b n p) idx (2 : Fin 3) + GatherDims.batchCoord gather_S4x4096x32_S128x1_S4x4096x128_01_2_n_n_2_1_440961 (ix3 b n p) (2 : Fin 3) + GatherDims.offCoord gather_S4x4096x32_S128x1_S4x4096x128_01_2_n_n_2_1_440961 (ix3 b n p) (2 : Fin 3) = (clamp (idx (ix2 p 0))).val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (2 : Fin 3) ∈ gather_S4x4096x32_S128x1_S4x4096x128_01_2_n_n_2_1_440961.startIndexMap from List.mem_singleton.mpr rfl)]
    simp only [Nat.add_zero]
    refine congrArg (fun i => min (idx i).toInt.toNat 31) (?_ : _ = ix2 p 0)
    funext b
    refine Fin.ext ?_
    match b with
    | ⟨0, _⟩ => rfl
    | ⟨1, _⟩ => rfl

/-- The two programs' tables are one. -/
theorem mask_eq : ∀ p, lit0 p = Cert.Kernel2Ideal.lit0 p := by decide +kernel
theorem place_eq : ∀ p, lit1 p = Cert.Kernel2Ideal.lit1 p := by decide +kernel

end Cert.Reference2Ideal.Gen
-- ==== Proof.InBlocks.lean ====
module

public import Idealize.ShloMosaic.Lib.Pointwise
public import Idealize.ShloMosaic.Lib.Pipeline.ValueKit
public import proofs.«01_k».proof.Proof.InWire

@[expose] public section

set_option maxRecDepth 16384

noncomputable section

namespace Cert.Kernel2Ideal.Gen

open Cert.Kernel2Ideal Idealize.ShloMosaic Idealize.ShloMosaic.TcCoe Idealize.ShloMosaic.Tactic
open Idealize.SL Idealize.SL.RA Idealize.SL.BI

variable (m : (ℓ : Loc nD τ sig) → Buf (Elt Ideal) ℓ)

theorem nGrid : cfg0.N = 96 := N_0

/-- The weights' column that a column of the main result takes: the 32 gate columns are skipped. -/
def col (e : Fin 12288) : Fin 12320 := if h : e.val < 4096 then ⟨e.val, by omega⟩ else ⟨e.val + 32, by omega⟩
/-- The gate column that a place of the second result takes. -/
def gateCol (p : Fin 128) : Fin 12320 := ⟨4096 + (clamp (lit1 p)).val, by have := (clamp (lit1 p)).isLt; omega⟩

/-- The main weights as the region finds them. -/
def wMain (a4 : FVec Ideal S1024x12320 .f32) : S1024x12288.Idx → EReal :=
  (truncf .bf16 (concatenate S1024x12288 1 [⟨S1024x4096, extractStridedSlice S1024x4096 ![0, 0] a4 slices_S1024x12320_S1024x4096_0_0⟩, ⟨S1024x8192, extractStridedSlice S1024x8192 ![0, 4128] a4 slices_S1024x12320_S1024x8192_0_4128⟩] concatenates_S1024x4096_S1024x8192_S1024x12288_d1) bitsLt_bf16_f32 : FVec Ideal S1024x12288 .bf16)

/-- The start indices of the gate columns. -/
def starts : IVec S128x1 32 :=
  broadcastInDim S128x1 ![0] bcast_S128_S128x1_0 (select (constantI S128 1 0#1) (addi (fun i => lit1 (S128.rowMajor i)) (broadcastInDim S128 ![] bcast_S_S128 (constantI S_ 32 32#32))) (fun i => lit1 (S128.rowMajor i)))

/-- The gate weights as the region finds them. -/
def wGate (a4 : FVec Ideal S1024x12320 .f32) : S1024x128.Idx → EReal :=
  (truncf .bf16 (select (broadcastInDim S1024x128 ![0, 1] bcast_S1x128_S1024x128_0_1 (broadcastInDim S1x128 ![1] bcast_S128_S1x128_1 (fun i => lit0 (S128.rowMajor i))))
    (Host.gather gather_S1024x32_S128x1_S1024x128_0_1_n_n_1_1_10241 (extractStridedSlice S1024x32 ![0, 4096] a4 slices_S1024x12320_S1024x32_0_4096) starts)
    (broadcastInDim S1024x128 ![] bcast_S_S1024x128 (id (constant S_ .f32 0x00000000#32)))) bitsLt_bf16_f32 : FVec Ideal S1024x128 .bf16)

theorem rowMajor_ix1 (p : Fin 128) : S128.rowMajor (ix1 p) = p := Fin.ext (rowMajor_val1 (ix1 p))

theorem starts_at (p : Fin 128) : starts (ix2 p 0) = lit1 p := by
  unfold starts
  simp only [pointwise]
  simp [rowMajor_ix1]

theorem wMain_at (a4 : FVec Ideal S1024x12320 .f32) (k : Fin 1024) (e : Fin 12288) : wMain a4 (ix2 k e) = (a4 : S1024x12320.Idx → EReal) (ix2 k (col e)) := by
  unfold wMain col
  simp only [pointwise]
  by_cases h : e.val < 4096
  · rw [dif_pos h, dif_pos h]
    exact congrArg (a4 : S1024x12320.Idx → EReal) (congrArg₂ ix2 (Fin.ext (Nat.zero_add _)) (Fin.ext (Nat.zero_add _)))
  · rw [dif_neg h, dif_neg h]
    refine congrArg (a4 : S1024x12320.Idx → EReal) (congrArg₂ ix2 (Fin.ext ?_) (Fin.ext ?_))
    · simp
    · show 4128 + (if True then e.val - 4096 else e.val) = e.val + 32
      rw [if_pos trivial]; omega

theorem wGate_at (a4 : FVec Ideal S1024x12320 .f32) (k : Fin 1024) (p : Fin 128) :
    wGate a4 (ix2 k p) = if lit0 p = 1#1 then (a4 : S1024x12320.Idx → EReal) (ix2 k (gateCol p)) else 0 := by
  unfold wGate gateCol
  simp only [pointwise, gather_col, starts_at]
  show Scalar.select (lit0 (S128.rowMajor (ix1 p))) _ _ = _
  rw [rowMajor_ix1]
  unfold Scalar.select
  refine if_congr Iff.rfl ?_ ?_
  · exact congrArg (a4 : S1024x12320.Idx → EReal) (congrArg₂ ix2 (Fin.ext (Nat.zero_add _)) rfl)
  · show Ideal.ofBits .f32 0x00000000#32 = 0
    simp

theorem V_v3 (c : Dev nD) : V m c main_v3 = wMain (m ((c : Thread nD τ).loc main_arg4)) := by
  show StableHlo.after (hostOps (F := Ideal)).flatten _ (Proc.devRef .tc main_v3) = _
  simp only [hostOps, List.flatten_cons, List.flatten_nil, List.append_nil, List.cons_append, List.nil_append]
  after_results
  try rfl
theorem V_v12 (c : Dev nD) : V m c main_v12 = wGate (m ((c : Thread nD τ).loc main_arg4)) := by
  show StableHlo.after (hostOps (F := Ideal)).flatten _ (Proc.devRef .tc main_v12) = _
  simp only [hostOps, List.flatten_cons, List.flatten_nil, List.append_nil, List.cons_append, List.nil_append]
  after_results
  try rfl
theorem V_v13 (c : Dev nD) : V m c main_v13 = (shapeCast S1x1024 (m ((c : Thread nD τ).loc main_arg1) : FVec Ideal S1024 .f32) shapeCasts_S1024_S1x1024 : S1x1024.Idx → EReal) := by
  show StableHlo.after (hostOps (F := Ideal)).flatten _ (Proc.devRef .tc main_v13) = _
  simp only [hostOps, List.flatten_cons, List.flatten_nil, List.append_nil, List.cons_append, List.nil_append]
  after_results
  try rfl
theorem row1 (v : FVec Ideal S1024 .f32) (e : Fin 1024) : (shapeCast S1x1024 v shapeCasts_S1024_S1x1024 : S1x1024.Idx → EReal) (ix2 0 e) = v (ix1 e) := by
  simp only [pointwise]

theorem idx_0 : ∀ t : Fin cfg0.N, win0_0.index t (0 : Fin 3) = t.val / 24 ∧ win0_0.index t (1 : Fin 3) = t.val / 12 % 2 ∧ win0_0.index t (2 : Fin 3) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 3) = t.val / 24 ∧ win0_2.index t (1 : Fin 3) = 0 ∧ win0_2.index t (2 : Fin 3) = 0 :=
  (by decide +kernel : ∀ t : Fin grid0.N, _)
theorem idx_3 : ∀ t : Fin cfg0.N, win0_3.index t (0 : Fin 3) = t.val / 24 ∧ win0_3.index t (1 : Fin 3) = 0 ∧ win0_3.index t (2 : Fin 3) = 0 :=
  (by decide +kernel : ∀ t : Fin grid0.N, _)
theorem idx_4 : ∀ t : Fin cfg0.N, win0_4.index t (0 : Fin 2) = 0 ∧ win0_4.index t (1 : Fin 2) = t.val % 12 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 3) = t.val / 24 ∧ win0_6.index t (1 : Fin 3) = t.val / 12 % 2 ∧ win0_6.index t (2 : Fin 3) = t.val % 12 :=
  (by decide +kernel : ∀ t : Fin grid0.N, _)
theorem idx_7 : ∀ t : Fin cfg0.N, win0_7.index t (0 : Fin 3) = t.val / 24 ∧ win0_7.index t (1 : Fin 3) = t.val / 12 % 2 ∧ win0_7.index t (2 : Fin 3) = 0 :=
  (by decide +kernel : ∀ t : Fin grid0.N, _)

theorem blk_0 (c : Dev nD) (t : Fin cfg0.N) (y : Fin 2048) (z : Fin 1024) : (iblk m c 0 t : S1x2048x1024.Idx → EReal) (ix3 0 y z) = (m ((c : Thread nD τ).loc main_arg0) : S4x4096x1024.Idx → EReal) (ix3 ⟨t.val / 24, by have := lt_of_lt_of_eq t.isLt nGrid; omega⟩ ⟨2048 * (t.val / 12 % 2) + y.val, by have := lt_of_lt_of_eq t.isLt nGrid; omega⟩ z) := by
  obtain ⟨i0, i1, i2⟩ := idx_0 t
  refine Eq.trans ?_ (congrFun (V_main_arg0 m c) _)
  refine congrArg (V m c main_arg0 : S4x4096x1024.Idx → EReal) (a₁ := ((cfg0.win 0).blk t).view.emb (ix3 0 y z : S1x2048x1024.Idx)) ?_
  funext a
  apply Fin.ext
  match a with
  | ⟨0, _⟩ => show win0_0.index t (0 : Fin 3) * 1 + 1 * 0 = t.val / 24; rw [i0] <;> omega
  | ⟨1, _⟩ => show win0_0.index t (1 : Fin 3) * 2048 + 1 * y.val = 2048 * (t.val / 12 % 2) + y.val; rw [i1] <;> omega
  | ⟨2, _⟩ => show win0_0.index t (2 : Fin 3) * 1024 + 1 * z.val = z.val; rw [i2] <;> omega

theorem blk_1 (c : Dev nD) (t : Fin cfg0.N) (y : Fin 1024) : (iblk m c 1 t : S1x1024.Idx → EReal) (ix2 0 y) = (shapeCast S1x1024 (m ((c : Thread nD τ).loc main_arg1) : FVec Ideal S1024 .f32) shapeCasts_S1024_S1x1024 : S1x1024.Idx → EReal) (ix2 0 y) := by
  obtain ⟨i0, i1⟩ := idx_1 t
  refine Eq.trans ?_ (congrFun (V_v13 m c) _)
  refine congrArg (V m c main_v13 : S1x1024.Idx → EReal) (a₁ := ((cfg0.win 1).blk t).view.emb (ix2 0 y : S1x1024.Idx)) ?_
  funext a
  apply Fin.ext
  match a with
  | ⟨0, _⟩ => show win0_1.index t (0 : Fin 2) * 1 + 1 * 0 = 0; rw [i0] <;> omega
  | ⟨1, _⟩ => show win0_1.index t (1 : Fin 2) * 1024 + 1 * y.val = y.val; rw [i1] <;> omega

theorem blk_2 (c : Dev nD) (t : Fin cfg0.N) (z : Fin 1024) : (iblk m c 2 t : S1x1x1024.Idx → EReal) (ix3 0 0 z) = (m ((c : Thread nD τ).loc main_arg2) : S4x1x1024.Idx → EReal) (ix3 ⟨t.val / 24, by have := lt_of_lt_of_eq t.isLt nGrid; omega⟩ 0 z) := by
  obtain ⟨i0, i1, i2⟩ := idx_2 t
  refine Eq.trans ?_ (congrFun (V_main_arg2 m c) _)
  refine congrArg (V m c main_arg2 : S4x1x1024.Idx → EReal) (a₁ := ((cfg0.win 2).blk t).view.emb (ix3 0 0 z : S1x1x1024.Idx)) ?_
  funext a
  apply Fin.ext
  match a with
  | ⟨0, _⟩ => show win0_2.index t (0 : Fin 3) * 1 + 1 * 0 = t.val / 24; rw [i0] <;> omega
  | ⟨1, _⟩ => show win0_2.index t (1 : Fin 3) * 1 + 1 * 0 = 0; rw [i1] <;> omega
  | ⟨2, _⟩ => show win0_2.index t (2 : Fin 3) * 1024 + 1 * z.val = z.val; rw [i2] <;> omega

theorem blk_3 (c : Dev nD) (t : Fin cfg0.N) (z : Fin 1024) : (iblk m c 3 t : S1x1x1024.Idx → EReal) (ix3 0 0 z) = (m ((c : Thread nD τ).loc main_arg3) : S4x1x1024.Idx → EReal) (ix3 ⟨t.val / 24, by have := lt_of_lt_of_eq t.isLt nGrid; omega⟩ 0 z) := by
  obtain ⟨i0, i1, i2⟩ := idx_3 t
  refine Eq.trans ?_ (congrFun (V_main_arg3 m c) _)
  refine congrArg (V m c main_arg3 : S4x1x1024.Idx → EReal) (a₁ := ((cfg0.win 3).blk t).view.emb (ix3 0 0 z : S1x1x1024.Idx)) ?_
  funext a
  apply Fin.ext
  match a with
  | ⟨0, _⟩ => show win0_3.index t (0 : Fin 3) * 1 + 1 * 0 = t.val / 24; rw [i0] <;> omega
  | ⟨1, _⟩ => show win0_3.index t (1 : Fin 3) * 1 + 1 * 0 = 0; rw [i1] <;> omega
  | ⟨2, _⟩ => show win0_3.index t (2 : Fin 3) * 1024 + 1 * z.val = z.val; rw [i2] <;> omega

theorem blk_4 (c : Dev nD) (t : Fin cfg0.N) (x : Fin 1024) (y : Fin 1024) : (iblk m c 4 t : S1024x1024.Idx → EReal) (ix2 x y) = wMain (m ((c : Thread nD τ).loc main_arg4)) (ix2 x ⟨1024 * (t.val % 12) + y.val, by have := lt_of_lt_of_eq t.isLt nGrid; omega⟩) := by
  obtain ⟨i0, i1⟩ := idx_4 t
  refine Eq.trans ?_ (congrFun (V_v3 m c) _)
  refine congrArg (V m c main_v3 : S1024x12288.Idx → EReal) (a₁ := ((cfg0.win 4).blk t).view.emb (ix2 x y : S1024x1024.Idx)) ?_
  funext a
  apply Fin.ext
  match a with
  | ⟨0, _⟩ => show win0_4.index t (0 : Fin 2) * 1024 + 1 * x.val = x.val; rw [i0] <;> omega
  | ⟨1, _⟩ => show win0_4.index t (1 : Fin 2) * 1024 + 1 * y.val = 1024 * (t.val % 12) + y.val; rw [i1] <;> omega

theorem blk_5 (c : Dev nD) (t : Fin cfg0.N) (x : Fin 1024) (y : Fin 128) : (iblk m c 5 t : S1024x128.Idx → EReal) (ix2 x y) = wGate (m ((c : Thread nD τ).loc main_arg4)) (ix2 x y) := by
  obtain ⟨i0, i1⟩ := idx_5 t
  refine Eq.trans ?_ (congrFun (V_v12 m c) _)
  refine congrArg (V m c main_v12 : S1024x128.Idx → EReal) (a₁ := ((cfg0.win 5).blk t).view.emb (ix2 x y : S1024x128.Idx)) ?_
  funext a
  apply Fin.ext
  match a with
  | ⟨0, _⟩ => show win0_5.index t (0 : Fin 2) * 1024 + 1 * x.val = x.val; rw [i0] <;> omega
  | ⟨1, _⟩ => show win0_5.index t (1 : Fin 2) * 128 + 1 * y.val = y.val; rw [i1] <;> omega

end Cert.Kernel2Ideal.Gen

end
-- ==== Proof.InBody.lean ====
module

public import Idealize.ShloMosaic.Lib.Pointwise
public import Idealize.ShloMosaic.Lib.Pipeline.ValueKit
public import proofs.«01_k».proof.Proof.InBlocks

@[expose] public section

set_option maxRecDepth 16384

noncomputable section

namespace Cert.Kernel2Ideal.Gen

open Cert.Kernel2Ideal Idealize.ShloMosaic Idealize.ShloMosaic.TcCoe Idealize.ShloMosaic.Tactic
open Idealize.SL Idealize.SL.RA Idealize.SL.BI

/-- The block's normalised, modulated rows: what the kept scratch holds. -/
def hid (x0 : Vec Ideal S1x2048x1024 .f32) (x1 : Vec Ideal S1x1024 .f32) (x2 x3 : Vec Ideal S1x1x1024 .f32) (n : Fin 2048) (k : Fin 1024) : EReal :=
  Lay.modn (fun k => x0 (ix3 0 n k)) (fun k => x1 (ix2 0 k)) (fun k => x2 (ix3 0 0 k)) (fun k => x3 (ix3 0 0 k)) k

/-- A chunk's rows at a place. -/
theorem pay3_at (v6 : Vec Ideal S1x256x1024 .f32) (v18 : Vec Ideal S1x1024 .f32) (v22 v28 : Vec Ideal S1x1x1024 .f32) (n : Fin 256) (e : Fin 1024) :
    (k0_pay3 v6 v18 v22 v28 : S256x1024.Idx → EReal) (ix2 n e)
      = Lay.modn (fun k => v6 (ix3 0 n k)) (fun k => v18 (ix2 0 k)) (fun k => v28 (ix3 0 0 k)) (fun k => v22 (ix3 0 0 k)) e := by
  unfold k0_pay3 k0_pay2
  simp only [pointwise]
  simp [Lay.modn, Lay.nrm, Lay.inv]

theorem pay2_at (v6 : Vec Ideal S1x256x1024 .f32) (v18 : Vec Ideal S1x1024 .f32) (v22 v28 : Vec Ideal S1x1x1024 .f32) (n : Fin 256) (e : Fin 1024) :
    (k0_pay2 v6 v18 v22 v28 : S256x1024.Idx → EReal) (ix2 n e) = (k0_pay3 v6 v18 v22 v28 : S256x1024.Idx → EReal) (ix2 n e) := by
  unfold k0_pay3
  simp only [pointwise]

/-- A chunk's gate product at a place. -/
theorem pay4_at (v6 : Vec Ideal S1x256x1024 .f32) (v18 : Vec Ideal S1x1024 .f32) (v22 v28 : Vec Ideal S1x1x1024 .f32) (w : Vec Ideal S1024x128 .bf16) (n : Fin 256) (e : Fin 128) :
    (k0_pay4 v6 v18 v22 v28 w : S1x256x128.Idx → EReal) (ix3 0 n e)
      = ∑ k, (k0_pay3 v6 v18 v22 v28 : S256x1024.Idx → EReal) (ix2 n k) * w (ix2 k e) := by
  simp only [← pay2_at]
  unfold k0_pay4
  simp only [pointwise]
  simp

/-- A chunk's main product at a place. -/
theorem pay5_at (v6 : Vec Ideal S1x256x1024 .f32) (v18 : Vec Ideal S1x1024 .f32) (v22 v28 : Vec Ideal S1x1x1024 .f32) (w : Vec Ideal S1024x1024 .bf16) (n : Fin 256) (e : Fin 1024) :
    (k0_pay5 (k0_pay2 v6 v18 v22 v28) w : S1x256x1024.Idx → EReal) (ix3 0 n e)
      = ∑ k, (k0_pay3 v6 v18 v22 v28 : S256x1024.Idx → EReal) (ix2 n k) * w (ix2 k e) := by
  simp only [← pay2_at]
  unfold k0_pay5
  simp only [pointwise]
  simp

/-- The other column steps' product at a place. -/
theorem pay1_at (h : Vec Ideal S2048x1024 .bf16) (w : Vec Ideal S1024x1024 .bf16) (n : Fin 2048) (e : Fin 1024) :
    (k0_pay1 h w : S1x2048x1024.Idx → EReal) (ix3 0 n e) = ∑ k, h (ix2 n k) * w (ix2 k e) := by
  unfold k0_pay1
  simp only [pointwise]
  simp

/-! The other chunks are the first one's computation, cut elsewhere. -/

theorem scr2 (v6 : Vec Ideal S1x256x1024 .f32) (v18 : Vec Ideal S1x1024 .f32) (v22 v28 : Vec Ideal S1x1x1024 .f32) : k0_pay7 (k0_pay6 v6 v18 v22 v28) = k0_pay3 v6 v18 v22 v28 := rfl
theorem gat2 (v6 : Vec Ideal S1x256x1024 .f32) (v18 : Vec Ideal S1x1024 .f32) (v22 v28 : Vec Ideal S1x1x1024 .f32) (w : Vec Ideal S1024x128 .bf16) : k0_pay8 (k0_pay6 v6 v18 v22 v28) w = k0_pay4 v6 v18 v22 v28 w := rfl
theorem man2 (v6 : Vec Ideal S1x256x1024 .f32) (v18 : Vec Ideal S1x1024 .f32) (v22 v28 : Vec Ideal S1x1x1024 .f32) (w : Vec Ideal S1024x1024 .bf16) : k0_pay9 (k0_pay6 v6 v18 v22 v28) w = k0_pay5 (k0_pay2 v6 v18 v22 v28) w := rfl
theorem scr3 (v6 : Vec Ideal S1x256x1024 .f32) (v18 : Vec Ideal S1x1024 .f32) (v22 v28 : Vec Ideal S1x1x1024 .f32) : k0_pay13 (k0_pay10 v6 v18) (k0_pay11 v22) (Scalar.ofBits .f32 0x3F800000#32) v28 = k0_pay3 v6 v18 v22 v28 := rfl
theorem gat3 (v6 : Vec Ideal S1x256x1024 .f32) (v18 : Vec Ideal S1x1024 .f32) (v22 v28 : Vec Ideal S1x1x1024 .f32) (w : Vec Ideal S1024x128 .bf16) : k0_pay14 (k0_pay10 v6 v18) (k0_pay11 v22) (Scalar.ofBits .f32 0x3F800000#32) v28 w = k0_pay4 v6 v18 v22 v28 w := rfl
theorem man3 (v6 : Vec Ideal S1x256x1024 .f32) (v18 : Vec Ideal S1x1024 .f32) (v22 v28 : Vec Ideal S1x1x1024 .f32) (w : Vec Ideal S1024x1024 .bf16) : k0_pay15 (k0_pay10 v6 v18) (k0_pay11 v22) (Scalar.ofBits .f32 0x3F800000#32) v28 w = k0_pay5 (k0_pay2 v6 v18 v22 v28) w := rfl
theorem scr4 (v6 : Vec Ideal S1x256x1024 .f32) (v18 : Vec Ideal S1x1024 .f32) (v22 v28 : Vec Ideal S1x1x1024 .f32) : k0_pay19 (k0_pay16 v6) (k0_pay17 v6) v18 v22 v28 = k0_pay3 v6 v18 v22 v28 := rfl
theorem gat4 (v6 : Vec Ideal S1x256x1024 .f32) (v18 : Vec Ideal S1x1024 .f32) (v22 v28 : Vec Ideal S1x1x1024 .f32) (w : Vec Ideal S1024x128 .bf16) : k0_pay20 (k0_pay16 v6) (k0_pay17 v6) v18 v22 v28 w = k0_pay4 v6 v18 v22 v28 w := rfl
theorem man4 (v6 : Vec Ideal S1x256x1024 .f32) (v18 : Vec Ideal S1x1024 .f32) (v22 v28 : Vec Ideal S1x1x1024 .f32) (w : Vec Ideal S1024x1024 .bf16) : k0_pay21 (k0_pay16 v6) (k0_pay17 v6) v18 v22 v28 w = k0_pay5 (k0_pay2 v6 v18 v22 v28) w := rfl
theorem scr5 (v6 : Vec Ideal S1x256x1024 .f32) (v18 : Vec Ideal S1x1024 .f32) (v22 v28 : Vec Ideal S1x1x1024 .f32) : k0_pay23 v6 v18 v22 v28 = k0_pay3 v6 v18 v22 v28 := rfl
theorem gat5 (v6 : Vec Ideal S1x256x1024 .f32) (v18 : Vec Ideal S1x1024 .f32) (v22 v28 : Vec Ideal S1x1x1024 .f32) (w : Vec Ideal S1024x128 .bf16) : k0_pay24 v6 v18 v22 v28 w = k0_pay4 v6 v18 v22 v28 w := rfl
theorem man5 (v6 : Vec Ideal S1x256x1024 .f32) (v18 : Vec Ideal S1x1024 .f32) (v22 v28 : Vec Ideal S1x1x1024 .f32) (w : Vec Ideal S1024x1024 .bf16) : k0_pay25 (k0_pay22 v6 v18 v22 v28) w = k0_pay5 (k0_pay2 v6 v18 v22 v28) w := rfl
theorem scr6 (v6 : Vec Ideal S1x256x1024 .f32) (v18 : Vec Ideal S1x1024 .f32) (v22 v28 : Vec Ideal S1x1x1024 .f32) : k0_pay27 (k0_pay26 v6 v18 v22 v28) = k0_pay3 v6 v18 v22 v28 := rfl
theorem gat6 (v6 : Vec Ideal S1x256x1024 .f32) (v18 : Vec Ideal S1x1024 .f32) (v22 v28 : Vec Ideal S1x1x1024 .f32) (w : Vec Ideal S1024x128 .bf16) : k0_pay28 (k0_pay26 v6 v18 v22 v28) w = k0_pay4 v6 v18 v22 v28 w := rfl
theorem man6 (v6 : Vec Ideal S1x256x1024 .f32) (v18 : Vec Ideal S1x1024 .f32) (v22 v28 : Vec Ideal S1x1x1024 .f32) (w : Vec Ideal S1024x1024 .bf16) : k0_pay29 (k0_pay26 v6 v18 v22 v28) w = k0_pay5 (k0_pay2 v6 v18 v22 v28) w := rfl
theorem scr7 (v6 : Vec Ideal S1x256x1024 .f32) (v18 : Vec Ideal S1x1024 .f32) (v22 v28 : Vec Ideal S1x1x1024 .f32) : k0_pay33 (k0_pay30 v6 v18) (k0_pay31 v22) (Scalar.ofBits .f32 0x3F800000#32) v28 = k0_pay3 v6 v18 v22 v28 := rfl
theorem gat7 (v6 : Vec Ideal S1x256x1024 .f32) (v18 : Vec Ideal S1x1024 .f32) (v22 v28 : Vec Ideal S1x1x1024 .f32) (w : Vec Ideal S1024x128 .bf16) : k0_pay34 (k0_pay30 v6 v18) (k0_pay31 v22) (Scalar.ofBits .f32 0x3F800000#32) v28 w = k0_pay4 v6 v18 v22 v28 w := rfl
theorem man7 (v6 : Vec Ideal S1x256x1024 .f32) (v18 : Vec Ideal S1x1024 .f32) (v22 v28 : Vec Ideal S1x1x1024 .f32) (w : Vec Ideal S1024x1024 .bf16) : k0_pay35 (k0_pay30 v6 v18) (k0_pay31 v22) (Scalar.ofBits .f32 0x3F800000#32) v28 w = k0_pay5 (k0_pay2 v6 v18 v22 v28) w := rfl
theorem scr8 (v6 : Vec Ideal S1x256x1024 .f32) (v18 : Vec Ideal S1x1024 .f32) (v22 v28 : Vec Ideal S1x1x1024 .f32) : k0_pay39 (k0_pay36 v6) (k0_pay37 v6) v18 v22 v28 = k0_pay3 v6 v18 v22 v28 := rfl
theorem gat8 (v6 : Vec Ideal S1x256x1024 .f32) (v18 : Vec Ideal S1x1024 .f32) (v22 v28 : Vec Ideal S1x1x1024 .f32) (w : Vec Ideal S1024x128 .bf16) : k0_pay40 (k0_pay36 v6) (k0_pay37 v6) v18 v22 v28 w = k0_pay4 v6 v18 v22 v28 w := rfl
theorem man8 (v6 : Vec Ideal S1x256x1024 .f32) (v18 : Vec Ideal S1x1024 .f32) (v22 v28 : Vec Ideal S1x1x1024 .f32) (w : Vec Ideal S1024x1024 .bf16) : k0_pay41 (k0_pay36 v6) (k0_pay37 v6) v18 v22 v28 w = k0_pay5 (k0_pay2 v6 v18 v22 v28) w := rfl

section loads
variable {arg3 : Memref sig .tc .vmem S1x2048x1024 .f32} {harg3 : arg3.IsWhole} {arg4 : Memref sig .tc .vmem S1x1024 .f32} {harg4 : arg4.IsWhole} {arg5 : Memref sig .tc .vmem S1x1x1024 .f32} {harg5 : arg5.IsWhole} {arg6 : Memref sig .tc .vmem S1x1x1024 .f32} {harg6 : arg6.IsWhole} {arg7 : Memref sig .tc .vmem S1024x1024 .bf16} {harg7 : arg7.IsWhole} {arg8 : Memref sig .tc .vmem S1024x128 .bf16} {harg8 : arg8.IsWhole} {arg9 : Memref sig .tc .vmem S1x2048x1024 .bf16} {harg9 : arg9.IsWhole} {arg10 : Memref sig .tc .vmem S1x2048x128 .f32} {harg10 : arg10.IsWhole} {arg11 : Memref sig .tc .vmem S2048x1024 .bf16} {harg11 : arg11.IsWhole}
  {x0 : Vec Ideal S1x2048x1024 .f32} {x1 : Vec Ideal S1x1024 .f32} {x2 : Vec Ideal S1x1x1024 .f32} {x3 : Vec Ideal S1x1x1024 .f32} {x4 : Vec Ideal S1024x1024 .bf16} {x5 : Vec Ideal S1024x128 .bf16}

/-- A chunk's rows read out of the staged block. -/
theorem chunk (o : ℕ) (inb : ∀ a, (![0, o, 0] : Fin 3 → ℕ) a + S1x256x1024.size a ≤ S1x2048x1024.size a) (ig is1 is2)
    (n : Fin 256) (k : Fin 1024) (ho : o + n.val < 2048) :
    (k0_pay3 (View.readAt (Elt Ideal) arg3.view (Rect.unit (s := S1x2048x1024) ![0, o, 0] S1x256x1024.size inb).toLoadRect (harg3.unread x0))
      (View.readAt (Elt Ideal) arg4.view (Rect.unit (s := S1x1024) ![0, 0] S1x1024.size ig).toLoadRect (harg4.unread x1))
      (View.readAt (Elt Ideal) arg6.view (Rect.unit (s := S1x1x1024) ![0, 0, 0] S1x1x1024.size is1).toLoadRect (harg6.unread x3))
      (View.readAt (Elt Ideal) arg5.view (Rect.unit (s := S1x1x1024) ![0, 0, 0] S1x1x1024.size is2).toLoadRect (harg5.unread x2)) : S256x1024.Idx → EReal) (ix2 n k)
      = hid x0 x1 x2 x3 ⟨o + n.val, ho⟩ k := by
  rw [pay3_at]
  unfold hid
  congr 1 <;> funext k
  · refine Lay.rd_unit arg3 harg3 x0 _ _ inb (ix3 0 n k) (ix3 0 ⟨o + n.val, ho⟩ k) fun a => ?_
    fin_cases a <;> first | rfl | exact (Nat.zero_add _).symm
  · refine Lay.rd_unit arg4 harg4 x1 _ _ ig (ix2 0 k) (ix2 0 k) fun a => ?_
    fin_cases a <;> first | rfl | exact (Nat.zero_add _).symm
  · refine Lay.rd_unit arg5 harg5 x2 _ _ is2 (ix3 0 0 k) (ix3 0 0 k) fun a => ?_
    fin_cases a <;> first | rfl | exact (Nat.zero_add _).symm
  · refine Lay.rd_unit arg6 harg6 x3 _ _ is1 (ix3 0 0 k) (ix3 0 0 k) fun a => ?_
    fin_cases a <;> first | rfl | exact (Nat.zero_add _).symm

theorem wts (iw) (k : Fin 1024) (e : Fin 1024) : ((View.readAt (Elt Ideal) arg7.view (Rect.unit (s := S1024x1024) ![0, 0] S1024x1024.size iw).toLoadRect (harg7.unread x4)) : S1024x1024.Idx → EReal) (ix2 k e) = x4 (ix2 k e) := by
  refine Lay.rd_unit arg7 harg7 x4 _ _ iw (ix2 k e) (ix2 k e) fun a => ?_
  fin_cases a <;> exact (Nat.zero_add _).symm

theorem gwts (iw) (k : Fin 1024) (e : Fin 128) : ((View.readAt (Elt Ideal) arg8.view (Rect.unit (s := S1024x128) ![0, 0] S1024x128.size iw).toLoadRect (harg8.unread x5)) : S1024x128.Idx → EReal) (ix2 k e) = x5 (ix2 k e) := by
  refine Lay.rd_unit arg8 harg8 x5 _ _ iw (ix2 k e) (ix2 k e) fun a => ?_
  fin_cases a <;> exact (Nat.zero_add _).symm

theorem kept (xs : Vec Ideal S2048x1024 .bf16) (inb) (n : Fin 2048) (k : Fin 1024) :
    (View.readAt (Elt Ideal) arg11.view (Rect.unit (s := S2048x1024) ![0, 0] S2048x1024.size inb).toLoadRect (harg11.unread xs) : S2048x1024.Idx → EReal) (ix2 n k) = xs (ix2 n k) := by
  refine Lay.rd_unit arg11 harg11 xs _ _ inb (ix2 n k) (ix2 n k) fun a => ?_
  fin_cases a <;> exact (Nat.zero_add _).symm

/-- A chunk's gate product against the block's. -/
theorem chunkGate (o : ℕ) (inb : ∀ a, (![0, o, 0] : Fin 3 → ℕ) a + S1x256x1024.size a ≤ S1x2048x1024.size a) (ig is1 is2 iw)
    (n : Fin 256) (e : Fin 128) (ho : o + n.val < 2048) :
    (k0_pay4 (View.readAt (Elt Ideal) arg3.view (Rect.unit (s := S1x2048x1024) ![0, o, 0] S1x256x1024.size inb).toLoadRect (harg3.unread x0))
      (View.readAt (Elt Ideal) arg4.view (Rect.unit (s := S1x1024) ![0, 0] S1x1024.size ig).toLoadRect (harg4.unread x1))
      (View.readAt (Elt Ideal) arg6.view (Rect.unit (s := S1x1x1024) ![0, 0, 0] S1x1x1024.size is1).toLoadRect (harg6.unread x3))
      (View.readAt (Elt Ideal) arg5.view (Rect.unit (s := S1x1x1024) ![0, 0, 0] S1x1x1024.size is2).toLoadRect (harg5.unread x2))
      (View.readAt (Elt Ideal) arg8.view (Rect.unit (s := S1024x128) ![0, 0] S1024x128.size iw).toLoadRect (harg8.unread x5)) : S1x256x128.Idx → EReal) (ix3 0 n e)
      = ∑ k, hid x0 x1 x2 x3 ⟨o + n.val, ho⟩ k * x5 (ix2 k e) := by
  rw [pay4_at]
  refine Finset.sum_congr rfl fun k _ => ?_
  rw [chunk o inb ig is1 is2 n k ho, gwts]

/-- A chunk's main product against the block's. -/
theorem chunkMain (o : ℕ) (inb : ∀ a, (![0, o, 0] : Fin 3 → ℕ) a + S1x256x1024.size a ≤ S1x2048x1024.size a) (ig is1 is2 iw)
    (n : Fin 256) (e : Fin 1024) (ho : o + n.val < 2048) :
    (k0_pay5 (k0_pay2 (View.readAt (Elt Ideal) arg3.view (Rect.unit (s := S1x2048x1024) ![0, o, 0] S1x256x1024.size inb).toLoadRect (harg3.unread x0))
      (View.readAt (Elt Ideal) arg4.view (Rect.unit (s := S1x1024) ![0, 0] S1x1024.size ig).toLoadRect (harg4.unread x1))
      (View.readAt (Elt Ideal) arg6.view (Rect.unit (s := S1x1x1024) ![0, 0, 0] S1x1x1024.size is1).toLoadRect (harg6.unread x3))
      (View.readAt (Elt Ideal) arg5.view (Rect.unit (s := S1x1x1024) ![0, 0, 0] S1x1x1024.size is2).toLoadRect (harg5.unread x2)))
      (View.readAt (Elt Ideal) arg7.view (Rect.unit (s := S1024x1024) ![0, 0] S1024x1024.size iw).toLoadRect (harg7.unread x4)) : S1x256x1024.Idx → EReal) (ix3 0 n e)
      = ∑ k, hid x0 x1 x2 x3 ⟨o + n.val, ho⟩ k * x4 (ix2 k e) := by
  rw [pay5_at]
  refine Finset.sum_congr rfl fun k _ => ?_
  rw [chunk o inb ig is1 is2 n k ho, wts]

end loads

section body
variable {c : Dev nD} {i : grid0.Coords} {arg3 : Memref sig .tc .vmem S1x2048x1024 .f32} {harg3 : arg3.IsWhole} {arg4 : Memref sig .tc .vmem S1x1024 .f32} {harg4 : arg4.IsWhole} {arg5 : Memref sig .tc .vmem S1x1x1024 .f32} {harg5 : arg5.IsWhole} {arg6 : Memref sig .tc .vmem S1x1x1024 .f32} {harg6 : arg6.IsWhole} {arg7 : Memref sig .tc .vmem S1024x1024 .bf16} {harg7 : arg7.IsWhole} {arg8 : Memref sig .tc .vmem S1024x128 .bf16} {harg8 : arg8.IsWhole} {arg9 : Memref sig .tc .vmem S1x2048x1024 .bf16} {harg9 : arg9.IsWhole} {arg10 : Memref sig .tc .vmem S1x2048x128 .f32} {harg10 : arg10.IsWhole} {arg11 : Memref sig .tc .vmem S2048x1024 .bf16} {harg11 : arg11.IsWhole}
  {x0 : Vec Ideal S1x2048x1024 .f32} {x1 : Vec Ideal S1x1024 .f32} {x2 : Vec Ideal S1x1x1024 .f32} {x3 : Vec Ideal S1x1x1024 .f32} {x4 : Vec Ideal S1024x1024 .bf16} {x5 : Vec Ideal S1024x128 .bf16}

set_option maxHeartbeats 4000000 in
/-- What the first column step leaves in the scratch. -/
theorem soutA (hc0 : cond0_0 i) (hc1 : ¬cond0_1 i) (n : Fin 2048) (k : Fin 1024) : (sout0_A_0 (F := Ideal) c i arg3 harg3 arg4 harg4 arg5 harg5 arg6 harg6 arg7 harg7 arg8 harg8 arg9 harg9 arg10 harg10 arg11 harg11 hc0 hc1 x0 x1 x2 x3 x4 x5 : S2048x1024.Idx → EReal) (ix2 n k) = hid x0 x1 x2 x3 n k := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5)]
  refine (View.canon_apply_of_pieces (fun y : S2048x1024.Idx => hid x0 x1 x2 x3 (y 0) (y 1)) _ ?_ (ix2 n k) (scover0_A_0 c i arg3 harg3 arg4 harg4 arg5 harg5 arg6 harg6 arg7 harg7 arg8 harg8 arg9 harg9 arg10 harg10 arg11 harg11 hc0 hc1 x0 x1 x2 x3 x4 x5 _)).trans rfl
  unfold kernelRun0_A
  dsimp only
  sl_unfold_words
  intro p hp
  simp only [List.mem_cons, List.mem_nil_iff, or_false] at hp
  have cl (o : ℕ) (n : Fin 256) (k : Fin 1024) (ho : o + n.val < 2048) (y : S2048x1024.Idx) (h0 : (y 0).val = o + 1 * n.val) (h1 : (y 1).val = 0 + 1 * k.val) :
      hid x0 x1 x2 x3 ⟨o + n.val, ho⟩ k = hid x0 x1 x2 x3 (y 0) (y 1) := by
    have e1 : (⟨o + n.val, ho⟩ : Fin 2048) = y 0 := Fin.ext (by show o + n.val = _; rw [h0]; omega)
    have e2 : k = y 1 := Fin.ext (by rw [h1]; omega)
    rw [e1, e2]
  rcases hp with rfl | rfl | rfl | rfl | rfl | rfl | rfl | rfl
  all_goals
    intro x
    obtain ⟨n, k, rfl⟩ : ∃ (n : Fin 256) (k : Fin 1024), x = ix2 n k := ⟨x 0, x 1, (ix2_eta x).symm⟩
    have hn := n.isLt
  · exact (congrFun (scr8 _ _ _ _) _).trans <| (chunk 1792 inb_S1x2048x1024_S1x256x1024_0_1792_0 _ _ _ n k (by omega)).trans (cl 1792 n k _ _ rfl rfl)
  · exact (congrFun (scr7 _ _ _ _) _).trans <| (chunk 1536 inb_S1x2048x1024_S1x256x1024_0_1536_0 _ _ _ n k (by omega)).trans (cl 1536 n k _ _ rfl rfl)
  · exact (congrFun (scr6 _ _ _ _) _).trans <| (chunk 1280 inb_S1x2048x1024_S1x256x1024_0_1280_0 _ _ _ n k (by omega)).trans (cl 1280 n k _ _ rfl rfl)
  · exact (congrFun (scr5 _ _ _ _) _).trans <| (chunk 1024 inb_S1x2048x1024_S1x256x1024_0_1024_0 _ _ _ n k (by omega)).trans (cl 1024 n k _ _ rfl rfl)
  · exact (congrFun (scr4 _ _ _ _) _).trans <| (chunk 768 inb_S1x2048x1024_S1x256x1024_0_768_0 _ _ _ n k (by omega)).trans (cl 768 n k _ _ rfl rfl)
  · exact (congrFun (scr3 _ _ _ _) _).trans <| (chunk 512 inb_S1x2048x1024_S1x256x1024_0_512_0 _ _ _ n k (by omega)).trans (cl 512 n k _ _ rfl rfl)
  · exact (congrFun (scr2 _ _ _ _) _).trans <| (chunk 256 inb_S1x2048x1024_S1x256x1024_0_256_0 _ _ _ n k (by omega)).trans (cl 256 n k _ _ rfl rfl)
  · exact (chunk 0 inb_S1x2048x1024_S1x256x1024_0_0_0 _ _ _ n k (by omega)).trans (cl 0 n k _ _ rfl rfl)

set_option maxHeartbeats 4000000 in
/-- What the first column step leaves in the main block. -/
theorem outA6 (hc0 : cond0_0 i) (hc1 : ¬cond0_1 i) (n : Fin 2048) (e : Fin 1024) : (out0_A_6 (F := Ideal) c i arg3 harg3 arg4 harg4 arg5 harg5 arg6 harg6 arg7 harg7 arg8 harg8 arg9 harg9 arg10 harg10 arg11 harg11 hc0 hc1 x0 x1 x2 x3 x4 x5 : S1x2048x1024.Idx → EReal) (ix3 0 n e) = ∑ k, hid x0 x1 x2 x3 n k * x4 (ix2 k e) := by
  unfold out0_A_6
  rw [View.read_writes_eq_canon _ _ _ (cover0_A_6 c i arg3 harg3 arg4 harg4 arg5 harg5 arg6 harg6 arg7 harg7 arg8 harg8 arg9 harg9 arg10 harg10 arg11 harg11 hc0 hc1 x0 x1 x2 x3 x4 x5)]
  refine (View.canon_apply_of_pieces (fun y : S1x2048x1024.Idx => (∑ k, hid x0 x1 x2 x3 (y 1) k * x4 (ix2 k (y 2)) : EReal)) _ ?_ (ix3 0 n e) (cover0_A_6 c i arg3 harg3 arg4 harg4 arg5 harg5 arg6 harg6 arg7 harg7 arg8 harg8 arg9 harg9 arg10 harg10 arg11 harg11 hc0 hc1 x0 x1 x2 x3 x4 x5 _)).trans rfl
  unfold kernelRun0_A
  dsimp only
  sl_unfold_words
  intro p hp
  simp only [List.mem_cons, List.mem_nil_iff, or_false] at hp
  have cl (o : ℕ) (n : Fin 256) (e : Fin 1024) (ho : o + n.val < 2048) (y : S1x2048x1024.Idx) (h1 : (y 1).val = o + 1 * n.val) (h2 : (y 2).val = 0 + 1 * e.val) :
      (∑ k, hid x0 x1 x2 x3 ⟨o + n.val, ho⟩ k * x4 (ix2 k e) : EReal) = ∑ k, hid x0 x1 x2 x3 (y 1) k * x4 (ix2 k (y 2)) := by
    have e1 : (⟨o + n.val, ho⟩ : Fin 2048) = y 1 := Fin.ext (by show o + n.val = _; rw [h1]; omega)
    have e2 : e = y 2 := Fin.ext (by rw [h2]; omega)
    rw [e1, e2]
  rcases hp with rfl | rfl | rfl | rfl | rfl | rfl | rfl | rfl
  all_goals
    intro x
    obtain ⟨z, n, e, rfl⟩ : ∃ (z : Fin 1) (n : Fin 256) (e : Fin 1024), x = ix3 z n e := ⟨x 0, x 1, x 2, (ix3_eta x).symm⟩
    obtain rfl : z = 0 := Subsingleton.elim _ _
    have hn := n.isLt
  · exact (congrFun (man8 _ _ _ _ _) _).trans <| (chunkMain 1792 inb_S1x2048x1024_S1x256x1024_0_1792_0 _ _ _ _ n e (by omega)).trans (cl 1792 n e _ _ rfl rfl)
  · exact (congrFun (man7 _ _ _ _ _) _).trans <| (chunkMain 1536 inb_S1x2048x1024_S1x256x1024_0_1536_0 _ _ _ _ n e (by omega)).trans (cl 1536 n e _ _ rfl rfl)
  · exact (congrFun (man6 _ _ _ _ _) _).trans <| (chunkMain 1280 inb_S1x2048x1024_S1x256x1024_0_1280_0 _ _ _ _ n e (by omega)).trans (cl 1280 n e _ _ rfl rfl)
  · exact (congrFun (man5 _ _ _ _ _) _).trans <| (chunkMain 1024 inb_S1x2048x1024_S1x256x1024_0_1024_0 _ _ _ _ n e (by omega)).trans (cl 1024 n e _ _ rfl rfl)
  · exact (congrFun (man4 _ _ _ _ _) _).trans <| (chunkMain 768 inb_S1x2048x1024_S1x256x1024_0_768_0 _ _ _ _ n e (by omega)).trans (cl 768 n e _ _ rfl rfl)
  · exact (congrFun (man3 _ _ _ _ _) _).trans <| (chunkMain 512 inb_S1x2048x1024_S1x256x1024_0_512_0 _ _ _ _ n e (by omega)).trans (cl 512 n e _ _ rfl rfl)
  · exact (congrFun (man2 _ _ _ _ _) _).trans <| (chunkMain 256 inb_S1x2048x1024_S1x256x1024_0_256_0 _ _ _ _ n e (by omega)).trans (cl 256 n e _ _ rfl rfl)
  · exact (chunkMain 0 inb_S1x2048x1024_S1x256x1024_0_0_0 _ _ _ _ n e (by omega)).trans (cl 0 n e _ _ rfl rfl)

set_option maxHeartbeats 4000000 in
/-- What it leaves in the gate block. -/
theorem outA7 (hc0 : cond0_0 i) (hc1 : ¬cond0_1 i) (n : Fin 2048) (e : Fin 128) : (out0_A_7 (F := Ideal) c i arg3 harg3 arg4 harg4 arg5 harg5 arg6 harg6 arg7 harg7 arg8 harg8 arg9 harg9 arg10 harg10 arg11 harg11 hc0 hc1 x0 x1 x2 x3 x4 x5 : S1x2048x128.Idx → EReal) (ix3 0 n e) = ∑ k, hid x0 x1 x2 x3 n k * x5 (ix2 k e) := by
  unfold out0_A_7
  rw [View.read_writes_eq_canon _ _ _ (cover0_A_7 c i arg3 harg3 arg4 harg4 arg5 harg5 arg6 harg6 arg7 harg7 arg8 harg8 arg9 harg9 arg10 harg10 arg11 harg11 hc0 hc1 x0 x1 x2 x3 x4 x5)]
  refine (View.canon_apply_of_pieces (fun y : S1x2048x128.Idx => (∑ k, hid x0 x1 x2 x3 (y 1) k * x5 (ix2 k (y 2)) : EReal)) _ ?_ (ix3 0 n e) (cover0_A_7 c i arg3 harg3 arg4 harg4 arg5 harg5 arg6 harg6 arg7 harg7 arg8 harg8 arg9 harg9 arg10 harg10 arg11 harg11 hc0 hc1 x0 x1 x2 x3 x4 x5 _)).trans rfl
  unfold kernelRun0_A
  dsimp only
  sl_unfold_words
  intro p hp
  simp only [List.mem_cons, List.mem_nil_iff, or_false] at hp
  have cl (o : ℕ) (n : Fin 256) (e : Fin 128) (ho : o + n.val < 2048) (y : S1x2048x128.Idx) (h1 : (y 1).val = o + 1 * n.val) (h2 : (y 2).val = 0 + 1 * e.val) :
      (∑ k, hid x0 x1 x2 x3 ⟨o + n.val, ho⟩ k * x5 (ix2 k e) : EReal) = ∑ k, hid x0 x1 x2 x3 (y 1) k * x5 (ix2 k (y 2)) := by
    have e1 : (⟨o + n.val, ho⟩ : Fin 2048) = y 1 := Fin.ext (by show o + n.val = _; rw [h1]; omega)
    have e2 : e = y 2 := Fin.ext (by rw [h2]; omega)
    rw [e1, e2]
  rcases hp with rfl | rfl | rfl | rfl | rfl | rfl | rfl | rfl
  all_goals
    intro x
    obtain ⟨z, n, e, rfl⟩ : ∃ (z : Fin 1) (n : Fin 256) (e : Fin 128), x = ix3 z n e := ⟨x 0, x 1, x 2, (ix3_eta x).symm⟩
    obtain rfl : z = 0 := Subsingleton.elim _ _
    have hn := n.isLt
  · exact (congrFun (gat8 _ _ _ _ _) _).trans <| (chunkGate 1792 inb_S1x2048x1024_S1x256x1024_0_1792_0 _ _ _ _ n e (by omega)).trans (cl 1792 n e _ _ rfl rfl)
  · exact (congrFun (gat7 _ _ _ _ _) _).trans <| (chunkGate 1536 inb_S1x2048x1024_S1x256x1024_0_1536_0 _ _ _ _ n e (by omega)).trans (cl 1536 n e _ _ rfl rfl)
  · exact (congrFun (gat6 _ _ _ _ _) _).trans <| (chunkGate 1280 inb_S1x2048x1024_S1x256x1024_0_1280_0 _ _ _ _ n e (by omega)).trans (cl 1280 n e _ _ rfl rfl)
  · exact (congrFun (gat5 _ _ _ _ _) _).trans <| (chunkGate 1024 inb_S1x2048x1024_S1x256x1024_0_1024_0 _ _ _ _ n e (by omega)).trans (cl 1024 n e _ _ rfl rfl)
  · exact (congrFun (gat4 _ _ _ _ _) _).trans <| (chunkGate 768 inb_S1x2048x1024_S1x256x1024_0_768_0 _ _ _ _ n e (by omega)).trans (cl 768 n e _ _ rfl rfl)
  · exact (congrFun (gat3 _ _ _ _ _) _).trans <| (chunkGate 512 inb_S1x2048x1024_S1x256x1024_0_512_0 _ _ _ _ n e (by omega)).trans (cl 512 n e _ _ rfl rfl)
  · exact (congrFun (gat2 _ _ _ _ _) _).trans <| (chunkGate 256 inb_S1x2048x1024_S1x256x1024_0_256_0 _ _ _ _ n e (by omega)).trans (cl 256 n e _ _ rfl rfl)
  · exact (chunkGate 0 inb_S1x2048x1024_S1x256x1024_0_0_0 _ _ _ _ n e (by omega)).trans (cl 0 n e _ _ rfl rfl)

set_option maxHeartbeats 4000000 in
/-- What another column step leaves in the main block, over the kept rows. -/
theorem outB6 (hc0 : ¬cond0_0 i) (hc1 : cond0_1 i) (xs : Vec Ideal S2048x1024 .bf16) (n : Fin 2048) (e : Fin 1024) : (out0_B_6 (F := Ideal) c i arg3 harg3 arg4 harg4 arg5 harg5 arg6 harg6 arg7 harg7 arg8 harg8 arg9 harg9 arg10 harg10 arg11 harg11 hc0 hc1 x4 xs : S1x2048x1024.Idx → EReal) (ix3 0 n e) = ∑ k, xs (ix2 n k) * x4 (ix2 k e) := by
  unfold out0_B_6
  rw [View.read_writes_eq_canon _ _ _ (cover0_B_6 c i arg3 harg3 arg4 harg4 arg5 harg5 arg6 harg6 arg7 harg7 arg8 harg8 arg9 harg9 arg10 harg10 arg11 harg11 hc0 hc1 x4 xs)]
  unfold kernelRun0_B
  dsimp only
  sl_unfold_words
  rw [View.canon_unit_zero (View.eq_zero_of_forall (by decide)), pay1_at]
  refine Finset.sum_congr rfl fun k _ => ?_
  rw [kept, wts]

end body

end Cert.Kernel2Ideal.Gen

end
-- ==== Proof.InVals.lean ====
module

public import Idealize.ShloMosaic.Lib.Pointwise
public import Idealize.ShloMosaic.Lib.Pipeline.ValueKit
public import proofs.«01_k».proof.Proof.InBody

@[expose] public section

set_option maxRecDepth 16384

noncomputable section

namespace Cert.Kernel2Ideal.Gen

open Cert.Kernel2Ideal Idealize.ShloMosaic Idealize.ShloMosaic.TcCoe Idealize.ShloMosaic.Tactic
open Idealize.SL Idealize.SL.RA Idealize.SL.BI

variable (m : (ℓ : Loc nD τ sig) → Buf (Elt Ideal) ℓ)

/-- A row of the normalised, modulated activations. -/
def row (X : S4x4096x1024.Idx → EReal) (g : S1024.Idx → EReal) (sh sc : S4x1x1024.Idx → EReal) (b : Fin 4) (n : Fin 4096) (k : Fin 1024) : EReal :=
  Lay.modn (fun k => X (ix3 b n k)) (fun k => g (ix1 k)) (fun k => sh (ix3 b 0 k)) (fun k => sc (ix3 b 0 k)) k

theorem hid_blk (c : Dev nD) (t : Fin cfg0.N) (b : Fin 4) (n : Fin 4096) (r : Fin 2048) (k : Fin 1024) (hb : b.val = t.val / 24) (hn : n.val = 2048 * (t.val / 12 % 2) + r.val) :
    hid (iblk m c 0 t) (iblk m c 1 t) (iblk m c 2 t) (iblk m c 3 t) r k = row (m ((c : Thread nD τ).loc main_arg0)) (m ((c : Thread nD τ).loc main_arg1)) (m ((c : Thread nD τ).loc main_arg2)) (m ((c : Thread nD τ).loc main_arg3)) b n k := by
  have tl := lt_of_lt_of_eq t.isLt nGrid
  have hb' : (⟨t.val / 24, by omega⟩ : Fin 4) = b := Fin.ext hb.symm
  have hn' : (⟨2048 * (t.val / 12 % 2) + r.val, by omega⟩ : Fin 4096) = n := Fin.ext hn.symm
  unfold hid row
  simp only [blk_0, blk_1, blk_2, blk_3, row1]
  rw [hb', hn']

/-- The rows a row block keeps. -/
theorem rows_at (c : Dev nD) (t : Fin cfg0.N) (b : Fin 4) (n : Fin 4096) (r : Fin 2048) (k : Fin 1024) (hb : b.val = t.val / 24) (hn : n.val = 2048 * (t.val / 12 % 2) + r.val) :
    (rows m c t : S2048x1024.Idx → EReal) (ix2 r k) = row (m ((c : Thread nD τ).loc main_arg0)) (m ((c : Thread nD τ).loc main_arg1)) (m ((c : Thread nD τ).loc main_arg2)) (m ((c : Thread nD τ).loc main_arg3)) b n k := by
  have tl := lt_of_lt_of_eq t.isLt nGrid
  unfold rows rowsA
  exact (soutA _ _ r k).trans (hid_blk m c (firstPt t) b n r k (by show _ = 12 * (t.val / 12) / 24; omega) (by show _ = 2048 * (12 * (t.val / 12) / 12 % 2) + _; omega))

/-- What a point writes of the main result. -/
theorem out_at (c : Dev nD) (t : Fin cfg0.N) (b : Fin 4) (n : Fin 4096) (e : Fin 12288) (r : Fin 2048) (q : Fin 1024)
    (hb : b.val = t.val / 24) (hn : n.val = 2048 * (t.val / 12 % 2) + r.val) (he : e.val = 1024 * (t.val % 12) + q.val) :
    (out m c t : S1x2048x1024.Idx → EReal) (ix3 0 r q) = ∑ k, row (m ((c : Thread nD τ).loc main_arg0)) (m ((c : Thread nD τ).loc main_arg1)) (m ((c : Thread nD τ).loc main_arg2)) (m ((c : Thread nD τ).loc main_arg3)) b n k * (m ((c : Thread nD τ).loc main_arg4) : S1024x12320.Idx → EReal) (ix2 k (col e)) := by
  have tl := lt_of_lt_of_eq t.isLt nGrid
  have he' : (⟨1024 * (t.val % 12) + q.val, by omega⟩ : Fin 12288) = e := Fin.ext he.symm
  have w (k : Fin 1024) : (iblk m c 4 t : S1024x1024.Idx → EReal) (ix2 k q) = (m ((c : Thread nD τ).loc main_arg4) : S1024x12320.Idx → EReal) (ix2 k (col e)) := by
    rw [blk_4, he', wMain_at]
  by_cases h : t.val % 12 = 0
  · rw [out_A m c t h]
    unfold mainA
    refine (outA6 _ _ r q).trans (Finset.sum_congr rfl fun k _ => ?_)
    exact congrArg₂ (· * ·) (hid_blk m c t b n r k hb hn) (w k)
  · rw [out_B m c t h]
    unfold mainB
    refine (outB6 _ _ _ r q).trans (Finset.sum_congr rfl fun k _ => ?_)
    exact congrArg₂ (· * ·) (rows_at m c t b n r k hb hn) (w k)

/-- What a row block leaves of the gate result. -/
theorem gate_at (c : Dev nD) (t : Fin cfg0.N) (b : Fin 4) (n : Fin 4096) (p : Fin 128) (r : Fin 2048)
    (hb : b.val = t.val / 24) (hn : n.val = 2048 * (t.val / 12 % 2) + r.val) :
    (gate m c t : S1x2048x128.Idx → EReal) (ix3 0 r p) = ∑ k, row (m ((c : Thread nD τ).loc main_arg0)) (m ((c : Thread nD τ).loc main_arg1)) (m ((c : Thread nD τ).loc main_arg2)) (m ((c : Thread nD τ).loc main_arg3)) b n k * wGate (m ((c : Thread nD τ).loc main_arg4)) (ix2 k p) := by
  have tl := lt_of_lt_of_eq t.isLt nGrid
  unfold gate gateA
  refine (outA7 _ _ r p).trans (Finset.sum_congr rfl fun k _ => ?_)
  exact congrArg₂ (· * ·) (hid_blk m c (firstPt t) b n r k (by show _ = 12 * (t.val / 12) / 24; omega) (by show _ = 2048 * (12 * (t.val / 12) / 12 % 2) + _; omega)) (blk_5 m c (firstPt t) k p)

/-- The main result after the run, at a place. -/
theorem final6 (c : Dev nD) (b : Fin 4) (n : Fin 4096) (e : Fin 12288) :
    ((dats m 0 c).arrAt 6 cfg0.N : S4x4096x12288.Idx → EReal) (ix3 b n e) = ∑ k, row (m ((c : Thread nD τ).loc main_arg0)) (m ((c : Thread nD τ).loc main_arg1)) (m ((c : Thread nD τ).loc main_arg2)) (m ((c : Thread nD τ).loc main_arg3)) b n k * (m ((c : Thread nD τ).loc main_arg4) : S1024x12320.Idx → EReal) (ix2 k (col e)) := by
  obtain ⟨t, ht⟩ : ∃ t : Fin cfg0.N, t.val = 24 * b.val + 12 * (n.val / 2048) + e.val / 1024 := ⟨⟨24 * b.val + 12 * (n.val / 2048) + e.val / 1024, by rw [nGrid]; omega⟩, rfl⟩
  obtain ⟨r, hr⟩ : ∃ r : Fin 2048, r.val = n.val % 2048 := ⟨⟨n.val % 2048, by omega⟩, rfl⟩
  obtain ⟨q, hq⟩ : ∃ q : Fin 1024, q.val = e.val % 1024 := ⟨⟨e.val % 1024, by omega⟩, rfl⟩
  have h := congrFun ((blocks6 m c t (flush0_6 t)).trans (flushed6 m c t)) (ix3 0 r q : S1x2048x1024.Idx)
  have o := out_at m c t b n e r q (by omega) (by omega) (by omega)
  obtain ⟨i0, i1, i2⟩ := idx_6 t
  have em : ((cfg0.win 6).blk t).view.emb (ix3 0 r q : S1x2048x1024.Idx) = (ix3 b n e : S4x4096x12288.Idx) := by
    funext a
    apply Fin.ext
    match a with
    | ⟨0, _⟩ => show win0_6.index t (0 : Fin 3) * 1 + 1 * 0 = b.val; rw [i0]; omega
    | ⟨1, _⟩ => show win0_6.index t (1 : Fin 3) * 2048 + 1 * r.val = n.val; rw [i1]; omega
    | ⟨2, _⟩ => show win0_6.index t (2 : Fin 3) * 1024 + 1 * q.val = e.val; rw [i2]; omega
  exact (congrArg ((dats m 0 c).arrAt 6 cfg0.N : S4x4096x12288.Idx → EReal) em.symm).trans (Eq.trans h o)

/-- The gate result after the run, at a place. -/
theorem final7 (c : Dev nD) (b : Fin 4) (n : Fin 4096) (p : Fin 128) :
    ((dats m 0 c).arrAt 7 cfg0.N : S4x4096x128.Idx → EReal) (ix3 b n p) = ∑ k, row (m ((c : Thread nD τ).loc main_arg0)) (m ((c : Thread nD τ).loc main_arg1)) (m ((c : Thread nD τ).loc main_arg2)) (m ((c : Thread nD τ).loc main_arg3)) b n k * wGate (m ((c : Thread nD τ).loc main_arg4)) (ix2 k p) := by
  obtain ⟨t, ht⟩ : ∃ t : Fin cfg0.N, t.val = 24 * b.val + 12 * (n.val / 2048) + 11 := ⟨⟨24 * b.val + 12 * (n.val / 2048) + 11, by rw [nGrid]; omega⟩, rfl⟩
  obtain ⟨r, hr⟩ : ∃ r : Fin 2048, r.val = n.val % 2048 := ⟨⟨n.val % 2048, by omega⟩, rfl⟩
  have h := congrFun ((blocks7 m c t ((flush0_7 t).mpr (by omega))).trans (flushed7 m c t)) (ix3 0 r p : S1x2048x128.Idx)
  have o := gate_at m c t b n p r (by omega) (by omega)
  obtain ⟨i0, i1, i2⟩ := idx_7 t
  have em : ((cfg0.win 7).blk t).view.emb (ix3 0 r p : S1x2048x128.Idx) = (ix3 b n p : S4x4096x128.Idx) := by
    funext a
    apply Fin.ext
    match a with
    | ⟨0, _⟩ => show win0_7.index t (0 : Fin 3) * 1 + 1 * 0 = b.val; rw [i0]; omega
    | ⟨1, _⟩ => show win0_7.index t (1 : Fin 3) * 2048 + 1 * r.val = n.val; rw [i1]; omega
    | ⟨2, _⟩ => show win0_7.index t (2 : Fin 3) * 128 + 1 * p.val = p.val; rw [i2]; omega
  exact (congrArg ((dats m 0 c).arrAt 7 cfg0.N : S4x4096x128.Idx → EReal) em.symm).trans (Eq.trans h o)

end Cert.Kernel2Ideal.Gen

namespace Cert.Reference2Ideal.Gen

open Cert.Reference2Ideal Idealize.ShloMosaic Idealize.ShloMosaic.TcCoe Idealize.ShloMosaic.Tactic
open Cert.Kernel2Ideal.Gen (clamp row col gateCol)

/-- The reference's whole projection. -/
def proj (a0 : FVec Ideal S4x4096x1024 .f32) (a1 : FVec Ideal S1024 .f32) (a2 a3 : FVec Ideal S4x1x1024 .f32) (a4 : FVec Ideal S1024x12320 .f32) : FVec Ideal S4x4096x12320 .f32 :=
  Host.dotGeneral dot_S4x4096x1024_S1024x12320_S4x4096x12320_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a1))) (broadcastInDim S4x4096x1024 ![0, 1, 2] bcast_S4x1x1024_S4x4096x1024_0_1_2 (addf (broadcastInDim S4x1x1024 ![] bcast_S_S4x1x1024 (constant S_ .f32 0x3F800000#32)) a3))) (broadcastInDim S4x4096x1024 ![0, 1, 2] bcast_S4x1x1024_S4x4096x1024_0_1_2 a2)) a4

/-- The main result from the projection. -/
def mainOf (P : FVec Ideal S4x4096x12320 .f32) : FVec Ideal S4x4096x12288 .bf16 :=
  truncf .bf16 (concatenate S4x4096x12288 2 [⟨S4x4096x4096, (extractStridedSlice S4x4096x4096 ![0, 0, 0] P slices_S4x4096x12320_S4x4096x4096_0_0_0)⟩, ⟨S4x4096x8192, (extractStridedSlice S4x4096x8192 ![0, 0, 4128] P slices_S4x4096x12320_S4x4096x8192_0_0_4128)⟩] concatenates_S4x4096x4096_S4x4096x8192_S4x4096x12288_d2) bitsLt_bf16_f32

/-- The gate columns' start indices. -/
def starts : IVec S128x1 32 :=
  broadcastInDim S128x1 ![0] bcast_S128_S128x1_0 (select (constantI S128 1 0#1) (addi ((fun i => lit1 (S128.rowMajor i))) (broadcastInDim S128 ![] bcast_S_S128 (constantI S_ 32 32#32))) ((fun i => lit1 (S128.rowMajor i))))

/-- The gate result from the projection. -/
def gateOf (P : FVec Ideal S4x4096x12320 .f32) : FVec Ideal S4x4096x128 .f32 :=
  select (broadcastInDim S4x4096x128 ![2] bcast_S128_S4x4096x128_2 ((fun i => lit0 (S128.rowMajor i)))) (Host.gather gather_S4x4096x32_S128x1_S4x4096x128_01_2_n_n_2_1_440961 (extractStridedSlice S4x4096x32 ![0, 0, 4096] P slices_S4x4096x12320_S4x4096x32_0_0_4096) starts) (broadcastInDim S4x4096x128 ![] bcast_S_S4x4096x128 (id (constant S_ .f32 0x00000000#32)))

theorem proj_at (a0 : FVec Ideal S4x4096x1024 .f32) (a1 : FVec Ideal S1024 .f32) (a2 a3 : FVec Ideal S4x1x1024 .f32) (a4 : FVec Ideal S1024x12320 .f32) (b : Fin 4) (n : Fin 4096) (e : Fin 12320) :
    (proj a0 a1 a2 a3 a4 : S4x4096x12320.Idx → EReal) (ix3 b n e) = ∑ k, row a0 a1 a2 a3 b n k * a4 (ix2 k e) := by
  unfold proj
  simp only [pointwise]
  simp [row, Lay.modn, Lay.nrm, Lay.inv]

theorem ix3_of {A B C : ℕ} {x x' : Fin A} {y y' : Fin B} {z z' : Fin C} (hx : x = x') (hy : y = y') (hz : z = z') : ix3 x y z = ix3 x' y' z' := by
  rw [hx, hy, hz]

theorem mainOf_at (P : FVec Ideal S4x4096x12320 .f32) (b : Fin 4) (n : Fin 4096) (e : Fin 12288) :
    (mainOf P : S4x4096x12288.Idx → EReal) (ix3 b n e) = (P : S4x4096x12320.Idx → EReal) (ix3 b n (col e)) := by
  unfold mainOf col
  simp only [pointwise]
  by_cases h : e.val < 4096
  · rw [dif_pos h, dif_pos h]
    exact congrArg (P : S4x4096x12320.Idx → EReal) (ix3_of (Fin.ext (Nat.zero_add _)) (Fin.ext (Nat.zero_add _)) (Fin.ext (Nat.zero_add _)))
  · rw [dif_neg h, dif_neg h]
    refine congrArg (P : S4x4096x12320.Idx → EReal) (ix3_of (Fin.ext ?_) (Fin.ext ?_) (Fin.ext ?_))
    · exact Nat.zero_add _
    · exact Nat.zero_add _
    · show 4128 + (e.val - 4096) = e.val + 32
      omega

theorem starts_at (p : Fin 128) : starts (ix2 p 0) = Cert.Kernel2Ideal.lit1 p := by
  rw [← place_eq]
  unfold starts
  simp only [pointwise]
  simp [Cert.Kernel2Ideal.Gen.rowMajor_ix1]

theorem gateOf_at (P : FVec Ideal S4x4096x12320 .f32) (b : Fin 4) (n : Fin 4096) (p : Fin 128) :
    (gateOf P : S4x4096x128.Idx → EReal) (ix3 b n p) = if Cert.Kernel2Ideal.lit0 p = 1#1 then (P : S4x4096x12320.Idx → EReal) (ix3 b n (gateCol p)) else 0 := by
  rw [← mask_eq]
  unfold gateOf gateCol
  simp only [pointwise, gather_col, starts_at]
  show Scalar.select (lit0 (S128.rowMajor (ix1 p))) _ _ = _
  rw [Cert.Kernel2Ideal.Gen.rowMajor_ix1]
  unfold Scalar.select
  refine if_congr Iff.rfl ?_ ?_
  · exact congrArg (P : S4x4096x12320.Idx → EReal) (congrArg₂ (fun x y => ix3 x y _) (Fin.ext (Nat.zero_add _)) (Fin.ext (Nat.zero_add _)))
  · show Ideal.ofBits .f32 0x00000000#32 = 0
    simp

end Cert.Reference2Ideal.Gen

end
-- ==== Proof.InCall.lean ====
module

public import proofs.«01_k».proof.Defs
public import proofs.«01_k».proof.Proof.InVals
public import proofs.«01_k».proof.Proof.Gen.Kernel2
public import proofs.«01_k».proof.Proof.Gen.Reference2Ideal.Run
public import Idealize.ShloMosaic.Adequacy
public import Idealize.ShloMosaic.Init

@[expose] public section

noncomputable section

/-! The input projection: its frames, and that both results are the reference's, whatever the arguments. -/

namespace Cert.Calls

open Idealize.ShloMosaic Idealize.SL.Sem
open Cert.Kernel2Ideal (cfg0)
open Cert.Kernel2Ideal.Gen (dats)

attribute [local instance] Cert.Kernel2.Gen.facts Cert.Kernel2Ideal.Gen.facts Cert.Reference2Ideal.Gen.facts

/-- The two programs' body tables are one. -/
theorem table₀ : Cert.Kernel2.defs₀ (F := Bits) = Cert.Kernel2Ideal.defs₀ :=
  congrArg (Defs.onTc (nD := Cert.Kernel2Ideal.nD) (τ := Cert.Kernel2Ideal.τ) (sig := Cert.Kernel2Ideal.sig) (Λ := Cert.Kernel2Ideal.Λ₀)) (funext fun l => funext fun a => match l, a with
    | 0, (_, _) => rfl
    | ⟨_ + 1, h⟩, _ => absurd h (Nat.not_lt.2 (Nat.le_add_left _ _)))

theorem table : Cert.Kernel2.defs (F := Bits) = Cert.Kernel2Ideal.defs :=
  congrArg (Pipeline.defs (Cert.Kernel2Ideal.pcfgs (F := Bits))) table₀

/-- The kernel's frame; the run is the one over any float values. -/
theorem frame2 : Cert.quiescent_Kernel2 := fun m ρ _ => by
  have h := Cert.Kernel2Ideal.Gen.frame (F := Bits) m ρ
  rw [← table] at h
  exact h

theorem frame2i : Cert.quiescent_Kernel2Ideal := fun m ρ _ => Cert.Kernel2Ideal.Gen.frame (F := Ideal) m ρ

theorem kept2 : Cert.quiescent_Reference2Ideal := fun m ρ _ =>
  (θ_run Cert.Reference2Ideal.defs _ _).mono (fun r h => ⟨fun c => (h c).2.2, Idealize.ShloMosaic.sem_eq_zero_of_no_sems (by decide) r.2⟩) (Cert.Reference2Ideal.Value.run (F := Ideal) m ρ)

variable (m : (ℓ : Loc Cert.Kernel2Ideal.nD Cert.Kernel2Ideal.τ Cert.Kernel2Ideal.sig) → Buf (Elt Ideal) ℓ)

/-- The reference's projection on the kernel's arguments. -/
def proj2 (c : Dev Cert.Kernel2Ideal.nD) : FVec Ideal Cert.Reference2Ideal.S4x4096x12320 .f32 :=
  Cert.Reference2Ideal.Gen.proj (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))

/-- The main result is the reference's. -/
theorem main2 (c : Dev Cert.Kernel2Ideal.nD) : Cert.Reference2Ideal.Gen.mainOf (proj2 m c) = (dats m 0 c).arrAt 6 cfg0.N := by
  funext i
  obtain ⟨b, n, e, rfl⟩ : ∃ b n e, i = ix3 b n e := ⟨_, _, _, (ix3_eta i).symm⟩
  exact (Cert.Reference2Ideal.Gen.mainOf_at _ b n e).trans ((Cert.Reference2Ideal.Gen.proj_at _ _ _ _ _ b n _).trans (Cert.Kernel2Ideal.Gen.final6 m c b n e).symm)

/-- The gate result is the reference's: a column of zeros gives 0. -/
theorem gate2 (c : Dev Cert.Kernel2Ideal.nD) : Cert.Reference2Ideal.Gen.gateOf (proj2 m c) = (dats m 0 c).arrAt 7 cfg0.N := by
  funext i
  obtain ⟨b, n, p, rfl⟩ : ∃ b n p, i = ix3 b n p := ⟨_, _, _, (ix3_eta i).symm⟩
  refine (Cert.Reference2Ideal.Gen.gateOf_at _ b n p).trans (Eq.trans ?_ (Cert.Kernel2Ideal.Gen.final7 m c b n p).symm)
  by_cases h : Cert.Kernel2Ideal.lit0 p = 1#1
  · rw [if_pos h]
    refine (Cert.Reference2Ideal.Gen.proj_at _ _ _ _ _ b n _).trans (Finset.sum_congr rfl fun k _ => ?_)
    rw [Cert.Kernel2Ideal.Gen.wGate_at, if_pos h]
  · rw [if_neg h]
    refine (Finset.sum_eq_zero fun k _ => ?_).symm
    rw [Cert.Kernel2Ideal.Gen.wGate_at, if_neg h, mul_zero]

theorem equal2 : Cert.algebraic_Kernel2Ideal_Reference2Ideal := fun m ρ m' ρ' _ hs =>
  ⟨fun c => (dats m 0 c).arrAt 6 cfg0.N, fun c => (dats m 0 c).arrAt 7 cfg0.N,
    (θ_run Cert.Kernel2Ideal.defs _ _).mono (fun _ h c => ⟨(h.1 c).1.1, (h.1 c).1.2, (h.1 c).2⟩) (Cert.Kernel2Ideal.Gen.run_blocks (F := Ideal) m ρ),
    (θ_run Cert.Reference2Ideal.defs _ _).mono (fun r h c => by
      obtain ⟨h0, h1, h2⟩ := h c
      obtain ⟨q0, q1, q2, q3, q4⟩ := hs c
      rw [q0, q1, q2, q3, q4] at h0 h1
      exact ⟨h0.trans (main2 m c), h1.trans (gate2 m c), h2⟩) (Cert.Reference2Ideal.Value.run (F := Ideal) m' ρ')⟩

end Cert.Calls

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Meet
public import proofs.«01_k».proof.Proof.Calls
public import proofs.«01_k».proof.Proof.InCall
public import proofs.«01_k».proof.Proof.Plain
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.KernelIdeal.Gen.edgeFacts

/-- The reference keeps its arguments, from any memory. -/
theorem kept (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) :=
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The recurrence's kernel and its reference end with equal results. -/
theorem equal : Cert.algebraic_KernelIdeal_ReferenceIdeal_pre_finite_edges := fun m ρ m' ρ' hp hs =>
  ⟨fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks m ρ,
    (θ_run Cert.ReferenceIdeal.defs _ _).mono (fun r h c =>
      ⟨(h c).1.trans (Cert.Meet.out_eq m m' c (hs c) (Cert.KernelIdeal.Gen.fin_edges m c hp)),
        (h c).2.1.trans (Cert.Meet.last_eq m m' c (hs c) (Cert.KernelIdeal.Gen.fin_edges m c hp)),
        (h c).2.2⟩)
      (Cert.ReferenceIdeal.Value.run (F := Ideal) m' ρ')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.KernelIdeal.Gen.edgeFacts,
  fun m ρ _ => Cert.Kernel.Gen.frame m ρ,
  fun m ρ _ => Cert.KernelIdeal.Gen.frame m ρ,
  fun m ρ _ => Cert.KernelIdeal.Gen.frame m ρ,
  fun m ρ _ => kept m ρ,
  fun m ρ _ => kept m ρ,
  Cert.Calls.frame2,
  Cert.Calls.frame2i,
  Cert.Calls.kept2,
  fun m ρ _ => Cert.Kernel3.Gen.frame m ρ,
  fun m ρ _ => Cert.Kernel3Ideal.Gen.frame m ρ,
  Cert.Calls.kept3,
  fun m ρ _ => Cert.Kernel4.Gen.frame m ρ,
  fun m ρ _ => Cert.Kernel4Ideal.Gen.frame m ρ,
  Cert.Calls.kept4,
  fun m ρ _ => Cert.Kernel5.Gen.frame m ρ,
  fun m ρ _ => Cert.Kernel5Ideal.Gen.frame m ρ,
  Cert.Calls.kept5,
  fun m ρ _ => Cert.Kernel6.Gen.frame m ρ,
  fun m ρ _ => Cert.Kernel6Ideal.Gen.frame m ρ,
  Cert.Calls.kept6,
  fun m ρ _ => Cert.Kernel7.Gen.frame m ρ,
  fun m ρ _ => Cert.Kernel7Ideal.Gen.frame m ρ,
  Cert.Calls.kept7,
  trivial,
  equal,
  trivial,
  Cert.Calls.equal2,
  trivial,
  Cert.Calls.equal3,
  trivial,
  Cert.Calls.equal4,
  trivial,
  Cert.Calls.equal5,
  trivial,
  Cert.Calls.equal6,
  trivial,
  Cert.Calls.equal7⟩

end Cert.Proof

end
